-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v114) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)) (v2 : (c : Dev Cert.Kernel4Ideal.nD) → Buf (Elt Ideal) ((c.tc : Thread Cert.Kernel4Ideal.nD Cert.Kernel4Ideal.τ).loc Cert.Kernel4Ideal.main_v28_2)) (v3 : (c : Dev Cert.Kernel4Ideal.nD) → Buf (Elt Ideal) ((c.tc : Thread Cert.Kernel4Ideal.nD Cert.Kernel4Ideal.τ).loc Cert.Kernel4Ideal.main_v28_3)) (v4 : (c : Dev Cert.Kernel4Ideal.nD) → Buf (Elt Ideal) ((c.tc : Thread Cert.Kernel4Ideal.nD Cert.Kernel4Ideal.τ).loc Cert.Kernel4Ideal.main_v28_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_v28_2) = v2 c
          ∧ r.2.mem ((c.tc : Thread Cert.Kernel4Ideal.nD Cert.Kernel4Ideal.τ).loc Cert.Kernel4Ideal.main_v28_3) = v3 c
          ∧ r.2.mem ((c.tc : Thread Cert.Kernel4Ideal.nD Cert.Kernel4Ideal.τ).loc Cert.Kernel4Ideal.main_v28_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_v76) = v1 c
          ∧ r.2.mem ((c.tc : Thread Cert.Reference4Ideal.nD Cert.Reference4Ideal.τ).loc Cert.Reference4Ideal.main_v78) = v2 c
          ∧ r.2.mem ((c.tc : Thread Cert.Reference4Ideal.nD Cert.Reference4Ideal.τ).loc Cert.Reference4Ideal.main_v81) = v3 c
          ∧ r.2.mem ((c.tc : Thread Cert.Reference4Ideal.nD Cert.Reference4Ideal.τ).loc Cert.Reference4Ideal.main_v82) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v45_0)) (v1 : (c : Dev Cert.Kernel7Ideal.nD) → Buf (Elt Ideal) ((c.tc : Thread Cert.Kernel7Ideal.nD Cert.Kernel7Ideal.τ).loc Cert.Kernel7Ideal.main_v45_1)) (v2 : (c : Dev Cert.Kernel7Ideal.nD) → Buf (Elt Ideal) ((c.tc : Thread Cert.Kernel7Ideal.nD Cert.Kernel7Ideal.τ).loc Cert.Kernel7Ideal.main_v45_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v45_0) = v0 c
          ∧ r.2.mem ((c.tc : Thread Cert.Kernel7Ideal.nD Cert.Kernel7Ideal.τ).loc Cert.Kernel7Ideal.main_v45_1) = v1 c
          ∧ r.2.mem ((c.tc : Thread Cert.Kernel7Ideal.nD Cert.Kernel7Ideal.τ).loc Cert.Kernel7Ideal.main_v45_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v120) = v0 c
          ∧ r.2.mem ((c.tc : Thread Cert.Reference7Ideal.nD Cert.Reference7Ideal.τ).loc Cert.Reference7Ideal.main_v121) = v1 c
          ∧ r.2.mem ((c.tc : Thread Cert.Reference7Ideal.nD Cert.Reference7Ideal.τ).loc Cert.Reference7Ideal.main_v123) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S1024x16384 : Shape := ⟨2, ![1024, 16384]⟩
abbrev S16640x1024 : Shape := ⟨2, ![16640, 1024]⟩
abbrev S1024x16640 : Shape := ⟨2, ![1024, 16640]⟩
abbrev S1x64 : Shape := ⟨2, ![1, 64]⟩
abbrev S_ : Shape := ⟨0, ![]⟩

class Facts : Prop where
  bitsLt_bf16_f32 : FTy.bits .bf16 < FTy.bits .f32
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S16640x1024 : S_.BroadcastsInDim S16640x1024 (![] : Fin 0 → Fin S16640x1024.rank)
  reducesTo_S16640x1024_S_d0_1 : S16640x1024.ReducesTo [0, 1] S_
  bcast_S_S1024x16640 : S_.BroadcastsInDim S1024x16640 (![] : Fin 0 → Fin S1024x16640.rank)
  reducesTo_S1024x16640_S_d0_1 : S1024x16640.ReducesTo [0, 1] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_v31 : IVec S_ 1) (main_v34 : IVec S1x64 1) : IVec S_ 1 :=
  let main_c_11 : IVec S_ 1 := constantI S_ 1 1#1
  let main_v35 : IVec S_ 1 := (fun x v => Host.reduce IntOp.andi x v reducesTo_S1x64_S_d0_1 h_S_) main_v34 main_c_11
  let main_v36 : IVec S_ 1 := andi main_v31 main_v35
  main_v36

def fn_part1 {F : FTy → Type} [FloatOps F] (main_arg4 : FVec F S1x64 .f32) (main_arg5 : FVec F S1x64 .f32) (main_arg6 : FVec F S1x64 .f32) (main_v16 : IVec S_ 1) (main_v17 : FVec F S1x64 .f32) : IVec S_ 1 :=
  let main_cst_4 : FVec F S_ .f32 := constant S_ .f32 0x7F800000#32
  let main_v18 : FVec F S1x64 .f32 := broadcastInDim S1x64 ![] bcast_S_S1x64 main_cst_4
  let main_v19 : IVec S1x64 1 := cmpf .olt main_v17 main_v18
  let main_c_5 : IVec S_ 1 := constantI S_ 1 1#1
  let main_v20 : IVec S_ 1 := (fun x v => Host.reduce IntOp.andi x v reducesTo_S1x64_S_d0_1 h_S_) main_v19 main_c_5
  let main_v21 : IVec S_ 1 := andi main_v16 main_v20
  let main_v22 : FVec F S1x64 .f32 := Host.absf main_arg4
  let main_cst_6 : FVec F S_ .f32 := constant S_ .f32 0x7F800000#32
  let main_v23 : FVec F S1x64 .f32 := broadcastInDim S1x64 ![] bcast_S_S1x64 main_cst_6
  let main_v24 : IVec S1x64 1 := cmpf .olt main_v22 main_v23
  let main_c_7 : IVec S_ 1 := constantI S_ 1 1#1
  let main_v25 : IVec S_ 1 := (fun x v => Host.reduce IntOp.andi x v reducesTo_S1x64_S_d0_1 h_S_) main_v24 main_c_7
  let main_v26 : IVec S_ 1 := andi main_v21 main_v25
  let main_v27 : FVec F S1x64 .f32 := Host.absf main_arg5
  let main_cst_8 : FVec F S_ .f32 := constant S_ .f32 0x7F800000#32
  let main_v28 : FVec F S1x64 .f32 := broadcastInDim S1x64 ![] bcast_S_S1x64 main_cst_8
  let main_v29 : IVec S1x64 1 := cmpf .olt main_v27 main_v28
  let main_c_9 : IVec S_ 1 := constantI S_ 1 1#1
  let main_v30 : IVec S_ 1 := (fun x v => Host.reduce IntOp.andi x v reducesTo_S1x64_S_d0_1 h_S_) main_v29 main_c_9
  let main_v31 : IVec S_ 1 := andi main_v26 main_v30
  let main_v32 : FVec F S1x64 .f32 := Host.absf main_arg6
  let main_cst_10 : FVec F S_ .f32 := constant S_ .f32 0x7F800000#32
  let main_v33 : FVec F S1x64 .f32 := broadcastInDim S1x64 ![] bcast_S_S1x64 main_cst_10
  let main_v34 : IVec S1x64 1 := cmpf .olt main_v32 main_v33
  fn_part2 (F := F) main_v31 main_v34

def fn {F : FTy → Type} [FloatOps F] (main_arg0 : FVec F S1024x16384 .bf16) (main_arg1 : FVec F S16640x1024 .bf16) (main_arg2 : FVec F S1024x16640 .bf16) (main_arg3 : FVec F S1x64 .f32) (main_arg4 : FVec F S1x64 .f32) (main_arg5 : FVec F S1x64 .f32) (main_arg6 : FVec F S1x64 .f32) : IVec S_ 1 :=
  let main_v0 : FVec F S1024x16384 .f32 := (extf .f32 · bitsLt_bf16_f32) main_arg0
  let main_v1 : FVec F S1024x16384 .f32 := Host.absf main_v0
  let main_cst : FVec F S_ .f32 := constant S_ .f32 0x7F800000#32
  let main_v2 : FVec F S1024x16384 .f32 := broadcastInDim S1024x16384 ![] bcast_S_S1024x16384 main_cst
  let main_v3 : IVec S1024x16384 1 := cmpf .olt main_v1 main_v2
  let main_c : IVec S_ 1 := constantI S_ 1 1#1
  let main_v4 : IVec S_ 1 := (fun x v => Host.reduce IntOp.andi x v reducesTo_S1024x16384_S_d0_1 h_S_) main_v3 main_c
  let main_v5 : FVec F S16640x1024 .f32 := (extf .f32 · bitsLt_bf16_f32) main_arg1
  let main_v6 : FVec F S16640x1024 .f32 := Host.absf main_v5
  let main_cst_0 : FVec F S_ .f32 := constant S_ .f32 0x7F800000#32
  let main_v7 : FVec F S16640x1024 .f32 := broadcastInDim S16640x1024 ![] bcast_S_S16640x1024 main_cst_0
  let main_v8 : IVec S16640x1024 1 := cmpf .olt main_v6 main_v7
  let main_c_1 : IVec S_ 1 := constantI S_ 1 1#1
  let main_v9 : IVec S_ 1 := (fun x v => Host.reduce IntOp.andi x v reducesTo_S16640x1024_S_d0_1 h_S_) main_v8 main_c_1
  let main_v10 : IVec S_ 1 := andi main_v4 main_v9
  let main_v11 : FVec F S1024x16640 .f32 := (extf .f32 · bitsLt_bf16_f32) main_arg2
  let main_v12 : FVec F S1024x16640 .f32 := Host.absf main_v11
  let main_cst_2 : FVec F S_ .f32 := constant S_ .f32 0x7F800000#32
  let main_v13 : FVec F S1024x16640 .f32 := broadcastInDim S1024x16640 ![] bcast_S_S1024x16640 main_cst_2
  let main_v14 : IVec S1024x16640 1 := cmpf .olt main_v12 main_v13
  let main_c_3 : IVec S_ 1 := constantI S_ 1 1#1
  let main_v15 : IVec S_ 1 := (fun x v => Host.reduce IntOp.andi x v reducesTo_S1024x16640_S_d0_1 h_S_) main_v14 main_c_3
  let main_v16 : IVec S_ 1 := andi main_v10 main_v15
  let main_v17 : FVec F S1x64 .f32 := Host.absf main_arg3
  fn_part1 (F := F) main_arg4 main_arg5 main_arg6 main_v16 main_v17
-- ==== Kernel.lean ====
abbrev S1024x16384 : Shape := ⟨2, ![1024, 16384]⟩
abbrev S16640x1024 : Shape := ⟨2, ![16640, 1024]⟩
abbrev S1024x16640 : Shape := ⟨2, ![1024, 16640]⟩
abbrev S1x64 : Shape := ⟨2, ![1, 64]⟩
abbrev S_ : Shape := ⟨0, ![]⟩
abbrev S8x64 : Shape := ⟨2, ![8, 64]⟩
abbrev S4x64 : Shape := ⟨2, ![4, 64]⟩
abbrev S1 : Shape := ⟨1, ![1]⟩
abbrev S128x512 : Shape := ⟨2, ![128, 512]⟩
abbrev S16640x128 : Shape := ⟨2, ![16640, 128]⟩
abbrev S128x16640 : Shape := ⟨2, ![128, 16640]⟩
abbrev S2x1x512 : Shape := ⟨3, ![2, 1, 512]⟩
abbrev S2x128x512 : Shape := ⟨3, ![2, 128, 512]⟩
abbrev S640x128 : Shape := ⟨2, ![640, 128]⟩
abbrev S128x640 : Shape := ⟨2, ![128, 640]⟩
abbrev S640x512 : Shape := ⟨2, ![640, 512]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩
abbrev S1x1 : Shape := ⟨2, ![1, 1]⟩

abbrev nBuf : Space → Nat
  | .hbm => 14
  | .vmem => 12
  | .smem => 0
  | _ => 0

abbrev bufTy : (tb : Table) → Fin (tcTables nBuf tb) → BufTy
  | .hbm, ⟨0, _⟩ => ⟨S1024x16384, .bf16⟩
  | .hbm, ⟨1, _⟩ => ⟨S16640x1024, .bf16⟩
  | .hbm, ⟨2, _⟩ => ⟨S1024x16640, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S_, .f32⟩
  | .hbm, ⟨8, _⟩ => ⟨S8x64, .f32⟩
  | .hbm, ⟨9, _⟩ => ⟨S4x64, .f32⟩
  | .hbm, ⟨10, _⟩ => ⟨S_, .i32⟩
  | .hbm, ⟨11, _⟩ => ⟨S1, .i32⟩
  | .hbm, ⟨12, _⟩ => ⟨S8x64, .f32⟩
  | .hbm, ⟨13, _⟩ => ⟨S1024x16384, .f32⟩
  | .local _ .vmem, ⟨0, _⟩ => ⟨S8x64, .f32⟩
  | .local _ .vmem, ⟨1, _⟩ => ⟨S128x512, .bf16⟩
  | .local _ .vmem, ⟨2, _⟩ => ⟨S128x512, .bf16⟩
  | .local _ .vmem, ⟨3, _⟩ => ⟨S16640x128, .bf16⟩
  | .local _ .vmem, ⟨4, _⟩ => ⟨S16640x128, .bf16⟩
  | .local _ .vmem, ⟨5, _⟩ => ⟨S128x16640, .bf16⟩
  | .local _ .vmem, ⟨6, _⟩ => ⟨S128x16640, .bf16⟩
  | .local _ .vmem, ⟨7, _⟩ => ⟨S128x512, .f32⟩
  | .local _ .vmem, ⟨8, _⟩ => ⟨S128x512, .f32⟩
  | .local _ .vmem, ⟨9, _⟩ => ⟨S2x1x512, .f32⟩
  | .local _ .vmem, ⟨10, _⟩ => ⟨S2x1x512, .f32⟩
  | .local _ .vmem, ⟨11, _⟩ => ⟨S2x128x512, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

@[reducible] def k0_t1_loop : Scf.Loop 32 :=
  let c0_i32 : BitVec 32 := 0#32
  let c26_i32 : BitVec 32 := 26#32
  let v21 : BitVec 32 := Scalar.addi c0_i32 c26_i32
  let c1_i32 : BitVec 32 := 1#32
  ⟨c0_i32, v21, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c640_i32 : BitVec 32 := 640#32
  let v57 : BitVec 32 := Scalar.muli arg10 c640_i32
  v57
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c640_i32 : BitVec 32 := 640#32
  let v57 : BitVec 32 := Scalar.muli arg10 c640_i32
  let v58 : BitVec 32 := v57
  let v59 : Index := Scalar.indexCast v58
  let c0_37 : Index := 0#32
  ![v59.toNat, 0]
def k0_off2 (k0_t1 : Fin k0_t1_loop.trips) : Fin 2 → Nat :=
  let c0_38 : Index := 0#32
  let c0_i32 : BitVec 32 := 0#32
  let c1_i32 : BitVec 32 := 1#32
  let arg10 : BitVec 32 := Scf.iv c0_i32 c1_i32 k0_t1
  let c640_i32 : BitVec 32 := 640#32
  let v57 : BitVec 32 := Scalar.muli arg10 c640_i32
  let v58 : BitVec 32 := v57
  let v61 : Index := Scalar.indexCast v58
  ![0, v61.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x16640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S1024x16384 : Shape := ⟨2, ![1024, 16384]⟩
abbrev S16640x1024 : Shape := ⟨2, ![16640, 1024]⟩
abbrev S1024x16640 : Shape := ⟨2, ![1024, 16640]⟩
abbrev S1x64 : Shape := ⟨2, ![1, 64]⟩
abbrev S64 : Shape := ⟨1, ![64]⟩
abbrev S_ : Shape := ⟨0, ![]⟩
abbrev S8x2x64x16384 : Shape := ⟨4, ![8, 2, 64, 16384]⟩
abbrev S2x8x16384x64 : Shape := ⟨4, ![2, 8, 16384, 64]⟩
abbrev S16640x8x2x64 : Shape := ⟨4, ![16640, 8, 2, 64]⟩
abbrev S2x8x16640x64 : Shape := ⟨4, ![2, 8, 16640, 64]⟩
abbrev S8x128x16640 : Shape := ⟨3, ![8, 128, 16640]⟩
abbrev S8x16640x128 : Shape := ⟨3, ![8, 16640, 128]⟩
abbrev S2x8x16384x16640 : Shape := ⟨4, ![2, 8, 16384, 16640]⟩
abbrev S2x8x16384 : Shape := ⟨3, ![2, 8, 16384]⟩
abbrev S2x8x16384x1 : Shape := ⟨4, ![2, 8, 16384, 1]⟩
abbrev S1x8x16384x16640 : Shape := ⟨4, ![1, 8, 16384, 16640]⟩
abbrev S8x16384x16640 : Shape := ⟨3, ![8, 16384, 16640]⟩
abbrev S8x16384x128 : Shape := ⟨3, ![8, 16384, 128]⟩
abbrev S8x128x16384 : Shape := ⟨3, ![8, 128, 16384]⟩

abbrev nBuf : Space → Nat
  | .hbm => 56
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16640x1024, .bf16⟩
  | .hbm, ⟨2, _⟩ => ⟨S1024x16640, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1024x16384, .f32⟩
  | .hbm, ⟨23, _⟩ => ⟨S8x2x64x16384, .f32⟩
  | .hbm, ⟨24, _⟩ => ⟨S2x8x16384x64, .f32⟩
  | .hbm, ⟨25, _⟩ => ⟨S16640x1024, .f32⟩
  | .hbm, ⟨26, _⟩ => ⟨S16640x8x2x64, .f32⟩
  | .hbm, ⟨27, _⟩ => ⟨S2x8x16640x64, .f32⟩
  | .hbm, ⟨28, _⟩ => ⟨S1024x16640, .f32⟩
  | .hbm, ⟨29, _⟩ => ⟨S8x128x16640, .f32⟩
  | .hbm, ⟨30, _⟩ => ⟨S8x16640x128, .f32⟩
  | .hbm, ⟨31, _⟩ => ⟨S2x8x16384x16640, .f32⟩
  | .hbm, ⟨32, _⟩ => ⟨S_, .f32⟩
  | .hbm, ⟨33, _⟩ => ⟨S2x8x16384, .f32⟩
  | .hbm, ⟨34, _⟩ => ⟨S_, .f32⟩
  | .hbm, ⟨35, _⟩ => ⟨S2x8x16384, .f32⟩
  | .hbm, ⟨36, _⟩ => ⟨S2x8x16384, .f32⟩
  | .hbm, ⟨37, _⟩ => ⟨S2x8x16384x1, .f32⟩
  | .hbm, ⟨38, _⟩ => ⟨S2x8x16384x16640, .f32⟩
  | .hbm, ⟨39, _⟩ => ⟨S2x8x16384x16640, .f32⟩
  | .hbm, ⟨40, _⟩ => ⟨S2x8x16384x16640, .f32⟩
  | .hbm, ⟨41, _⟩ => ⟨S_, .f32⟩
  | .hbm, ⟨42, _⟩ => ⟨S2x8x16384, .f32⟩
  | .hbm, ⟨43, _⟩ => ⟨S2x8x16384x1, .f32⟩
  | .hbm, ⟨44, _⟩ => ⟨S2x8x16384x16640, .f32⟩
  | .hbm, ⟨45, _⟩ => ⟨S2x8x16384x16640, .f32⟩
  | .hbm, ⟨46, _⟩ => ⟨S1x8x16384x16640, .f32⟩
  | .hbm, ⟨47, _⟩ => ⟨S8x16384x16640, .f32⟩
  | .hbm, ⟨48, _⟩ => ⟨S1x8x16384x16640, .f32⟩
  | .hbm, ⟨49, _⟩ => ⟨S8x16384x16640, .f32⟩
  | .hbm, ⟨50, _⟩ => ⟨S8x16384x16640, .f32⟩
  | .hbm, ⟨51, _⟩ => ⟨S8x16384x16640, .f32⟩
  | .hbm, ⟨52, _⟩ => ⟨S8x16384x16640, .f32⟩
  | .hbm, ⟨53, _⟩ => ⟨S8x16384x128, .f32⟩
  | .hbm, ⟨54, _⟩ => ⟨S8x128x16384, .f32⟩
  | .hbm, ⟨55, _⟩ => ⟨S1024x16384, .f32⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel2.lean ====
abbrev S16384x1024 : Shape := ⟨2, ![16384, 1024]⟩
abbrev S8x6144 : Shape := ⟨2, ![8, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S16x1024 : Shape := ⟨2, ![16, 1024]⟩
abbrev S256x1024 : Shape := ⟨2, ![256, 1024]⟩
abbrev S288x1024 : Shape := ⟨2, ![288, 1024]⟩
abbrev S288x256 : Shape := ⟨2, ![288, 256]⟩
abbrev S16 : Shape := ⟨1, ![16]⟩
abbrev S16x1 : Shape := ⟨2, ![16, 1]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256 : Shape := ⟨2, ![1, 256]⟩

abbrev nBuf : Space → Nat
  | .hbm => 14
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S1x1024, .f32⟩
  | .hbm, ⟨9, _⟩ => ⟨S1024x5632, .bf16⟩
  | .hbm, ⟨10, _⟩ => ⟨S1x5632, .f32⟩
  | .hbm, ⟨11, _⟩ => ⟨S2816x1024, .bf16⟩
  | .hbm, ⟨12, _⟩ => ⟨S1x1024, .f32⟩
  | .hbm, ⟨13, _⟩ => ⟨S16384x1024, .f32⟩
  | .local _ .vmem, ⟨0, _⟩ => ⟨S16x1024, .f32⟩
  | .local _ .vmem, ⟨1, _⟩ => ⟨S16x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S16x1024, .f32⟩
  | .local _ .vmem, ⟨6, _⟩ => ⟨S8x6144, .f32⟩
  | .local _ .vmem, ⟨7, _⟩ => ⟨S1x1024, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S288x1024, .bf16⟩
  | .local _ .vmem, ⟨16, _⟩ => ⟨S288x256, .f32⟩
  | .local _ .vmem, ⟨17, _⟩ => ⟨S288x256, .f32⟩
  | .local _ .vmem, ⟨18, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16384x1024 : Shape := ⟨2, ![16384, 1024]⟩
abbrev S8x6144 : Shape := ⟨2, ![8, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x6144 : Shape := ⟨2, ![1, 6144]⟩
abbrev S6144 : Shape := ⟨1, ![6144]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16386x5632 : Shape := ⟨2, ![16386, 5632]⟩
abbrev S1x5632 : Shape := ⟨2, ![1, 5632]⟩
abbrev S16384x2816 : Shape := ⟨2, ![16384, 2816]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S1x6144, .f32⟩
  | .hbm, ⟨9, _⟩ => ⟨S6144, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x5632, .f32⟩
  | .hbm, ⟨42, _⟩ => ⟨S_, .i32⟩
  | .hbm, ⟨43, _⟩ => ⟨S_, .f32⟩
  | .hbm, ⟨44, _⟩ => ⟨S16386x5632, .f32⟩
  | .hbm, ⟨45, _⟩ => ⟨S16384x5632, .f32⟩
  | .hbm, ⟨46, _⟩ => ⟨S1x5632, .f32⟩
  | .hbm, ⟨47, _⟩ => ⟨S5632, .f32⟩
  | .hbm, ⟨48, _⟩ => ⟨S1x5632, .f32⟩
  | .hbm, ⟨49, _⟩ => ⟨S16384x5632, .f32⟩
  | .hbm, ⟨50, _⟩ => ⟨S16384x5632, .f32⟩
  | .hbm, ⟨51, _⟩ => ⟨S16384x5632, .f32⟩
  | .hbm, ⟨52, _⟩ => ⟨S1x5632, .f32⟩
  | .hbm, ⟨53, _⟩ => ⟨S5632, .f32⟩
  | .hbm, ⟨54, _⟩ => ⟨S1x5632, .f32⟩
  | .hbm, ⟨55, _⟩ => ⟨S16384x5632, .f32⟩
  | .hbm, ⟨56, _⟩ => ⟨S16384x5632, .f32⟩
  | .hbm, ⟨57, _⟩ => ⟨S16384x5632, .f32⟩
  | .hbm, ⟨58, _⟩ => ⟨S16384x5632, .f32⟩
  | .hbm, ⟨59, _⟩ => ⟨S1x5632, .f32⟩
  | .hbm, ⟨60, _⟩ => ⟨S5632, .f32⟩
  | .hbm, ⟨61, _⟩ => ⟨S1x5632, .f32⟩
  | .hbm, ⟨62, _⟩ => ⟨S16384x5632, .f32⟩
  | .hbm, ⟨63, _⟩ => ⟨S16384x5632, .f32⟩
  | .hbm, ⟨64, _⟩ => ⟨S16384x5632, .f32⟩
  | .hbm, ⟨65, _⟩ => ⟨S1x5632, .f32⟩
  | .hbm, ⟨66, _⟩ => ⟨S16384x5632, .f32⟩
  | .hbm, ⟨67, _⟩ => ⟨S16384x5632, .f32⟩
  | .hbm, ⟨68, _⟩ => ⟨S16384x2816, .f32⟩
  | .hbm, ⟨69, _⟩ => ⟨S16384x2816, .f32⟩
  | .hbm, ⟨70, _⟩ => ⟨S16384x2816, .f32⟩
  | .hbm, ⟨71, _⟩ => ⟨S16384x2816, .f32⟩
  | .hbm, ⟨72, _⟩ => ⟨S_, .f32⟩
  | .hbm, ⟨73, _⟩ => ⟨S16384x2816, .f32⟩
  | .hbm, ⟨74, _⟩ => ⟨S16384x2816, .f32⟩
  | .hbm, ⟨75, _⟩ => ⟨S_, .f32⟩
  | .hbm, ⟨76, _⟩ => ⟨S16384x2816, .f32⟩
  | .hbm, ⟨77, _⟩ => ⟨S16384x2816, .f32⟩
  | .hbm, ⟨78, _⟩ => ⟨S16384x2816, .f32⟩
  | .hbm, ⟨79, _⟩ => ⟨S16384x2816, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S16384, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S16384x1, .f32⟩
  | .hbm, ⟨96, _⟩ => ⟨S16384x1024, .f32⟩
  | .hbm, ⟨97, _⟩ => ⟨S16384x1024, .f32⟩
  | .hbm, ⟨98, _⟩ => ⟨S1x1024, .f32⟩
  | .hbm, ⟨99, _⟩ => ⟨S16384x1024, .f32⟩
  | .hbm, ⟨100, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call0_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_3 : Ref sig .tc := ⟨.hbm, 86, rfl⟩
abbrev main_v64 : Ref sig .tc := ⟨.hbm, 87, rfl⟩
abbrev main_v65 : Ref sig .tc := ⟨.hbm, 88, rfl⟩
abbrev main_cst_4 : Ref sig .tc := ⟨.hbm, 89, rfl⟩
abbrev main_v66 : Ref sig .tc := ⟨.hbm, 90, rfl⟩
abbrev main_v67 : Ref sig .tc := ⟨.hbm, 91, rfl⟩
abbrev main_cst_5 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== Kernel3.lean ====
abbrev S16640x1024 : Shape := ⟨2, ![16640, 1024]⟩
abbrev S8x6144 : Shape := ⟨2, ![8, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S16x1024 : Shape := ⟨2, ![16, 1024]⟩
abbrev S256x1024 : Shape := ⟨2, ![256, 1024]⟩
abbrev S288x1024 : Shape := ⟨2, ![288, 1024]⟩
abbrev S288x256 : Shape := ⟨2, ![288, 256]⟩
abbrev S16 : Shape := ⟨1, ![16]⟩
abbrev S16x1 : Shape := ⟨2, ![16, 1]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256 : Shape := ⟨2, ![1, 256]⟩

abbrev nBuf : Space → Nat
  | .hbm => 14
  | .vmem => 19
  | .smem => 0
  | _ => 0

abbrev bufTy : (tb : Table) → Fin (tcTables nBuf tb) → BufTy
  | .hbm, ⟨0, _⟩ => ⟨S16640x1024, .f32⟩
  | .hbm, ⟨1, _⟩ => ⟨S8x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S1x1024, .f32⟩
  | .hbm, ⟨9, _⟩ => ⟨S1024x5632, .bf16⟩
  | .hbm, ⟨10, _⟩ => ⟨S1x5632, .f32⟩
  | .hbm, ⟨11, _⟩ => ⟨S2816x1024, .bf16⟩
  | .hbm, ⟨12, _⟩ => ⟨S1x1024, .f32⟩
  | .hbm, ⟨13, _⟩ => ⟨S16640x1024, .f32⟩
  | .local _ .vmem, ⟨0, _⟩ => ⟨S16x1024, .f32⟩
  | .local _ .vmem, ⟨1, _⟩ => ⟨S16x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S16x1024, .f32⟩
  | .local _ .vmem, ⟨6, _⟩ => ⟨S8x6144, .f32⟩
  | .local _ .vmem, ⟨7, _⟩ => ⟨S1x1024, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S288x1024, .bf16⟩
  | .local _ .vmem, ⟨16, _⟩ => ⟨S288x256, .f32⟩
  | .local _ .vmem, ⟨17, _⟩ => ⟨S288x256, .f32⟩
  | .local _ .vmem, ⟨18, _⟩ => ⟨S256x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1039_i32 : BitVec 32 := 1039#32
  let v2 : BitVec 32 := Scalar.minsi v1 c1039_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16640x1024 : Shape := ⟨2, ![16640, 1024]⟩
abbrev S8x6144 : Shape := ⟨2, ![8, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S16384x1024 : Shape := ⟨2, ![16384, 1024]⟩
abbrev S1x3072 : Shape := ⟨2, ![1, 3072]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16386x5632 : Shape := ⟨2, ![16386, 5632]⟩
abbrev S1x5632 : Shape := ⟨2, ![1, 5632]⟩
abbrev S16384x2816 : Shape := ⟨2, ![16384, 2816]⟩
abbrev S256 : Shape := ⟨1, ![256]⟩
abbrev S256x1 : Shape := ⟨2, ![256, 1]⟩
abbrev S256x5632 : Shape := ⟨2, ![256, 5632]⟩
abbrev S258x5632 : Shape := ⟨2, ![258, 5632]⟩
abbrev S256x2816 : Shape := ⟨2, ![256, 2816]⟩

abbrev nBuf : Space → Nat
  | .hbm => 151
  | .vmem => 0
  | .smem => 0
  | _ => 0

abbrev hbmTy0_0 (i : Nat) : BufTy := match i % 128 with
  | 0 => ⟨S16640x1024, .f32⟩
  | 1 => ⟨S8x6144, .f32⟩
  | 2 => ⟨S1024, .f32⟩
  | 3 => ⟨S1024x5632, .f32⟩
  | 4 => ⟨S3x5632, .f32⟩
  | 5 => ⟨S5632, .f32⟩
  | 6 => ⟨S2816x1024, .f32⟩
  | 7 => ⟨S1024, .f32⟩
  | 8 => ⟨S256x1024, .f32⟩
  | 9 => ⟨S16384x1024, .f32⟩
  | 10 => ⟨S1x3072, .f32⟩
  | 11 => ⟨S1x1024, .f32⟩
  | 12 => ⟨S1x1024, .f32⟩
  | 13 => ⟨S1x1024, .f32⟩
  | 14 => ⟨S1x3072, .f32⟩
  | 15 => ⟨S1x1024, .f32⟩
  | 16 => ⟨S1x1024, .f32⟩
  | 17 => ⟨S1x1024, .f32⟩
  | 18 => ⟨S16384x1024, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S_, .f32⟩
  | 26 => ⟨S16384x1, .f32⟩
  | 27 => ⟨S16384x1, .f32⟩
  | 28 => ⟨S16384x1, .f32⟩
  | 29 => ⟨S16384x1024, .f32⟩
  | 30 => ⟨S16384x1024, .f32⟩
  | 31 => ⟨S1x1024, .f32⟩
  | 32 => ⟨S16384x1024, .f32⟩
  | 33 => ⟨S16384x1024, .f32⟩
  | 34 => ⟨S_, .f32⟩
  | 35 => ⟨S1x1024, .f32⟩
  | 36 => ⟨S1x1024, .f32⟩
  | 37 => ⟨S16384x1024, .f32⟩
  | 38 => ⟨S16384x1024, .f32⟩
  | 39 => ⟨S16384x1024, .f32⟩
  | 40 => ⟨S16384x1024, .f32⟩
  | 41 => ⟨S16384x5632, .f32⟩
  | 42 => ⟨S_, .i32⟩
  | 43 => ⟨S_, .f32⟩
  | 44 => ⟨S16386x5632, .f32⟩
  | 45 => ⟨S16384x5632, .f32⟩
  | 46 => ⟨S1x5632, .f32⟩
  | 47 => ⟨S5632, .f32⟩
  | 48 => ⟨S1x5632, .f32⟩
  | 49 => ⟨S16384x5632, .f32⟩
  | 50 => ⟨S16384x5632, .f32⟩
  | 51 => ⟨S16384x5632, .f32⟩
  | 52 => ⟨S1x5632, .f32⟩
  | 53 => ⟨S5632, .f32⟩
  | 54 => ⟨S1x5632, .f32⟩
  | 55 => ⟨S16384x5632, .f32⟩
  | 56 => ⟨S16384x5632, .f32⟩
  | 57 => ⟨S16384x5632, .f32⟩
  | 58 => ⟨S16384x5632, .f32⟩
  | 59 => ⟨S1x5632, .f32⟩
  | 60 => ⟨S5632, .f32⟩
  | 61 => ⟨S1x5632, .f32⟩
  | 62 => ⟨S16384x5632, .f32⟩
  | 63 => ⟨S16384x5632, .f32⟩
  | 64 => ⟨S16384x5632, .f32⟩
  | 65 => ⟨S1x5632, .f32⟩
  | 66 => ⟨S16384x5632, .f32⟩
  | 67 => ⟨S16384x5632, .f32⟩
  | 68 => ⟨S16384x2816, .f32⟩
  | 69 => ⟨S16384x2816, .f32⟩
  | 70 => ⟨S16384x2816, .f32⟩
  | 71 => ⟨S16384x2816, .f32⟩
  | 72 => ⟨S_, .f32⟩
  | 73 => ⟨S16384x2816, .f32⟩
  | 74 => ⟨S16384x2816, .f32⟩
  | 75 => ⟨S_, .f32⟩
  | 76 => ⟨S16384x2816, .f32⟩
  | 77 => ⟨S16384x2816, .f32⟩
  | 78 => ⟨S16384x2816, .f32⟩
  | 79 => ⟨S16384x2816, .f32⟩
  | 80 => ⟨S16384x1024, .f32⟩
  | 81 => ⟨S16384x1024, .f32⟩
  | 82 => ⟨S16384x1024, .f32⟩
  | 83 => ⟨S16384x1024, .f32⟩
  | 84 => ⟨S256x1024, .f32⟩
  | 85 => ⟨S_, .f32⟩
  | 86 => ⟨S256, .f32⟩
  | 87 => ⟨S256x1, .f32⟩
  | 88 => ⟨S_, .f32⟩
  | 89 => ⟨S256x1, .f32⟩
  | 90 => ⟨S256x1, .f32⟩
  | 91 => ⟨S_, .f32⟩
  | 92 => ⟨S256x1, .f32⟩
  | 93 => ⟨S256x1, .f32⟩
  | 94 => ⟨S256x1, .f32⟩
  | 95 => ⟨S256x1024, .f32⟩
  | 96 => ⟨S256x1024, .f32⟩
  | 97 => ⟨S1x1024, .f32⟩
  | 98 => ⟨S256x1024, .f32⟩
  | 99 => ⟨S256x1024, .f32⟩
  | 100 => ⟨S_, .f32⟩
  | 101 => ⟨S1x1024, .f32⟩
  | 102 => ⟨S1x1024, .f32⟩
  | 103 => ⟨S256x1024, .f32⟩
  | 104 => ⟨S256x1024, .f32⟩
  | 105 => ⟨S256x1024, .f32⟩
  | 106 => ⟨S256x1024, .f32⟩
  | 107 => ⟨S256x5632, .f32⟩
  | 108 => ⟨S_, .i32⟩
  | 109 => ⟨S_, .f32⟩
  | 110 => ⟨S258x5632, .f32⟩
  | 111 => ⟨S256x5632, .f32⟩
  | 112 => ⟨S1x5632, .f32⟩
  | 113 => ⟨S5632, .f32⟩
  | 114 => ⟨S1x5632, .f32⟩
  | 115 => ⟨S256x5632, .f32⟩
  | 116 => ⟨S256x5632, .f32⟩
  | 117 => ⟨S256x5632, .f32⟩
  | 118 => ⟨S1x5632, .f32⟩
  | 119 => ⟨S5632, .f32⟩
  | 120 => ⟨S1x5632, .f32⟩
  | 121 => ⟨S256x5632, .f32⟩
  | 122 => ⟨S256x5632, .f32⟩
  | 123 => ⟨S256x5632, .f32⟩
  | 124 => ⟨S256x5632, .f32⟩
  | 125 => ⟨S1x5632, .f32⟩
  | 126 => ⟨S5632, .f32⟩
  | 127 => ⟨S1x5632, .f32⟩
  | _ => ⟨S16640x1024, .f32⟩

abbrev hbmTy0_1 (i : Nat) : BufTy := match i % 128 with
  | 0 => ⟨S256x5632, .f32⟩
  | 1 => ⟨S256x5632, .f32⟩
  | 2 => ⟨S256x5632, .f32⟩
  | 3 => ⟨S1x5632, .f32⟩
  | 4 => ⟨S256x5632, .f32⟩
  | 5 => ⟨S256x5632, .f32⟩
  | 6 => ⟨S256x2816, .f32⟩
  | 7 => ⟨S256x2816, .f32⟩
  | 8 => ⟨S256x2816, .f32⟩
  | 9 => ⟨S256x2816, .f32⟩
  | 10 => ⟨S_, .f32⟩
  | 11 => ⟨S256x2816, .f32⟩
  | 12 => ⟨S256x2816, .f32⟩
  | 13 => ⟨S_, .f32⟩
  | 14 => ⟨S256x2816, .f32⟩
  | 15 => ⟨S256x2816, .f32⟩
  | 16 => ⟨S256x2816, .f32⟩
  | 17 => ⟨S256x2816, .f32⟩
  | 18 => ⟨S256x1024, .f32⟩
  | 19 => ⟨S256x1024, .f32⟩
  | 20 => ⟨S256x1024, .f32⟩
  | 21 => ⟨S256x1024, .f32⟩
  | 22 => ⟨S16640x1024, .f32⟩
  | _ => ⟨S16640x1024, .f32⟩

abbrev hbmTy (i : Nat) : BufTy := match i / 128 with
  | 0 => hbmTy0_0 i
  | 1 => hbmTy0_1 i
  | _ => ⟨S16640x1024, .f32⟩

abbrev bufTy : (tb : Table) → Fin (tcTables nBuf tb) → BufTy
  | .hbm, ⟨i, _⟩ => hbmTy i
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call0_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_3 : Ref sig .tc := ⟨.hbm, 85, rfl⟩
abbrev main_v63 : Ref sig .tc := ⟨.hbm, 86, rfl⟩
abbrev main_v64 : Ref sig .tc := ⟨.hbm, 87, rfl⟩
abbrev main_cst_4 : Ref sig .tc := ⟨.hbm, 88, rfl⟩
abbrev main_v65 : Ref sig .tc := ⟨.hbm, 89, rfl⟩
abbrev main_v66 : Ref sig .tc := ⟨.hbm, 90, rfl⟩
abbrev main_cst_5 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_6 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_7 : Ref sig .tc := ⟨.hbm, 108, rfl⟩
abbrev main_call2_v0 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_call3_v0 : Ref sig .tc := ⟨.hbm, 136, rfl⟩
abbrev main_call3_v1 : Ref sig .tc := ⟨.hbm, 137, rfl⟩
abbrev main_call3_cst : Ref sig .tc := ⟨.hbm, 138, rfl⟩
abbrev main_call3_v2 : Ref sig .tc := ⟨.hbm, 139, rfl⟩
abbrev main_call3_v3 : Ref sig .tc := ⟨.hbm, 140, rfl⟩
abbrev main_call3_cst_0 : Ref sig .tc := ⟨.hbm, 141, rfl⟩
abbrev main_call3_v4 : Ref sig .tc := ⟨.hbm, 142, rfl⟩
abbrev main_call3_v5 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩

abbrev nD : Nat := 1
abbrev τ : Topo := Topo.v7x

variable {F : FTy → Type} [FloatOps F]
-- ==== Kernel4.lean ====
abbrev S256x1024 : Shape := ⟨2, ![256, 1024]⟩
abbrev S16384x1024 : Shape := ⟨2, ![16384, 1024]⟩
abbrev S8x6144 : Shape := ⟨2, ![8, 6144]⟩
abbrev S1024 : Shape := ⟨1, ![1024]⟩
abbrev S1024x512 : Shape := ⟨2, ![1024, 512]⟩
abbrev S1024x1024 : Shape := ⟨2, ![1024, 1024]⟩
abbrev S2x1024x16 : Shape := ⟨3, ![2, 1024, 16]⟩
abbrev S2x16x512 : Shape := ⟨3, ![2, 16, 512]⟩
abbrev S2x512 : Shape := ⟨2, ![2, 512]⟩
abbrev S1024x3072 : Shape := ⟨2, ![1024, 3072]⟩
abbrev S_ : Shape := ⟨0, ![]⟩
abbrev S1024x128 : Shape := ⟨2, ![1024, 128]⟩
abbrev S1x1024x16 : Shape := ⟨3, ![1, 1024, 16]⟩
abbrev S1024x16 : Shape := ⟨2, ![1024, 16]⟩
abbrev S1 : Shape := ⟨1, ![1]⟩
abbrev S128x1024 : Shape := ⟨2, ![128, 1024]⟩
abbrev S1x16x512 : Shape := ⟨3, ![1, 16, 512]⟩
abbrev S16x512 : Shape := ⟨2, ![16, 512]⟩
abbrev S2 : Shape := ⟨1, ![2]⟩
abbrev S1x1024 : Shape := ⟨2, ![1, 1024]⟩
abbrev S16640x512 : Shape := ⟨2, ![16640, 512]⟩
abbrev S16640x1024 : Shape := ⟨2, ![16640, 1024]⟩
abbrev S256x512 : Shape := ⟨2, ![256, 512]⟩
abbrev S256 : Shape := ⟨1, ![256]⟩
abbrev S256x1 : Shape := ⟨2, ![256, 1]⟩
abbrev S256x3072 : Shape := ⟨2, ![256, 3072]⟩
abbrev S256x128 : Shape := ⟨2, ![256, 128]⟩

abbrev nBuf : Space → Nat
  | .hbm => 52
  | .vmem => 19
  | .smem => 0
  | _ => 0

abbrev bufTy : (tb : Table) → Fin (tcTables nBuf tb) → BufTy
  | .hbm, ⟨0, _⟩ => ⟨S256x1024, .f32⟩
  | .hbm, ⟨1, _⟩ => ⟨S16384x1024, .f32⟩
  | .hbm, ⟨2, _⟩ => ⟨S8x6144, .f32⟩
  | .hbm, ⟨3, _⟩ => ⟨S1024, .f32⟩
  | .hbm, ⟨4, _⟩ => ⟨S1024x512, .f32⟩
  | .hbm, ⟨5, _⟩ => ⟨S1024x512, .f32⟩
  | .hbm, ⟨6, _⟩ => ⟨S1024x1024, .f32⟩
  | .hbm, ⟨7, _⟩ => ⟨S1024x1024, .f32⟩
  | .hbm, ⟨8, _⟩ => ⟨S2x1024x16, .f32⟩
  | .hbm, ⟨9, _⟩ => ⟨S2x16x512, .f32⟩
  | .hbm, ⟨10, _⟩ => ⟨S2x512, .f32⟩
  | .hbm, ⟨11, _⟩ => ⟨S1024x3072, .f32⟩
  | .hbm, ⟨12, _⟩ => ⟨S1024x3072, .bf16⟩
  | .hbm, ⟨13, _⟩ => ⟨S_, .f32⟩
  | .hbm, ⟨14, _⟩ => ⟨S1024x128, .f32⟩
  | .hbm, ⟨15, _⟩ => ⟨S1x1024x16, .f32⟩
  | .hbm, ⟨16, _⟩ => ⟨S1024x16, .f32⟩
  | .hbm, ⟨17, _⟩ => ⟨S_, .i32⟩
  | .hbm, ⟨18, _⟩ => ⟨S1, .i32⟩
  | .hbm, ⟨19, _⟩ => ⟨S1024x128, .f32⟩
  | .hbm, ⟨20, _⟩ => ⟨S1x1024x16, .f32⟩
  | .hbm, ⟨21, _⟩ => ⟨S1024x16, .f32⟩
  | .hbm, ⟨22, _⟩ => ⟨S_, .i32⟩
  | .hbm, ⟨23, _⟩ => ⟨S1, .i32⟩
  | .hbm, ⟨24, _⟩ => ⟨S1024x128, .f32⟩
  | .hbm, ⟨25, _⟩ => ⟨S_, .f32⟩
  | .hbm, ⟨26, _⟩ => ⟨S128x1024, .f32⟩
  | .hbm, ⟨27, _⟩ => ⟨S1x16x512, .f32⟩
  | .hbm, ⟨28, _⟩ => ⟨S16x512, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S128x1024, .f32⟩
  | .hbm, ⟨35, _⟩ => ⟨S1x16x512, .f32⟩
  | .hbm, ⟨36, _⟩ => ⟨S16x512, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S128x1024, .f32⟩
  | .hbm, ⟨43, _⟩ => ⟨S1x1024, .f32⟩
  | .hbm, ⟨44, _⟩ => ⟨S1x1024, .f32⟩
  | .hbm, ⟨45, _⟩ => ⟨S1024x128, .bf16⟩
  | .hbm, ⟨46, _⟩ => ⟨S128x1024, .bf16⟩
  | .hbm, ⟨47, _⟩ => ⟨S16640x512, .f32⟩
  | .hbm, ⟨48, _⟩ => ⟨S16640x512, .f32⟩
  | .hbm, ⟨49, _⟩ => ⟨S16640x1024, .bf16⟩
  | .hbm, ⟨50, _⟩ => ⟨S16640x1024, .bf16⟩
  | .hbm, ⟨51, _⟩ => ⟨S16640x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S8x6144, .f32⟩
  | .local _ .vmem, ⟨4, _⟩ => ⟨S1x1024, .f32⟩
  | .local _ .vmem, ⟨5, _⟩ => ⟨S1024x3072, .bf16⟩
  | .local _ .vmem, ⟨6, _⟩ => ⟨S1024x128, .bf16⟩
  | .local _ .vmem, ⟨7, _⟩ => ⟨S128x1024, .bf16⟩
  | .local _ .vmem, ⟨8, _⟩ => ⟨S1x1024, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28_0 : Ref sig .tc := ⟨.hbm, 47, rfl⟩
abbrev main_v28_1 : Ref sig .tc := ⟨.hbm, 48, rfl⟩
abbrev main_v28_2 : Ref sig .tc := ⟨.hbm, 49, rfl⟩
abbrev main_v28_3 : Ref sig .tc := ⟨.hbm, 50, rfl⟩
abbrev main_v28_4 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S256x1024 : Shape := ⟨2, ![256, 1024]⟩
abbrev S16384x1024 : Shape := ⟨2, ![16384, 1024]⟩
abbrev S8x6144 : Shape := ⟨2, ![8, 6144]⟩
abbrev S1024 : Shape := ⟨1, ![1024]⟩
abbrev S1024x512 : Shape := ⟨2, ![1024, 512]⟩
abbrev S1024x1024 : Shape := ⟨2, ![1024, 1024]⟩
abbrev S2x1024x16 : Shape := ⟨3, ![2, 1024, 16]⟩
abbrev S2x16x512 : Shape := ⟨3, ![2, 16, 512]⟩
abbrev S2x512 : Shape := ⟨2, ![2, 512]⟩
abbrev S1x2048 : Shape := ⟨2, ![1, 2048]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S256 : Shape := ⟨1, ![256]⟩
abbrev S256x1 : Shape := ⟨2, ![256, 1]⟩
abbrev S16640x1024 : Shape := ⟨2, ![16640, 1024]⟩
abbrev S16640x512 : Shape := ⟨2, ![16640, 512]⟩
abbrev S1x1024x16 : Shape := ⟨3, ![1, 1024, 16]⟩
abbrev S1024x16 : Shape := ⟨2, ![1024, 16]⟩
abbrev S16640x16 : Shape := ⟨2, ![16640, 16]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩

abbrev nBuf : Space → Nat
  | .hbm => 143
  | .vmem => 0
  | .smem => 0
  | _ => 0

abbrev hbmTy0_0 (i : Nat) : BufTy := match i % 128 with
  | 0 => ⟨S256x1024, .f32⟩
  | 1 => ⟨S16384x1024, .f32⟩
  | 2 => ⟨S8x6144, .f32⟩
  | 3 => ⟨S1024, .f32⟩
  | 4 => ⟨S1024x512, .f32⟩
  | 5 => ⟨S1024x512, .f32⟩
  | 6 => ⟨S1024x1024, .f32⟩
  | 7 => ⟨S1024x1024, .f32⟩
  | 8 => ⟨S2x1024x16, .f32⟩
  | 9 => ⟨S2x16x512, .f32⟩
  | 10 => ⟨S2x512, .f32⟩
  | 11 => ⟨S1x2048, .f32⟩
  | 12 => ⟨S1x1024, .f32⟩
  | 13 => ⟨S1x1024, .f32⟩
  | 14 => ⟨S1x2048, .f32⟩
  | 15 => ⟨S1x1024, .f32⟩
  | 16 => ⟨S1x1024, .f32⟩
  | 17 => ⟨S16384x1024, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S_, .f32⟩
  | 25 => ⟨S16384x1, .f32⟩
  | 26 => ⟨S16384x1, .f32⟩
  | 27 => ⟨S16384x1, .f32⟩
  | 28 => ⟨S16384x1024, .f32⟩
  | 29 => ⟨S16384x1024, .f32⟩
  | 30 => ⟨S1x1024, .f32⟩
  | 31 => ⟨S16384x1024, .f32⟩
  | 32 => ⟨S16384x1024, .f32⟩
  | 33 => ⟨S_, .f32⟩
  | 34 => ⟨S1x1024, .f32⟩
  | 35 => ⟨S1x1024, .f32⟩
  | 36 => ⟨S16384x1024, .f32⟩
  | 37 => ⟨S16384x1024, .f32⟩
  | 38 => ⟨S16384x1024, .f32⟩
  | 39 => ⟨S16384x1024, .f32⟩
  | 40 => ⟨S256x1024, .f32⟩
  | 41 => ⟨S_, .f32⟩
  | 42 => ⟨S256, .f32⟩
  | 43 => ⟨S256x1, .f32⟩
  | 44 => ⟨S_, .f32⟩
  | 45 => ⟨S256x1, .f32⟩
  | 46 => ⟨S256x1, .f32⟩
  | 47 => ⟨S_, .f32⟩
  | 48 => ⟨S256x1, .f32⟩
  | 49 => ⟨S256x1, .f32⟩
  | 50 => ⟨S256x1, .f32⟩
  | 51 => ⟨S256x1024, .f32⟩
  | 52 => ⟨S256x1024, .f32⟩
  | 53 => ⟨S1x1024, .f32⟩
  | 54 => ⟨S256x1024, .f32⟩
  | 55 => ⟨S256x1024, .f32⟩
  | 56 => ⟨S_, .f32⟩
  | 57 => ⟨S1x1024, .f32⟩
  | 58 => ⟨S1x1024, .f32⟩
  | 59 => ⟨S256x1024, .f32⟩
  | 60 => ⟨S256x1024, .f32⟩
  | 61 => ⟨S256x1024, .f32⟩
  | 62 => ⟨S256x1024, .f32⟩
  | 63 => ⟨S16640x1024, .f32⟩
  | 64 => ⟨S16640x512, .f32⟩
  | 65 => ⟨S_, .f32⟩
  | 66 => ⟨S16640x512, .f32⟩
  | 67 => ⟨S16640x512, .f32⟩
  | 68 => ⟨S1x1024x16, .f32⟩
  | 69 => ⟨S1024x16, .f32⟩
  | 70 => ⟨S16640x16, .f32⟩
  | 71 => ⟨S1x16x512, .f32⟩
  | 72 => ⟨S16x512, .f32⟩
  | 73 => ⟨S16640x512, .f32⟩
  | 74 => ⟨S1x512, .f32⟩
  | 75 => ⟨S512, .f32⟩
  | 76 => ⟨S1x512, .f32⟩
  | 77 => ⟨S16640x512, .f32⟩
  | 78 => ⟨S16640x512, .f32⟩
  | 79 => ⟨S16640x512, .f32⟩
  | 80 => ⟨S_, .f32⟩
  | 81 => ⟨S16640x512, .f32⟩
  | 82 => ⟨S16640x512, .f32⟩
  | 83 => ⟨S16640x512, .f32⟩
  | 84 => ⟨S16640x512, .f32⟩
  | 85 => ⟨S16640x512, .i1⟩
  | 86 => ⟨S16640x512, .f32⟩
  | 87 => ⟨S16640x512, .f32⟩
  | 88 => ⟨S16640x512, .f32⟩
  | 89 => ⟨S16640x512, .f32⟩
  | 90 => ⟨S16640x512, .f32⟩
  | 91 => ⟨S16640x512, .f32⟩
  | 92 => ⟨S16640x512, .f32⟩
  | 93 => ⟨S16640x512, .f32⟩
  | 94 => ⟨S16640x512, .f32⟩
  | 95 => ⟨S_, .f32⟩
  | 96 => ⟨S16640x512, .f32⟩
  | 97 => ⟨S16640x512, .f32⟩
  | 98 => ⟨S1x1024x16, .f32⟩
  | 99 => ⟨S1024x16, .f32⟩
  | 100 => ⟨S16640x16, .f32⟩
  | 101 => ⟨S1x16x512, .f32⟩
  | 102 => ⟨S16x512, .f32⟩
  | 103 => ⟨S16640x512, .f32⟩
  | 104 => ⟨S1x512, .f32⟩
  | 105 => ⟨S512, .f32⟩
  | 106 => ⟨S1x512, .f32⟩
  | 107 => ⟨S16640x512, .f32⟩
  | 108 => ⟨S16640x512, .f32⟩
  | 109 => ⟨S16640x512, .f32⟩
  | 110 => ⟨S_, .f32⟩
  | 111 => ⟨S16640x512, .f32⟩
  | 112 => ⟨S16640x512, .f32⟩
  | 113 => ⟨S16640x512, .f32⟩
  | 114 => ⟨S16640x512, .f32⟩
  | 115 => ⟨S16640x512, .i1⟩
  | 116 => ⟨S16640x512, .f32⟩
  | 117 => ⟨S16640x512, .f32⟩
  | 118 => ⟨S16640x512, .f32⟩
  | 119 => ⟨S16640x512, .f32⟩
  | 120 => ⟨S16640x512, .f32⟩
  | 121 => ⟨S16640x512, .f32⟩
  | 122 => ⟨S16640x512, .f32⟩
  | 123 => ⟨S16640x512, .f32⟩
  | 124 => ⟨S16640x512, .f32⟩
  | 125 => ⟨S_, .f32⟩
  | 126 => ⟨S16640x512, .f32⟩
  | 127 => ⟨S16640x512, .f32⟩
  | _ => ⟨S256x1024, .f32⟩

abbrev hbmTy0_1 (i : Nat) : BufTy := match i % 128 with
  | 0 => ⟨S16640x512, .f32⟩
  | 1 => ⟨S16640x1024, .f32⟩
  | 2 => ⟨S16640x1024, .bf16⟩
  | 3 => ⟨S16640x1024, .f32⟩
  | 4 => ⟨S16640x1024, .f32⟩
  | 5 => ⟨S16640x1024, .f32⟩
  | 6 => ⟨S_, .f32⟩
  | 7 => ⟨S16640x1024, .f32⟩
  | 8 => ⟨S16640x1024, .f32⟩
  | 9 => ⟨S_, .f32⟩
  | 10 => ⟨S16640x1024, .f32⟩
  | 11 => ⟨S16640x1024, .f32⟩
  | 12 => ⟨S16640x1024, .f32⟩
  | 13 => ⟨S16640x1024, .bf16⟩
  | 14 => ⟨S16640x1024, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_call0_v0 : Ref sig .tc := ⟨.hbm, 79, rfl⟩
abbrev main_call0_call0_cst : Ref sig .tc := ⟨.hbm, 80, rfl⟩
abbrev main_call0_call0_v0 : Ref sig .tc := ⟨.hbm, 81, rfl⟩
abbrev main_call0_call0_v1 : Ref sig .tc := ⟨.hbm, 82, rfl⟩
abbrev main_call0_call0_v2 : Ref sig .tc := ⟨.hbm, 83, rfl⟩
abbrev main_call0_call0_v3 : Ref sig .tc := ⟨.hbm, 84, rfl⟩
abbrev main_call0_call0_v4 : Ref sig .tc := ⟨.hbm, 85, rfl⟩
abbrev main_call0_call0_v5 : Ref sig .tc := ⟨.hbm, 86, rfl⟩
abbrev main_call0_call0_v6 : Ref sig .tc := ⟨.hbm, 87, rfl⟩
abbrev main_call0_call0_v7 : Ref sig .tc := ⟨.hbm, 88, rfl⟩
abbrev main_call0_call0_v8 : Ref sig .tc := ⟨.hbm, 89, rfl⟩
abbrev main_call0_call0_v9 : Ref sig .tc := ⟨.hbm, 90, rfl⟩
abbrev main_call0_call0_v10 : Ref sig .tc := ⟨.hbm, 91, rfl⟩
abbrev main_call0_call0_v11 : Ref sig .tc := ⟨.hbm, 92, rfl⟩
abbrev main_call0_v1 : Ref sig .tc := ⟨.hbm, 93, rfl⟩
abbrev main_v59 : Ref sig .tc := ⟨.hbm, 94, rfl⟩
abbrev main_cst_8 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_call1_v0 : Ref sig .tc := ⟨.hbm, 109, rfl⟩
abbrev main_call1_call0_cst : Ref sig .tc := ⟨.hbm, 110, rfl⟩
abbrev main_call1_call0_v0 : Ref sig .tc := ⟨.hbm, 111, rfl⟩
abbrev main_call1_call0_v1 : Ref sig .tc := ⟨.hbm, 112, rfl⟩
abbrev main_call1_call0_v2 : Ref sig .tc := ⟨.hbm, 113, rfl⟩
abbrev main_call1_call0_v3 : Ref sig .tc := ⟨.hbm, 114, rfl⟩
abbrev main_call1_call0_v4 : Ref sig .tc := ⟨.hbm, 115, rfl⟩
abbrev main_call1_call0_v5 : Ref sig .tc := ⟨.hbm, 116, rfl⟩
abbrev main_call1_call0_v6 : Ref sig .tc := ⟨.hbm, 117, rfl⟩
abbrev main_call1_call0_v7 : Ref sig .tc := ⟨.hbm, 118, rfl⟩
abbrev main_call1_call0_v8 : Ref sig .tc := ⟨.hbm, 119, rfl⟩
abbrev main_call1_call0_v9 : Ref sig .tc := ⟨.hbm, 120, rfl⟩
abbrev main_call1_call0_v10 : Ref sig .tc := ⟨.hbm, 121, rfl⟩
abbrev main_call1_call0_v11 : Ref sig .tc := ⟨.hbm, 122, rfl⟩
abbrev main_call1_v1 : Ref sig .tc := ⟨.hbm, 123, rfl⟩
abbrev main_v73 : Ref sig .tc := ⟨.hbm, 124, rfl⟩
abbrev main_cst_9 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_call2_v0 : Ref sig .tc := ⟨.hbm, 132, rfl⟩
abbrev main_call2_v1 : Ref sig .tc := ⟨.hbm, 133, rfl⟩
abbrev main_call2_cst : Ref sig .tc := ⟨.hbm, 134, rfl⟩
abbrev main_call2_v2 : Ref sig .tc := ⟨.hbm, 135, rfl⟩
abbrev main_call2_v3 : Ref sig .tc := ⟨.hbm, 136, rfl⟩
abbrev main_call2_cst_0 : Ref sig .tc := ⟨.hbm, 137, rfl⟩
abbrev main_call2_v4 : Ref sig .tc := ⟨.hbm, 138, rfl⟩
abbrev main_call2_v5 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩

abbrev nD : Nat := 1
abbrev τ : Topo := Topo.v7x

variable {F : FTy → Type} [FloatOps F]
-- ==== Kernel5.lean ====
abbrev S256x1024 : Shape := ⟨2, ![256, 1024]⟩
abbrev S16384x1024 : Shape := ⟨2, ![16384, 1024]⟩
abbrev S16640x1024 : Shape := ⟨2, ![16640, 1024]⟩
abbrev S8x6144 : Shape := ⟨2, ![8, 6144]⟩
abbrev S256 : Shape := ⟨1, ![256]⟩
abbrev S1024x1024 : Shape := ⟨2, ![1024, 1024]⟩
abbrev S1x256 : Shape := ⟨2, ![1, 256]⟩
abbrev S256x256 : Shape := ⟨2, ![256, 256]⟩
abbrev S256x1 : Shape := ⟨2, ![256, 1]⟩
abbrev S1x1024 : Shape := ⟨2, ![1, 1024]⟩

abbrev nBuf : Space → Nat
  | .hbm => 11
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S16384x1024, .f32⟩
  | .hbm, ⟨2, _⟩ => ⟨S16640x1024, .f32⟩
  | .hbm, ⟨3, _⟩ => ⟨S16640x1024, .f32⟩
  | .hbm, ⟨4, _⟩ => ⟨S16640x1024, .bf16⟩
  | .hbm, ⟨5, _⟩ => ⟨S8x6144, .f32⟩
  | .hbm, ⟨6, _⟩ => ⟨S256, .f32⟩
  | .hbm, ⟨7, _⟩ => ⟨S1024x1024, .f32⟩
  | .hbm, ⟨8, _⟩ => ⟨S1x256, .f32⟩
  | .hbm, ⟨9, _⟩ => ⟨S1024x1024, .bf16⟩
  | .hbm, ⟨10, _⟩ => ⟨S16640x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S8x6144, .f32⟩
  | .local _ .vmem, ⟨10, _⟩ => ⟨S1x256, .f32⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S256x1024 : Shape := ⟨2, ![256, 1024]⟩
abbrev S16384x1024 : Shape := ⟨2, ![16384, 1024]⟩
abbrev S16640x1024 : Shape := ⟨2, ![16640, 1024]⟩
abbrev S8x6144 : Shape := ⟨2, ![8, 6144]⟩
abbrev S256 : Shape := ⟨1, ![256]⟩
abbrev S1024x1024 : Shape := ⟨2, ![1024, 1024]⟩
abbrev S1x1024 : Shape := ⟨2, ![1, 1024]⟩
abbrev S16640x4x256 : Shape := ⟨3, ![16640, 4, 256]⟩
abbrev S_ : Shape := ⟨0, ![]⟩
abbrev S16640x4 : Shape := ⟨2, ![16640, 4]⟩
abbrev S16640x4x1 : Shape := ⟨3, ![16640, 4, 1]⟩
abbrev S1x1x256 : Shape := ⟨3, ![1, 1, 256]⟩

abbrev nBuf : Space → Nat
  | .hbm => 41
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S16384x1024, .f32⟩
  | .hbm, ⟨2, _⟩ => ⟨S16640x1024, .f32⟩
  | .hbm, ⟨3, _⟩ => ⟨S16640x1024, .f32⟩
  | .hbm, ⟨4, _⟩ => ⟨S16640x1024, .bf16⟩
  | .hbm, ⟨5, _⟩ => ⟨S8x6144, .f32⟩
  | .hbm, ⟨6, _⟩ => ⟨S256, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S16640x1024, .f32⟩
  | .hbm, ⟨11, _⟩ => ⟨S16640x4x256, .f32⟩
  | .hbm, ⟨12, _⟩ => ⟨S16640x4x256, .f32⟩
  | .hbm, ⟨13, _⟩ => ⟨S_, .f32⟩
  | .hbm, ⟨14, _⟩ => ⟨S16640x4, .f32⟩
  | .hbm, ⟨15, _⟩ => ⟨S16640x4x1, .f32⟩
  | .hbm, ⟨16, _⟩ => ⟨S_, .f32⟩
  | .hbm, ⟨17, _⟩ => ⟨S16640x4x1, .f32⟩
  | .hbm, ⟨18, _⟩ => ⟨S16640x4x1, .f32⟩
  | .hbm, ⟨19, _⟩ => ⟨S_, .f32⟩
  | .hbm, ⟨20, _⟩ => ⟨S16640x4x1, .f32⟩
  | .hbm, ⟨21, _⟩ => ⟨S16640x4x1, .f32⟩
  | .hbm, ⟨22, _⟩ => ⟨S16640x4x1, .f32⟩
  | .hbm, ⟨23, _⟩ => ⟨S16640x4x256, .f32⟩
  | .hbm, ⟨24, _⟩ => ⟨S16640x4x256, .f32⟩
  | .hbm, ⟨25, _⟩ => ⟨S1x1x256, .f32⟩
  | .hbm, ⟨26, _⟩ => ⟨S16640x4x256, .f32⟩
  | .hbm, ⟨27, _⟩ => ⟨S16640x4x256, .f32⟩
  | .hbm, ⟨28, _⟩ => ⟨S16640x1024, .f32⟩
  | .hbm, ⟨29, _⟩ => ⟨S16640x1024, .f32⟩
  | .hbm, ⟨30, _⟩ => ⟨S16640x1024, .f32⟩
  | .hbm, ⟨31, _⟩ => ⟨S16640x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16640x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel6.lean ====
abbrev S16640x1024 : Shape := ⟨2, ![16640, 1024]⟩
abbrev S1024x16384 : Shape := ⟨2, ![1024, 16384]⟩
abbrev S8x6144 : Shape := ⟨2, ![8, 6144]⟩
abbrev S128 : Shape := ⟨1, ![128]⟩
abbrev S1024x1024 : Shape := ⟨2, ![1024, 1024]⟩
abbrev S128x1 : Shape := ⟨2, ![128, 1]⟩
abbrev S16384x1024 : Shape := ⟨2, ![16384, 1024]⟩
abbrev S256x1024 : Shape := ⟨2, ![256, 1024]⟩
abbrev S1024x256 : Shape := ⟨2, ![1024, 256]⟩
abbrev S128x256 : Shape := ⟨2, ![128, 256]⟩
abbrev S256 : Shape := ⟨1, ![256]⟩
abbrev S1x256 : Shape := ⟨2, ![1, 256]⟩
abbrev S1x1024 : Shape := ⟨2, ![1, 1024]⟩

abbrev nBuf : Space → Nat
  | .hbm => 8
  | .vmem => 9
  | .smem => 0
  | _ => 0

abbrev bufTy : (tb : Table) → Fin (tcTables nBuf tb) → BufTy
  | .hbm, ⟨0, _⟩ => ⟨S16640x1024, .f32⟩
  | .hbm, ⟨1, _⟩ => ⟨S1024x16384, .f32⟩
  | .hbm, ⟨2, _⟩ => ⟨S8x6144, .f32⟩
  | .hbm, ⟨3, _⟩ => ⟨S128, .f32⟩
  | .hbm, ⟨4, _⟩ => ⟨S1024x1024, .f32⟩
  | .hbm, ⟨5, _⟩ => ⟨S128x1, .f32⟩
  | .hbm, ⟨6, _⟩ => ⟨S1024x1024, .bf16⟩
  | .hbm, ⟨7, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x256, .f32⟩
  | .local _ .vmem, ⟨3, _⟩ => ⟨S1024x256, .f32⟩
  | .local _ .vmem, ⟨4, _⟩ => ⟨S8x6144, .f32⟩
  | .local _ .vmem, ⟨5, _⟩ => ⟨S128x1, .f32⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S16640x1024 : Shape := ⟨2, ![16640, 1024]⟩
abbrev S1024x16384 : Shape := ⟨2, ![1024, 16384]⟩
abbrev S8x6144 : Shape := ⟨2, ![8, 6144]⟩
abbrev S128 : Shape := ⟨1, ![128]⟩
abbrev S1024x1024 : Shape := ⟨2, ![1024, 1024]⟩
abbrev S16384x1024 : Shape := ⟨2, ![16384, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024x16384, .f32⟩
  | .hbm, ⟨2, _⟩ => ⟨S8x6144, .f32⟩
  | .hbm, ⟨3, _⟩ => ⟨S128, .f32⟩
  | .hbm, ⟨4, _⟩ => ⟨S1024x1024, .f32⟩
  | .hbm, ⟨5, _⟩ => ⟨S16384x1024, .f32⟩
  | .hbm, ⟨6, _⟩ => ⟨S16384x8x128, .f32⟩
  | .hbm, ⟨7, _⟩ => ⟨S16384x8x128, .f32⟩
  | .hbm, ⟨8, _⟩ => ⟨S_, .f32⟩
  | .hbm, ⟨9, _⟩ => ⟨S16384x8, .f32⟩
  | .hbm, ⟨10, _⟩ => ⟨S16384x8x1, .f32⟩
  | .hbm, ⟨11, _⟩ => ⟨S_, .f32⟩
  | .hbm, ⟨12, _⟩ => ⟨S16384x8x1, .f32⟩
  | .hbm, ⟨13, _⟩ => ⟨S16384x8x1, .f32⟩
  | .hbm, ⟨14, _⟩ => ⟨S_, .f32⟩
  | .hbm, ⟨15, _⟩ => ⟨S16384x8x1, .f32⟩
  | .hbm, ⟨16, _⟩ => ⟨S16384x8x1, .f32⟩
  | .hbm, ⟨17, _⟩ => ⟨S16384x8x1, .f32⟩
  | .hbm, ⟨18, _⟩ => ⟨S16384x8x128, .f32⟩
  | .hbm, ⟨19, _⟩ => ⟨S16384x8x128, .f32⟩
  | .hbm, ⟨20, _⟩ => ⟨S1x1x128, .f32⟩
  | .hbm, ⟨21, _⟩ => ⟨S16384x8x128, .f32⟩
  | .hbm, ⟨22, _⟩ => ⟨S16384x8x128, .f32⟩
  | .hbm, ⟨23, _⟩ => ⟨S_, .f32⟩
  | .hbm, ⟨24, _⟩ => ⟨S16384x8x128, .f32⟩
  | .hbm, ⟨25, _⟩ => ⟨S16384x8x128, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel7.lean ====
abbrev S16640x1024 : Shape := ⟨2, ![16640, 1024]⟩
abbrev S8x6144 : Shape := ⟨2, ![8, 6144]⟩
abbrev S1024 : Shape := ⟨1, ![1024]⟩
abbrev S1024x1024 : Shape := ⟨2, ![1024, 1024]⟩
abbrev S1024x3072 : Shape := ⟨2, ![1024, 3072]⟩
abbrev S256 : Shape := ⟨1, ![256]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S32 : Shape := ⟨1, ![32]⟩
abbrev S1x32 : Shape := ⟨2, ![1, 32]⟩
abbrev S2x32 : Shape := ⟨2, ![2, 32]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1x1024 : Shape := ⟨2, ![1, 1024]⟩
abbrev S1024x16384 : Shape := ⟨2, ![1024, 16384]⟩
abbrev S1024x16640 : Shape := ⟨2, ![1024, 16640]⟩
abbrev S256x1024 : Shape := ⟨2, ![256, 1024]⟩
abbrev S256x128 : Shape := ⟨2, ![256, 128]⟩
abbrev S1024x256 : Shape := ⟨2, ![1024, 256]⟩
abbrev S256x1 : Shape := ⟨2, ![256, 1]⟩
abbrev S256x3072 : Shape := ⟨2, ![256, 3072]⟩

abbrev nBuf : Space → Nat
  | .hbm => 58
  | .vmem => 15
  | .smem => 0
  | _ => 0

abbrev bufTy : (tb : Table) → Fin (tcTables nBuf tb) → BufTy
  | .hbm, ⟨0, _⟩ => ⟨S16640x1024, .f32⟩
  | .hbm, ⟨1, _⟩ => ⟨S8x6144, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x3072, .f32⟩
  | .hbm, ⟨7, _⟩ => ⟨S1024x3072, .bf16⟩
  | .hbm, ⟨8, _⟩ => ⟨S256, .f32⟩
  | .hbm, ⟨9, _⟩ => ⟨S256x64, .f32⟩
  | .hbm, ⟨10, _⟩ => ⟨S16384, .f32⟩
  | .hbm, ⟨11, _⟩ => ⟨S64, .f32⟩
  | .hbm, ⟨12, _⟩ => ⟨S1x64, .f32⟩
  | .hbm, ⟨13, _⟩ => ⟨S256x64, .f32⟩
  | .hbm, ⟨14, _⟩ => ⟨S16384, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S16384x1, .f32⟩
  | .hbm, ⟨24, _⟩ => ⟨S1x16, .f32⟩
  | .hbm, ⟨25, _⟩ => ⟨S16384x16, .f32⟩
  | .hbm, ⟨26, _⟩ => ⟨S16384x16, .f32⟩
  | .hbm, ⟨27, _⟩ => ⟨S16384x16, .f32⟩
  | .hbm, ⟨28, _⟩ => ⟨S16384x1, .f32⟩
  | .hbm, ⟨29, _⟩ => ⟨S1x16, .f32⟩
  | .hbm, ⟨30, _⟩ => ⟨S16384x16, .f32⟩
  | .hbm, ⟨31, _⟩ => ⟨S16384x16, .f32⟩
  | .hbm, ⟨32, _⟩ => ⟨S16384x16, .f32⟩
  | .hbm, ⟨33, _⟩ => ⟨S16384x64, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S32, .f32⟩
  | .hbm, ⟨40, _⟩ => ⟨S1x32, .f32⟩
  | .hbm, ⟨41, _⟩ => ⟨S2x32, .f32⟩
  | .hbm, ⟨42, _⟩ => ⟨S64, .f32⟩
  | .hbm, ⟨43, _⟩ => ⟨S16384x64, .f32⟩
  | .hbm, ⟨44, _⟩ => ⟨S1x16384x1x64, .f32⟩
  | .hbm, ⟨45, _⟩ => ⟨S1x16384x2x64, .f32⟩
  | .hbm, ⟨46, _⟩ => ⟨S16384x128, .f32⟩
  | .hbm, ⟨47, _⟩ => ⟨S16384x64, .f32⟩
  | .hbm, ⟨48, _⟩ => ⟨S1x64, .f32⟩
  | .hbm, ⟨49, _⟩ => ⟨S16384x64, .f32⟩
  | .hbm, ⟨50, _⟩ => ⟨S16384x64, .f32⟩
  | .hbm, ⟨51, _⟩ => ⟨S1x16384x1x64, .f32⟩
  | .hbm, ⟨52, _⟩ => ⟨S1x16384x2x64, .f32⟩
  | .hbm, ⟨53, _⟩ => ⟨S16384x128, .f32⟩
  | .hbm, ⟨54, _⟩ => ⟨S1x1024, .f32⟩
  | .hbm, ⟨55, _⟩ => ⟨S1024x16384, .bf16⟩
  | .hbm, ⟨56, _⟩ => ⟨S16640x1024, .bf16⟩
  | .hbm, ⟨57, _⟩ => ⟨S1024x16640, .bf16⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S8x6144, .f32⟩
  | .local _ .vmem, ⟨7, _⟩ => ⟨S1x1024, .f32⟩
  | .local _ .vmem, ⟨8, _⟩ => ⟨S1024x3072, .bf16⟩
  | .local _ .vmem, ⟨9, _⟩ => ⟨S1024x256, .bf16⟩
  | .local _ .vmem, ⟨10, _⟩ => ⟨S1024x256, .bf16⟩
  | .local _ .vmem, ⟨11, _⟩ => ⟨S256x1024, .bf16⟩
  | .local _ .vmem, ⟨12, _⟩ => ⟨S256x1024, .bf16⟩
  | .local _ .vmem, ⟨13, _⟩ => ⟨S1024x256, .bf16⟩
  | .local _ .vmem, ⟨14, _⟩ => ⟨S1024x256, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45_0 : Ref sig .tc := ⟨.hbm, 55, rfl⟩
abbrev main_v45_1 : Ref sig .tc := ⟨.hbm, 56, rfl⟩
abbrev main_v45_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S16640x1024 : Shape := ⟨2, ![16640, 1024]⟩
abbrev S8x6144 : Shape := ⟨2, ![8, 6144]⟩
abbrev S1024 : Shape := ⟨1, ![1024]⟩
abbrev S1024x1024 : Shape := ⟨2, ![1024, 1024]⟩
abbrev S256x1024 : Shape := ⟨2, ![256, 1024]⟩
abbrev S16384x1024 : Shape := ⟨2, ![16384, 1024]⟩
abbrev S1x2048 : Shape := ⟨2, ![1, 2048]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S256 : Shape := ⟨1, ![256]⟩
abbrev S256x1 : Shape := ⟨2, ![256, 1]⟩
abbrev S256x64 : Shape := ⟨2, ![256, 64]⟩
abbrev S64 : Shape := ⟨1, ![64]⟩
abbrev S1x64 : Shape := ⟨2, ![1, 64]⟩
abbrev S16 : Shape := ⟨1, ![16]⟩
abbrev S1x16 : Shape := ⟨2, ![1, 16]⟩
abbrev S16384x16 : Shape := ⟨2, ![16384, 16]⟩
abbrev S16384x64 : Shape := ⟨2, ![16384, 64]⟩
abbrev S16384x16x64 : Shape := ⟨3, ![16384, 16, 64]⟩
abbrev S16384x16x2x2x16 : Shape := ⟨5, ![16384, 16, 2, 2, 16]⟩
abbrev S16384x16x2x1x16 : Shape := ⟨5, ![16384, 16, 2, 1, 16]⟩
abbrev S16384x16x2x16 : Shape := ⟨4, ![16384, 16, 2, 16]⟩
abbrev S16384x1x64 : Shape := ⟨3, ![16384, 1, 64]⟩
abbrev S1024x16384 : Shape := ⟨2, ![1024, 16384]⟩
abbrev S1024x16640 : Shape := ⟨2, ![1024, 16640]⟩

abbrev nBuf : Space → Nat
  | .hbm => 141
  | .vmem => 0
  | .smem => 0
  | _ => 0

abbrev hbmTy0_0 (i : Nat) : BufTy := match i % 128 with
  | 0 => ⟨S16640x1024, .f32⟩
  | 1 => ⟨S8x6144, .f32⟩
  | 2 => ⟨S1024, .f32⟩
  | 3 => ⟨S1024x1024, .f32⟩
  | 4 => ⟨S1024x1024, .f32⟩
  | 5 => ⟨S1024x1024, .f32⟩
  | 6 => ⟨S256x1024, .f32⟩
  | 7 => ⟨S16384x1024, .f32⟩
  | 8 => ⟨S1x2048, .f32⟩
  | 9 => ⟨S1x1024, .f32⟩
  | 10 => ⟨S1x1024, .f32⟩
  | 11 => ⟨S1x2048, .f32⟩
  | 12 => ⟨S1x1024, .f32⟩
  | 13 => ⟨S1x1024, .f32⟩
  | 14 => ⟨S16384x1024, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x1, .f32⟩
  | 25 => ⟨S16384x1024, .f32⟩
  | 26 => ⟨S16384x1024, .f32⟩
  | 27 => ⟨S1x1024, .f32⟩
  | 28 => ⟨S16384x1024, .f32⟩
  | 29 => ⟨S16384x1024, .f32⟩
  | 30 => ⟨S_, .f32⟩
  | 31 => ⟨S1x1024, .f32⟩
  | 32 => ⟨S1x1024, .f32⟩
  | 33 => ⟨S16384x1024, .f32⟩
  | 34 => ⟨S16384x1024, .f32⟩
  | 35 => ⟨S16384x1024, .f32⟩
  | 36 => ⟨S16384x1024, .f32⟩
  | 37 => ⟨S256x1024, .f32⟩
  | 38 => ⟨S_, .f32⟩
  | 39 => ⟨S256, .f32⟩
  | 40 => ⟨S256x1, .f32⟩
  | 41 => ⟨S_, .f32⟩
  | 42 => ⟨S256x1, .f32⟩
  | 43 => ⟨S256x1, .f32⟩
  | 44 => ⟨S_, .f32⟩
  | 45 => ⟨S256x1, .f32⟩
  | 46 => ⟨S256x1, .f32⟩
  | 47 => ⟨S256x1, .f32⟩
  | 48 => ⟨S256x1024, .f32⟩
  | 49 => ⟨S256x1024, .f32⟩
  | 50 => ⟨S1x1024, .f32⟩
  | 51 => ⟨S256x1024, .f32⟩
  | 52 => ⟨S256x1024, .f32⟩
  | 53 => ⟨S_, .f32⟩
  | 54 => ⟨S1x1024, .f32⟩
  | 55 => ⟨S1x1024, .f32⟩
  | 56 => ⟨S256x1024, .f32⟩
  | 57 => ⟨S256x1024, .f32⟩
  | 58 => ⟨S256x1024, .f32⟩
  | 59 => ⟨S256x1024, .f32⟩
  | 60 => ⟨S256, .f32⟩
  | 61 => ⟨S256x64, .f32⟩
  | 62 => ⟨S16384, .f32⟩
  | 63 => ⟨S64, .f32⟩
  | 64 => ⟨S1x64, .f32⟩
  | 65 => ⟨S256x64, .f32⟩
  | 66 => ⟨S16384, .f32⟩
  | 67 => ⟨S16, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S16384x1, .f32⟩
  | 76 => ⟨S1x16, .f32⟩
  | 77 => ⟨S16384x16, .f32⟩
  | 78 => ⟨S16384x16, .f32⟩
  | 79 => ⟨S16384x16, .f32⟩
  | 80 => ⟨S16384x1, .f32⟩
  | 81 => ⟨S1x16, .f32⟩
  | 82 => ⟨S16384x16, .f32⟩
  | 83 => ⟨S16384x16, .f32⟩
  | 84 => ⟨S16384x16, .f32⟩
  | 85 => ⟨S16384x64, .f32⟩
  | 86 => ⟨S16384x64, .f32⟩
  | 87 => ⟨S16384x64, .f32⟩
  | 88 => ⟨S16384x1024, .f32⟩
  | 89 => ⟨S16384x16x64, .f32⟩
  | 90 => ⟨S16384x16x2x2x16, .f32⟩
  | 91 => ⟨S16384x16x2x1x16, .f32⟩
  | 92 => ⟨S16384x16x2x16, .f32⟩
  | 93 => ⟨S16384x16x2x16, .f32⟩
  | 94 => ⟨S16384x16x2x1x16, .f32⟩
  | 95 => ⟨S16384x16x2x16, .f32⟩
  | 96 => ⟨S16384x16x2x1x16, .f32⟩
  | 97 => ⟨S16384x16x2x1x16, .f32⟩
  | 98 => ⟨S16384x16x2x2x16, .f32⟩
  | 99 => ⟨S16384x16x64, .f32⟩
  | 100 => ⟨S16384x1x64, .f32⟩
  | 101 => ⟨S16384x16x64, .f32⟩
  | 102 => ⟨S16384x16x64, .f32⟩
  | 103 => ⟨S16384x1x64, .f32⟩
  | 104 => ⟨S16384x16x64, .f32⟩
  | 105 => ⟨S16384x16x64, .f32⟩
  | 106 => ⟨S16384x16x64, .f32⟩
  | 107 => ⟨S16384x1024, .f32⟩
  | 108 => ⟨S16384x16x64, .f32⟩
  | 109 => ⟨S16384x16x2x2x16, .f32⟩
  | 110 => ⟨S16384x16x2x1x16, .f32⟩
  | 111 => ⟨S16384x16x2x16, .f32⟩
  | 112 => ⟨S16384x16x2x16, .f32⟩
  | 113 => ⟨S16384x16x2x1x16, .f32⟩
  | 114 => ⟨S16384x16x2x16, .f32⟩
  | 115 => ⟨S16384x16x2x1x16, .f32⟩
  | 116 => ⟨S16384x16x2x1x16, .f32⟩
  | 117 => ⟨S16384x16x2x2x16, .f32⟩
  | 118 => ⟨S16384x16x64, .f32⟩
  | 119 => ⟨S16384x1x64, .f32⟩
  | 120 => ⟨S16384x16x64, .f32⟩
  | 121 => ⟨S16384x16x64, .f32⟩
  | 122 => ⟨S16384x1x64, .f32⟩
  | 123 => ⟨S16384x16x64, .f32⟩
  | 124 => ⟨S16384x16x64, .f32⟩
  | 125 => ⟨S16384x16x64, .f32⟩
  | 126 => ⟨S16384x1024, .f32⟩
  | 127 => ⟨S_, .f32⟩
  | _ => ⟨S16640x1024, .f32⟩

abbrev hbmTy0_1 (i : Nat) : BufTy := match i % 128 with
  | 0 => ⟨S16384x1024, .f32⟩
  | 1 => ⟨S16384x1024, .f32⟩
  | 2 => ⟨S256x1024, .f32⟩
  | 3 => ⟨S16384x1024, .f32⟩
  | 4 => ⟨S16640x1024, .f32⟩
  | 5 => ⟨S256x1024, .f32⟩
  | 6 => ⟨S16384x1024, .f32⟩
  | 7 => ⟨S16640x1024, .f32⟩
  | 8 => ⟨S1024x16384, .f32⟩
  | 9 => ⟨S1024x16384, .bf16⟩
  | 10 => ⟨S16640x1024, .bf16⟩
  | 11 => ⟨S1024x16640, .f32⟩
  | 12 => ⟨S1024x16640, .bf16⟩
  | _ => ⟨S16640x1024, .f32⟩

abbrev hbmTy (i : Nat) : BufTy := match i / 128 with
  | 0 => hbmTy0_0 i
  | 1 => hbmTy0_1 i
  | _ => ⟨S16640x1024, .f32⟩

abbrev bufTy : (tb : Table) → Fin (tcTables nBuf tb) → BufTy
  | .hbm, ⟨i, _⟩ => hbmTy i
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_cst_9 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩

abbrev nD : Nat := 1
abbrev τ : Topo := Topo.v7x

variable {F : FTy → Type} [FloatOps F]
-- ==== Proof.AttnPayloads.lean ====
/-
  What the attention kernel computes from the values it has loaded, read at one place. One chunk of 640 keys gives the
  scores `K · q`, the new shift, the new sum of weights and the new weighted sum; the two branches do the same with
  their own queries, the rows of the other branch put to zero. At the end the two quotients are combined.
-/
module

public import proofs.«01_k».proof.Proof.Gen.KernelIdeal.Frame
public import Idealize.ShloMosaic.Lib.Pointwise

@[expose] public section

set_option maxRecDepth 16384

noncomputable section

open scoped BigOperators
open Idealize.ShloMosaic

namespace Cert.KernelIdeal.Attn

open Cert.KernelIdeal Cert.KernelIdeal.Gen

/-- The word of minus infinity is the least extended real. -/
theorem negInf : Ideal.ofBits FTy.f32 0xFF800000#32 = ⊥ := by simp [Ideal.ofBits, Ideal.ieee]

/-- The score of key row `r` for query column `c`: the product of the key's row and the query's column. -/
def score (q : FVec Ideal S128x512 .bf16) (K : FVec Ideal S640x128 .bf16) (r : Fin 640) (c : Fin 512) : EReal :=
  ∑ x : Fin 128, K (ix2 r x) * q (ix2 x c)

/-- The greater of the old shift and the chunk's greatest score. -/
def newShift (q : FVec Ideal S128x512 .bf16) (K : FVec Ideal S640x128 .bf16) (m : EReal) (c : Fin 512) : EReal :=
  max m ((Finset.univ : Finset (Fin 640)).fold max ⊥ fun r => score q K r c)

section Chunk

variable (q : FVec Ideal S128x512 .bf16) (K : FVec Ideal S640x128 .bf16) (W : FVec Ideal S128x640 .bf16)
  (m l : FVec Ideal S1x1x512 .f32) (a : FVec Ideal S1x128x512 .f32)

theorem pay2_apply (r : Fin 640) (c : Fin 512) : k0_pay2 (F := Ideal) q K (ix2 r c) = score q K r c := by
  pointwise [k0_pay2]; rfl

theorem pay4_apply (y : Fin 1) (c : Fin 512) : k0_pay4 (F := Ideal) q K m (ix2 y c) = newShift q K (m (ix3 0 0 c)) c := by
  pointwise [k0_pay4, k0_pay3]
  simp only [pay2_apply, negInf, newShift]

/-- The shift stored for the first branch. -/
theorem shift0_apply (z y : Fin 1) (c : Fin 512) :
    k0_pay9 (F := Ideal) (k0_pay4 (F := Ideal) q K m) (ix3 z y c) = newShift q K (m (ix3 0 0 c)) c := by
  pointwise [k0_pay9]
  simp only [pay4_apply]

/-- The sum of weights stored for the first branch. -/
theorem sum0_apply (z y : Fin 1) (c : Fin 512) :
    k0_pay7 (F := Ideal) q K m l (ix3 z y c)
      = Ideal.exp (m (ix3 0 0 c) - newShift q K (m (ix3 0 0 c)) c) * l (ix3 0 0 c)
        + ∑ r, Ideal.exp (score q K r c - newShift q K (m (ix3 0 0 c)) c) := by
  pointwise [k0_pay7, k0_pay6, k0_pay5, k0_pay3]
  simp only [pay2_apply, pay4_apply]

/-- The weighted sum stored for the first branch. -/
theorem acc0_apply (z : Fin 1) (d : Fin 128) (c : Fin 512) :
    k0_pay8 (F := Ideal) q K W m a (ix3 z d c)
      = Ideal.exp (m (ix3 0 0 c) - newShift q K (m (ix3 0 0 c)) c) * a (ix3 0 d c)
        + ∑ r, W (ix2 d r) * Ideal.exp (score q K r c - newShift q K (m (ix3 0 0 c)) c) := by
  pointwise [k0_pay8, k0_pay6, k0_pay5, k0_pay3]
  simp only [pay2_apply, pay4_apply]

/-- The shift stored for the second branch. -/
theorem shift1_apply (z y : Fin 1) (c : Fin 512) :
    k0_pay23 (F := Ideal) (k0_pay12 (F := Ideal) q K m) (ix3 z y c) = newShift q K (m (ix3 0 0 c)) c :=
  shift0_apply q K m z y c

/-- The sum of weights stored for the second branch. -/
theorem sum1_apply (z y : Fin 1) (c : Fin 512) :
    k0_pay15 (F := Ideal) q K m l (ix3 z y c)
      = Ideal.exp (m (ix3 0 0 c) - newShift q K (m (ix3 0 0 c)) c) * l (ix3 0 0 c)
        + ∑ r, Ideal.exp (score q K r c - newShift q K (m (ix3 0 0 c)) c) :=
  sum0_apply q K m l z y c

/-- The weighted sum stored for the second branch. -/
theorem acc1_apply (z : Fin 1) (d : Fin 128) (c : Fin 512) :
    k0_pay16 (F := Ideal) q K W m a (ix3 z d c)
      = Ideal.exp (m (ix3 0 0 c) - newShift q K (m (ix3 0 0 c)) c) * a (ix3 0 d c)
        + ∑ r, W (ix2 d r) * Ideal.exp (score q K r c - newShift q K (m (ix3 0 0 c)) c) :=
  acc0_apply q K W m a z d c

end Chunk

/-- The first branch keeps the first 64 rows of the queries. -/
theorem half0_apply (q : FVec Ideal S128x512 .bf16) (d : Fin 128) (c : Fin 512) :
    k0_pay18 (F := Ideal) q (ix2 d c) = if d.val < 64 then q (ix2 d c) else 0 := by
  pointwise [k0_pay18, k0_pay17]
  have h : ∀ d : Fin 128, IntOp.cmpi .slt (BitVec.ofNat 32 d.val) 64#32 = if d.val < 64 then 1#1 else 0#1 := by
    decide +kernel
  rw [h]
  by_cases hd : d.val < 64
  · rw [if_pos hd, if_pos hd]; rfl
  · rw [if_neg hd, if_neg hd]; rfl

/-- The second branch keeps the last 64 rows of the queries. -/
theorem half1_apply (q : FVec Ideal S128x512 .bf16) (d : Fin 128) (c : Fin 512) :
    k0_pay19 (F := Ideal) q (ix2 d c) = if d.val < 64 then 0 else q (ix2 d c) := by
  pointwise [k0_pay19, k0_pay17]
  have h : ∀ d : Fin 128, IntOp.cmpi .sge (BitVec.ofNat 32 d.val) 64#32 = if d.val < 64 then 0#1 else 1#1 := by
    decide +kernel
  rw [h]
  by_cases hd : d.val < 64
  · rw [if_pos hd, if_pos hd]; rfl
  · rw [if_neg hd, if_neg hd]; rfl

theorem init_shift_apply (b : Fin 2) (y : Fin 1) (c : Fin 512) : k0_pay20 (F := Ideal) (ix3 b y c) = ⊥ := by
  pointwise [k0_pay20]
  exact negInf

theorem init_sum_apply (b : Fin 2) (y : Fin 1) (c : Fin 512) : k0_pay21 (F := Ideal) (ix3 b y c) = 0 := by
  pointwise [k0_pay21]

theorem init_acc_apply (b : Fin 2) (d : Fin 128) (c : Fin 512) : k0_pay22 (F := Ideal) (ix3 b d c) = 0 := by
  pointwise [k0_pay22]

/-- What is stored at the end: the first quotient less `λ` times the second. -/
theorem out_apply (x y z w : FVec Ideal S1x64 .f32) (a0 a1 : FVec Ideal S1x128x512 .f32) (l0 l1 : FVec Ideal S1x1x512 .f32)
    (d : Fin 128) (c : Fin 512) :
    k0_pay1 (F := Ideal) (k0_pay24 (F := Ideal) x y) z w a0 l0 a1 l1 (ix2 d c)
      = Ideal.div (a0 (ix3 0 d c)) (l0 (ix3 0 0 c))
        - (Ideal.exp (∑ k, x (ix2 0 k) * y (ix2 0 k)) - Ideal.exp (∑ k, z (ix2 0 k) * w (ix2 0 k))
            + Ideal.ofBits FTy.f32 0x3EB60549#32)
          * Ideal.div (a1 (ix3 0 d c)) (l1 (ix3 0 0 c)) := by
  pointwise [k0_pay1, k0_pay24]

end Cert.KernelIdeal.Attn

end
-- ==== Proof.Softmax.lean ====
/-
  The arithmetic of a softmax average, apart from any program. `soft s v n` is the average of the values `v j` with
  the weights `exp (s j)` over the first `n` keys. A kernel that meets the keys chunk by chunk keeps a shift `m`, the
  sum `l` of the shifted weights and the shifted weighted sum `a`; `Running` says what the three hold after `n` keys,
  `Running.step` that one more chunk keeps it, and `Running.average` that `a / l` is then the average, whatever the
  shift was. `softmax_average` says the same of the two-pass form: weights shifted by the greatest score and divided
  by their sum, two such rows combined, then averaged.
-/
module

public import Idealize.ShloMosaic.PureOps.Ideal.Laws
public import Mathlib.Algebra.BigOperators.Fin
public import Mathlib.Data.Finset.Fold
public import Mathlib.Analysis.SpecialFunctions.Exp

@[expose] public section

noncomputable section

open scoped BigOperators
open Finset Idealize.ShloMosaic

namespace Cert.Softmax

/-- A sum of extended reals that are real is the sum of the reals. -/
theorem sum_coe {ι : Type*} (t : Finset ι) (f : ι → ℝ) : ∑ i ∈ t, (f i : EReal) = ((∑ i ∈ t, f i : ℝ) : EReal) := by
  classical
  induction t using Finset.induction_on with
  | empty => simp
  | insert a t ha ih => rw [sum_insert ha, sum_insert ha, ih, EReal.coe_add]

/-- A sum over the numbers below `n` is the sum over `Fin n`. -/
theorem sum_range_fin (n : ℕ) (f : ℕ → ℝ) : ∑ i : Fin n, f i.val = ∑ i ∈ range n, f i :=
  (Finset.sum_range f).symm

/-- The greatest of finitely many reals (at least one), started at `⊥`, is a real. -/
theorem fold_max_real {ι : Type*} [Fintype ι] [Nonempty ι] (f : ι → ℝ) (e : ι → EReal) (he : ∀ i, e i = f i) :
    ∃ x : ℝ, (univ : Finset ι).fold max ⊥ e = x := by
  have hb : (⊥ : EReal) < (univ : Finset ι).fold max ⊥ e :=
    (Finset.lt_fold_max _).mpr (Or.inr ⟨Classical.arbitrary ι, mem_univ _, by rw [he]; exact EReal.bot_lt_coe _⟩)
  have ht : (univ : Finset ι).fold max ⊥ e < ⊤ :=
    (Finset.fold_max_lt _).mpr ⟨bot_lt_top, fun i _ => by rw [he]; exact EReal.coe_lt_top _⟩
  exact ⟨_, (EReal.coe_toReal ht.ne hb.ne').symm⟩

/-- The average of the values `v j` with the weights `exp (s j)`, over the first `n` keys. -/
def soft (s v : ℕ → ℝ) (n : ℕ) : ℝ := (∑ j ∈ range n, v j * Real.exp (s j)) / ∑ j ∈ range n, Real.exp (s j)

/-- A shift of all scores cancels in the average. -/
theorem soft_shift (s v : ℕ → ℝ) (n : ℕ) (μ : ℝ) :
    (∑ j ∈ range n, v j * Real.exp (s j - μ)) * (1 / ∑ j ∈ range n, Real.exp (s j - μ)) = soft s v n := by
  have h (j : ℕ) : Real.exp (s j - μ) = Real.exp (s j) * Real.exp (-μ) := by rw [← Real.exp_add, sub_eq_add_neg]
  have h1 : ∑ j ∈ range n, Real.exp (s j - μ) = (∑ j ∈ range n, Real.exp (s j)) * Real.exp (-μ) := by
    rw [sum_mul]; exact sum_congr rfl fun j _ => h j
  have h2 : ∑ j ∈ range n, v j * Real.exp (s j - μ) = (∑ j ∈ range n, v j * Real.exp (s j)) * Real.exp (-μ) := by
    rw [sum_mul]; exact sum_congr rfl fun j _ => by rw [h, mul_assoc]
  rw [h1, h2, soft, mul_one_div, mul_div_mul_right _ _ (Real.exp_ne_zero _)]

/-- The sum of weights over at least one key is positive. -/
theorem weights_pos (s : ℕ → ℝ) {n : ℕ} (hn : 0 < n) (μ : ℝ) : 0 < ∑ j ∈ range n, Real.exp (s j - μ) :=
  sum_pos (fun j _ => Real.exp_pos _) ⟨0, mem_range.mpr hn⟩

/-- What the running triple holds after `n` keys: before any key, nothing (`m` at `⊥`); after that a real shift `μ`, the
    sum of the weights `exp (s j - μ)` and the sum of the values times these weights. -/
def Running (s v : ℕ → ℝ) (n : ℕ) (m l a : EReal) : Prop :=
  (n = 0 ∧ m = ⊥ ∧ l = 0 ∧ a = 0) ∨
    (0 < n ∧ ∃ μ : ℝ, m = μ ∧ l = ((∑ j ∈ range n, Real.exp (s j - μ) : ℝ) : EReal)
      ∧ a = ((∑ j ∈ range n, v j * Real.exp (s j - μ) : ℝ) : EReal))

/-- One more chunk of `B` keys, with scores `e` and values `w`: the shift becomes the greater of the old shift and the
    chunk's greatest score, the two sums are rescaled to it and the chunk's terms are added. -/
theorem Running.step {s v : ℕ → ℝ} {n B : ℕ} (hB : 0 < B) {m l a : EReal} (h : Running s v n m l a)
    (e w : Fin B → EReal) (he : ∀ r, e r = (s (n + r.val) : EReal)) (hw : ∀ r, w r = (v (n + r.val) : EReal)) (m' : EReal)
    (hm' : m' = max m ((univ : Finset (Fin B)).fold max ⊥ e)) :
    Running s v (n + B) m' (Ideal.exp (m - m') * l + ∑ r, Ideal.exp (e r - m'))
      (Ideal.exp (m - m') * a + ∑ r, w r * Ideal.exp (e r - m')) := by
  haveI : Nonempty (Fin B) := ⟨⟨0, hB⟩⟩
  obtain ⟨x, hx⟩ := fold_max_real (fun r : Fin B => s (n + r.val)) e he
  rw [hx] at hm'
  refine Or.inr ⟨Nat.add_pos_right _ hB, ?_⟩
  -- the new shift is a real `μ'`
  obtain ⟨μ', hμ'⟩ : ∃ μ' : ℝ, m' = μ' := by
    rcases h with ⟨-, rfl, -, -⟩ | ⟨-, μ, rfl, -, -⟩
    · exact ⟨x, by rw [hm', max_eq_right bot_le]⟩
    · exact ⟨max μ x, by rw [hm']; exact (EReal.coe_strictMono.monotone.map_max).symm⟩
  refine ⟨μ', hμ', ?_⟩
  clear hm'
  subst hμ'
  have hP : ∑ r, Ideal.exp (e r - (μ' : EReal)) = ((∑ r ∈ range B, Real.exp (s (n + r) - μ') : ℝ) : EReal) := by
    rw [← sum_range_fin B fun r => Real.exp (s (n + r) - μ'), ← sum_coe]
    exact sum_congr rfl fun r _ => by rw [he, ← EReal.coe_sub, Ideal.exp_coe]
  have hQ : ∑ r, w r * Ideal.exp (e r - (μ' : EReal)) = ((∑ r ∈ range B, v (n + r) * Real.exp (s (n + r) - μ') : ℝ) : EReal) := by
    rw [← sum_range_fin B fun r => v (n + r) * Real.exp (s (n + r) - μ'), ← sum_coe]
    exact sum_congr rfl fun r _ => by rw [he, hw, ← EReal.coe_sub, Ideal.exp_coe, ← EReal.coe_mul]
  rw [hP, hQ]
  rcases h with ⟨rfl, rfl, rfl, rfl⟩ | ⟨hn, μ, rfl, rfl, rfl⟩
  · simp
  · have hk (f : ℕ → ℝ) : (∑ j ∈ range n, f j * Real.exp (s j - μ)) * Real.exp (μ - μ') = ∑ j ∈ range n, f j * Real.exp (s j - μ') := by
      rw [sum_mul]
      refine sum_congr rfl fun j _ => ?_
      rw [mul_assoc, ← Real.exp_add]
      congr 2; ring
    have h1 := hk fun _ => 1
    simp only [one_mul] at h1
    rw [← EReal.coe_sub, Ideal.exp_coe, ← EReal.coe_mul, ← EReal.coe_mul, ← EReal.coe_add, ← EReal.coe_add,
      sum_range_add, sum_range_add, mul_comm, h1, mul_comm, hk v]
    exact ⟨rfl, rfl⟩

/-- After at least one key the running weighted sum over the running sum of weights is the average. -/
theorem Running.average {s v : ℕ → ℝ} {n : ℕ} (hn : 0 < n) {m l a : EReal} (h : Running s v n m l a) :
    Ideal.div a l = (soft s v n : EReal) := by
  rcases h with ⟨rfl, -⟩ | ⟨-, μ, -, rfl, rfl⟩
  · exact absurd hn (lt_irrefl 0)
  · rw [Ideal.div_coe (weights_pos s hn μ).ne', ← EReal.coe_mul, soft_shift]

/-- Two rows of scores, each shifted by a real, exponentiated and divided by its sum; the second row taken off `lam` times
    the first; then the average of the values: the difference of the two averages. -/
theorem softmax_average (s t v : ℕ → ℝ) {n : ℕ} (hn : 0 < n) (lam μ ν : ℝ) (L T : EReal)
    (hL : L = ∑ j : Fin n, Ideal.exp ((s j.val : EReal) - (μ : EReal)))
    (hT : T = ∑ j : Fin n, Ideal.exp ((t j.val : EReal) - (ν : EReal))) :
    ∑ j : Fin n, (Ideal.div (Ideal.exp ((s j.val : EReal) - (μ : EReal))) L
        - (lam : EReal) * Ideal.div (Ideal.exp ((t j.val : EReal) - (ν : EReal))) T) * (v j.val : EReal)
      = ((soft s v n - lam * soft t v n : ℝ) : EReal) := by
  have hden (s : ℕ → ℝ) (μ : ℝ) : ∑ j : Fin n, Ideal.exp ((s j.val : EReal) - (μ : EReal))
      = ((∑ j ∈ range n, Real.exp (s j - μ) : ℝ) : EReal) := by
    rw [← sum_range_fin n fun j => Real.exp (s j - μ), ← sum_coe]
    exact sum_congr rfl fun j _ => by rw [← EReal.coe_sub, Ideal.exp_coe]
  rw [hden] at hL hT
  subst hL hT
  have hs := weights_pos s hn μ
  have ht := weights_pos t hn ν
  rw [← soft_shift s v n μ, ← soft_shift t v n ν]
  set A := ∑ j ∈ range n, Real.exp (s j - μ)
  set B := ∑ j ∈ range n, Real.exp (t j - ν)
  have hterm (j : ℕ) : (Ideal.div (Ideal.exp ((s j : EReal) - (μ : EReal))) (A : EReal)
        - (lam : EReal) * Ideal.div (Ideal.exp ((t j : EReal) - (ν : EReal))) (B : EReal)) * (v j : EReal)
      = ((v j * Real.exp (s j - μ) * (1 / A) - lam * (v j * Real.exp (t j - ν) * (1 / B)) : ℝ) : EReal) := by
    rw [Ideal.div_coe hs.ne', Ideal.div_coe ht.ne', ← EReal.coe_sub, ← EReal.coe_sub, Ideal.exp_coe, Ideal.exp_coe,
      ← EReal.coe_mul, ← EReal.coe_mul, ← EReal.coe_mul, ← EReal.coe_sub, ← EReal.coe_mul]
    congr 1; ring
  rw [sum_congr rfl fun (j : Fin n) _ => hterm j.val, sum_coe,
    sum_range_fin n fun j => v j * Real.exp (s j - μ) * (1 / A) - lam * (v j * Real.exp (t j - ν) * (1 / B)),
    sum_sub_distrib, ← mul_sum, ← sum_mul, ← sum_mul]

end Cert.Softmax

end
-- ==== Proof.AttnLoop.lean ====
/-
  The attention kernel's loop over the keys. Each of its 26 trips reads 640 key rows and value columns and rewrites the
  running shift, sum and weighted sum of both branches. `trip_shift`, `trip_sum` and `trip_acc` list what one trip
  stores; `running` says by induction over the trips that after `n` of them the three hold what `Softmax.Running` asks
  after `640 n` keys, for every query column and every row of the values.
-/
module

public import proofs.«01_k».proof.Proof.AttnPayloads
public import proofs.«01_k».proof.Proof.Softmax

@[expose] public section

set_option maxRecDepth 16384

noncomputable section

open scoped BigOperators
open Idealize.ShloMosaic Idealize.ShloMosaic.TcCoe Idealize.SL.Sem

namespace Cert.KernelIdeal.Attn

open Cert.KernelIdeal Cert.KernelIdeal.Gen Cert.KernelIdeal.Facts Cert.Softmax

theorem trips_eq : k0_t1_loop.trips = 26 := by decide +kernel

theorem off1_eq : ∀ k : Fin k0_t1_loop.trips, k0_off1 k 0 = 640 * k.val ∧ k0_off1 k 1 = 0 := by decide +kernel

theorem off2_eq : ∀ k : Fin k0_t1_loop.trips, k0_off2 k 0 = 0 ∧ k0_off2 k 1 = 640 * k.val := by decide +kernel

theorem key_lt (k : Fin k0_t1_loop.trips) (r : Fin 640) : 640 * k.val + r.val < 16640 := by
  have h1 : k.val < 26 := lt_of_lt_of_eq k.isLt trips_eq
  omega

variable (𝒱 : Variants) (c : Dev nD) (bd : Option 𝒱.V) (i : grid0.Coords) (arg2 : Memref sig .tc .vmem S8x64 .f32) (harg2 : arg2.IsWhole) (arg3 : Memref sig .tc .vmem S128x512 .bf16) (harg3 : arg3.IsWhole) (arg4 : Memref sig .tc .vmem S16640x128 .bf16) (harg4 : arg4.IsWhole) (arg5 : Memref sig .tc .vmem S128x16640 .bf16) (harg5 : arg5.IsWhole) (arg6 : Memref sig .tc .vmem S128x512 .f32) (harg6 : arg6.IsWhole) (arg7 : Memref sig .tc .vmem S2x1x512 .f32) (harg7 : arg7.IsWhole) (arg8 : Memref sig .tc .vmem S2x1x512 .f32) (harg8 : arg8.IsWhole) (arg9 : Memref sig .tc .vmem S2x128x512 .f32) (harg9 : arg9.IsWhole)

section Loads

variable {arg4 arg5 arg7 arg9}

/-- The key rows of one chunk. -/
abbrev keys (X : BufTy.Contents (Elt Ideal) arg4.view.ty) (k : Fin k0_t1_loop.trips) : FVec Ideal S640x128 .bf16 :=
  View.readAt (Elt Ideal) arg4.view (Rect.unit (s := S16640x128) (k0_off1 k) S640x128.size (k0_off1_inb k)).toLoadRect X

/-- The value columns of one chunk. -/
abbrev vals (X : BufTy.Contents (Elt Ideal) arg5.view.ty) (k : Fin k0_t1_loop.trips) : FVec Ideal S128x640 .bf16 :=
  View.readAt (Elt Ideal) arg5.view (Rect.unit (s := S128x16640) (k0_off2 k) S128x640.size (k0_off2_inb k)).toLoadRect X

/-- A branch's row of the shifts or of the sums. -/
abbrev row0 (f : BufTy.Contents (Elt Ideal) arg7.view.ty) : FVec Ideal S1x1x512 .f32 :=
  View.readAt (Elt Ideal) arg7.view (Rect.unit (s := S2x1x512) ![0, 0, 0] S1x1x512.size inb_S2x1x512_S1x1x512_0_0_0).toLoadRect f

abbrev row1 (f : BufTy.Contents (Elt Ideal) arg7.view.ty) : FVec Ideal S1x1x512 .f32 :=
  View.readAt (Elt Ideal) arg7.view (Rect.unit (s := S2x1x512) ![1, 0, 0] S1x1x512.size inb_S2x1x512_S1x1x512_1_0_0).toLoadRect f

/-- A branch's block of the weighted sums. -/
abbrev blk0 (f : BufTy.Contents (Elt Ideal) arg9.view.ty) : FVec Ideal S1x128x512 .f32 :=
  View.readAt (Elt Ideal) arg9.view (Rect.unit (s := S2x128x512) ![0, 0, 0] S1x128x512.size inb_S2x128x512_S1x128x512_0_0_0).toLoadRect f

abbrev blk1 (f : BufTy.Contents (Elt Ideal) arg9.view.ty) : FVec Ideal S1x128x512 .f32 :=
  View.readAt (Elt Ideal) arg9.view (Rect.unit (s := S2x128x512) ![1, 0, 0] S1x128x512.size inb_S2x128x512_S1x128x512_1_0_0).toLoadRect f

theorem keys_apply (X : BufTy.Contents (Elt Ideal) arg4.view.ty) (k : Fin k0_t1_loop.trips) (r : Fin 640) (x : Fin 128) :
    keys X k (ix2 r x) = arg4.view.read (Elt Ideal) X (ix2 ⟨640 * k.val + r.val, key_lt k r⟩ x) := by
  show arg4.view.read (Elt Ideal) X _ = _
  congr 1
  funext a
  refine Fin.ext ?_
  fin_cases a
  · show k0_off1 k 0 + 1 * r.val = _
    rw [(off1_eq k).1, one_mul]; rfl
  · show k0_off1 k 1 + 1 * x.val = _
    rw [(off1_eq k).2, one_mul, zero_add]; rfl

theorem vals_apply (X : BufTy.Contents (Elt Ideal) arg5.view.ty) (k : Fin k0_t1_loop.trips) (d : Fin 128) (r : Fin 640) :
    vals X k (ix2 d r) = arg5.view.read (Elt Ideal) X (ix2 d ⟨640 * k.val + r.val, key_lt k r⟩) := by
  show arg5.view.read (Elt Ideal) X _ = _
  congr 1
  funext a
  refine Fin.ext ?_
  fin_cases a
  · show k0_off2 k 0 + 1 * d.val = _
    rw [(off2_eq k).1, one_mul, zero_add]; rfl
  · show k0_off2 k 1 + 1 * r.val = _
    rw [(off2_eq k).2, one_mul]; rfl

theorem row0_apply (f : BufTy.Contents (Elt Ideal) arg7.view.ty) (z y : Fin 1) (c : Fin 512) :
    row0 f (ix3 z y c) = arg7.view.read (Elt Ideal) f (ix3 0 0 c) := by
  show arg7.view.read (Elt Ideal) f _ = _
  congr 1
  funext a
  refine Fin.ext ?_
  fin_cases a
  · show 0 + 1 * z.val = 0
    omega
  · show 0 + 1 * y.val = 0
    omega
  · show 0 + 1 * c.val = c.val
    omega

theorem row1_apply (f : BufTy.Contents (Elt Ideal) arg7.view.ty) (z y : Fin 1) (c : Fin 512) :
    row1 f (ix3 z y c) = arg7.view.read (Elt Ideal) f (ix3 1 0 c) := by
  show arg7.view.read (Elt Ideal) f _ = _
  congr 1
  funext a
  refine Fin.ext ?_
  fin_cases a
  · show 1 + 1 * z.val = 1
    omega
  · show 0 + 1 * y.val = 0
    omega
  · show 0 + 1 * c.val = c.val
    omega

theorem blk0_apply (f : BufTy.Contents (Elt Ideal) arg9.view.ty) (z : Fin 1) (d : Fin 128) (c : Fin 512) :
    blk0 f (ix3 z d c) = arg9.view.read (Elt Ideal) f (ix3 0 d c) := by
  show arg9.view.read (Elt Ideal) f _ = _
  congr 1
  funext a
  refine Fin.ext ?_
  fin_cases a
  · show 0 + 1 * z.val = 0
    omega
  · show 0 + 1 * d.val = d.val
    omega
  · show 0 + 1 * c.val = c.val
    omega

theorem blk1_apply (f : BufTy.Contents (Elt Ideal) arg9.view.ty) (z : Fin 1) (d : Fin 128) (c : Fin 512) :
    blk1 f (ix3 z d c) = arg9.view.read (Elt Ideal) f (ix3 1 d c) := by
  show arg9.view.read (Elt Ideal) f _ = _
  congr 1
  funext a
  refine Fin.ext ?_
  fin_cases a
  · show 1 + 1 * z.val = 1
    omega
  · show 0 + 1 * d.val = d.val
    omega
  · show 0 + 1 * c.val = c.val
    omega

/-- A buffer of two rows after a store to each. -/
theorem rows_after (f : BufTy.Contents (Elt Ideal) arg7.view.ty) (w1 w0 : FVec Ideal S1x1x512 .f32) (cc : Fin 512) :
    arg7.view.read (Elt Ideal) (arg7.view.writes (Elt Ideal) f
        [⟨Rect.unit ![1, 0, 0] ![1, 1, 512] inb_S2x1x512_S1x1x512_1_0_0, w1⟩,
          ⟨Rect.unit ![0, 0, 0] ![1, 1, 512] inb_S2x1x512_S1x1x512_0_0_0, w0⟩]) (ix3 0 0 cc) = w0 (ix3 0 0 cc)
      ∧ arg7.view.read (Elt Ideal) (arg7.view.writes (Elt Ideal) f
        [⟨Rect.unit ![1, 0, 0] ![1, 1, 512] inb_S2x1x512_S1x1x512_1_0_0, w1⟩,
          ⟨Rect.unit ![0, 0, 0] ![1, 1, 512] inb_S2x1x512_S1x1x512_0_0_0, w0⟩]) (ix3 1 0 cc) = w1 (ix3 0 0 cc) := by
  constructor
  · rw [View.read_writes_cons_miss_of_axis _ _ _ _ _ (0 : Fin 3) 1 1 rfl rfl rfl (Or.inl Nat.zero_lt_one)]
    refine View.read_writes_cons_hit_of_coords _ _ _ _ _ _ _ fun a => ?_
    fin_cases a
    · rfl
    · rfl
    · show cc.val = 0 + 1 * cc.val
      omega
  · refine View.read_writes_cons_hit_of_coords _ _ _ _ _ _ _ fun a => ?_
    fin_cases a
    · rfl
    · rfl
    · show cc.val = 0 + 1 * cc.val
      omega

/-- A buffer of two blocks after a store to each. -/
theorem blks_after (f : BufTy.Contents (Elt Ideal) arg9.view.ty) (w1 w0 : FVec Ideal S1x128x512 .f32) (d : Fin 128) (cc : Fin 512) :
    arg9.view.read (Elt Ideal) (arg9.view.writes (Elt Ideal) f
        [⟨Rect.unit ![1, 0, 0] ![1, 128, 512] inb_S2x128x512_S1x128x512_1_0_0, w1⟩,
          ⟨Rect.unit ![0, 0, 0] ![1, 128, 512] inb_S2x128x512_S1x128x512_0_0_0, w0⟩]) (ix3 0 d cc) = w0 (ix3 0 d cc)
      ∧ arg9.view.read (Elt Ideal) (arg9.view.writes (Elt Ideal) f
        [⟨Rect.unit ![1, 0, 0] ![1, 128, 512] inb_S2x128x512_S1x128x512_1_0_0, w1⟩,
          ⟨Rect.unit ![0, 0, 0] ![1, 128, 512] inb_S2x128x512_S1x128x512_0_0_0, w0⟩]) (ix3 1 d cc) = w1 (ix3 0 d cc) := by
  constructor
  · rw [View.read_writes_cons_miss_of_axis _ _ _ _ _ (0 : Fin 3) 1 1 rfl rfl rfl (Or.inl Nat.zero_lt_one)]
    refine View.read_writes_cons_hit_of_coords _ _ _ _ _ _ _ fun a => ?_
    fin_cases a
    · rfl
    · show d.val = 0 + 1 * d.val
      omega
    · show cc.val = 0 + 1 * cc.val
      omega
  · refine View.read_writes_cons_hit_of_coords _ _ _ _ _ _ _ fun a => ?_
    fin_cases a
    · rfl
    · show d.val = 0 + 1 * d.val
      omega
    · show cc.val = 0 + 1 * cc.val
      omega

end Loads

variable (v0 : FVec Ideal S128x512 .bf16) (X4 : BufTy.Contents (Elt Ideal) arg4.view.ty) (X5 : BufTy.Contents (Elt Ideal) arg5.view.ty)

section Trip

variable (k : Fin k0_t1_loop.trips)
  (f7 : BufTy.Contents (Elt Ideal) arg7.view.ty) (f8 : BufTy.Contents (Elt Ideal) arg8.view.ty) (f9 : BufTy.Contents (Elt Ideal) arg9.view.ty)

/-- The shifts that one trip stores. -/
theorem trip_shift :
    (trip_k0_t1 (F := Ideal) 𝒱 c bd i arg2 harg2 arg3 harg3 arg4 harg4 arg5 harg5 arg6 harg6 arg7 harg7 arg8 harg8 arg9 harg9 v0 X4 X5 k).1 f7 f8 f9
      = [⟨Rect.unit ![1, 0, 0] ![1, 1, 512] inb_S2x1x512_S1x1x512_1_0_0, k0_pay23 (F := Ideal) (k0_pay12 (F := Ideal) (k0_pay19 (F := Ideal) v0) (keys X4 k) (row1 f7))⟩,
          ⟨Rect.unit ![0, 0, 0] ![1, 1, 512] inb_S2x1x512_S1x1x512_0_0_0, k0_pay9 (F := Ideal) (k0_pay4 (F := Ideal) (k0_pay18 (F := Ideal) v0) (keys X4 k) (row0 f7))⟩] := by
  unfold trip_k0_t1
  dsimp only
  sl_unfold_words
  rfl

/-- The sums of weights that one trip stores. -/
theorem trip_sum :
    (trip_k0_t1 (F := Ideal) 𝒱 c bd i arg2 harg2 arg3 harg3 arg4 harg4 arg5 harg5 arg6 harg6 arg7 harg7 arg8 harg8 arg9 harg9 v0 X4 X5 k).2.1 f7 f8 f9
      = [⟨Rect.unit ![1, 0, 0] ![1, 1, 512] inb_S2x1x512_S1x1x512_1_0_0, k0_pay15 (F := Ideal) (k0_pay19 (F := Ideal) v0) (keys X4 k) (row1 f7) (row1 f8)⟩,
          ⟨Rect.unit ![0, 0, 0] ![1, 1, 512] inb_S2x1x512_S1x1x512_0_0_0, k0_pay7 (F := Ideal) (k0_pay18 (F := Ideal) v0) (keys X4 k) (row0 f7) (row0 f8)⟩] := by
  unfold trip_k0_t1
  dsimp only
  sl_unfold_words
  rfl

/-- The weighted sums that one trip stores. -/
theorem trip_acc :
    (trip_k0_t1 (F := Ideal) 𝒱 c bd i arg2 harg2 arg3 harg3 arg4 harg4 arg5 harg5 arg6 harg6 arg7 harg7 arg8 harg8 arg9 harg9 v0 X4 X5 k).2.2.1 f7 f8 f9
      = [⟨Rect.unit ![1, 0, 0] ![1, 128, 512] inb_S2x128x512_S1x128x512_1_0_0, k0_pay16 (F := Ideal) (k0_pay19 (F := Ideal) v0) (keys X4 k) (vals X5 k) (row1 f7) (blk1 f9)⟩,
          ⟨Rect.unit ![0, 0, 0] ![1, 128, 512] inb_S2x128x512_S1x128x512_0_0_0, k0_pay8 (F := Ideal) (k0_pay18 (F := Ideal) v0) (keys X4 k) (vals X5 k) (row0 f7) (blk0 f9)⟩] := by
  unfold trip_k0_t1
  dsimp only
  sl_unfold_words
  rfl

end Trip

/-- One chunk of one branch, with the values of the stores in place: `Running` is kept. -/
theorem chunk (q : FVec Ideal S128x512 .bf16) (k : Fin k0_t1_loop.trips) (d : Fin 128) (cc : Fin 512) (s v : ℕ → ℝ)
    (hs : ∀ j : Fin 16640, ∑ x : Fin 128, arg4.view.read (Elt Ideal) X4 (ix2 j x) * q (ix2 x cc) = (s j.val : EReal))
    (hv : ∀ j : Fin 16640, arg5.view.read (Elt Ideal) X5 (ix2 d j) = (v j.val : EReal))
    (m l a : EReal) (h : Running s v (640 * k.val) m l a) :
    Running s v (640 * (k.val + 1)) (newShift q (keys X4 k) m cc)
      (Ideal.exp (m - newShift q (keys X4 k) m cc) * l + ∑ r, Ideal.exp (score q (keys X4 k) r cc - newShift q (keys X4 k) m cc))
      (Ideal.exp (m - newShift q (keys X4 k) m cc) * a
        + ∑ r, vals X5 k (ix2 d r) * Ideal.exp (score q (keys X4 k) r cc - newShift q (keys X4 k) m cc)) := by
  rw [show 640 * (k.val + 1) = 640 * k.val + 640 by ring]
  refine Running.step (by decide) h (fun r => score q (keys X4 k) r cc) (fun r => vals X5 k (ix2 d r)) (fun r => ?_) (fun r => ?_) _ rfl
  · rw [← hs ⟨640 * k.val + r.val, key_lt k r⟩]
    simp only [score, keys_apply]
  · rw [vals_apply, hv ⟨640 * k.val + r.val, key_lt k r⟩]

section Running

variable (G7 : BufTy.Contents (Elt Ideal) arg7.view.ty) (G8 : BufTy.Contents (Elt Ideal) arg8.view.ty) (G9 : BufTy.Contents (Elt Ideal) arg9.view.ty)

/-- The three buffers after the first `n` trips. -/
def shiftAt (n : ℕ) : FVec Ideal S2x1x512 .f32 :=
  arg7.view.read (Elt Ideal) (arg7.view.writes (Elt Ideal) G7 (pb_k0_t1 (F := Ideal) 𝒱 c bd i arg2 harg2 arg3 harg3 arg4 harg4 arg5 harg5 arg6 harg6 arg7 harg7 arg8 harg8 arg9 harg9 v0 X4 X5 G7 G8 G9 n).1)

def sumAt (n : ℕ) : FVec Ideal S2x1x512 .f32 :=
  arg8.view.read (Elt Ideal) (arg8.view.writes (Elt Ideal) G8 (pb_k0_t1 (F := Ideal) 𝒱 c bd i arg2 harg2 arg3 harg3 arg4 harg4 arg5 harg5 arg6 harg6 arg7 harg7 arg8 harg8 arg9 harg9 v0 X4 X5 G7 G8 G9 n).2.1)

def accAt (n : ℕ) : FVec Ideal S2x128x512 .f32 :=
  arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 v0 X4 X5 G7 G8 G9 n).2.2)

theorem shiftAt_succ (k : Fin k0_t1_loop.trips) (cc : Fin 512) :
    shiftAt 𝒱 c bd i arg2 harg2 arg3 harg3 arg4 harg4 arg5 harg5 arg6 harg6 arg7 harg7 arg8 harg8 arg9 harg9 v0 X4 X5 G7 G8 G9 (k.val + 1) (ix3 0 0 cc)
        = newShift (k0_pay18 (F := Ideal) v0) (keys X4 k) (shiftAt 𝒱 c bd i arg2 harg2 arg3 harg3 arg4 harg4 arg5 harg5 arg6 harg6 arg7 harg7 arg8 harg8 arg9 harg9 v0 X4 X5 G7 G8 G9 k.val (ix3 0 0 cc)) cc
      ∧ shiftAt 𝒱 c bd i arg2 harg2 arg3 harg3 arg4 harg4 arg5 harg5 arg6 harg6 arg7 harg7 arg8 harg8 arg9 harg9 v0 X4 X5 G7 G8 G9 (k.val + 1) (ix3 1 0 cc)
        = newShift (k0_pay19 (F := Ideal) v0) (keys X4 k) (shiftAt 𝒱 c bd i arg2 harg2 arg3 harg3 arg4 harg4 arg5 harg5 arg6 harg6 arg7 harg7 arg8 harg8 arg9 harg9 v0 X4 X5 G7 G8 G9 k.val (ix3 1 0 cc)) cc := by
  unfold shiftAt
  rw [pb_k0_t1_succ]
  dsimp only [tripL_k0_t1]
  rw [View.writes_append, trip_shift]
  refine ⟨(rows_after _ _ _ cc).1.trans ?_, (rows_after _ _ _ cc).2.trans ?_⟩
  · rw [shift0_apply, row0_apply]
  · rw [shift1_apply, row1_apply]

theorem sumAt_succ (k : Fin k0_t1_loop.trips) (cc : Fin 512) :
    sumAt 𝒱 c bd i arg2 harg2 arg3 harg3 arg4 harg4 arg5 harg5 arg6 harg6 arg7 harg7 arg8 harg8 arg9 harg9 v0 X4 X5 G7 G8 G9 (k.val + 1) (ix3 0 0 cc)
        = Ideal.exp (shiftAt 𝒱 c bd i arg2 harg2 arg3 harg3 arg4 harg4 arg5 harg5 arg6 harg6 arg7 harg7 arg8 harg8 arg9 harg9 v0 X4 X5 G7 G8 G9 k.val (ix3 0 0 cc)
              - newShift (k0_pay18 (F := Ideal) v0) (keys X4 k) (shiftAt 𝒱 c bd i arg2 harg2 arg3 harg3 arg4 harg4 arg5 harg5 arg6 harg6 arg7 harg7 arg8 harg8 arg9 harg9 v0 X4 X5 G7 G8 G9 k.val (ix3 0 0 cc)) cc)
            * sumAt 𝒱 c bd i arg2 harg2 arg3 harg3 arg4 harg4 arg5 harg5 arg6 harg6 arg7 harg7 arg8 harg8 arg9 harg9 v0 X4 X5 G7 G8 G9 k.val (ix3 0 0 cc)
          + ∑ r, Ideal.exp (score (k0_pay18 (F := Ideal) v0) (keys X4 k) r cc
              - newShift (k0_pay18 (F := Ideal) v0) (keys X4 k) (shiftAt 𝒱 c bd i arg2 harg2 arg3 harg3 arg4 harg4 arg5 harg5 arg6 harg6 arg7 harg7 arg8 harg8 arg9 harg9 v0 X4 X5 G7 G8 G9 k.val (ix3 0 0 cc)) cc)
      ∧ sumAt 𝒱 c bd i arg2 harg2 arg3 harg3 arg4 harg4 arg5 harg5 arg6 harg6 arg7 harg7 arg8 harg8 arg9 harg9 v0 X4 X5 G7 G8 G9 (k.val + 1) (ix3 1 0 cc)
        = Ideal.exp (shiftAt 𝒱 c bd i arg2 harg2 arg3 harg3 arg4 harg4 arg5 harg5 arg6 harg6 arg7 harg7 arg8 harg8 arg9 harg9 v0 X4 X5 G7 G8 G9 k.val (ix3 1 0 cc)
              - newShift (k0_pay19 (F := Ideal) v0) (keys X4 k) (shiftAt 𝒱 c bd i arg2 harg2 arg3 harg3 arg4 harg4 arg5 harg5 arg6 harg6 arg7 harg7 arg8 harg8 arg9 harg9 v0 X4 X5 G7 G8 G9 k.val (ix3 1 0 cc)) cc)
            * sumAt 𝒱 c bd i arg2 harg2 arg3 harg3 arg4 harg4 arg5 harg5 arg6 harg6 arg7 harg7 arg8 harg8 arg9 harg9 v0 X4 X5 G7 G8 G9 k.val (ix3 1 0 cc)
          + ∑ r, Ideal.exp (score (k0_pay19 (F := Ideal) v0) (keys X4 k) r cc
              - newShift (k0_pay19 (F := Ideal) v0) (keys X4 k) (shiftAt 𝒱 c bd i arg2 harg2 arg3 harg3 arg4 harg4 arg5 harg5 arg6 harg6 arg7 harg7 arg8 harg8 arg9 harg9 v0 X4 X5 G7 G8 G9 k.val (ix3 1 0 cc)) cc) := by
  unfold sumAt shiftAt
  rw [pb_k0_t1_succ]
  dsimp only [tripL_k0_t1]
  rw [View.writes_append, trip_sum]
  refine ⟨(rows_after _ _ _ cc).1.trans ?_, (rows_after _ _ _ cc).2.trans ?_⟩
  · rw [sum0_apply, row0_apply, row0_apply]
  · rw [sum1_apply, row1_apply, row1_apply]

theorem accAt_succ (k : Fin k0_t1_loop.trips) (d : Fin 128) (cc : Fin 512) :
    accAt 𝒱 c bd i arg2 harg2 arg3 harg3 arg4 harg4 arg5 harg5 arg6 harg6 arg7 harg7 arg8 harg8 arg9 harg9 v0 X4 X5 G7 G8 G9 (k.val + 1) (ix3 0 d cc)
        = Ideal.exp (shiftAt 𝒱 c bd i arg2 harg2 arg3 harg3 arg4 harg4 arg5 harg5 arg6 harg6 arg7 harg7 arg8 harg8 arg9 harg9 v0 X4 X5 G7 G8 G9 k.val (ix3 0 0 cc)
              - newShift (k0_pay18 (F := Ideal) v0) (keys X4 k) (shiftAt 𝒱 c bd i arg2 harg2 arg3 harg3 arg4 harg4 arg5 harg5 arg6 harg6 arg7 harg7 arg8 harg8 arg9 harg9 v0 X4 X5 G7 G8 G9 k.val (ix3 0 0 cc)) cc)
            * accAt 𝒱 c bd i arg2 harg2 arg3 harg3 arg4 harg4 arg5 harg5 arg6 harg6 arg7 harg7 arg8 harg8 arg9 harg9 v0 X4 X5 G7 G8 G9 k.val (ix3 0 d cc)
          + ∑ r, vals X5 k (ix2 d r) * Ideal.exp (score (k0_pay18 (F := Ideal) v0) (keys X4 k) r cc
              - newShift (k0_pay18 (F := Ideal) v0) (keys X4 k) (shiftAt 𝒱 c bd i arg2 harg2 arg3 harg3 arg4 harg4 arg5 harg5 arg6 harg6 arg7 harg7 arg8 harg8 arg9 harg9 v0 X4 X5 G7 G8 G9 k.val (ix3 0 0 cc)) cc)
      ∧ accAt 𝒱 c bd i arg2 harg2 arg3 harg3 arg4 harg4 arg5 harg5 arg6 harg6 arg7 harg7 arg8 harg8 arg9 harg9 v0 X4 X5 G7 G8 G9 (k.val + 1) (ix3 1 d cc)
        = Ideal.exp (shiftAt 𝒱 c bd i arg2 harg2 arg3 harg3 arg4 harg4 arg5 harg5 arg6 harg6 arg7 harg7 arg8 harg8 arg9 harg9 v0 X4 X5 G7 G8 G9 k.val (ix3 1 0 cc)
              - newShift (k0_pay19 (F := Ideal) v0) (keys X4 k) (shiftAt 𝒱 c bd i arg2 harg2 arg3 harg3 arg4 harg4 arg5 harg5 arg6 harg6 arg7 harg7 arg8 harg8 arg9 harg9 v0 X4 X5 G7 G8 G9 k.val (ix3 1 0 cc)) cc)
            * accAt 𝒱 c bd i arg2 harg2 arg3 harg3 arg4 harg4 arg5 harg5 arg6 harg6 arg7 harg7 arg8 harg8 arg9 harg9 v0 X4 X5 G7 G8 G9 k.val (ix3 1 d cc)
          + ∑ r, vals X5 k (ix2 d r) * Ideal.exp (score (k0_pay19 (F := Ideal) v0) (keys X4 k) r cc
              - newShift (k0_pay19 (F := Ideal) v0) (keys X4 k) (shiftAt 𝒱 c bd i arg2 harg2 arg3 harg3 arg4 harg4 arg5 harg5 arg6 harg6 arg7 harg7 arg8 harg8 arg9 harg9 v0 X4 X5 G7 G8 G9 k.val (ix3 1 0 cc)) cc) := by
  unfold accAt shiftAt
  rw [pb_k0_t1_succ]
  dsimp only [tripL_k0_t1]
  rw [View.writes_append, trip_acc]
  refine ⟨(blks_after _ _ _ d cc).1.trans ?_, (blks_after _ _ _ d cc).2.trans ?_⟩
  · rw [acc0_apply, row0_apply, blk0_apply]
  · rw [acc1_apply, row1_apply, blk1_apply]

/-- After `n` trips both branches hold what `Running` asks after `640 n` keys. -/
theorem running (hG7 : ∀ (b : Fin 2) (cc : Fin 512), arg7.view.read (Elt Ideal) G7 (ix3 b 0 cc) = ⊥)
    (hG8 : ∀ (b : Fin 2) (cc : Fin 512), arg8.view.read (Elt Ideal) G8 (ix3 b 0 cc) = 0)
    (hG9 : ∀ (b : Fin 2) (d : Fin 128) (cc : Fin 512), arg9.view.read (Elt Ideal) G9 (ix3 b d cc) = 0)
    (d : Fin 128) (cc : Fin 512) (s t v : ℕ → ℝ)
    (hs : ∀ j : Fin 16640, ∑ x : Fin 128, arg4.view.read (Elt Ideal) X4 (ix2 j x) * k0_pay18 (F := Ideal) v0 (ix2 x cc) = (s j.val : EReal))
    (ht : ∀ j : Fin 16640, ∑ x : Fin 128, arg4.view.read (Elt Ideal) X4 (ix2 j x) * k0_pay19 (F := Ideal) v0 (ix2 x cc) = (t j.val : EReal))
    (hv : ∀ j : Fin 16640, arg5.view.read (Elt Ideal) X5 (ix2 d j) = (v j.val : EReal)) :
    ∀ n ≤ k0_t1_loop.trips,
      Running s v (640 * n) (shiftAt 𝒱 c bd i arg2 harg2 arg3 harg3 arg4 harg4 arg5 harg5 arg6 harg6 arg7 harg7 arg8 harg8 arg9 harg9 v0 X4 X5 G7 G8 G9 n (ix3 0 0 cc)) (sumAt 𝒱 c bd i arg2 harg2 arg3 harg3 arg4 harg4 arg5 harg5 arg6 harg6 arg7 harg7 arg8 harg8 arg9 harg9 v0 X4 X5 G7 G8 G9 n (ix3 0 0 cc)) (accAt 𝒱 c bd i arg2 harg2 arg3 harg3 arg4 harg4 arg5 harg5 arg6 harg6 arg7 harg7 arg8 harg8 arg9 harg9 v0 X4 X5 G7 G8 G9 n (ix3 0 d cc))
        ∧ Running t v (640 * n) (shiftAt 𝒱 c bd i arg2 harg2 arg3 harg3 arg4 harg4 arg5 harg5 arg6 harg6 arg7 harg7 arg8 harg8 arg9 harg9 v0 X4 X5 G7 G8 G9 n (ix3 1 0 cc)) (sumAt 𝒱 c bd i arg2 harg2 arg3 harg3 arg4 harg4 arg5 harg5 arg6 harg6 arg7 harg7 arg8 harg8 arg9 harg9 v0 X4 X5 G7 G8 G9 n (ix3 1 0 cc)) (accAt 𝒱 c bd i arg2 harg2 arg3 harg3 arg4 harg4 arg5 harg5 arg6 harg6 arg7 harg7 arg8 harg8 arg9 harg9 v0 X4 X5 G7 G8 G9 n (ix3 1 d cc))
  | 0, _ => ⟨Or.inl ⟨rfl, hG7 0 cc, hG8 0 cc, hG9 0 d cc⟩, Or.inl ⟨rfl, hG7 1 cc, hG8 1 cc, hG9 1 d cc⟩⟩
  | n + 1, hn => by
    obtain ⟨h0, h1⟩ := running hG7 hG8 hG9 d cc s t v hs ht hv n (Nat.le_of_succ_le hn)
    obtain ⟨a0, a1⟩ := shiftAt_succ 𝒱 c bd i arg2 harg2 arg3 harg3 arg4 harg4 arg5 harg5 arg6 harg6 arg7 harg7 arg8 harg8 arg9 harg9 v0 X4 X5 G7 G8 G9 ⟨n, hn⟩ cc
    obtain ⟨b0, b1⟩ := sumAt_succ 𝒱 c bd i arg2 harg2 arg3 harg3 arg4 harg4 arg5 harg5 arg6 harg6 arg7 harg7 arg8 harg8 arg9 harg9 v0 X4 X5 G7 G8 G9 ⟨n, hn⟩ cc
    obtain ⟨c0, c1⟩ := accAt_succ 𝒱 c bd i arg2 harg2 arg3 harg3 arg4 harg4 arg5 harg5 arg6 harg6 arg7 harg7 arg8 harg8 arg9 harg9 v0 X4 X5 G7 G8 G9 ⟨n, hn⟩ d cc
    dsimp only at a0 a1 b0 b1 c0 c1
    rw [a0, a1, b0, b1, c0, c1]
    exact ⟨chunk arg4 arg5 X4 X5 _ ⟨n, hn⟩ d cc s v hs hv _ _ _ h0, chunk arg4 arg5 X4 X5 _ ⟨n, hn⟩ d cc t v ht hv _ _ _ h1⟩

end Running

end Cert.KernelIdeal.Attn

end
-- ==== Proof.AttnBlock.lean ====
/-
  What one grid point of the attention kernel writes: for value row `d` and query column `cc` of its block, the softmax
  average of the values over all keys of the first branch, less `λ` times that of the second.
-/
module

public import proofs.«01_k».proof.Proof.AttnLoop

@[expose] public section

set_option maxRecDepth 16384

noncomputable section

open scoped BigOperators
open Idealize.ShloMosaic Idealize.ShloMosaic.TcCoe Idealize.SL.Sem

namespace Cert.KernelIdeal.Attn

open Cert.KernelIdeal Cert.KernelIdeal.Gen Cert.KernelIdeal.Facts Cert.Softmax

theorem hz2 : (![0, 0] : Fin 2 → Nat) = fun _ => 0 := funext fun a => by fin_cases a <;> rfl

theorem hz3 : (![0, 0, 0] : Fin 3 → Nat) = fun _ => 0 := funext fun a => by fin_cases a <;> rfl

/-- `λ` of the four vectors, the rows of the first operand: `exp (x₀·x₁) - exp (x₂·x₃)` plus the constant. -/
def lamOf (x : FVec Ideal S8x64 .f32) : EReal :=
  Ideal.exp (∑ k : Fin 64, x (ix2 0 k) * x (ix2 1 k)) - Ideal.exp (∑ k : Fin 64, x (ix2 2 k) * x (ix2 3 k))
    + Ideal.ofBits FTy.f32 0x3EB60549#32

variable (c : Dev nD) (i : grid0.Coords) (arg2 : Memref sig .tc .vmem S8x64 .f32) (harg2 : arg2.IsWhole) (arg3 : Memref sig .tc .vmem S128x512 .bf16) (harg3 : arg3.IsWhole) (arg4 : Memref sig .tc .vmem S16640x128 .bf16) (harg4 : arg4.IsWhole) (arg5 : Memref sig .tc .vmem S128x16640 .bf16) (harg5 : arg5.IsWhole) (arg6 : Memref sig .tc .vmem S128x512 .f32) (harg6 : arg6.IsWhole) (arg7 : Memref sig .tc .vmem S2x1x512 .f32) (harg7 : arg7.IsWhole) (arg8 : Memref sig .tc .vmem S2x1x512 .f32) (harg8 : arg8.IsWhole) (arg9 : Memref sig .tc .vmem S2x128x512 .f32) (harg9 : arg9.IsWhole)

/-- A row of the first operand, loaded by itself. -/
theorem lamRow_apply (x : FVec Ideal S8x64 .f32) (o : Nat) (h : ∀ a, (![o, 0] : Fin 2 → Nat) a + S1x64.size a ≤ S8x64.size a)
    (r : Fin 8) (hr : r.val = o) (k : Fin 64) :
    View.readAt (Elt Ideal) arg2.view (Rect.unit (s := S8x64) ![o, 0] S1x64.size h).toLoadRect (harg2.unread x) (ix2 0 k) = x (ix2 r k) := by
  rw [View.readAt_eq_ld, harg2.read_unread]
  show x _ = x _
  congr 1
  funext a
  refine Fin.ext ?_
  fin_cases a
  · show o + 1 * 0 = r.val
    omega
  · show 0 + 1 * k.val = k.val
    omega

theorem out_apply_eq (x0 : FVec Ideal S8x64 .f32) (x1 : FVec Ideal S128x512 .bf16) (x2 : FVec Ideal S16640x128 .bf16) (x3 : FVec Ideal S128x16640 .bf16)
    (d : Fin 128) (cc : Fin 512) (s t v : ℕ → ℝ)
    (hs : ∀ j : Fin 16640, ∑ x : Fin 128, x2 (ix2 j x) * k0_pay18 (F := Ideal) x1 (ix2 x cc) = (s j.val : EReal))
    (ht : ∀ j : Fin 16640, ∑ x : Fin 128, x2 (ix2 j x) * k0_pay19 (F := Ideal) x1 (ix2 x cc) = (t j.val : EReal))
    (hv : ∀ j : Fin 16640, x3 (ix2 d j) = (v j.val : EReal)) :
    out0_A_4 (F := Ideal) c i arg2 harg2 arg3 harg3 arg4 harg4 arg5 harg5 arg6 harg6 arg7 harg7 arg8 harg8 arg9 harg9 x0 x1 x2 x3 (ix2 d cc)
      = (soft s v 16640 : EReal) - lamOf x0 * (soft t v 16640 : EReal) := by
  unfold out0_A_4
  rw [View.read_writes_eq_canon _ _ _ (cover0_A_4 (F := Ideal) c i arg2 harg2 arg3 harg3 arg4 harg4 arg5 harg5 arg6 harg6 arg7 harg7 arg8 harg8 arg9 harg9 x0 x1 x2 x3)]
  unfold kernelRun0_A
  dsimp only
  sl_unfold_words
  rw [View.canon_unit_zero hz2]
  refine (out_apply _ _ _ _ _ _ _ _ d cc).trans ?_
  have hR := running Variants.none c none i arg2 harg2 arg3 harg3 arg4 harg4 arg5 harg5 arg6 harg6 arg7 harg7 arg8 harg8 arg9 harg9
    (View.readAt (Elt Ideal) arg3.view (Rect.unit (s := S128x512) ![0, 0] S128x512.size inb_S128x512_S128x512_0_0).toLoadRect (harg3.unread x1))
    (harg4.unread x2) (harg5.unread x3)
    (arg7.view.writes (Elt Ideal) arg7.view.junk [⟨Rect.unit ![0, 0, 0] S2x1x512.size inb_S2x1x512_S2x1x512_0_0_0, k0_pay20 (F := Ideal)⟩])
    (arg8.view.writes (Elt Ideal) arg8.view.junk [⟨Rect.unit ![0, 0, 0] S2x1x512.size inb_S2x1x512_S2x1x512_0_0_0, k0_pay21 (F := Ideal)⟩])
    (arg9.view.writes (Elt Ideal) arg9.view.junk [⟨Rect.unit ![0, 0, 0] S2x128x512.size inb_S2x128x512_S2x128x512_0_0_0, k0_pay22 (F := Ideal)⟩])
    (fun b cc => by
      rw [View.read_writes_cons_hit_of_coords _ _ _ _ _ (ix3 b 0 cc) _ (fun a => by fin_cases a <;> simp [Rect.unit])]
      exact init_shift_apply b 0 cc)
    (fun b cc => by
      rw [View.read_writes_cons_hit_of_coords _ _ _ _ _ (ix3 b 0 cc) _ (fun a => by fin_cases a <;> simp [Rect.unit])]
      exact init_sum_apply b 0 cc)
    (fun b d cc => by
      rw [View.read_writes_cons_hit_of_coords _ _ _ _ _ (ix3 b d cc) _ (fun a => by fin_cases a <;> simp [Rect.unit])]
      exact init_acc_apply b d cc)
    d cc s t v
    (fun j => by
      rw [View.readAt_eq_ld, harg3.read_unread, View.ld_unit_zero (S := S128x512) hz2, harg4.read_unread]; exact hs j)
    (fun j => by
      rw [View.readAt_eq_ld, harg3.read_unread, View.ld_unit_zero (S := S128x512) hz2, harg4.read_unread]; exact ht j)
    (fun j => by rw [harg5.read_unread]; exact hv j)
    k0_t1_loop.trips le_rfl
  have hn : 640 * k0_t1_loop.trips = 16640 := by rw [trips_eq]
  rw [hn] at hR
  refine congrArg₂ (· - ·) (Eq.trans (congrArg₂ Ideal.div ?_ ?_) (hR.1.average (by decide)))
    (congrArg₂ (· * ·) ?_ (Eq.trans (congrArg₂ Ideal.div ?_ ?_) (hR.2.average (by decide))))
  · show arg9.view.readAt (Elt Ideal) _ (arg9.view.writes (Elt Ideal) _ (_ ++ _)) _ = _
    rw [View.writes_append]
    exact blk0_apply _ 0 d cc
  · show arg8.view.readAt (Elt Ideal) _ (arg8.view.writes (Elt Ideal) _ (_ ++ _)) _ = _
    rw [View.writes_append]
    exact row0_apply _ 0 0 cc
  · unfold lamOf
    have h0 := lamRow_apply arg2 harg2 x0 0 inb_S8x64_S1x64_0_0 0 rfl
    have h1 := lamRow_apply arg2 harg2 x0 1 inb_S8x64_S1x64_1_0 1 rfl
    have h2 := lamRow_apply arg2 harg2 x0 2 inb_S8x64_S1x64_2_0 2 rfl
    have h3 := lamRow_apply arg2 harg2 x0 3 inb_S8x64_S1x64_3_0 3 rfl
    refine congrArg₂ (· + ·) (congrArg₂ (· - ·) (congrArg Ideal.exp ?_) (congrArg Ideal.exp ?_)) rfl
    · exact Finset.sum_congr rfl fun k _ => congrArg₂ (· * ·) (h0 k) (h1 k)
    · exact Finset.sum_congr rfl fun k _ => congrArg₂ (· * ·) (h2 k) (h3 k)
  · show arg9.view.readAt (Elt Ideal) _ (arg9.view.writes (Elt Ideal) _ (_ ++ _)) _ = _
    rw [View.writes_append]
    exact blk1_apply _ 0 d cc
  · show arg8.view.readAt (Elt Ideal) _ (arg8.view.writes (Elt Ideal) _ (_ ++ _)) _ = _
    rw [View.writes_append]
    exact row1_apply _ 0 0 cc

end Cert.KernelIdeal.Attn

end
-- ==== Proof.AttnSpec.lean ====
/-
  Differential attention over the reals, as both programs compute it for finite operands. The queries, keys and values
  are kept by feature: row `r` of the 1024 belongs to head `r / 128`, and of a head's 128 rows the first 64 are the first
  branch's features, the last 64 the second's. All 128 rows of the values belong to the head.
-/
module

public import proofs.«01_k».proof.Proof.Softmax
public import Idealize.ShloMosaic.Lib.Pointwise

@[expose] public section

noncomputable section

open scoped BigOperators
open Idealize.ShloMosaic

namespace Cert.Attn

open Cert.Softmax

/-- The head of a feature row. -/
def headOf (r : Fin 1024) : Fin 8 := ⟨r.val / 128, by omega⟩

/-- Feature `x` of branch `b` of head `h`. -/
def row (b : Fin 2) (h : Fin 8) (x : Fin 64) : Fin 1024 := ⟨h.val * 128 + b.val * 64 + x.val, by omega⟩

/-- `λ`, from the four vectors. -/
def lam (a b c d : Fin 64 → EReal) : EReal :=
  Ideal.exp (∑ k, a k * b k) - Ideal.exp (∑ k, c k * d k) + Ideal.ofBits FTy.f32 0x3EB60549#32

theorem lam_const : ∃ x : ℝ, Ideal.ofBits FTy.f32 0x3EB60549#32 = (x : EReal) := by
  simp only [Ideal.ofBits, Ideal.ieee]
  norm_num
  exact ⟨_, rfl⟩

/-- `λ` of finite vectors is finite. -/
theorem lam_real (a b c d : Fin 64 → EReal) (ha : ∀ k, ∃ x : ℝ, a k = x) (hb : ∀ k, ∃ x : ℝ, b k = x) (hc : ∀ k, ∃ x : ℝ, c k = x)
    (hd : ∀ k, ∃ x : ℝ, d k = x) : ∃ L : ℝ, lam a b c d = (L : EReal) := by
  choose a' ha using ha
  choose b' hb using hb
  choose c' hc using hc
  choose d' hd using hd
  obtain ⟨x, hx⟩ := lam_const
  have h1 : ∑ k, a k * b k = ((∑ k, a' k * b' k : ℝ) : EReal) := by
    rw [← sum_coe]; exact Finset.sum_congr rfl fun k _ => by rw [ha, hb, EReal.coe_mul]
  have h2 : ∑ k, c k * d k = ((∑ k, c' k * d' k : ℝ) : EReal) := by
    rw [← sum_coe]; exact Finset.sum_congr rfl fun k _ => by rw [hc, hd, EReal.coe_mul]
  exact ⟨Real.exp (∑ k, a' k * b' k) - Real.exp (∑ k, c' k * d' k) + x, by
    unfold lam; rw [h1, h2, hx, Ideal.exp_coe, Ideal.exp_coe, ← EReal.coe_sub, ← EReal.coe_add]⟩

variable (q : (⟨2, ![1024, 16384]⟩ : Shape).Idx → ℝ) (k : (⟨2, ![16640, 1024]⟩ : Shape).Idx → ℝ)
  (v : (⟨2, ![1024, 16640]⟩ : Shape).Idx → ℝ)

/-- The scores of branch `b` of head `h` for query `c`, by key. -/
def scores (b : Fin 2) (h : Fin 8) (c : Fin 16384) (j : ℕ) : ℝ :=
  if hj : j < 16640 then ∑ x : Fin 64, k (ix2 ⟨j, hj⟩ (row b h x)) * q (ix2 (row b h x) c) else 0

theorem scores_of_lt (b : Fin 2) (h : Fin 8) (c : Fin 16384) (j : Fin 16640) :
    scores q k b h c j.val = ∑ x : Fin 64, k (ix2 j (row b h x)) * q (ix2 (row b h x) c) := dif_pos j.isLt

/-- The values of a feature row, by key. -/
def values (r : Fin 1024) (j : ℕ) : ℝ := if hj : j < 16640 then v (ix2 r ⟨j, hj⟩) else 0

theorem values_of_lt (r : Fin 1024) (j : Fin 16640) : values v r j.val = v (ix2 r j) := dif_pos j.isLt

/-- Differential attention: the first branch's average less `L` times the second's. -/
def attn (L : ℝ) (r : Fin 1024) (c : Fin 16384) : ℝ :=
  soft (scores q k 0 (headOf r) c) (values v r) 16640 - L * soft (scores q k 1 (headOf r) c) (values v r) 16640

end Cert.Attn

end
-- ==== Proof.AttnArray.lean ====
/-
  From the blocks to the array: what each of the 256 grid points reads (head `t / 32`, the 512 queries of tile
  `t % 32`), the four vectors in the first operand's rows, and the result array at every place.
-/
module

public import proofs.«01_k».proof.Proof.AttnBlock
public import proofs.«01_k».proof.Proof.AttnSpec
public import proofs.«01_k».proof.Proof.Gen.KernelIdeal.Value
public import Idealize.ShloMosaic.Lib.StableHlo.ReadAt
public import Idealize.ShloMosaic.Lib.Routing.OpsSet
public import Idealize.ShloMosaic.Lib.Pipeline.Value

@[expose] public section

set_option maxRecDepth 16384

noncomputable section

open scoped BigOperators
open Idealize.ShloMosaic Idealize.ShloMosaic.TcCoe Idealize.SL.Sem
open Idealize.ShloMosaic.Pipeline (Dat)

namespace Cert.KernelIdeal.Attn

open Cert.KernelIdeal Cert.KernelIdeal.Gen Cert.Softmax Cert.Attn

variable (m : (ℓ : Loc nD τ sig) → Buf (Elt Ideal) ℓ) (c : Dev nD)

/-! ## Which block each window is at -/

theorem at0 : ∀ t : Fin grid0.N, win0_0.index t 0 = 0 ∧ win0_0.index t 1 = 0 := by decide +kernel
theorem at1 : ∀ t : Fin grid0.N, win0_1.index t 0 = t.val / 32 ∧ win0_1.index t 1 = t.val % 32 := by decide +kernel
theorem at2 : ∀ t : Fin grid0.N, win0_2.index t 0 = 0 ∧ win0_2.index t 1 = t.val / 32 := by decide +kernel
theorem at3 : ∀ t : Fin grid0.N, win0_3.index t 0 = t.val / 32 ∧ win0_3.index t 1 = 0 := by decide +kernel
theorem at4 : ∀ t : Fin grid0.N, win0_4.index t 0 = t.val / 32 ∧ win0_4.index t 1 = t.val % 32 := by decide +kernel

theorem points (t : Fin cfg0.N) : t.val < 256 := lt_of_lt_of_eq t.isLt N_0

/-- The feature row that row `x` of point `t`'s blocks is. -/
def feat (t : Fin cfg0.N) (x : Fin 128) : Fin 1024 := ⟨t.val / 32 * 128 + x.val, by have := points t; omega⟩

/-- Point `t`'s queries and keys, at their shapes. -/
abbrev queriesAt (t : Fin cfg0.N) : FVec Ideal S128x512 .bf16 := iblk m c 1 t
abbrev keysAt (t : Fin cfg0.N) : FVec Ideal S16640x128 .bf16 := iblk m c 2 t

/-- The query that column `y` of point `t`'s blocks is. -/
def query (t : Fin cfg0.N) (y : Fin 512) : Fin 16384 := ⟨t.val % 32 * 512 + y.val, by omega⟩

theorem queries_apply (t : Fin cfg0.N) (x : Fin 128) (y : Fin 512) :
    queriesAt m c t (ix2 x y) = m ((c : Thread nD τ).loc main_arg0) (ix2 (feat t x) (query t y)) := by
  have hi := at1 t
  unfold queriesAt iblk
  rw [View.read_apply]
  show V m c main_arg0 _ = _
  rw [V_main_arg0]
  refine congrArg _ (funext fun a => Fin.ext ?_)
  match a with
  | ⟨0, _⟩ => show win0_1.index t 0 * 128 + 1 * x.val = t.val / 32 * 128 + x.val; rw [hi.1]; omega
  | ⟨1, _⟩ => show win0_1.index t 1 * 512 + 1 * y.val = t.val % 32 * 512 + y.val; rw [hi.2]; omega

theorem keys_block_apply (t : Fin cfg0.N) (j : Fin 16640) (x : Fin 128) :
    keysAt m c t (ix2 j x) = m ((c : Thread nD τ).loc main_arg1) (ix2 j (feat t x)) := by
  have hi := at2 t
  unfold keysAt iblk
  rw [View.read_apply]
  show V m c main_arg1 _ = _
  rw [V_main_arg1]
  refine congrArg _ (funext fun a => Fin.ext ?_)
  match a with
  | ⟨0, _⟩ => show win0_2.index t 0 * 16640 + 1 * j.val = j.val; rw [hi.1]; omega
  | ⟨1, _⟩ => show win0_2.index t 1 * 128 + 1 * x.val = t.val / 32 * 128 + x.val; rw [hi.2]; omega

theorem vals_block_apply (t : Fin cfg0.N) (x : Fin 128) (j : Fin 16640) :
    iblk m c 3 t (ix2 x j) = m ((c : Thread nD τ).loc main_arg2) (ix2 (feat t x) j) := by
  have hi := at3 t
  unfold iblk
  rw [View.read_apply]
  show V m c main_arg2 _ = _
  rw [V_main_arg2]
  refine congrArg _ (funext fun a => Fin.ext ?_)
  match a with
  | ⟨0, _⟩ => show win0_3.index t 0 * 128 + 1 * x.val = t.val / 32 * 128 + x.val; rw [hi.1]; omega
  | ⟨1, _⟩ => show win0_3.index t 1 * 16640 + 1 * j.val = j.val; rw [hi.2]; omega

theorem vecs_block_apply (t : Fin cfg0.N) (r : Fin 8) (k : Fin 64) :
    iblk m c 0 t (ix2 r k) = V m c main_v3 (ix2 r k) := by
  have hi := at0 t
  unfold iblk
  rw [View.read_apply]
  show V m c main_v3 _ = _
  refine congrArg _ (funext fun a => Fin.ext ?_)
  match a with
  | ⟨0, _⟩ => show win0_0.index t 0 * 8 + 1 * r.val = r.val; rw [hi.1]; omega
  | ⟨1, _⟩ => show win0_0.index t 1 * 64 + 1 * k.val = k.val; rw [hi.2]; omega

/-! ## The four vectors -/

/-- Writing four rows at row 0 leaves them there. -/
theorem scatter_rows (x0 : FVec Ideal S8x64 .f32) (u : FVec Ideal S4x64 .f32) (idx : IVec S1 32) (hidx : ∀ i, idx i = 0#32)
    (r : Fin 4) (k : Fin 64) :
    Host.scatter scatter_S8x64_S1_S4x64_01_n_0_0 (fun _ b => b) x0 idx u (ix2 ⟨r.val, by omega⟩ k) = u (ix2 r k) := by
  have hst (j : S4x64.Idx) (a : Fin 2) : scatter_S8x64_S1_S4x64_01_n_0_0.start j idx a = 0 := by
    unfold ScatterDims.start
    split
    · rw [hidx]; rfl
    · rfl
  have hw0 (j : S4x64.Idx) : scatter_S8x64_S1_S4x64_01_n_0_0.window j 0 = (j 0).val := rfl
  have hw1 (j : S4x64.Idx) : scatter_S8x64_S1_S4x64_01_n_0_0.window j 1 = (j 1).val := rfl
  refine Routing.scatter_set_hit _ x0 idx u _ _ (fun j hj => ?_) (ix2 r k) ?_
  · have h := (Routing.resultIdx?_ix2 (R := 8) (C := 64) _ _ _ _ _).1 hj
    rw [hst, hst, hw0, hw1] at h
    refine congrArg u (funext fun a => Fin.ext ?_)
    match a with
    | ⟨0, _⟩ => show (j 0).val = r.val; have := h.1; dsimp only at this; omega
    | ⟨1, _⟩ => show (j 1).val = k.val; have := h.2; omega
  · refine (Routing.resultIdx?_ix2 (R := 8) (C := 64) _ _ _ _ _).2 ⟨?_, ?_⟩
    · rw [hst, hw0]; exact zero_add _
    · rw [hst, hw1]; exact zero_add _

/-- The first operand of the call: the four vectors written over the first rows of a zero array. -/
theorem vecs_eq : V m c main_v3 = Host.scatter scatter_S8x64_S1_S4x64_01_n_0_0 (fun _ b => b)
    (broadcastInDim S8x64 ![] bcast_S_S8x64 (constant (F := Ideal) S_ .f32 0x00000000#32))
    (broadcastInDim S1 ![] bcast_S_S1 (constantI S_ 32 0#32))
    (concatenate S4x64 0 [⟨S1x64, (m ((c : Thread nD τ).loc main_arg3) : FVec Ideal S1x64 .f32)⟩, ⟨S1x64, (m ((c : Thread nD τ).loc main_arg4) : FVec Ideal S1x64 .f32)⟩,
      ⟨S1x64, (m ((c : Thread nD τ).loc main_arg5) : FVec Ideal S1x64 .f32)⟩, ⟨S1x64, (m ((c : Thread nD τ).loc main_arg6) : FVec Ideal S1x64 .f32)⟩]
      concatenates_S1x64_S1x64_S1x64_S1x64_S4x64_d0) := by
  unfold V
  after_reads_simp
  rfl

theorem stack0 (a b c d : FVec Ideal S1x64 .f32) (k : Fin 64) : concatenate (α := EReal) S4x64 0 [⟨S1x64, a⟩, ⟨S1x64, b⟩, ⟨S1x64, c⟩, ⟨S1x64, d⟩]
    concatenates_S1x64_S1x64_S1x64_S1x64_S4x64_d0 (ix2 0 k) = a (ix2 0 k) := by pointwise
theorem stack1 (a b c d : FVec Ideal S1x64 .f32) (k : Fin 64) : concatenate (α := EReal) S4x64 0 [⟨S1x64, a⟩, ⟨S1x64, b⟩, ⟨S1x64, c⟩, ⟨S1x64, d⟩]
    concatenates_S1x64_S1x64_S1x64_S1x64_S4x64_d0 (ix2 1 k) = b (ix2 0 k) := by pointwise
theorem stack2 (a b c d : FVec Ideal S1x64 .f32) (k : Fin 64) : concatenate (α := EReal) S4x64 0 [⟨S1x64, a⟩, ⟨S1x64, b⟩, ⟨S1x64, c⟩, ⟨S1x64, d⟩]
    concatenates_S1x64_S1x64_S1x64_S1x64_S4x64_d0 (ix2 2 k) = c (ix2 0 k) := by pointwise
theorem stack3 (a b c d : FVec Ideal S1x64 .f32) (k : Fin 64) : concatenate (α := EReal) S4x64 0 [⟨S1x64, a⟩, ⟨S1x64, b⟩, ⟨S1x64, c⟩, ⟨S1x64, d⟩]
    concatenates_S1x64_S1x64_S1x64_S1x64_S4x64_d0 (ix2 3 k) = d (ix2 0 k) := by pointwise

/-- Point `t`'s `λ` is that of the four arguments. -/
theorem lamOf_block (t : Fin cfg0.N) : lamOf (iblk m c 0 t)
    = lam (fun k => m ((c : Thread nD τ).loc main_arg3) (ix2 0 k)) (fun k => m ((c : Thread nD τ).loc main_arg4) (ix2 0 k))
        (fun k => m ((c : Thread nD τ).loc main_arg5) (ix2 0 k)) (fun k => m ((c : Thread nD τ).loc main_arg6) (ix2 0 k)) := by
  have h0 (k : Fin 64) : iblk m c 0 t (ix2 0 k) = m ((c : Thread nD τ).loc main_arg3) (ix2 0 k) := by
    rw [vecs_block_apply, vecs_eq]
    exact (scatter_rows _ _ _ (fun _ => rfl) 0 k).trans (stack0 _ _ _ _ k)
  have h1 (k : Fin 64) : iblk m c 0 t (ix2 1 k) = m ((c : Thread nD τ).loc main_arg4) (ix2 0 k) := by
    rw [vecs_block_apply, vecs_eq]
    exact (scatter_rows _ _ _ (fun _ => rfl) 1 k).trans (stack1 _ _ _ _ k)
  have h2 (k : Fin 64) : iblk m c 0 t (ix2 2 k) = m ((c : Thread nD τ).loc main_arg5) (ix2 0 k) := by
    rw [vecs_block_apply, vecs_eq]
    exact (scatter_rows _ _ _ (fun _ => rfl) 2 k).trans (stack2 _ _ _ _ k)
  have h3 (k : Fin 64) : iblk m c 0 t (ix2 3 k) = m ((c : Thread nD τ).loc main_arg6) (ix2 0 k) := by
    rw [vecs_block_apply, vecs_eq]
    exact (scatter_rows _ _ _ (fun _ => rfl) 3 k).trans (stack3 _ _ _ _ k)
  unfold lamOf lam
  refine congrArg₂ (· + ·) (congrArg₂ (· - ·) (congrArg Ideal.exp ?_) (congrArg Ideal.exp ?_)) rfl
  · exact Finset.sum_congr rfl fun k _ => congrArg₂ (· * ·) (h0 k) (h1 k)
  · exact Finset.sum_congr rfl fun k _ => congrArg₂ (· * ·) (h2 k) (h3 k)

/-! ## The result array, for finite operands -/

variable (q : S1024x16384.Idx → ℝ) (k : S16640x1024.Idx → ℝ) (v : S1024x16640.Idx → ℝ) (L : ℝ)

/-- The array differential attention is. -/
def result : Buf (Elt Ideal) ((c : Thread nD τ).loc main_v4) := fun i => ((attn q k v L (i 0) (i 1) : ℝ) : EReal)

theorem headOf_feat (t : Fin cfg0.N) (x : Fin 128) : (headOf (feat t x)).val = t.val / 32 := by
  show (t.val / 32 * 128 + x.val) / 128 = _
  omega

theorem scores_block (h0 : ∀ i, m ((c : Thread nD τ).loc main_arg0) i = (q i : EReal)) (h1 : ∀ i, m ((c : Thread nD τ).loc main_arg1) i = (k i : EReal))
    (t : Fin cfg0.N) (x : Fin 128) (y : Fin 512) (b : Fin 2) (w : FVec Ideal S128x512 .bf16)
    (hw : ∀ z : Fin 128, w (ix2 z y) = if z.val / 64 = b.val then queriesAt m c t (ix2 z y) else 0) (j : Fin 16640) :
    ∑ z : Fin 128, keysAt m c t (ix2 j z) * w (ix2 z y) = (scores q k b (headOf (feat t x)) (query t y) j.val : EReal) := by
  have hterm (z : Fin 128) : keysAt m c t (ix2 j z) * w (ix2 z y)
      = if z.val / 64 = b.val then ((k (ix2 j (feat t z)) * q (ix2 (feat t z) (query t y)) : ℝ) : EReal) else 0 := by
    rw [hw, keys_block_apply, h1, queries_apply, h0]
    split
    · rw [EReal.coe_mul]
    · rw [mul_zero]
  have hfeat (z : Fin 64) (hz : b.val * 64 + z.val < 128) : feat t ⟨b.val * 64 + z.val, hz⟩ = row b (headOf (feat t x)) z := by
    refine Fin.ext ?_
    show t.val / 32 * 128 + (b.val * 64 + z.val) = (headOf (feat t x)).val * 128 + b.val * 64 + z.val
    rw [headOf_feat]; omega
  rw [Finset.sum_congr rfl fun z _ => hterm z, scores_of_lt, ← sum_coe]
  rw [show (Finset.univ : Finset (Fin 128)).sum _ = ∑ z : Fin (64 + 64), _ from rfl, Fin.sum_univ_add]
  obtain hb | hb : b = 0 ∨ b = 1 := by fin_cases b <;> simp
  · subst hb
    refine (congrArg₂ (· + ·) (Finset.sum_congr rfl fun z _ => ?_)
      (Finset.sum_eq_zero fun z _ => if_neg (by show ¬ (64 + z.val) / 64 = 0; omega))).trans (add_zero _)
    rw [if_pos (by show z.val / 64 = 0; omega), ← hfeat z (by show 0 * 64 + z.val < 128; omega)]
    have e : (⟨(0 : Fin 2).val * 64 + z.val, by show 0 * 64 + z.val < 128; omega⟩ : Fin 128) = Fin.castAdd 64 z := Fin.ext (by show 0 * 64 + z.val = z.val; omega)
    rw [e]
  · subst hb
    refine (congrArg₂ (· + ·) (Finset.sum_eq_zero fun z _ => if_neg (by show ¬ z.val / 64 = 1; omega))
      (Finset.sum_congr rfl fun z _ => ?_)).trans (zero_add _)
    rw [if_pos (by show (64 + z.val) / 64 = 1; omega), ← hfeat z (by show 1 * 64 + z.val < 128; omega)]
    have e : (⟨(1 : Fin 2).val * 64 + z.val, by show 1 * 64 + z.val < 128; omega⟩ : Fin 128) = Fin.natAdd 64 z := Fin.ext (by show 1 * 64 + z.val = 64 + z.val; omega)
    rw [e]

theorem flushed_eq (h0 : ∀ i, m ((c : Thread nD τ).loc main_arg0) i = (q i : EReal)) (h1 : ∀ i, m ((c : Thread nD τ).loc main_arg1) i = (k i : EReal))
    (h2 : ∀ i, m ((c : Thread nD τ).loc main_arg2) i = (v i : EReal))
    (hL : lam (fun k => m ((c : Thread nD τ).loc main_arg3) (ix2 0 k)) (fun k => m ((c : Thread nD τ).loc main_arg4) (ix2 0 k))
        (fun k => m ((c : Thread nD τ).loc main_arg5) (ix2 0 k)) (fun k => m ((c : Thread nD τ).loc main_arg6) (ix2 0 k)) = (L : EReal))
    (t : Fin cfg0.N) : (dats m 0 c).flushed 4 t = ((cfg0.win 4).blk t).view.read (Elt Ideal) (result c q k v L) := by
  rw [Value.flushed4_A]
  have hi := at4 t
  funext j
  obtain ⟨x, y, rfl⟩ : ∃ (x : Fin 128) (y : Fin 512), j = ix2 x y := ⟨j 0, j 1, by funext a; fin_cases a <;> rfl⟩
  rw [View.read_apply]
  have hr : result c q k v L (((cfg0.win 4).blk t).view.emb (ix2 x y)) = ((attn q k v L (feat t x) (query t y) : ℝ) : EReal) := by
    unfold result
    refine congrArg₂ (fun a b => ((attn q k v L a b : ℝ) : EReal)) (Fin.ext ?_) (Fin.ext ?_)
    · show win0_4.index t 0 * 128 + 1 * x.val = t.val / 32 * 128 + x.val; rw [hi.1]; omega
    · show win0_4.index t 1 * 512 + 1 * y.val = t.val % 32 * 512 + y.val; rw [hi.2]; omega
  refine Eq.trans ?_ hr.symm
  refine (out_apply_eq c (grid0.coords t) _ _ _ _ _ _ _ _ _ _ _ _ _ _ _ _ (iblk m c 0 t) (iblk m c 1 t) (iblk m c 2 t) (iblk m c 3 t) x y
    (scores q k 0 (headOf (feat t x)) (query t y)) (scores q k 1 (headOf (feat t x)) (query t y)) (values v (feat t x))
    (scores_block m c q k h0 h1 t x y 0 _ fun z => ?_) (scores_block m c q k h0 h1 t x y 1 _ fun z => ?_) (fun j => ?_)).trans ?_
  · rw [half0_apply]
    refine if_congr ?_ rfl rfl
    show z.val < 64 ↔ z.val / 64 = 0
    omega
  · rw [half1_apply]
    by_cases hz : z.val < 64
    · rw [if_pos hz, if_neg (by show ¬ z.val / 64 = 1; omega)]
    · rw [if_neg hz, if_pos (by show z.val / 64 = 1; omega)]
  · rw [vals_block_apply, h2, values_of_lt]
  · rw [lamOf_block, hL]
    unfold attn
    rw [EReal.coe_sub, EReal.coe_mul]

/-- The result array. -/
theorem final_eq (h0 : ∀ i, m ((c : Thread nD τ).loc main_arg0) i = (q i : EReal)) (h1 : ∀ i, m ((c : Thread nD τ).loc main_arg1) i = (k i : EReal))
    (h2 : ∀ i, m ((c : Thread nD τ).loc main_arg2) i = (v i : EReal))
    (hL : lam (fun k => m ((c : Thread nD τ).loc main_arg3) (ix2 0 k)) (fun k => m ((c : Thread nD τ).loc main_arg4) (ix2 0 k))
        (fun k => m ((c : Thread nD τ).loc main_arg5) (ix2 0 k)) (fun k => m ((c : Thread nD τ).loc main_arg6) (ix2 0 k)) = (L : EReal)) :
    (dats m 0 c).arrAt 4 cfg0.N = result c q k v L :=
  (dats m 0 c).arrAt_eq_of_cover 4 (result c q k v L) (fun t _ => flushed_eq m c q k v L h0 h1 h2 hL t) fun i => by
    have hr : (i 0 : Nat) < 1024 := (i 0).isLt
    have hc : (i 1 : Nat) < 16384 := (i 1).isLt
    let t : Fin cfg0.N := ⟨(i 0 : Nat) / 128 * 32 + (i 1 : Nat) / 512, by rw [show cfg0.N = 256 from N_0]; omega⟩
    have ht : t.val = (i 0 : Nat) / 128 * 32 + (i 1 : Nat) / 512 := rfl
    have hi := at4 t
    refine ⟨t, flush0_4 t, ?_⟩
    show i ∈ ((View.whole main_v4).slice (win0_4.rect t)).set
    rw [View.set_slice_whole, Rect.mem_set_unit]
    intro a
    match a with
    | ⟨0, _⟩ => show win0_4.index t 0 * 128 ≤ (i 0 : Nat) ∧ (i 0 : Nat) < win0_4.index t 0 * 128 + 128
                rw [hi.1, ht]; omega
    | ⟨1, _⟩ => show win0_4.index t 1 * 512 ≤ (i 1 : Nat) ∧ (i 1 : Nat) < win0_4.index t 1 * 512 + 512
                rw [hi.2, ht]; omega

end Cert.KernelIdeal.Attn

end
-- ==== Proof.AttnReference.lean ====
/-
  The attention reference at one place: the scores are products of 64 terms, the weights of each branch are the scores'
  exponentials over their sum, the second branch is taken off `λ` times the first, and the result is the average of
  the values with these weights. `result_eq` reads all of it as a difference of two softmax averages, for finite
  operands.
-/
module

public import proofs.«01_k».proof.Proof.Gen.ReferenceIdeal.Read
public import proofs.«01_k».proof.Proof.AttnSpec
public import Idealize.ShloMosaic.Lib.Pointwise

@[expose] public section

set_option maxRecDepth 16384

noncomputable section

open scoped BigOperators
open Idealize.ShloMosaic Idealize.ShloMosaic.TcCoe Idealize.SL.Sem

namespace Cert.ReferenceIdeal.Attn

open Cert.ReferenceIdeal Cert.ReferenceIdeal.Read Cert.Softmax Cert.Attn

theorem negInf : Ideal.ofBits FTy.f32 0xFF800000#32 = ⊥ := by simp [Ideal.ofBits, Ideal.ieee]

variable (x0 : FVec Ideal S1024x16384 .bf16) (x1 : FVec Ideal S16640x1024 .bf16) (x2 : FVec Ideal S1024x16640 .bf16)
  (x3 x4 x5 x6 : FVec Ideal S1x64 .f32)

/-- The score of branch `b` of head `h`, query `c`, key `j`. -/
theorem score_apply (b : Fin 2) (h : Fin 8) (c : Fin 16384) (j : Fin 16640) :
    val_main_v21 (F := Ideal) x0 x1 (ix4 b h c j) = ∑ x : Fin 64, x0 (ix2 (row b h x) c) * x1 (ix2 j (row b h x)) := by
  pointwise [val_main_v21, val_main_v14, val_main_v17, val_main_v12,  val_main_v13,  val_main_v16,  val_main_v15]
  rfl

/-- The greatest score of a row. -/
theorem greatest_apply (b : Fin 2) (h : Fin 8) (c : Fin 16384) :
    val_main_v22 (F := Ideal) x0 x1 (ix3 b h c)
      = (Finset.univ : Finset (Fin 16640)).fold max ⊥ fun x => val_main_v21 (F := Ideal) x0 x1 (ix4 b h c x) := by
  unfold val_main_v22
  generalize val_main_v21 (F := Ideal) x0 x1 = y
  pointwise [val_main_cst_2]
  simp only [negInf]

/-- A score's exponential, shifted by the row's greatest. -/
theorem weight_apply (b : Fin 2) (h : Fin 8) (c : Fin 16384) (j : Fin 16640) :
    val_main_v28 (F := Ideal) x0 x1 (ix4 b h c j)
      = Ideal.exp (val_main_v21 (F := Ideal) x0 x1 (ix4 b h c j) - max ⊥ (val_main_v22 (F := Ideal) x0 x1 (ix3 b h c))) := by
  have hi : idx_main_v25 (idx_main_v26 (ix4 b h c j)) = ix3 b h c := by funext a; fin_cases a <;> rfl
  have h0 (i : S2x8x16384.Idx) : val_main_v23 (F := Ideal) i = ⊥ := by
    rw [val_main_v23_apply]
    exact negInf
  rw [val_main_v28_apply, val_main_v27_apply, val_main_v26_apply, val_main_v25_apply, val_main_v24_apply, hi, h0]
  rfl

/-- The sum of a row's weights. -/
theorem total_apply (b : Fin 2) (h : Fin 8) (c : Fin 16384) :
    val_main_v29 (F := Ideal) x0 x1 (ix3 b h c) = ∑ j : Fin 16640, val_main_v28 (F := Ideal) x0 x1 (ix4 b h c j) := by
  unfold val_main_v29
  generalize val_main_v28 (F := Ideal) x0 x1 = y
  pointwise [val_main_cst_4]

/-- The normalised weight. -/
theorem prob_apply (b : Fin 2) (h : Fin 8) (c : Fin 16384) (j : Fin 16640) :
    val_main_v32 (F := Ideal) x0 x1 (ix4 b h c j)
      = Ideal.div (val_main_v28 (F := Ideal) x0 x1 (ix4 b h c j)) (val_main_v29 (F := Ideal) x0 x1 (ix3 b h c)) := by
  unfold val_main_v32 val_main_v31 val_main_v30
  generalize val_main_v28 (F := Ideal) x0 x1 = y
  generalize val_main_v29 (F := Ideal) x0 x1 = z
  pointwise

/-- The weight of the difference. -/
theorem diff_apply (h : Fin 8) (c : Fin 16384) (j : Fin 16640) :
    val_main_v39 (F := Ideal) x0 x1 x3 x4 x5 x6 (ix3 h c j)
      = val_main_v32 (F := Ideal) x0 x1 (ix4 0 h c j)
        - val_main_v11 (F := Ideal) x3 x4 x5 x6 ix0 * val_main_v32 (F := Ideal) x0 x1 (ix4 1 h c j) := by
  have h0 : val_main_v34 (F := Ideal) x0 x1 (ix3 h c j) = val_main_v32 (F := Ideal) x0 x1 (ix4 0 h c j) := by
    unfold val_main_v34 val_main_v33
    generalize val_main_v32 (F := Ideal) x0 x1 = y
    pointwise
  have h1 : val_main_v36 (F := Ideal) x0 x1 (ix3 h c j) = val_main_v32 (F := Ideal) x0 x1 (ix4 1 h c j) := by
    unfold val_main_v36 val_main_v35
    generalize val_main_v32 (F := Ideal) x0 x1 = y
    pointwise
  have hi : idx_main_v37 (ix3 h c j) = ix0 := funext fun a => a.elim0
  rw [val_main_v39_apply, val_main_v38_apply, val_main_v37_apply, h0, h1, hi]
  rfl

/-- `λ`. -/
theorem lam_apply :
    val_main_v11 (F := Ideal) x3 x4 x5 x6 ix0 = lam (fun k => x3 (ix2 0 k)) (fun k => x4 (ix2 0 k)) (fun k => x5 (ix2 0 k)) (fun k => x6 (ix2 0 k)) := by
  unfold lam
  pointwise [val_main_v11, val_main_v10, val_main_v9, val_main_v8, val_main_v7, val_main_v6, val_main_v5, val_main_v4, val_main_v3, val_main_v2, val_main_v1, val_main_v0, val_main_cst, val_main_cst_0, val_main_cst_1]

/-- The result, as a sum over the keys. -/
theorem out_apply (r : Fin 1024) (c : Fin 16384) :
    val_main_v42 (F := Ideal) x0 x1 x2 x3 x4 x5 x6 (ix2 r c)
      = ∑ j : Fin 16640, val_main_v39 (F := Ideal) x0 x1 x3 x4 x5 x6 (ix3 (headOf r) c j) * x2 (ix2 r j) := by
  unfold val_main_v42 val_main_v41 val_main_v40
  generalize val_main_v39 (F := Ideal) x0 x1 x3 x4 x5 x6 = y
  pointwise [val_main_v20, val_main_v19, val_main_v18]
  rfl

/-- For finite operands the result is the difference of the two softmax averages. -/
theorem result_eq (q : S1024x16384.Idx → ℝ) (k : S16640x1024.Idx → ℝ) (v : S1024x16640.Idx → ℝ) (L : ℝ)
    (h0 : ∀ i, x0 i = (q i : EReal)) (h1 : ∀ i, x1 i = (k i : EReal)) (h2 : ∀ i, x2 i = (v i : EReal))
    (hL : lam (fun k => x3 (ix2 0 k)) (fun k => x4 (ix2 0 k)) (fun k => x5 (ix2 0 k)) (fun k => x6 (ix2 0 k)) = (L : EReal))
    (r : Fin 1024) (c : Fin 16384) :
    val_main_v42 (F := Ideal) x0 x1 x2 x3 x4 x5 x6 (ix2 r c) = ((attn q k v L r c : ℝ) : EReal) := by
  have hs (b : Fin 2) (j : Fin 16640) : val_main_v21 (F := Ideal) x0 x1 (ix4 b (headOf r) c j) = (scores q k b (headOf r) c j.val : EReal) := by
    rw [score_apply, scores_of_lt, ← sum_coe]
    exact Finset.sum_congr rfl fun x _ => by rw [h0, h1, ← EReal.coe_mul, mul_comm]
  have hm (b : Fin 2) : ∃ μ : ℝ, max ⊥ (val_main_v22 (F := Ideal) x0 x1 (ix3 b (headOf r) c)) = (μ : EReal) := by
    rw [greatest_apply, max_eq_right bot_le]
    exact fold_max_real (fun j : Fin 16640 => scores q k b (headOf r) c j.val) _ (hs b)
  obtain ⟨μ, hμ⟩ := hm 0
  obtain ⟨ν, hν⟩ := hm 1
  have hw0 (j : Fin 16640) : val_main_v28 (F := Ideal) x0 x1 (ix4 0 (headOf r) c j)
      = Ideal.exp ((scores q k 0 (headOf r) c j.val : EReal) - (μ : EReal)) := by rw [weight_apply, hs, hμ]
  have hw1 (j : Fin 16640) : val_main_v28 (F := Ideal) x0 x1 (ix4 1 (headOf r) c j)
      = Ideal.exp ((scores q k 1 (headOf r) c j.val : EReal) - (ν : EReal)) := by rw [weight_apply, hs, hν]
  have key := softmax_average (scores q k 0 (headOf r) c) (scores q k 1 (headOf r) c) (values v r) (n := 16640) (by decide) L μ ν
    (val_main_v29 (F := Ideal) x0 x1 (ix3 0 (headOf r) c)) (val_main_v29 (F := Ideal) x0 x1 (ix3 1 (headOf r) c))
    (by rw [total_apply]; exact Finset.sum_congr rfl fun j _ => hw0 j)
    (by rw [total_apply]; exact Finset.sum_congr rfl fun j _ => hw1 j)
  rw [out_apply]
  refine Eq.trans (Finset.sum_congr rfl fun j _ => ?_) key
  rw [diff_apply, prob_apply, prob_apply, hw0, hw1, lam_apply, hL, h2, values_of_lt]

end Cert.ReferenceIdeal.Attn

end
-- ==== Proof.AttnFinite.lean ====
/-
  The precondition read back: where every `|x| < ∞` holds, every element of the seven arguments is a real number.
-/
module

public import proofs.«01_k».proof.Pre_finite
public import Idealize.ShloMosaic.Lib.ReduceAll
public import Idealize.ShloMosaic.Lib.Pointwise

@[expose] public section

noncomputable section

open Idealize.ShloMosaic Idealize.ShloMosaic.TcCoe

namespace Cert.Pre_finite

/-- The side conditions of the precondition's operations. -/
instance facts : Cert.Pre_finite.Facts where
  bitsLt_bf16_f32 := by decide
  bcast_S_S1024x16384 := by decide
  reducesTo_S1024x16384_S_d0_1 := by decide
  h_S_ := by decide
  bcast_S_S16640x1024 := by decide
  reducesTo_S16640x1024_S_d0_1 := by decide
  bcast_S_S1024x16640 := by decide
  reducesTo_S1024x16640_S_d0_1 := by decide
  bcast_S_S1x64 := by decide
  reducesTo_S1x64_S_d0_1 := by decide

theorem posInf : Ideal.ofBits FTy.f32 0x7F800000#32 = ⊤ := by simp [Ideal.ofBits, Ideal.ieee]

/-- An extended real whose absolute value is below `∞` is real. -/
theorem real_of_lt (x : EReal) (h : Ideal.cmp .olt (max x (-x)) (Ideal.ofBits FTy.f32 0x7F800000#32) = 1#1) : ∃ r : ℝ, x = (r : EReal) := by
  rw [posInf] at h
  have h' : max x (-x) < ⊤ := by
    by_contra hn
    simp [Ideal.cmp, hn] at h
  induction x with
  | bot => simp at h'
  | top => simp at h'
  | coe r => exact ⟨r, rfl⟩

instance : Subsingleton S_.Idx := ⟨fun a b => funext fun i => i.elim0⟩

/-- One array's test, read back at every element. -/
theorem real_of_all {s : Shape} (x : FVec Ideal s .f32) (hb : S_.BroadcastsInDim s (![] : Fin 0 → Fin s.rank)) (init : IVec S_ 1)
    (axes : List (Fin s.rank)) (h : s.ReducesTo axes S_) (hu : 0 < S_.numel)
    (e : Host.reduce IntOp.andi (cmpf .olt (Host.absf x) (broadcastInDim s ![] hb (constant S_ .f32 0x7F800000#32))) init h hu ix0 = 1#1)
    (i : s.Idx) : ∃ r : ℝ, x i = (r : EReal) :=
  real_of_lt _ (Host.reduce_andi_all _ init h hu ix0 e i)

variable (x0 : FVec Ideal S1024x16384 .bf16) (x1 : FVec Ideal S16640x1024 .bf16) (x2 : FVec Ideal S1024x16640 .bf16)
  (x3 x4 x5 x6 : FVec Ideal S1x64 .f32)

/-- What the precondition says. -/
theorem real_of_fn (h : fn (F := Ideal) x0 x1 x2 x3 x4 x5 x6 ix0 = 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) := by
  unfold fn fn_part1 fn_part2 at h
  dsimp only at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all _ _ _ _ _ _ h0, real_of_all _ _ _ _ _ _ h1, real_of_all _ _ _ _ _ _ h2, real_of_all _ _ _ _ _ _ h3,
    real_of_all _ _ _ _ _ _ h4, real_of_all _ _ _ _ _ _ h5, real_of_all _ _ _ _ _ _ h6⟩

end Cert.Pre_finite

end
-- ==== Proof.AttnClaim.lean ====
/-
  The attention's claims: both programs run and leave their arguments unchanged, and for finite arguments both result
  arrays are differential attention over the reals.
-/
module

public import proofs.«01_k».proof.Defs
public import proofs.«01_k».proof.Proof.AttnArray
public import proofs.«01_k».proof.Proof.AttnReference
public import proofs.«01_k».proof.Proof.AttnFinite
public import proofs.«01_k».proof.Proof.Gen.Kernel
public import proofs.«01_k».proof.Proof.Gen.Kernel.Frame
public import proofs.«01_k».proof.Proof.Gen.ReferenceIdeal.Run
public import Idealize.ShloMosaic.Lib.Quiescent

@[expose] public section

noncomputable section

open Idealize.ShloMosaic Idealize.SL.Sem

namespace Cert.AttnClaim

open Cert.Attn

theorem kernel_runs : Cert.quiescent_Kernel := fun m g _ => Cert.Kernel.Gen.frame m g

theorem ideal_runs : Cert.quiescent_KernelIdeal := fun m g _ => Cert.KernelIdeal.Gen.frame m g

theorem ideal_runs_finite : Cert.quiescent_KernelIdeal_pre_finite := fun m g _ => Cert.KernelIdeal.Gen.frame m g

theorem reference_runs : Cert.quiescent_ReferenceIdeal := fun m g _ =>
  (θ_run _ _ _).mono (fun r h => ⟨fun c => (h c).2, Idealize.ShloMosaic.sem_eq_zero_of_no_sems (by decide) r.2⟩)
    (Cert.ReferenceIdeal.Value.run m g)

theorem reference_runs_finite : Cert.quiescent_ReferenceIdeal_pre_finite := fun m g _ => reference_runs m g trivial

/-- Kernel and reference compute the same array. -/
theorem equal : Cert.algebraic_KernelIdeal_ReferenceIdeal_pre_finite := by
  intro m g m' g' hpre hargs
  refine ⟨fun c => (Cert.KernelIdeal.Gen.dats m 0 c).arrAt 4 Cert.KernelIdeal.cfg0.N, Cert.KernelIdeal.Value.run_blocks m g,
    (θ_run _ _ _).mono (fun r h c => ⟨(h c).1.trans ?_, (h c).2⟩) (Cert.ReferenceIdeal.Value.run m' g')⟩
  obtain ⟨a0, a1, a2, a3, a4, a5, a6⟩ := hargs c
  obtain ⟨h0, h1, h2, h3, h4, h5, h6⟩ := Cert.Pre_finite.real_of_fn _ _ _ _ _ _ _ (congrFun (hpre c) ix0)
  choose q hq using h0
  choose k hk using h1
  choose v hv using h2
  obtain ⟨L, hL⟩ := lam_real _ _ _ _ (fun k => h3 (ix2 0 k)) (fun k => h4 (ix2 0 k)) (fun k => h5 (ix2 0 k)) (fun k => h6 (ix2 0 k))
  refine Eq.trans ?_ (Cert.KernelIdeal.Attn.final_eq m c q k v L hq hk hv hL).symm
  rw [Cert.ReferenceIdeal.Read.val_main_v42_eq, a0, a1, a2, a3, a4, a5, a6]
  funext i
  obtain ⟨x, y, rfl⟩ : ∃ (x : Fin 1024) (y : Fin 16384), i = ix2 x y := ⟨i 0, i 1, by funext a; fin_cases a <;> rfl⟩
  exact Cert.ReferenceIdeal.Attn.result_eq _ _ _ _ _ _ _ q k v L hq hk hv hL x y

end Cert.AttnClaim

end
-- ==== Proof.FfnSpec.lean ====
/-
  The feed-forward part of a layer, over the extended reals, one row of the stream at a time: root-mean-square
  normalisation with gain, scale and shift, a product to 5632 columns, a convolution over three neighbouring rows with
  zeros beyond the ends of the stream, `silu` of the first 2816 columns times the other 2816, a product back to 1024
  columns, and the gated sum with the row itself.
-/
module

public import Idealize.ShloMosaic.Lib.Pointwise

@[expose] public section

noncomputable section

open scoped BigOperators
open Idealize.ShloMosaic

namespace Cert.Ffn

/-- A row over its root mean square. -/
def rms (x : Fin 1024 → EReal) (j : Fin 1024) : EReal :=
  x j * Ideal.rsqrt (Ideal.div (∑ k, x k * x k) (Ideal.ofBits FTy.f32 0x44800000#32) + Ideal.ofBits FTy.f32 0x358637BD#32)

/-- The normalised row, with gain `g`, scale `s` and shift `b`. -/
def normed (g s b x : Fin 1024 → EReal) (j : Fin 1024) : EReal :=
  rms x j * g j * (1 + s j) + b j

def silu (a : EReal) : EReal :=
  a * Ideal.div 1 (1 + Ideal.exp (-a))

/-- The operands of the two products and of the convolution. -/
structure Weights where
  up : Fin 1024 → Fin 5632 → EReal
  conv : Fin 3 → Fin 5632 → EReal
  bias : Fin 5632 → EReal
  down : Fin 2816 → Fin 1024 → EReal

variable (w : Weights)

/-- Column `n` of the product of a row and the first matrix. -/
def up (h : Fin 1024 → EReal) (n : Fin 5632) : EReal := ∑ k, h k * w.up k n

/-- Column `n` of the convolution, for the row `h₁` between `h₀` and `h₂`. -/
def conv (h₀ h₁ h₂ : Fin 1024 → EReal) (n : Fin 5632) : EReal :=
  up w h₀ n * w.conv 0 n + up w h₁ n * w.conv 1 n + up w h₂ n * w.conv 2 n + w.bias n

/-- The gated column `n` of the 2816. -/
def act (h₀ h₁ h₂ : Fin 1024 → EReal) (n : Fin 2816) : EReal :=
  silu (conv w h₀ h₁ h₂ ⟨n.val, by omega⟩) * conv w h₀ h₁ h₂ ⟨2816 + n.val, by omega⟩

/-- Column `j` of the product of the gated columns and the second matrix. -/
def ffn (h₀ h₁ h₂ : Fin 1024 → EReal) (j : Fin 1024) : EReal := ∑ n, act w h₀ h₁ h₂ n * w.down n j

/-- The gain of the norm, and scale, shift and gate of the modulation. -/
structure Modulation where
  gain : Fin 1024 → EReal
  scale : Fin 1024 → EReal
  shift : Fin 1024 → EReal
  gate : Fin 1024 → EReal

/-- Row `r` of the result, for a stream with rows `lo` to `hi - 1` of `X`. -/
def rowOut (μ : Modulation) (lo hi : ℕ) (X : ℕ → Fin 1024 → EReal) (r : ℕ) (j : Fin 1024) : EReal :=
  X r j + μ.gate j * ffn w (if r = lo then fun _ => 0 else normed μ.gain μ.scale μ.shift (X (r - 1)))
    (normed μ.gain μ.scale μ.shift (X r)) (if r + 1 = hi then fun _ => 0 else normed μ.gain μ.scale μ.shift (X (r + 1))) j

theorem up_zero (n : Fin 5632) : up w (fun _ => 0) n = 0 := Finset.sum_eq_zero fun k _ => zero_mul _

/-! ## The 2816 columns in chunks -/

/-- Sum of the first `n` terms of the second product. -/
def ffnTo (h₀ h₁ h₂ : Fin 1024 → EReal) (j : Fin 1024) (n : ℕ) : EReal :=
  ∑ i ∈ Finset.range n, if h : i < 2816 then act w h₀ h₁ h₂ ⟨i, h⟩ * w.down ⟨i, h⟩ j else 0

theorem ffnTo_all (h₀ h₁ h₂ : Fin 1024 → EReal) (j : Fin 1024) : ffnTo w h₀ h₁ h₂ j 2816 = ffn w h₀ h₁ h₂ j := by
  unfold ffnTo ffn
  rw [Finset.sum_range]
  exact Finset.sum_congr rfl fun i _ => dif_pos i.isLt

/-- A chunk of 256 more terms. -/
theorem ffnTo_add (h₀ h₁ h₂ : Fin 1024 → EReal) (j : Fin 1024) (n : ℕ) (hn : n + 256 ≤ 2816) :
    ffnTo w h₀ h₁ h₂ j n + ∑ f : Fin 256, act w h₀ h₁ h₂ ⟨n + f.val, by omega⟩ * w.down ⟨n + f.val, by omega⟩ j
      = ffnTo w h₀ h₁ h₂ j (n + 256) := by
  unfold ffnTo
  rw [Finset.sum_range_add, ← Fin.sum_univ_eq_sum_range (fun x => if h : n + x < 2816 then act w h₀ h₁ h₂ ⟨n + x, h⟩ * w.down ⟨n + x, h⟩ j else 0) 256]
  exact congrArg _ (Finset.sum_congr rfl fun f _ => by rw [dif_pos (show n + f.val < 2816 by omega)])

theorem ffnTo_first (h₀ h₁ h₂ : Fin 1024 → EReal) (j : Fin 1024) :
    ∑ f : Fin 256, act w h₀ h₁ h₂ ⟨f.val, by omega⟩ * w.down ⟨f.val, by omega⟩ j = ffnTo w h₀ h₁ h₂ j 256 := by
  unfold ffnTo
  rw [Finset.sum_range]
  exact Finset.sum_congr rfl fun f _ => by rw [dif_pos (show f.val < 2816 by omega)]

end Cert.Ffn

end
-- ==== Proof.FfnPayloads.lean ====
/-
  What the feed-forward kernel computes from the values it has loaded, read at one place: the normalised rows, one chunk
  of 256 columns of the first product, of the convolution, of the gated columns and of the second product, and the
  result row.
-/
module

public import proofs.«01_k».proof.Proof.Gen.Kernel2Ideal.Frame
public import proofs.«01_k».proof.Proof.FfnSpec

@[expose] public section

set_option maxRecDepth 16384

noncomputable section

open scoped BigOperators
open Idealize.ShloMosaic

namespace Cert.Ffn

open Cert.Kernel2Ideal Cert.Kernel2Ideal.Gen

theorem upBlock_apply (l : FVec Ideal S288x1024 .bf16) (u : FVec Ideal S1024x256 .bf16) (r : Fin 288) (f : Fin 256) :
    k0_pay11 (F := Ideal) l u (ix2 r f) = ∑ k, l (ix2 r k) * u (ix2 k f) := by
  pointwise [k0_pay11]

theorem half_apply (a : FVec Ideal S256x256 .f32) (wa : FVec Ideal S1x256 .f32) (b : FVec Ideal S256x256 .f32) (wb : FVec Ideal S1x256 .f32)
    (c : FVec Ideal S256x256 .f32) (wc : FVec Ideal S1x256 .f32) (d : FVec Ideal S1x256 .f32) (y f : Fin 256) :
    k0_pay17 (F := Ideal) a wa b wb c wc d (ix2 y f)
      = a (ix2 y f) * wa (ix2 0 f) + b (ix2 y f) * wb (ix2 0 f) + c (ix2 y f) * wc (ix2 0 f) + d (ix2 0 f) := by
  pointwise [k0_pay17]

theorem gated_apply (v : FVec Ideal S256x256 .f32) (a : FVec Ideal S256x256 .f32) (wa : FVec Ideal S1x256 .f32) (b : FVec Ideal S256x256 .f32)
    (wb : FVec Ideal S1x256 .f32) (c : FVec Ideal S256x256 .f32) (wc : FVec Ideal S1x256 .f32) (d : FVec Ideal S1x256 .f32) (y f : Fin 256) :
    k0_pay14 (F := Ideal) v a wa b wb c wc d (ix2 y f)
      = silu (v (ix2 y f)) * (a (ix2 y f) * wa (ix2 0 f) + b (ix2 y f) * wb (ix2 0 f) + c (ix2 y f) * wc (ix2 0 f) + d (ix2 0 f)) := by
  pointwise [k0_pay14]
  simp only [silu, sub_eq_add_neg, Ideal.ofBits_zero_f32, zero_add]

theorem first_apply (a : FVec Ideal S256x256 .bf16) (d : FVec Ideal S256x1024 .bf16) (y : Fin 256) (j : Fin 1024) :
    k0_pay15 (F := Ideal) a d (ix2 y j) = ∑ f, a (ix2 y f) * d (ix2 f j) := by
  pointwise [k0_pay15]

theorem step_apply (v : FVec Ideal S256x256 .f32) (a : FVec Ideal S256x256 .f32) (wa : FVec Ideal S1x256 .f32) (b : FVec Ideal S256x256 .f32)
    (wb : FVec Ideal S1x256 .f32) (c : FVec Ideal S256x256 .f32) (wc : FVec Ideal S1x256 .f32) (d : FVec Ideal S1x256 .f32)
    (e : FVec Ideal S256x1024 .bf16) (s : FVec Ideal S256x1024 .f32) (y : Fin 256) (j : Fin 1024) :
    k0_pay21 (F := Ideal) (k0_pay20 (F := Ideal) v a wa b wb c wc d e s) (ix2 y j)
      = s (ix2 y j) + ∑ f, silu (v (ix2 y f)) * (a (ix2 y f) * wa (ix2 0 f) + b (ix2 y f) * wb (ix2 0 f) + c (ix2 y f) * wc (ix2 0 f) + d (ix2 0 f)) * e (ix2 f j) := by
  pointwise [k0_pay21, k0_pay20]
  simp only [silu, sub_eq_add_neg, Ideal.ofBits_zero_f32, zero_add]

theorem gain_apply (g : FVec Ideal S1x1024 .f32) (k : Fin 1024) : k0_pay2 (F := Ideal) g (ix2 0 k) = g (ix2 0 k) := by
  pointwise [k0_pay2]

/-- The rows of the own block, normalised. -/
theorem own_apply (g s b : FVec Ideal S1x1024 .f32) (x : FVec Ideal S256x1024 .f32) (r : Fin 256) (k : Fin 1024) :
    k0_pay7 (F := Ideal) g s b x (ix2 r k)
      = normed (fun k => g (ix2 0 k)) (fun k => s (ix2 0 k)) (fun k => b (ix2 0 k)) (fun k => x (ix2 r k)) k := by
  pointwise [k0_pay7]
  simp only [normed, rms]

/-- The rows before or after the own block, put to zero where there are none. -/
theorem halo_apply (v : BitVec 1) (g s b : FVec Ideal S1x1024 .f32) (x : FVec Ideal S16x1024 .f32) (r : Fin 16) (k : Fin 1024) :
    k0_pay10 (F := Ideal) v b (k0_pay8 (F := Ideal) g x) (k0_pay9 (F := Ideal) s) (ix2 r k)
      = if v = 1#1 then normed (fun k => g (ix2 0 k)) (fun k => s (ix2 0 k)) (fun k => b (ix2 0 k)) (fun k => x (ix2 r k)) k else 0 := by
  pointwise [k0_pay10, k0_pay8, k0_pay9]
  simp only [normed, rms]
  rfl

theorem sum_apply (v : BitVec 1) (x : FVec Ideal S256x1024 .f32) (g1 g0 : FVec Ideal S1x1024 .f32) (a : FVec Ideal S256x1024 .f32) (y : Fin 256) (j : Fin 1024) :
    k0_pay69 (F := Ideal) v x g1 g0 a (ix2 y j) = x (ix2 y j) + (Scalar.select v g1 g0 : FVec Ideal S1x1024 .f32) (ix2 0 j) * a (ix2 y j) := by
  pointwise [k0_pay69]

/-- The result block of the last layer. -/
theorem final_apply (v : BitVec 1) (x : FVec Ideal S256x1024 .f32) (g1 g0 : FVec Ideal S1x1024 .f32) (a : FVec Ideal S256x1024 .f32) (e : FVec Ideal S1x1024 .f32) (y : Fin 256) (j : Fin 1024) :
    k0_pay1 (F := Ideal) (k0_pay69 (F := Ideal) v x g1 g0 a) (k0_pay70 (F := Ideal) v x g1 g0 a) (Scalar.ofBits (F := Ideal) .f32 0x358637BD#32) e (ix2 y j)
      = rms (fun k => k0_pay69 (F := Ideal) v x g1 g0 a (ix2 y k)) j * e (ix2 0 j) := by
  unfold k0_pay70
  generalize k0_pay69 (F := Ideal) v x g1 g0 a = z
  pointwise [k0_pay1]
  simp only [rms]

end Cert.Ffn

end
-- ==== Proof.FfnChunk.lean ====
/-
  One chunk of 256 of the feed-forward kernel's 2816 gated columns. The chunk's two 256-column blocks of the first
  product are stored whole and read back at the row offsets 15, 16 and 17, which are the three rows of the convolution;
  the gated block times 256 rows of the second matrix is then added to the sum of the earlier chunks. `first_chunk` and
  `next_chunk` say that the stored sum is `ffnTo` of the columns so far.
-/
module

public import proofs.«01_k».proof.Proof.FfnPayloads

@[expose] public section

set_option maxRecDepth 16384

noncomputable section

open scoped BigOperators
open Idealize.ShloMosaic Idealize.ShloMosaic.TcCoe Idealize.SL.Sem

namespace Cert.Ffn

open Cert.Kernel2Ideal Cert.Kernel2Ideal.Gen

variable {sg : RefSig}

/-- A load of a window of a buffer that holds `x`. -/
theorem load_apply {P Q p' q' : ℕ} {e : EltTy} (m : Memref sg .tc .vmem ⟨2, ![P, Q]⟩ e) (hm : m.IsWhole) (x : Vec Ideal ⟨2, ![P, Q]⟩ e) (p o : ℕ)
    (inb : ∀ a, (![p, o] : Fin 2 → ℕ) a + (![p', q'] : Fin 2 → ℕ) a ≤ (⟨2, ![P, Q]⟩ : Shape).size a) (u : Fin p') (f : Fin q') :
    (View.readAt (Elt Ideal) m.view (Rect.unit (s := ⟨2, ![P, Q]⟩) ![p, o] ![p', q'] inb).toLoadRect (hm.unread x) : Vec Ideal ⟨2, ![p', q']⟩ e) (ix2 u f)
      = x (ix2 ⟨p + u.val, by have h := inb 0; have h1 : p + p' ≤ P := h; omega⟩ ⟨o + f.val, by have h := inb 1; have h1 : o + q' ≤ Q := h; omega⟩) := by
  show m.view.read (Elt Ideal) (hm.unread x) _ = _
  rw [hm.read_unread]
  congr 1
  funext a
  refine Fin.ext ?_
  fin_cases a
  · show p + 1 * u.val = p + u.val
    omega
  · show o + 1 * f.val = o + f.val
    omega

/-- A load of a window of a buffer whose last store was whole. -/
theorem stored_apply {P Q p' q' : ℕ} {e : EltTy} (m : Memref sg .tc .vmem ⟨2, ![P, Q]⟩ e) (x : Vec Ideal ⟨2, ![P, Q]⟩ e)
    (L : List (View.Piece (Elt Ideal) ⟨2, ![P, Q]⟩ e)) (p o : ℕ)
    (inw : ∀ a, (![0, 0] : Fin 2 → ℕ) a + (![P, Q] : Fin 2 → ℕ) a ≤ (⟨2, ![P, Q]⟩ : Shape).size a)
    (inb : ∀ a, (![p, o] : Fin 2 → ℕ) a + (![p', q'] : Fin 2 → ℕ) a ≤ (⟨2, ![P, Q]⟩ : Shape).size a) (u : Fin p') (f : Fin q') :
    (m.view.readCov (⟨Rect.unit (s := ⟨2, ![P, Q]⟩) ![0, 0] ![P, Q] inw, x⟩ :: L) (Rect.unit (s := ⟨2, ![P, Q]⟩) ![p, o] ![p', q'] inb).toLoadRect : Vec Ideal ⟨2, ![p', q']⟩ e) (ix2 u f)
      = x (ix2 ⟨p + u.val, by have h := inb 0; have h1 : p + p' ≤ P := h; omega⟩ ⟨o + f.val, by have h := inb 1; have h1 : o + q' ≤ Q := h; omega⟩) := by
  show m.view.read (Elt Ideal) (m.view.writes (Elt Ideal) m.view.junk (⟨Rect.unit (s := ⟨2, ![P, Q]⟩) ![0, 0] ![P, Q] inw, x⟩ :: L)) _ = _
  refine (congrArg _ (?_ : _ = (Rect.unit (s := ⟨2, ![P, Q]⟩) ![0, 0] ![P, Q] inw).emb _)).trans (View.read_writes_cons_emb m.view _ _ _ _ _)
  funext a
  refine Fin.ext ?_
  fin_cases a
  · show p + 1 * u.val = 0 + 1 * (p + u.val)
    omega
  · show o + 1 * f.val = 0 + 1 * (o + f.val)
    omega

/-- The weights as the kernel holds them. -/
abbrev weights (xu : FVec Ideal S1024x5632 .bf16) (xc : FVec Ideal S3x5632 .f32) (xb : FVec Ideal S1x5632 .f32) (xd : FVec Ideal S2816x1024 .bf16) : Weights :=
  ⟨fun k n => xu (ix2 k n), fun d n => xc (ix2 d n), fun n => xb (ix2 0 n), fun n j => xd (ix2 n j)⟩

variable (mu : Memref sg .tc .vmem S1024x5632 .bf16) (hmu : mu.IsWhole) (mc : Memref sg .tc .vmem S3x5632 .f32) (hmc : mc.IsWhole)
  (mb : Memref sg .tc .vmem S1x5632 .f32) (hmb : mb.IsWhole) (md : Memref sg .tc .vmem S2816x1024 .bf16) (hmd : md.IsWhole)
  (ma mg : Memref sg .tc .vmem S288x256 .f32) (ms : Memref sg .tc .vmem S256x1024 .f32)
  (xu : FVec Ideal S1024x5632 .bf16) (xc : FVec Ideal S3x5632 .f32) (xb : FVec Ideal S1x5632 .f32) (xd : FVec Ideal S2816x1024 .bf16)
  (l : FVec Ideal S288x1024 .bf16)

/-- The rows of the normalised block that the result's row `y` takes. -/
abbrev before (l : FVec Ideal S288x1024 .bf16) (y : Fin 256) (k : Fin 1024) : EReal := l (ix2 ⟨15 + y.val, by omega⟩ k)
abbrev own (l : FVec Ideal S288x1024 .bf16) (y : Fin 256) (k : Fin 1024) : EReal := l (ix2 ⟨16 + y.val, by omega⟩ k)
abbrev after (l : FVec Ideal S288x1024 .bf16) (y : Fin 256) (k : Fin 1024) : EReal := l (ix2 ⟨17 + y.val, by omega⟩ k)

/-- 256 columns of the first product, from column `o`. -/
abbrev upBlock (o : ℕ) (inu : ∀ a, (![0, o] : Fin 2 → ℕ) a + S1024x256.size a ≤ S1024x5632.size a) : FVec Ideal S288x256 .f32 :=
  k0_pay11 (F := Ideal) l (View.readAt (Elt Ideal) mu.view (Rect.unit (s := S1024x5632) ![0, o] S1024x256.size inu).toLoadRect (hmu.unread xu))

theorem upBlock_up (o : ℕ) (inu : ∀ a, (![0, o] : Fin 2 → ℕ) a + S1024x256.size a ≤ S1024x5632.size a) (r : Fin 288) (f : Fin 256) :
    upBlock mu hmu xu l o inu (ix2 r f)
      = up (weights xu xc xb xd) (fun k => l (ix2 r k)) ⟨o + f.val, by have h := inu 1; have h1 : o + 256 ≤ 5632 := h; omega⟩ := by
  refine (upBlock_apply _ _ r f).trans ?_
  refine Finset.sum_congr rfl fun k _ => congrArg _ ((load_apply mu hmu xu 0 o inu k f).trans ?_)
  exact congrArg (fun q => xu (ix2 q _)) (Fin.ext (Nat.zero_add _))

/-- A row of the convolution's weights. -/
abbrev convRow (d o : ℕ) (inc : ∀ a, (![d, o] : Fin 2 → ℕ) a + S1x256.size a ≤ S3x5632.size a) : FVec Ideal S1x256 .f32 :=
  View.readAt (Elt Ideal) mc.view (Rect.unit (s := S3x5632) ![d, o] S1x256.size inc).toLoadRect (hmc.unread xc)

abbrev biasRow (o : ℕ) (inb : ∀ a, (![0, o] : Fin 2 → ℕ) a + S1x256.size a ≤ S1x5632.size a) : FVec Ideal S1x256 .f32 :=
  View.readAt (Elt Ideal) mb.view (Rect.unit (s := S1x5632) ![0, o] S1x256.size inb).toLoadRect (hmb.unread xb)

abbrev downRows (o : ℕ) (ind : ∀ a, (![o, 0] : Fin 2 → ℕ) a + S256x1024.size a ≤ S2816x1024.size a) : FVec Ideal S256x1024 .bf16 :=
  View.readAt (Elt Ideal) md.view (Rect.unit (s := S2816x1024) ![o, 0] S256x1024.size ind).toLoadRect (hmd.unread xd)

/-- 256 rows of a stored block of the first product, from row `p`. -/
abbrev rows (m : Memref sg .tc .vmem S288x256 .f32) (L : List (View.Piece (Elt Ideal) S288x256 .f32)) (p : ℕ)
    (inp : ∀ a, (![p, 0] : Fin 2 → ℕ) a + S256x256.size a ≤ S288x256.size a) : FVec Ideal S256x256 .f32 :=
  m.view.readCov L (Rect.unit (s := S288x256) ![p, 0] S256x256.size inp).toLoadRect

/-- The list of stores whose last is the block of columns from `o`. -/
abbrev stores (o : ℕ) (inw : ∀ a, (![0, 0] : Fin 2 → ℕ) a + S288x256.size a ≤ S288x256.size a)
    (inu : ∀ a, (![0, o] : Fin 2 → ℕ) a + S1024x256.size a ≤ S1024x5632.size a) (L : List (View.Piece (Elt Ideal) S288x256 .f32)) :
    List (View.Piece (Elt Ideal) S288x256 .f32) :=
  ⟨Rect.unit (s := S288x256) ![0, 0] S288x256.size inw, upBlock mu hmu xu l o inu⟩ :: L

theorem rows_up (m : Memref sg .tc .vmem S288x256 .f32) (o : ℕ) (inw) (inu) (L) (p : ℕ) (inp) (y f : Fin 256) :
    rows m (stores mu hmu xu l o inw inu L) p inp (ix2 y f)
      = up (weights xu xc xb xd) (fun k => l (ix2 ⟨p + y.val, by have h := inp 0; have h1 : p + 256 ≤ 288 := h; omega⟩ k))
          ⟨o + f.val, by have h := inu 1; have h1 : o + 256 ≤ 5632 := h; omega⟩ := by
  refine (stored_apply m (upBlock mu hmu xu l o inu) L p 0 inw inp y f).trans ?_
  rw [upBlock_up mu hmu xu xc xb xd l o inu]
  exact congrArg (up (weights xu xc xb xd) _) (Fin.ext (congrArg (o + ·) (Nat.zero_add _)))

theorem conv_apply (m : Memref sg .tc .vmem S288x256 .f32) (o : ℕ) (inw) (inu) (L) (in15) (in16) (in17) (inc0) (inc1) (inc2) (inb) (y f : Fin 256)
    (n : Fin 5632) (hn : n.val = o + f.val) :
    rows m (stores mu hmu xu l o inw inu L) 15 in15 (ix2 y f) * convRow mc hmc xc 0 o inc0 (ix2 0 f)
        + rows m (stores mu hmu xu l o inw inu L) 16 in16 (ix2 y f) * convRow mc hmc xc 1 o inc1 (ix2 0 f)
        + rows m (stores mu hmu xu l o inw inu L) 17 in17 (ix2 y f) * convRow mc hmc xc 2 o inc2 (ix2 0 f)
        + biasRow mb hmb xb o inb (ix2 0 f)
      = conv (weights xu xc xb xd) (before l y) (own l y) (after l y) n := by
  rw [show n = ⟨o + f.val, by have h := inu 1; have h1 : o + 256 ≤ 5632 := h; omega⟩ from Fin.ext hn]
  rw [rows_up mu hmu xu xc xb xd, rows_up mu hmu xu xc xb xd, rows_up mu hmu xu xc xb xd]
  have e0 := load_apply mc hmc xc 0 o inc0 (0 : Fin 1) f
  have e1 := load_apply mc hmc xc 1 o inc1 (0 : Fin 1) f
  have e2 := load_apply mc hmc xc 2 o inc2 (0 : Fin 1) f
  have e3 := load_apply mb hmb xb 0 o inb (0 : Fin 1) f
  unfold conv
  exact congrArg₂ (· + ·) (congrArg₂ (· + ·) (congrArg₂ (· + ·) (congrArg (_ * ·) e0) (congrArg (_ * ·) e1)) (congrArg (_ * ·) e2)) e3

/-- The value of a chunk of the convolution. -/
abbrev convBlock (m : Memref sg .tc .vmem S288x256 .f32) (o : ℕ) (inw : ∀ a, (![0, 0] : Fin 2 → ℕ) a + S288x256.size a ≤ S288x256.size a) (inu : ∀ a, (![0, o] : Fin 2 → ℕ) a + S1024x256.size a ≤ S1024x5632.size a) (L : List (View.Piece (Elt Ideal) S288x256 .f32))
    (in15 : ∀ a, (![15, 0] : Fin 2 → ℕ) a + S256x256.size a ≤ S288x256.size a) (in16 : ∀ a, (![16, 0] : Fin 2 → ℕ) a + S256x256.size a ≤ S288x256.size a) (in17 : ∀ a, (![17, 0] : Fin 2 → ℕ) a + S256x256.size a ≤ S288x256.size a)
    (inc0 : ∀ a, (![0, o] : Fin 2 → ℕ) a + S1x256.size a ≤ S3x5632.size a) (inc1 : ∀ a, (![1, o] : Fin 2 → ℕ) a + S1x256.size a ≤ S3x5632.size a) (inc2 : ∀ a, (![2, o] : Fin 2 → ℕ) a + S1x256.size a ≤ S3x5632.size a) (inb : ∀ a, (![0, o] : Fin 2 → ℕ) a + S1x256.size a ≤ S1x5632.size a) : FVec Ideal S256x256 .f32 :=
  k0_pay17 (F := Ideal) (rows m (stores mu hmu xu l o inw inu L) 15 in15) (convRow mc hmc xc 0 o inc0)
    (rows m (stores mu hmu xu l o inw inu L) 16 in16) (convRow mc hmc xc 1 o inc1)
    (rows m (stores mu hmu xu l o inw inu L) 17 in17) (convRow mc hmc xc 2 o inc2) (biasRow mb hmb xb o inb)

theorem convBlock_apply (m : Memref sg .tc .vmem S288x256 .f32) (o : ℕ) (inw) (inu) (L) (in15) (in16) (in17) (inc0) (inc1) (inc2) (inb) (y f : Fin 256)
    (n : Fin 5632) (hn : n.val = o + f.val) :
    convBlock mu hmu mc hmc mb hmb xu xc xb l m o inw inu L in15 in16 in17 inc0 inc1 inc2 inb (ix2 y f)
      = conv (weights xu xc xb xd) (before l y) (own l y) (after l y) n :=
  (half_apply _ _ _ _ _ _ _ _ _).trans (conv_apply mu hmu mc hmc mb hmb xu xc xb xd l m o inw inu L in15 in16 in17 inc0 inc1 inc2 inb y f n hn)

theorem act_eq (o o' : ℕ) (ho : o + 256 ≤ 2816) (ho' : o' = 2816 + o) (inw) (inu) (inu') (La Lg) (in15) (in16) (in17) (inc0) (inc1) (inc2) (inb)
    (inc0') (inc1') (inc2') (inb') (y f : Fin 256) :
    silu (convBlock mu hmu mc hmc mb hmb xu xc xb l ma o inw inu La in15 in16 in17 inc0 inc1 inc2 inb (ix2 y f))
      * (rows mg (stores mu hmu xu l o' inw inu' Lg) 15 in15 (ix2 y f) * convRow mc hmc xc 0 o' inc0' (ix2 0 f)
        + rows mg (stores mu hmu xu l o' inw inu' Lg) 16 in16 (ix2 y f) * convRow mc hmc xc 1 o' inc1' (ix2 0 f)
        + rows mg (stores mu hmu xu l o' inw inu' Lg) 17 in17 (ix2 y f) * convRow mc hmc xc 2 o' inc2' (ix2 0 f)
        + biasRow mb hmb xb o' inb' (ix2 0 f))
      = act (weights xu xc xb xd) (before l y) (own l y) (after l y) ⟨o + f.val, by omega⟩ := by
  have h0 := convBlock_apply mu hmu mc hmc mb hmb xu xc xb xd l ma o inw inu La in15 in16 in17 inc0 inc1 inc2 inb y f ⟨o + f.val, by omega⟩ rfl
  have h1 := conv_apply mu hmu mc hmc mb hmb xu xc xb xd l mg o' inw inu' Lg in15 in16 in17 inc0' inc1' inc2' inb' y f
    ⟨2816 + (o + f.val), by omega⟩ (by show 2816 + (o + f.val) = o' + f.val; omega)
  rw [h0, h1, act]

theorem down_apply (o : ℕ) (ind) (f : Fin 256) (j : Fin 1024) :
    downRows md hmd xd o ind (ix2 f j) = (weights xu xc xb xd).down ⟨o + f.val, by have h := ind 0; have h1 : o + 256 ≤ 2816 := h; omega⟩ j := by
  refine (load_apply md hmd xd o 0 ind f j).trans ?_
  exact congrArg (fun q => xd (ix2 _ q)) (Fin.ext (Nat.zero_add _))

/-- What the sum's buffer reads after the stores `L`. -/
abbrev sumOf (ins : ∀ a, (![0, 0] : Fin 2 → ℕ) a + S256x1024.size a ≤ S256x1024.size a) (L : List (View.Piece (Elt Ideal) S256x1024 .f32)) : FVec Ideal S256x1024 .f32 :=
  ms.view.readCov L (Rect.unit (s := S256x1024) ![0, 0] S256x1024.size ins).toLoadRect

theorem sumOf_cons (ins) (x : FVec Ideal S256x1024 .f32) (L : List (View.Piece (Elt Ideal) S256x1024 .f32)) (y : Fin 256) (j : Fin 1024) :
    sumOf ms ins (⟨Rect.unit (s := S256x1024) ![0, 0] S256x1024.size ins, x⟩ :: L) (ix2 y j) = x (ix2 y j) := by
  refine (stored_apply ms x L 0 0 ins ins y j).trans (congrArg x ?_)
  exact congrArg₂ ix2 (Fin.ext (Nat.zero_add _)) (Fin.ext (Nat.zero_add _))

variable {mu hmu mc hmc mb hmb md hmd ma mg ms xu xc xb xd l}

theorem first_chunk {inw} {inu} {inu'} {La Lg} {in15} {in16} {in17} {inc0} {inc1} {inc2} {inb} {inc0'} {inc1'} {inc2'} {inb'} {ind} {ins} {y : Fin 256} {j : Fin 1024} :
    sumOf ms ins [⟨Rect.unit (s := S256x1024) ![0, 0] S256x1024.size ins, k0_pay15 (F := Ideal) (k0_pay14 (F := Ideal)
        (convBlock mu hmu mc hmc mb hmb xu xc xb l ma 0 inw inu La in15 in16 in17 inc0 inc1 inc2 inb)
        (rows mg (stores mu hmu xu l 2816 inw inu' Lg) 15 in15) (convRow mc hmc xc 0 2816 inc0')
        (rows mg (stores mu hmu xu l 2816 inw inu' Lg) 16 in16) (convRow mc hmc xc 1 2816 inc1')
        (rows mg (stores mu hmu xu l 2816 inw inu' Lg) 17 in17) (convRow mc hmc xc 2 2816 inc2') (biasRow mb hmb xb 2816 inb'))
        (downRows md hmd xd 0 ind)⟩] (ix2 y j)
      = ffnTo (weights xu xc xb xd) (before l y) (own l y) (after l y) j 256 := by
  rw [sumOf_cons, first_apply, ← ffnTo_first]
  refine Finset.sum_congr rfl fun f _ => ?_
  rw [gated_apply, act_eq mu hmu mc hmc mb hmb ma mg xu xc xb xd l 0 2816 (by omega) rfl, down_apply md hmd xu xc xb xd]
  simp only [Nat.zero_add]

theorem next_chunk {o o' : ℕ} {inw} {inu} {inu'} {La Lg} {in15} {in16} {in17} {inc0} {inc1} {inc2} {inb}
    {inc0'} {inc1'} {inc2'} {inb'} {ind} {ins} {L} {y : Fin 256} {j : Fin 1024} (ho : o + 256 ≤ 2816) (ho' : o' = 2816 + o)
    (h : sumOf ms ins L (ix2 y j) = ffnTo (weights xu xc xb xd) (before l y) (own l y) (after l y) j o) :
    sumOf ms ins (⟨Rect.unit (s := S256x1024) ![0, 0] S256x1024.size ins, k0_pay21 (F := Ideal) (k0_pay20 (F := Ideal)
        (convBlock mu hmu mc hmc mb hmb xu xc xb l ma o inw inu La in15 in16 in17 inc0 inc1 inc2 inb)
        (rows mg (stores mu hmu xu l o' inw inu' Lg) 15 in15) (convRow mc hmc xc 0 o' inc0')
        (rows mg (stores mu hmu xu l o' inw inu' Lg) 16 in16) (convRow mc hmc xc 1 o' inc1')
        (rows mg (stores mu hmu xu l o' inw inu' Lg) 17 in17) (convRow mc hmc xc 2 o' inc2') (biasRow mb hmb xb o' inb')
        (downRows md hmd xd o ind) (sumOf ms ins L))⟩ :: L) (ix2 y j)
      = ffnTo (weights xu xc xb xd) (before l y) (own l y) (after l y) j (o + 256) := by
  rw [sumOf_cons, step_apply, h, ← ffnTo_add _ _ _ _ _ _ ho]
  refine congrArg _ (Finset.sum_congr rfl fun f _ => ?_)
  rw [act_eq mu hmu mc hmc mb hmb ma mg xu xc xb xd l o o' ho ho', down_apply md hmd xu xc xb xd]

end Cert.Ffn

end
-- ==== Proof.FfnBlock.lean ====
/-
  The normalised block of the feed-forward kernel: 16 rows before the own 256, the own rows, and 16 rows after them,
  stored in three pieces and read back whole. The result's row `y` takes three of its rows: the own row, the one before
  it and the one after it, and at either end of the block the neighbour comes from the 16 rows beside it.
-/
module

public import proofs.«01_k».proof.Proof.FfnChunk

@[expose] public section

set_option maxRecDepth 16384

noncomputable section

open scoped BigOperators
open Idealize.ShloMosaic Idealize.ShloMosaic.TcCoe Idealize.SL.Sem

namespace Cert.Ffn

open Cert.Kernel2Ideal Cert.Kernel2Ideal.Gen

variable {sg : RefSig}

/-- A load of a whole buffer that holds `x`. -/
theorem load_whole {P Q : ℕ} {e : EltTy} (m : Memref sg .tc .vmem ⟨2, ![P, Q]⟩ e) (hm : m.IsWhole) (x : Vec Ideal ⟨2, ![P, Q]⟩ e)
    (inb : ∀ a, (![0, 0] : Fin 2 → ℕ) a + (![P, Q] : Fin 2 → ℕ) a ≤ (⟨2, ![P, Q]⟩ : Shape).size a) :
    (View.readAt (Elt Ideal) m.view (Rect.unit (s := ⟨2, ![P, Q]⟩) ![0, 0] ![P, Q] inb).toLoadRect (hm.unread x) : Vec Ideal ⟨2, ![P, Q]⟩ e) = x := by
  funext i
  obtain ⟨a, b, rfl⟩ : ∃ a b, i = ix2 a b := ⟨i 0, i 1, funext fun q => by fin_cases q <;> rfl⟩
  exact (load_apply m hm x 0 0 inb a b).trans (congrArg x (congrArg₂ ix2 (Fin.ext (Nat.zero_add _)) (Fin.ext (Nat.zero_add _))))

variable (m : Memref sg .tc .vmem S288x1024 .bf16)
  (ina : ∀ a, (![0, 0] : Fin 2 → ℕ) a + S16x1024.size a ≤ S288x1024.size a)
  (ino : ∀ a, (![16, 0] : Fin 2 → ℕ) a + S256x1024.size a ≤ S288x1024.size a)
  (inz : ∀ a, (![272, 0] : Fin 2 → ℕ) a + S16x1024.size a ≤ S288x1024.size a)
  (inw : ∀ a, (![0, 0] : Fin 2 → ℕ) a + S288x1024.size a ≤ S288x1024.size a)

/-- The three stores of the block. -/
abbrev threeStores (A : FVec Ideal S16x1024 .bf16) (B : FVec Ideal S256x1024 .bf16) (C : FVec Ideal S16x1024 .bf16) : List (View.Piece (Elt Ideal) S288x1024 .bf16) :=
  [⟨Rect.unit (s := S288x1024) ![272, 0] S16x1024.size inz, C⟩, ⟨Rect.unit (s := S288x1024) ![16, 0] S256x1024.size ino, B⟩,
    ⟨Rect.unit (s := S288x1024) ![0, 0] S16x1024.size ina, A⟩]

/-- The three pieces read back whole. -/
abbrev pieces (A : FVec Ideal S16x1024 .bf16) (B : FVec Ideal S256x1024 .bf16) (C : FVec Ideal S16x1024 .bf16) : FVec Ideal S288x1024 .bf16 :=
  m.view.readCov (threeStores ina ino inz A B C) (Rect.unit (s := S288x1024) ![0, 0] S288x1024.size inw).toLoadRect

variable (A : FVec Ideal S16x1024 .bf16) (B : FVec Ideal S256x1024 .bf16) (C : FVec Ideal S16x1024 .bf16)

theorem pieces_read (r : Fin 288) (k : Fin 1024) :
    pieces m ina ino inz inw A B C (ix2 r k)
      = m.view.read (Elt Ideal) (m.view.writes (Elt Ideal) m.view.junk (threeStores ina ino inz A B C)) (ix2 r k) := by
  show m.view.read (Elt Ideal) _ _ = _
  congr 1
  funext a
  refine Fin.ext ?_
  fin_cases a
  · show 0 + 1 * r.val = r.val
    omega
  · show 0 + 1 * k.val = k.val
    omega

theorem pieces_before (r : Fin 16) (k : Fin 1024) : pieces m ina ino inz inw A B C (ix2 ⟨r.val, by omega⟩ k) = A (ix2 r k) := by
  rw [pieces_read]
  refine (View.read_writes_cons_miss_of_axis m.view _ _ _ _ 0 272 16 rfl rfl rfl (.inl (show r.val < 272 by omega))).trans ?_
  refine (View.read_writes_cons_miss_of_axis m.view _ _ _ _ 0 16 256 rfl rfl rfl (.inl (show r.val < 16 by omega))).trans ?_
  refine View.read_writes_cons_hit_of_coords m.view _ (Rect.unit (s := S288x1024) ![0, 0] S16x1024.size ina) _ _ (ix2 r k) _ fun a => ?_
  fin_cases a
  · show r.val = 0 + 1 * r.val
    omega
  · show k.val = 0 + 1 * k.val
    omega

theorem pieces_own (r : Fin 256) (k : Fin 1024) : pieces m ina ino inz inw A B C (ix2 ⟨16 + r.val, by omega⟩ k) = B (ix2 r k) := by
  rw [pieces_read]
  refine (View.read_writes_cons_miss_of_axis m.view _ _ _ _ 0 272 16 rfl rfl rfl (.inl (show 16 + r.val < 272 by omega))).trans ?_
  refine View.read_writes_cons_hit_of_coords m.view _ (Rect.unit (s := S288x1024) ![16, 0] S256x1024.size ino) _ _ (ix2 r k) _ fun a => ?_
  fin_cases a
  · show 16 + r.val = 16 + 1 * r.val
    omega
  · show k.val = 0 + 1 * k.val
    omega

theorem pieces_after (r : Fin 16) (k : Fin 1024) : pieces m ina ino inz inw A B C (ix2 ⟨272 + r.val, by omega⟩ k) = C (ix2 r k) := by
  rw [pieces_read]
  refine View.read_writes_cons_hit_of_coords m.view _ (Rect.unit (s := S288x1024) ![272, 0] S16x1024.size inz) _ _ (ix2 r k) _ fun a => ?_
  fin_cases a
  · show 272 + r.val = 272 + 1 * r.val
    omega
  · show k.val = 0 + 1 * k.val
    omega

variable (v z : BitVec 1) (g s b : FVec Ideal S1x1024 .f32) (x0 : FVec Ideal S16x1024 .f32) (x1 : FVec Ideal S256x1024 .f32) (x2 : FVec Ideal S16x1024 .f32)

/-- The normalised block; `v` says whether there are rows before it and `z` whether there are rows after it. -/
abbrev block : FVec Ideal S288x1024 .bf16 :=
  pieces m ina ino inz inw (k0_pay10 (F := Ideal) v b (k0_pay8 (F := Ideal) g x0) (k0_pay9 (F := Ideal) s)) (k0_pay7 (F := Ideal) g s b x1)
    (k0_pay10 (F := Ideal) z b (k0_pay8 (F := Ideal) g x2) (k0_pay9 (F := Ideal) s))

/-- The row before row `y` of the block, with zeros where there is none. -/
def rowBefore (μ : Modulation) (v : BitVec 1) (x0 : FVec Ideal S16x1024 .f32) (x1 : FVec Ideal S256x1024 .f32) (y : Fin 256) : Fin 1024 → EReal :=
  if y.val = 0 then (if v = 1#1 then normed μ.gain μ.scale μ.shift (fun k => x0 (ix2 15 k)) else fun _ => 0)
  else normed μ.gain μ.scale μ.shift (fun k => x1 (ix2 ⟨y.val - 1, by omega⟩ k))

/-- The row after row `y` of the block, with zeros where there is none. -/
def rowAfter (μ : Modulation) (z : BitVec 1) (x1 : FVec Ideal S256x1024 .f32) (x2 : FVec Ideal S16x1024 .f32) (y : Fin 256) : Fin 1024 → EReal :=
  if h : y.val = 255 then (if z = 1#1 then normed μ.gain μ.scale μ.shift (fun k => x2 (ix2 0 k)) else fun _ => 0)
  else normed μ.gain μ.scale μ.shift (fun k => x1 (ix2 ⟨y.val + 1, by omega⟩ k))

/-- Row `y` of the block's result. -/
def blockRow (w : Weights) (μ : Modulation) (v z : BitVec 1) (x0 : FVec Ideal S16x1024 .f32) (x1 : FVec Ideal S256x1024 .f32) (x2 : FVec Ideal S16x1024 .f32)
    (y : Fin 256) (j : Fin 1024) : EReal :=
  x1 (ix2 y j) + μ.gate j * ffn w (rowBefore μ v x0 x1 y) (normed μ.gain μ.scale μ.shift (fun k => x1 (ix2 y k))) (rowAfter μ z x1 x2 y) j

variable (μ : Modulation) (hg : (fun k => g (ix2 0 k)) = μ.gain) (hs : (fun k => s (ix2 0 k)) = μ.scale) (hb : (fun k => b (ix2 0 k)) = μ.shift)

include hg hs hb

theorem own_block (y : Fin 256) : own (block m ina ino inz inw v z g s b x0 x1 x2) y = normed μ.gain μ.scale μ.shift (fun k => x1 (ix2 y k)) := by
  rw [← hg, ← hs, ← hb]
  funext k
  exact (pieces_own m ina ino inz inw _ _ _ y k).trans (own_apply g s b x1 y k)

theorem before_block (y : Fin 256) : before (block m ina ino inz inw v z g s b x0 x1 x2) y = rowBefore μ v x0 x1 y := by
  funext k
  unfold rowBefore
  rw [← hg, ← hs, ← hb]
  split
  case isTrue h =>
    have e : (⟨15 + y.val, by omega⟩ : Fin 288) = ⟨(15 : Fin 16).val, by omega⟩ := Fin.ext (by show 15 + y.val = 15; omega)
    show block m ina ino inz inw v z g s b x0 x1 x2 (ix2 ⟨15 + y.val, by omega⟩ k) = _
    rw [e]
    refine (pieces_before m ina ino inz inw _ _ _ 15 k).trans ((halo_apply v g s b x0 15 k).trans ?_)
    split <;> rfl
  case isFalse h =>
    have e : (⟨15 + y.val, by omega⟩ : Fin 288) = ⟨16 + (⟨y.val - 1, by omega⟩ : Fin 256).val, by show 16 + (y.val - 1) < 288; omega⟩ :=
      Fin.ext (by show 15 + y.val = 16 + (y.val - 1); omega)
    show block m ina ino inz inw v z g s b x0 x1 x2 (ix2 ⟨15 + y.val, by omega⟩ k) = _
    rw [e]
    exact (pieces_own m ina ino inz inw _ _ _ ⟨y.val - 1, by omega⟩ k).trans (own_apply g s b x1 _ k)

theorem after_block (y : Fin 256) : after (block m ina ino inz inw v z g s b x0 x1 x2) y = rowAfter μ z x1 x2 y := by
  funext k
  unfold rowAfter
  rw [← hg, ← hs, ← hb]
  split
  case isTrue h =>
    have e : (⟨17 + y.val, by omega⟩ : Fin 288) = ⟨272 + (0 : Fin 16).val, by omega⟩ := Fin.ext (by show 17 + y.val = 272; omega)
    show block m ina ino inz inw v z g s b x0 x1 x2 (ix2 ⟨17 + y.val, by omega⟩ k) = _
    rw [e]
    refine (pieces_after m ina ino inz inw _ _ _ 0 k).trans ((halo_apply z g s b x2 0 k).trans ?_)
    split <;> rfl
  case isFalse h =>
    have e : (⟨17 + y.val, by omega⟩ : Fin 288) = ⟨16 + (⟨y.val + 1, by omega⟩ : Fin 256).val, by show 16 + (y.val + 1) < 288; omega⟩ :=
      Fin.ext (by show 17 + y.val = 16 + (y.val + 1); omega)
    show block m ina ino inz inw v z g s b x0 x1 x2 (ix2 ⟨17 + y.val, by omega⟩ k) = _
    rw [e]
    exact (pieces_own m ina ino inz inw _ _ _ ⟨y.val + 1, by omega⟩ k).trans (own_apply g s b x1 _ k)

omit hg hs hb

/-- A row of the modulation, from column `o`: row 1 where `v` holds and row 0 otherwise. -/
def modRow (xm : FVec Ideal S8x6144 .f32) (v : BitVec 1) (o : ℕ) (ho : o + 1024 ≤ 6144) (k : Fin 1024) : EReal :=
  xm (ix2 (if v = 1#1 then 1 else 0) ⟨o + k.val, by omega⟩)

theorem select_row (mm : Memref sg .tc .vmem S8x6144 .f32) (hmm : mm.IsWhole) (xm : FVec Ideal S8x6144 .f32) (v : BitVec 1) (o : ℕ)
    (in1 : ∀ a, (![1, o] : Fin 2 → ℕ) a + S1x1024.size a ≤ S8x6144.size a) (in0 : ∀ a, (![0, o] : Fin 2 → ℕ) a + S1x1024.size a ≤ S8x6144.size a) (k : Fin 1024) :
    (Scalar.select v (View.readAt (Elt Ideal) mm.view (Rect.unit (s := S8x6144) ![1, o] S1x1024.size in1).toLoadRect (hmm.unread xm) : FVec Ideal S1x1024 .f32)
      (View.readAt (Elt Ideal) mm.view (Rect.unit (s := S8x6144) ![0, o] S1x1024.size in0).toLoadRect (hmm.unread xm)) : FVec Ideal S1x1024 .f32) (ix2 0 k)
      = modRow xm v o (by have h := in0 1; exact h) k := by
  unfold modRow Scalar.select
  by_cases h : v = 1#1
  · rw [if_pos h, if_pos (show v = 1 from h)]
    exact load_apply mm hmm xm 1 o in1 0 k
  · rw [if_neg h, if_neg (show ¬ v = 1 from h)]
    exact load_apply mm hmm xm 0 o in0 0 k

/-! ## The block as rows of the stream -/

/-- The rows of an array, with zeros beyond its end. -/
def stream {n : ℕ} (a : FVec Ideal ⟨2, ![n, 1024]⟩ .f32) (r : ℕ) (k : Fin 1024) : EReal := if h : r < n then a (ix2 ⟨r, h⟩ k) else 0

theorem stream_of_lt {n : ℕ} (a : FVec Ideal ⟨2, ![n, 1024]⟩ .f32) (r : ℕ) (h : r < n) (k : Fin 1024) : stream a r k = a (ix2 ⟨r, h⟩ k) := dif_pos h

/-- The weights from the arguments. -/
abbrev argWeights (a3 : FVec Ideal S1024x5632 .f32) (a4 : FVec Ideal S3x5632 .f32) (a5 : FVec Ideal S5632 .f32) (a6 : FVec Ideal S2816x1024 .f32) : Weights :=
  ⟨fun k n => a3 (ix2 k n), fun d n => a4 (ix2 d n), fun n => a5 (ix1 n), fun n j => a6 (ix2 n j)⟩

/-- The modulation from row `q` of the argument. -/
abbrev argModulation (a1 : FVec Ideal S8x6144 .f32) (a2 : FVec Ideal S1024 .f32) (q : Fin 8) : Modulation :=
  ⟨fun k => a2 (ix1 k), fun k => a1 (ix2 q ⟨4096 + k.val, by omega⟩), fun k => a1 (ix2 q ⟨3072 + k.val, by omega⟩), fun k => a1 (ix2 q ⟨5120 + k.val, by omega⟩)⟩

/-- A vector as an array of one row. -/
theorem as_row (x : FVec Ideal S1024 .f32) (k : Fin 1024) : shapeCast S1x1024 x shapeCasts_S1024_S1x1024 (ix2 0 k) = x (ix1 k) := by pointwise

theorem as_long_row (x : FVec Ideal S5632 .f32) (n : Fin 5632) : shapeCast S1x5632 x shapeCasts_S5632_S1x5632 (ix2 0 n) = x (ix1 n) := by pointwise

/-- The block of 256 rows from row `256 t` of a stream with rows `lo` to `hi - 1`. -/
theorem blockRow_eq (w : Weights) (μ : Modulation) (v z : BitVec 1) (x0 : FVec Ideal S16x1024 .f32) (x1 : FVec Ideal S256x1024 .f32) (x2 : FVec Ideal S16x1024 .f32)
    (lo hi t : ℕ) (X : ℕ → Fin 1024 → EReal) (hlo : lo ≤ 256 * t) (hhi : 256 * t + 256 ≤ hi) (hv : v = 1#1 ↔ lo ≠ 256 * t) (hz : z = 1#1 ↔ hi ≠ 256 * t + 256)
    (h0 : lo < 256 * t → ∀ k, x0 (ix2 15 k) = X (256 * t - 1) k) (h1 : ∀ (y : Fin 256) k, x1 (ix2 y k) = X (256 * t + y.val) k)
    (h2 : 256 * t + 256 < hi → ∀ k, x2 (ix2 0 k) = X (256 * t + 256) k) (y : Fin 256) (j : Fin 1024) :
    blockRow w μ v z x0 x1 x2 y j = rowOut w μ lo hi X (256 * t + y.val) j := by
  have hb : rowBefore μ v x0 x1 y
      = if 256 * t + y.val = lo then fun _ => 0 else normed μ.gain μ.scale μ.shift (X (256 * t + y.val - 1)) := by
    unfold rowBefore
    by_cases hy : y.val = 0
    · rw [if_pos hy]
      by_cases hl : lo = 256 * t
      · rw [if_neg (fun h => hv.1 h hl), if_pos (by omega)]
      · rw [if_pos (hv.2 hl), if_neg (by omega), hy, Nat.add_zero, show (fun k => x0 (ix2 15 k)) = X (256 * t - 1) from funext (h0 (by omega))]
    · rw [if_neg hy, if_neg (by omega), show 256 * t + y.val - 1 = 256 * t + (y.val - 1) by omega]
      exact congrArg _ (funext fun k => h1 ⟨y.val - 1, by omega⟩ k)
  have ha : rowAfter μ z x1 x2 y
      = if 256 * t + y.val + 1 = hi then fun _ => 0 else normed μ.gain μ.scale μ.shift (X (256 * t + y.val + 1)) := by
    unfold rowAfter
    by_cases hy : y.val = 255
    · rw [dif_pos hy]
      by_cases hl : hi = 256 * t + 256
      · rw [if_neg (fun h => hz.1 h hl), if_pos (by omega)]
      · rw [if_pos (hz.2 hl), if_neg (by omega), show 256 * t + y.val + 1 = 256 * t + 256 by omega,
          show (fun k => x2 (ix2 0 k)) = X (256 * t + 256) from funext (h2 (by omega))]
    · rw [dif_neg hy, if_neg (by omega), Nat.add_assoc]
      exact congrArg _ (funext fun k => h1 ⟨y.val + 1, by omega⟩ k)
  unfold blockRow rowOut
  rw [hb, ha, h1, show (fun k => x1 (ix2 y k)) = X (256 * t + y.val) from funext (h1 y)]

end Cert.Ffn

end
-- ==== Proof.FfnBlock2.lean ====
/-
  One grid point of the feed-forward kernel of the last layer, read at one row and column of its block.
-/
module

public import proofs.«01_k».proof.Proof.FfnBlock

@[expose] public section

set_option maxRecDepth 16384

noncomputable section

open scoped BigOperators
open Idealize.ShloMosaic Idealize.ShloMosaic.TcCoe Idealize.SL.Sem

namespace Cert.Kernel2Ideal.Ffn

open Cert.Kernel2Ideal Cert.Kernel2Ideal.Gen Cert.Ffn

variable (c : Dev nD) (i : grid0.Coords) (arg1 : Memref sig .tc .vmem S16x1024 .f32) (harg1 : arg1.IsWhole) (arg2 : Memref sig .tc .vmem S256x1024 .f32) (harg2 : arg2.IsWhole) (arg3 : Memref sig .tc .vmem S16x1024 .f32) (harg3 : arg3.IsWhole) (arg4 : Memref sig .tc .vmem S8x6144 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S288x1024 .bf16) (harg12 : arg12.IsWhole) (arg13 : Memref sig .tc .vmem S288x256 .f32) (harg13 : arg13.IsWhole) (arg14 : Memref sig .tc .vmem S288x256 .f32) (harg14 : arg14.IsWhole) (arg15 : Memref sig .tc .vmem S256x1024 .f32) (harg15 : arg15.IsWhole)
    (x0 : Vec Ideal S16x1024 .f32) (x1 : Vec Ideal S256x1024 .f32) (x2 : Vec Ideal S16x1024 .f32) (x3 : Vec Ideal S8x6144 .f32) (x4 : Vec Ideal S1x1024 .f32) (x5 : Vec Ideal S1024x5632 .bf16) (x6 : Vec Ideal S3x5632 .f32) (x7 : Vec Ideal S1x5632 .f32) (x8 : Vec Ideal S2816x1024 .bf16) (x9 : Vec Ideal S1x1024 .f32)

/-- The normalised rows, as the kernel reads them back. -/
abbrev lhs : FVec Ideal S288x1024 .bf16 :=
  kernelRun0_A.sl.v88 (F := Ideal) c i arg1 harg1 arg2 harg2 arg3 harg3 arg4 harg4 arg5 harg5 arg12 x0 x1 x2 x3 x4

/-- After the eleven chunks the sum is that of all 2816 columns. -/
theorem sum_eq (y : Fin 256) (j : Fin 1024) :
    (kernelRun0_A.sl.v816 (F := Ideal) c i arg1 harg1 arg2 harg2 arg3 harg3 arg4 harg4 arg5 harg5 arg6 harg6 arg7 harg7 arg8 harg8 arg9 harg9 arg12 arg13 arg14 arg15 x0 x1 x2 x3 x4 x5 x6 x7 x8 : FVec Ideal S256x1024 .f32) (ix2 y j)
      = ffn (weights x5 x6 x7 x8) (before (lhs c i arg1 harg1 arg2 harg2 arg3 harg3 arg4 harg4 arg5 harg5 arg12 x0 x1 x2 x3 x4) y) (own (lhs c i arg1 harg1 arg2 harg2 arg3 harg3 arg4 harg4 arg5 harg5 arg12 x0 x1 x2 x3 x4) y) (after (lhs c i arg1 harg1 arg2 harg2 arg3 harg3 arg4 harg4 arg5 harg5 arg12 x0 x1 x2 x3 x4) y) j := by
  rw [← ffnTo_all]
  iterate 10 refine next_chunk (hmu := harg6) (hmc := harg7) (hmb := harg8) (hmd := harg9) (by omega) rfl ?_
  exact first_chunk (hmu := harg6) (hmc := harg7) (hmb := harg8) (hmd := harg9)

/-- Whether the block's rows take the second row of the modulation, and whether there are rows before and after it. -/
abbrev second (i : grid0.Coords) : BitVec 1 := kernelRun0_A.sl.v0 i
abbrev hasBefore (i : grid0.Coords) : BitVec 1 := kernelRun0_A.sl.v3 i
abbrev hasAfter (i : grid0.Coords) : BitVec 1 := kernelRun0_A.sl.v6 i

/-- Gain, scale, shift and gate of the block. -/
abbrev modulation (i : grid0.Coords) (x3 : FVec Ideal S8x6144 .f32) (x4 : FVec Ideal S1x1024 .f32) : Modulation :=
  ⟨fun k => x4 (ix2 0 k), modRow x3 (second i) 4096 (by decide), modRow x3 (second i) 3072 (by decide), modRow x3 (second i) 5120 (by decide)⟩

/-- The scale, the shift and the gain as the kernel holds them. -/
abbrev gainOf : FVec Ideal S1x1024 .f32 := kernelRun0_A.sl.r (F := Ideal) c arg5 harg5 x4
abbrev scaleOf : FVec Ideal S1x1024 .f32 := kernelRun0_A.sl.r_1 (F := Ideal) c i arg4 harg4 x3
abbrev shiftOf : FVec Ideal S1x1024 .f32 := kernelRun0_A.sl.r_2 (F := Ideal) c i arg4 harg4 x3

theorem gain_eq : (fun k => gainOf c arg5 harg5 x4 (ix2 0 k)) = (modulation i x3 x4).gain := by
  funext k
  refine (gain_apply _ k).trans ?_
  exact congrFun (load_whole arg5 harg5 x4 _) (ix2 0 k)

theorem scale_eq : (fun k => scaleOf c i arg4 harg4 x3 (ix2 0 k)) = (modulation i x3 x4).scale := by
  funext k
  exact select_row arg4 harg4 x3 (second i) 4096 _ _ k

theorem shift_eq : (fun k => shiftOf c i arg4 harg4 x3 (ix2 0 k)) = (modulation i x3 x4).shift := by
  funext k
  exact select_row arg4 harg4 x3 (second i) 3072 _ _ k

theorem lhs_eq : lhs c i arg1 harg1 arg2 harg2 arg3 harg3 arg4 harg4 arg5 harg5 arg12 x0 x1 x2 x3 x4 = block arg12 inb_S288x1024_S16x1024_0_0 inb_S288x1024_S256x1024_16_0 inb_S288x1024_S16x1024_272_0 inb_S288x1024_S288x1024_0_0
    (hasBefore i) (hasAfter i) (gainOf c arg5 harg5 x4) (scaleOf c i arg4 harg4 x3) (shiftOf c i arg4 harg4 x3) x0 x1 x2 := by
  have h : lhs c i arg1 harg1 arg2 harg2 arg3 harg3 arg4 harg4 arg5 harg5 arg12 x0 x1 x2 x3 x4 = block arg12 inb_S288x1024_S16x1024_0_0 inb_S288x1024_S256x1024_16_0 inb_S288x1024_S16x1024_272_0 inb_S288x1024_S288x1024_0_0
      (hasBefore i) (hasAfter i) (gainOf c arg5 harg5 x4) (scaleOf c i arg4 harg4 x3) (shiftOf c i arg4 harg4 x3)
      (View.readAt (Elt Ideal) arg1.view (Rect.unit (s := S16x1024) ![0, 0] S16x1024.size inb_S16x1024_S16x1024_0_0).toLoadRect (harg1.unread x0))
      (View.readAt (Elt Ideal) arg2.view (Rect.unit (s := S256x1024) ![0, 0] S256x1024.size inb_S256x1024_S256x1024_0_0).toLoadRect (harg2.unread x1))
      (View.readAt (Elt Ideal) arg3.view (Rect.unit (s := S16x1024) ![0, 0] S16x1024.size inb_S16x1024_S16x1024_0_0).toLoadRect (harg3.unread x2)) := rfl
  exact h.trans (by rw [load_whole arg1 harg1 x0, load_whole arg2 harg2 x1, load_whole arg3 harg3 x2])

/-- The stream's row with the gated feed-forward result. -/
theorem row_eq (y : Fin 256) (j : Fin 1024) :
    (kernelRun0_A.sl.r_35 (F := Ideal) c i arg1 harg1 arg2 harg2 arg3 harg3 arg4 harg4 arg5 harg5 arg6 harg6 arg7 harg7 arg8 harg8 arg9 harg9 arg12 arg13 arg14 arg15 x0 x1 x2 x3 x4 x5 x6 x7 x8 : FVec Ideal S256x1024 .f32) (ix2 y j)
      = blockRow (weights x5 x6 x7 x8) (modulation i x3 x4) (hasBefore i) (hasAfter i) x0 x1 x2 y j := by
  refine (sum_apply _ _ _ _ _ y j).trans ?_
  rw [sum_eq, lhs_eq,
    before_block _ _ _ _ _ _ _ _ _ _ _ _ _ (modulation i x3 x4) (gain_eq c i arg5 harg5 x3 x4) (scale_eq c i arg4 harg4 x3 x4) (shift_eq c i arg4 harg4 x3 x4),
    own_block _ _ _ _ _ _ _ _ _ _ _ _ _ (modulation i x3 x4) (gain_eq c i arg5 harg5 x3 x4) (scale_eq c i arg4 harg4 x3 x4) (shift_eq c i arg4 harg4 x3 x4),
    after_block _ _ _ _ _ _ _ _ _ _ _ _ _ (modulation i x3 x4) (gain_eq c i arg5 harg5 x3 x4) (scale_eq c i arg4 harg4 x3 x4) (shift_eq c i arg4 harg4 x3 x4)]
  unfold blockRow
  refine congrArg₂ (· + ·) (congrFun (load_whole arg2 harg2 x1 _) (ix2 y j)) (congrArg (· * _) ?_)
  exact select_row arg4 harg4 x3 (second i) 5120 _ _ j

/-- The block of the result: the rows normalised once more, with the last gain. -/
theorem out_eq (y : Fin 256) (j : Fin 1024) :
    (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 : FVec Ideal S256x1024 .f32) (ix2 y j)
      = rms (fun k => blockRow (weights x5 x6 x7 x8) (modulation i x3 x4) (hasBefore i) (hasAfter i) x0 x1 x2 y k) j * x9 (ix2 0 j) := by
  unfold out0_A_10
  rw [View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9)]
  unfold kernelRun0_A
  dsimp only
  rw [View.canon_unit_zero (funext fun a => by fin_cases a <;> rfl)]
  refine (final_apply _ _ _ _ _ _ y j).trans ?_
  refine congrArg₂ (· * ·) (congrArg (rms · j) (funext fun k => row_eq _ _ _ _ _ _ _ _ _ _ _ _ _ _ _ _ _ _ _ _ _ _ _ _ _ _ _ _ _ _ _ _ _ y k)) ?_
  exact congrFun (load_whole arg10 harg10 x9 _) (ix2 0 j)

end Cert.Kernel2Ideal.Ffn

end
-- ==== Proof.FfnArray2.lean ====
/-
  From the blocks to the array, for the feed-forward part of the last layer: what each of the 64 grid points reads, and the
  result array at every place.
-/
module

public import proofs.«01_k».proof.Proof.FfnBlock2
public import proofs.«01_k».proof.Proof.Gen.Kernel2Ideal.Value
public import Idealize.ShloMosaic.Lib.StableHlo.ReadAt
public import Idealize.ShloMosaic.Lib.Pipeline.Value

@[expose] public section

set_option maxRecDepth 16384

noncomputable section

open scoped BigOperators
open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Ffn

variable (m : (ℓ : Loc nD τ sig) → Buf (Elt Ideal) ℓ) (c : Dev nD)

/-! ## Which block each window is at, and the conditions on the grid point -/

theorem at0 : ∀ t : Fin grid0.N, win0_0.index t 0 = 16 * t.val - 1 ∧ win0_0.index t 1 = 0 := by decide +kernel
theorem at1 : ∀ t : Fin grid0.N, win0_1.index t 0 = t.val ∧ win0_1.index t 1 = 0 := by decide +kernel
theorem at2 : ∀ t : Fin grid0.N, t.val < 63 → win0_2.index t 0 = 16 * t.val + 16 ∧ win0_2.index t 1 = 0 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 0 := by decide +kernel
theorem at7 : ∀ t : Fin grid0.N, win0_7.index t 0 = 0 ∧ win0_7.index t 1 = 0 := by decide +kernel
theorem at8 : ∀ t : Fin grid0.N, win0_8.index t 0 = 0 ∧ win0_8.index t 1 = 0 := by decide +kernel
theorem at9 : ∀ t : Fin grid0.N, win0_9.index t 0 = 0 ∧ win0_9.index t 1 = 0 := by decide +kernel
theorem at10 : ∀ t : Fin grid0.N, win0_10.index t 0 = t.val ∧ win0_10.index t 1 = 0 := by decide +kernel

theorem second_at : ∀ t : Fin grid0.N, ¬ second (grid0.coords t) = 1#1 := by decide +kernel
theorem before_at : ∀ t : Fin grid0.N, hasBefore (grid0.coords t) = 1#1 ↔ 0 ≠ 256 * t.val := by decide +kernel
theorem after_at : ∀ t : Fin grid0.N, hasAfter (grid0.coords t) = 1#1 ↔ 16384 ≠ 256 * t.val + 256 := by decide +kernel

theorem points (t : Fin cfg0.N) : t.val < 64 := lt_of_lt_of_eq t.isLt N_0

/-! ## The blocks -/

/-- The stream's rows. -/
abbrev X : ℕ → Fin 1024 → EReal := stream (n := 16384) (m ((c : Thread nD τ).loc main_arg0))

theorem before_rows (t : Fin cfg0.N) (ht : 0 < 256 * t.val) (k : Fin 1024) : (iblk m c 0 t : FVec Ideal S16x1024 .f32) (ix2 15 k) = X m c (256 * t.val - 1) k := by
  have hi := at0 t
  have hp := points t
  refine Eq.trans ?_ (stream_of_lt _ _ (by omega) k).symm
  unfold iblk
  rw [View.read_apply]
  show V m c main_arg0 _ = _
  rw [V_main_arg0]
  refine congrArg _ (funext fun a => Fin.ext ?_)
  match a with
  | ⟨0, _⟩ => show win0_0.index t 0 * 16 + 1 * 15 = 256 * t.val - 1; rw [hi.1]; omega
  | ⟨1, _⟩ => show win0_0.index t 1 * 1024 + 1 * k.val = k.val; rw [hi.2]; omega

theorem own_rows (t : Fin cfg0.N) (y : Fin 256) (k : Fin 1024) : (iblk m c 1 t : FVec Ideal S256x1024 .f32) (ix2 y k) = X m c (256 * t.val + y.val) k := by
  have hi := at1 t
  have hp := points t
  refine Eq.trans ?_ (stream_of_lt _ _ (by omega) k).symm
  unfold iblk
  rw [View.read_apply]
  show V m c main_arg0 _ = _
  rw [V_main_arg0]
  refine congrArg _ (funext fun a => Fin.ext ?_)
  match a with
  | ⟨0, _⟩ => show win0_1.index t 0 * 256 + 1 * y.val = 256 * t.val + y.val; rw [hi.1]; omega
  | ⟨1, _⟩ => show win0_1.index t 1 * 1024 + 1 * k.val = k.val; rw [hi.2]; omega

theorem after_rows (t : Fin cfg0.N) (ht : 256 * t.val + 256 < 16384) (k : Fin 1024) : (iblk m c 2 t : FVec Ideal S16x1024 .f32) (ix2 0 k) = X m c (256 * t.val + 256) k := by
  have hp := points t
  have hi := at2 t (by omega)
  refine Eq.trans ?_ (stream_of_lt _ _ (by omega) k).symm
  unfold iblk
  rw [View.read_apply]
  show V m c main_arg0 _ = _
  rw [V_main_arg0]
  refine congrArg _ (funext fun a => Fin.ext ?_)
  match a with
  | ⟨0, _⟩ => show win0_2.index t 0 * 16 + 1 * 0 = 256 * t.val + 256; rw [hi.1]; omega
  | ⟨1, _⟩ => show win0_2.index t 1 * 1024 + 1 * k.val = k.val; rw [hi.2]; omega

theorem modulation_block (t : Fin cfg0.N) (q : Fin 8) (k : Fin 6144) :
    (iblk m c 3 t : FVec Ideal S8x6144 .f32) (ix2 q k) = m ((c : Thread nD τ).loc main_arg1) (ix2 q k) := by
  have hi := at3 t
  unfold iblk
  rw [View.read_apply]
  show V m c main_arg1 _ = _
  rw [V_main_arg1]
  refine congrArg _ (funext fun a => Fin.ext ?_)
  match a with
  | ⟨0, _⟩ => show win0_3.index t 0 * 8 + 1 * q.val = q.val; rw [hi.1]; omega
  | ⟨1, _⟩ => show win0_3.index t 1 * 6144 + 1 * k.val = k.val; rw [hi.2]; omega

theorem gain_value : V m c main_v0 = shapeCast S1x1024 (m ((c : Thread nD τ).loc main_arg2) : FVec Ideal S1024 .f32) shapeCasts_S1024_S1x1024 := by
  unfold V
  after_reads_simp
  rfl

theorem up_value : V m c main_v1 = truncf (F := Ideal) .bf16 (m ((c : Thread nD τ).loc main_arg3) : FVec Ideal S1024x5632 .f32) bitsLt_bf16_f32 := by
  unfold V
  after_reads_simp

theorem bias_value : V m c main_v2 = shapeCast S1x5632 (m ((c : Thread nD τ).loc main_arg5) : FVec Ideal S5632 .f32) shapeCasts_S5632_S1x5632 := by
  unfold V
  after_reads_simp
  rfl

theorem down_value : V m c main_v3 = truncf (F := Ideal) .bf16 (m ((c : Thread nD τ).loc main_arg6) : FVec Ideal S2816x1024 .f32) bitsLt_bf16_f32 := by
  unfold V
  after_reads_simp

theorem last_value : V m c main_v4 = shapeCast S1x1024 (m ((c : Thread nD τ).loc main_arg7) : FVec Ideal S1024 .f32) shapeCasts_S1024_S1x1024 := by
  unfold V
  after_reads_simp
  rfl

theorem gain_block (t : Fin cfg0.N) (k : Fin 1024) : (iblk m c 4 t : FVec Ideal S1x1024 .f32) (ix2 0 k) = m ((c : Thread nD τ).loc main_arg2) (ix1 k) := by
  have hi := at4 t
  refine Eq.trans ?_ (as_row _ k)
  unfold iblk
  rw [View.read_apply]
  show V m c main_v0 _ = _
  rw [gain_value]
  refine congrArg _ (funext fun a => Fin.ext ?_)
  match a with
  | ⟨0, _⟩ => show win0_4.index t 0 * 1 + 1 * 0 = 0; rw [hi.1]
  | ⟨1, _⟩ => show win0_4.index t 1 * 1024 + 1 * k.val = k.val; rw [hi.2]; omega

theorem up_block (t : Fin cfg0.N) (k : Fin 1024) (n : Fin 5632) : (iblk m c 5 t : FVec Ideal S1024x5632 .bf16) (ix2 k n) = m ((c : Thread nD τ).loc main_arg3) (ix2 k n) := by
  have hi := at5 t
  unfold iblk
  rw [View.read_apply]
  show V m c main_v1 _ = _
  rw [up_value]
  refine congrArg (m ((c : Thread nD τ).loc main_arg3)) (funext fun a => Fin.ext ?_)
  match a with
  | ⟨0, _⟩ => show win0_5.index t 0 * 1024 + 1 * k.val = k.val; rw [hi.1]; omega
  | ⟨1, _⟩ => show win0_5.index t 1 * 5632 + 1 * n.val = n.val; rw [hi.2]; omega

theorem conv_block (t : Fin cfg0.N) (d : Fin 3) (n : Fin 5632) : (iblk m c 6 t : FVec Ideal S3x5632 .f32) (ix2 d n) = m ((c : Thread nD τ).loc main_arg4) (ix2 d n) := by
  have hi := at6 t
  unfold iblk
  rw [View.read_apply]
  show V m c main_arg4 _ = _
  rw [V_main_arg4]
  refine congrArg _ (funext fun a => Fin.ext ?_)
  match a with
  | ⟨0, _⟩ => show win0_6.index t 0 * 3 + 1 * d.val = d.val; rw [hi.1]; omega
  | ⟨1, _⟩ => show win0_6.index t 1 * 5632 + 1 * n.val = n.val; rw [hi.2]; omega

theorem bias_block (t : Fin cfg0.N) (n : Fin 5632) : (iblk m c 7 t : FVec Ideal S1x5632 .f32) (ix2 0 n) = m ((c : Thread nD τ).loc main_arg5) (ix1 n) := by
  have hi := at7 t
  refine Eq.trans ?_ (as_long_row _ n)
  unfold iblk
  rw [View.read_apply]
  show V m c main_v2 _ = _
  rw [bias_value]
  refine congrArg _ (funext fun a => Fin.ext ?_)
  match a with
  | ⟨0, _⟩ => show win0_7.index t 0 * 1 + 1 * 0 = 0; rw [hi.1]
  | ⟨1, _⟩ => show win0_7.index t 1 * 5632 + 1 * n.val = n.val; rw [hi.2]; omega

theorem down_block (t : Fin cfg0.N) (n : Fin 2816) (j : Fin 1024) : (iblk m c 8 t : FVec Ideal S2816x1024 .bf16) (ix2 n j) = m ((c : Thread nD τ).loc main_arg6) (ix2 n j) := by
  have hi := at8 t
  unfold iblk
  rw [View.read_apply]
  show V m c main_v3 _ = _
  rw [down_value]
  refine congrArg (m ((c : Thread nD τ).loc main_arg6)) (funext fun a => Fin.ext ?_)
  match a with
  | ⟨0, _⟩ => show win0_8.index t 0 * 2816 + 1 * n.val = n.val; rw [hi.1]; omega
  | ⟨1, _⟩ => show win0_8.index t 1 * 1024 + 1 * j.val = j.val; rw [hi.2]; omega

theorem last_block (t : Fin cfg0.N) (k : Fin 1024) : (iblk m c 9 t : FVec Ideal S1x1024 .f32) (ix2 0 k) = m ((c : Thread nD τ).loc main_arg7) (ix1 k) := by
  have hi := at9 t
  refine Eq.trans ?_ (as_row _ k)
  unfold iblk
  rw [View.read_apply]
  show V m c main_v4 _ = _
  rw [last_value]
  refine congrArg _ (funext fun a => Fin.ext ?_)
  match a with
  | ⟨0, _⟩ => show win0_9.index t 0 * 1 + 1 * 0 = 0; rw [hi.1]
  | ⟨1, _⟩ => show win0_9.index t 1 * 1024 + 1 * k.val = k.val; rw [hi.2]; omega

/-! ## The result array -/

abbrev W : Weights := argWeights (m ((c : Thread nD τ).loc main_arg3)) (m ((c : Thread nD τ).loc main_arg4)) (m ((c : Thread nD τ).loc main_arg5)) (m ((c : Thread nD τ).loc main_arg6))

theorem weights_block (t : Fin cfg0.N) : weights (iblk m c 5 t) (iblk m c 6 t) (iblk m c 7 t) (iblk m c 8 t) = W m c := by
  unfold weights W argWeights
  congr 1
  · exact funext fun k => funext fun n => up_block m c t k n
  · exact funext fun d => funext fun n => conv_block m c t d n
  · exact funext fun n => bias_block m c t n
  · exact funext fun n => funext fun j => down_block m c t n j

/-- The modulation of the block. -/
abbrev M : Modulation := argModulation (m ((c : Thread nD τ).loc main_arg1)) (m ((c : Thread nD τ).loc main_arg2)) 0

theorem modulation_eq (t : Fin cfg0.N) : modulation (grid0.coords t) (iblk m c 3 t) (iblk m c 4 t) = M m c := by
  have hr (o : ℕ) (ho : o + 1024 ≤ 6144) (k : Fin 1024) : modRow (iblk m c 3 t) (second (grid0.coords t)) o ho k = m ((c : Thread nD τ).loc main_arg1) (ix2 0 ⟨o + k.val, by omega⟩) := by
    unfold modRow
    rw [if_neg (second_at t)]
    exact modulation_block m c t 0 _
  unfold modulation M argModulation
  congr 1
  · exact funext fun k => gain_block m c t k
  · exact funext fun k => hr 4096 _ k
  · exact funext fun k => hr 3072 _ k
  · exact funext fun k => hr 5120 _ k

/-- The array the feed-forward part of the last layer is. -/
def result : Buf (Elt Ideal) ((c : Thread nD τ).loc main_v5) := fun i =>
  rms (fun k => rowOut (W m c) (M m c) 0 16384 (X m c) (i 0).val k) (i 1) * (m ((c : Thread nD τ).loc main_arg7) : FVec Ideal S1024 .f32) (ix1 (i 1))

theorem flushed_eq (t : Fin cfg0.N) : (dats m 0 c).flushed 10 t = ((cfg0.win 10).blk t).view.read (Elt Ideal) (result m c) := by
  rw [Value.flushed10_A]
  have hi := at10 t
  have hp := points t
  funext i
  obtain ⟨y, j, rfl⟩ : ∃ (y : Fin 256) (j : Fin 1024), i = ix2 y j := ⟨i 0, i 1, by funext a; fin_cases a <;> rfl⟩
  rw [View.read_apply]
  have hr : result m c (((cfg0.win 10).blk t).view.emb (ix2 y j))
      = rms (fun k => rowOut (W m c) (M m c) 0 16384 (X m c) (256 * t.val + y.val) k) j * (m ((c : Thread nD τ).loc main_arg7) : FVec Ideal S1024 .f32) (ix1 j) := by
    have e0 : ((((cfg0.win 10).blk t).view.emb (ix2 y j)) 0).val = 256 * t.val + y.val := by
      show win0_10.index t 0 * 256 + 1 * y.val = _; rw [hi.1]; omega
    have e1 : (((cfg0.win 10).blk t).view.emb (ix2 y j)) 1 = j := Fin.ext (by
      show win0_10.index t 1 * 1024 + 1 * j.val = _; rw [hi.2]; omega)
    unfold result
    rw [e0, e1]
  refine Eq.trans ?_ hr.symm
  refine (out_eq c (grid0.coords t) _ _ _ _ _ _ _ _ _ _ _ _ _ _ _ _ _ _ _ _ _ _ _ _ _ _ _ _ _ _ (iblk m c 0 t) (iblk m c 1 t) (iblk m c 2 t) (iblk m c 3 t)
    (iblk m c 4 t) (iblk m c 5 t) (iblk m c 6 t) (iblk m c 7 t) (iblk m c 8 t) (iblk m c 9 t) y j).trans ?_
  rw [weights_block, modulation_eq, last_block]
  refine congrArg (fun x => rms x j * _) (funext fun k => ?_)
  exact blockRow_eq _ _ _ _ _ _ _ 0 16384 t.val (X m c) (by omega) (by omega) (before_at t) (after_at t) (before_rows m c t) (own_rows m c t) (after_rows m c t) y k

/-- The result array. -/
theorem final_eq : (dats m 0 c).arrAt 10 cfg0.N = result m c :=
  (dats m 0 c).arrAt_eq_of_cover 10 (result m c) (fun t _ => flushed_eq m c t) fun i => by
    have hr : (i 0 : Nat) < 16384 := (i 0).isLt
    have hc : (i 1 : Nat) < 1024 := (i 1).isLt
    let t : Fin cfg0.N := ⟨(i 0 : Nat) / 256, by rw [show cfg0.N = 64 from N_0]; omega⟩
    have ht : t.val = (i 0 : Nat) / 256 := rfl
    have hi := at10 t
    refine ⟨t, flush0_10 t, ?_⟩
    show i ∈ ((View.whole main_v5).slice (win0_10.rect t)).set
    rw [View.set_slice_whole, Rect.mem_set_unit]
    intro a
    match a with
    | ⟨0, _⟩ => show win0_10.index t 0 * 256 ≤ (i 0 : Nat) ∧ (i 0 : Nat) < win0_10.index t 0 * 256 + 256
                rw [hi.1, ht]; omega
    | ⟨1, _⟩ => show win0_10.index t 1 * 1024 ≤ (i 1 : Nat) ∧ (i 1 : Nat) < win0_10.index t 1 * 1024 + 1024
                rw [hi.2]; omega

end Cert.Kernel2Ideal.Ffn

end
-- ==== Proof.FfnRows.lean ====
/-
  The feed-forward part on whole arrays, as the references compute it: the product's rows with a row of zeros before
  and after them, the convolution of three neighbouring rows, and the gated product, all put together to `rowOut`.
-/
module

public import proofs.«01_k».proof.Proof.FfnSpec
public import Idealize.ShloMosaic.Lib.KernelVsHost
public import Idealize.ShloMosaic.Lib.Pointwise

@[expose] public section

set_option backward.proofsInPublic true

noncomputable section

open scoped BigOperators
open Idealize.ShloMosaic Idealize.SL.Sem

namespace Cert.Ffn

/-- An array with a row of `z` before and after it. -/
theorem pad_rows {n m : ℕ} (hm : m = n + 2) (u : FVec Ideal ⟨2, ![n, 5632]⟩ .f32) {s : Shape} (z : FVec Ideal s .f32)
    (h : Shape.Pads ⟨2, ![n, 5632]⟩ ![1, 0] ![1, 0] ![0, 0] ⟨2, ![m, 5632]⟩) (hu : 0 < s.numel) (hz : ∀ i, z i = 0) (r : Fin m) (j : Fin 5632) :
    pad ⟨2, ![m, 5632]⟩ ![1, 0] ![1, 0] ![0, 0] u z h hu (ix2 r j)
      = if h : 1 ≤ r.val ∧ r.val ≤ n then u (ix2 ⟨r.val - 1, by omega⟩ j) else 0 := by
  by_cases hr : 1 ≤ r.val ∧ r.val ≤ n
  · rw [dif_pos hr]
    refine pad_apply_of_inside _ _ _ u z h hu _ _ fun a => ?_
    match a with
    | ⟨0, _⟩ => show r.val = 1 + (r.val - 1) * 1; omega
    | ⟨1, _⟩ => show j.val = 0 + j.val * 1; omega
  · rw [dif_neg hr, ← hz (Shape.Idx.first hu)]
    refine pad_apply_of_not_inside _ _ _ u z h hu _ 0 fun hn => hr ?_
    have h0 : 1 ≤ r.val := hn.1
    have h1 : (r.val - 1) / 1 < n := hn.2.2
    omega

variable (w : Weights) (μ : Modulation) (X : ℕ → Fin 1024 → EReal) (lo hi : ℕ) {n m : ℕ} (hn : hi = lo + n) (hm : m = n + 2)
  (h : FVec Ideal ⟨2, ![n, 1024]⟩ .f32) (u : FVec Ideal ⟨2, ![n, 5632]⟩ .f32) (p : FVec Ideal ⟨2, ![m, 5632]⟩ .f32) (c : FVec Ideal ⟨2, ![n, 5632]⟩ .f32)
  (hh : ∀ (r : Fin n) k, h (ix2 r k) = normed μ.gain μ.scale μ.shift (X (lo + r.val)) k)
  (hu : ∀ (r : Fin n) j, u (ix2 r j) = ∑ k, h (ix2 r k) * w.up k j)
  (hp : ∀ (r : Fin m) j, p (ix2 r j) = if h : 1 ≤ r.val ∧ r.val ≤ n then u (ix2 ⟨r.val - 1, by omega⟩ j) else 0)
  (hc : ∀ (r : Fin n) j, c (ix2 r j) = p (ix2 ⟨r.val, by omega⟩ j) * w.conv 0 j + p (ix2 ⟨1 + r.val, by omega⟩ j) * w.conv 1 j
    + p (ix2 ⟨2 + r.val, by omega⟩ j) * w.conv 2 j + w.bias j)

include hh hu in
/-- A row of the product. -/
theorem product_row (r : Fin n) (j : Fin 5632) : u (ix2 r j) = up w (normed μ.gain μ.scale μ.shift (X (lo + r.val))) j := by
  rw [hu]
  exact Finset.sum_congr rfl fun k _ => by rw [hh]

include hn hm hh hu hp hc in
/-- A row of the convolution. -/
theorem conv_row (r : Fin n) (j : Fin 5632) : c (ix2 r j)
    = conv w (if lo + r.val = lo then fun _ => 0 else normed μ.gain μ.scale μ.shift (X (lo + r.val - 1))) (normed μ.gain μ.scale μ.shift (X (lo + r.val)))
        (if lo + r.val + 1 = hi then fun _ => 0 else normed μ.gain μ.scale μ.shift (X (lo + r.val + 1))) j := by
  have hr := r.isLt
  have product := product_row w μ X lo h u hh hu
  have before : p (ix2 ⟨r.val, by omega⟩ j)
      = up w (if lo + r.val = lo then fun _ => 0 else normed μ.gain μ.scale μ.shift (X (lo + r.val - 1))) j := by
    rw [hp]
    by_cases hl : r.val = 0
    · rw [dif_neg (by show ¬ (1 ≤ r.val ∧ r.val ≤ n); omega), if_pos (by omega), up_zero]
    · rw [dif_pos (by show 1 ≤ r.val ∧ r.val ≤ n; omega), if_neg (by omega), product]
      show up w (normed μ.gain μ.scale μ.shift (X (lo + (r.val - 1)))) j = _
      rw [show lo + (r.val - 1) = lo + r.val - 1 by omega]
  have own : p (ix2 ⟨1 + r.val, by omega⟩ j) = up w (normed μ.gain μ.scale μ.shift (X (lo + r.val))) j := by
    rw [hp, dif_pos (by show 1 ≤ 1 + r.val ∧ 1 + r.val ≤ n; omega), product]
    show up w (normed μ.gain μ.scale μ.shift (X (lo + (1 + r.val - 1)))) j = _
    rw [show lo + (1 + r.val - 1) = lo + r.val by omega]
  have after : p (ix2 ⟨2 + r.val, by omega⟩ j)
      = up w (if lo + r.val + 1 = hi then fun _ => 0 else normed μ.gain μ.scale μ.shift (X (lo + r.val + 1))) j := by
    rw [hp]
    by_cases hl : r.val + 1 = n
    · rw [dif_neg (by show ¬ (1 ≤ 2 + r.val ∧ 2 + r.val ≤ n); omega), if_pos (by omega), up_zero]
    · rw [dif_pos (by show 1 ≤ 2 + r.val ∧ 2 + r.val ≤ n; omega), if_neg (by omega), product]
      show up w (normed μ.gain μ.scale μ.shift (X (lo + (2 + r.val - 1)))) j = _
      rw [show lo + (2 + r.val - 1) = lo + r.val + 1 by omega]
  rw [hc, before, own, after]
  rfl

include hn hm hh hu hp hc in
/-- A row of the result. -/
theorem result_row (g : FVec Ideal ⟨2, ![n, 2816]⟩ .f32) (d : FVec Ideal ⟨2, ![n, 1024]⟩ .f32)
    (hg : ∀ (r : Fin n) (j : Fin 2816), g (ix2 r j) = silu (c (ix2 r ⟨j.val, by omega⟩)) * c (ix2 r ⟨2816 + j.val, by omega⟩))
    (hd : ∀ (r : Fin n) j, d (ix2 r j) = X (lo + r.val) j + μ.gate j * ∑ k, g (ix2 r k) * w.down k j) (r : Fin n) (j : Fin 1024) :
    d (ix2 r j) = rowOut w μ lo hi X (lo + r.val) j := by
  have row := conv_row w μ X lo hi hn hm h u p c hh hu hp hc
  rw [hd]
  unfold rowOut ffn
  refine congrArg (fun x => _ + μ.gate j * x) (Finset.sum_congr rfl fun k _ => ?_)
  rw [hg, row, row]
  rfl

end Cert.Ffn

end
-- ==== Proof.FfnReference2.lean ====
/-
  The feed-forward reference of the last layer at one place.
-/
module

public import proofs.«01_k».proof.Proof.Gen.Reference2Ideal.Read
public import proofs.«01_k».proof.Proof.FfnBlock
public import proofs.«01_k».proof.Proof.FfnRows

@[expose] public section

set_option maxRecDepth 16384

noncomputable section

open scoped BigOperators
open Idealize.ShloMosaic Idealize.ShloMosaic.TcCoe Idealize.SL.Sem

namespace Cert.Reference2Ideal.Ffn

open Cert.Reference2Ideal Cert.Reference2Ideal.Read Cert.Ffn

variable (x0 : FVec Ideal S16384x1024 .f32) (x1 : FVec Ideal S8x6144 .f32) (x2 : FVec Ideal S1024 .f32) (x3 : FVec Ideal S1024x5632 .f32)
  (x4 : FVec Ideal S3x5632 .f32) (x5 : FVec Ideal S5632 .f32) (x6 : FVec Ideal S2816x1024 .f32) (x7 : FVec Ideal S1024 .f32)

/-- The stream over its rows' root mean squares. -/
theorem rms_apply (r : Fin 16384) (k : Fin 1024) : val_main_v17 (F := Ideal) x0 (ix2 r k) = rms (fun k => x0 (ix2 r k)) k := by
  have hi (k' : Fin 1024) : idx_main_v9 (idx_main_v10 (idx_main_v16 (ix2 r k))) k' = ix2 r k' := by funext a; fin_cases a <;> rfl
  rw [val_main_v17_apply, val_main_v16_apply, val_main_v15_apply, val_main_v14_apply, val_main_v13_apply, val_main_v12_apply,
    val_main_v11_apply, val_main_v10_apply, val_main_v9_apply]
  simp only [hi]
  show x0 (ix2 r k) * Ideal.rsqrt (Ideal.div (Ideal.ofBits FTy.f32 0x00000000#32 + ∑ k, x0 (ix2 r k) * x0 (ix2 r k)) _ + _) = _
  rw [Ideal.ofBits_zero_f32, zero_add]
  rfl

/-- The modulation's row. -/
theorem modulation_apply (k : Fin 6144) : val_main_v1 (F := Ideal) x1 (ix1 k) = x1 (ix2 0 k) := by
  pointwise [val_main_v1, val_main_v0]

theorem norm_apply (r : Fin 16384) (k : Fin 1024) : val_main_v28 (F := Ideal) x0 x1 x2 (ix2 r k)
    = normed (fun k => x2 (ix1 k)) (fun k => x1 (ix2 0 ⟨4096 + k.val, by omega⟩)) (fun k => x1 (ix2 0 ⟨3072 + k.val, by omega⟩)) (fun k => x0 (ix2 r k)) k := by
  simp only [normed, ← rms_apply x0, ← modulation_apply x1]
  unfold val_main_v28 val_main_v25 val_main_v20
  generalize val_main_v17 (F := Ideal) x0 = y
  pointwise [val_main_v27, val_main_v26, val_main_v24, val_main_v23, val_main_v22, val_main_v21, val_main_cst_2, val_main_v19, val_main_v18, val_main_v6, val_main_v5]

theorem product_apply (r : Fin 16384) (n : Fin 5632) : val_main_v29 (F := Ideal) x0 x1 x2 x3 (ix2 r n)
    = ∑ k, val_main_v28 (F := Ideal) x0 x1 x2 (ix2 r k) * x3 (ix2 k n) := by
  unfold val_main_v29
  generalize val_main_v28 (F := Ideal) x0 x1 x2 = y
  pointwise

theorem padded_apply (r : Fin 16386) (n : Fin 5632) : val_main_v30 (F := Ideal) x0 x1 x2 x3 (ix2 r n)
    = if h : 1 ≤ r.val ∧ r.val ≤ 16384 then val_main_v29 (F := Ideal) x0 x1 x2 x3 (ix2 ⟨r.val - 1, by omega⟩ n) else 0 := by
  unfold val_main_v30
  generalize val_main_v29 (F := Ideal) x0 x1 x2 x3 = y
  exact pad_rows (n := 16384) (m := 16386) rfl y _ _ _ (fun i => sitofp_zero) r n

theorem conv_apply (r : Fin 16384) (n : Fin 5632) : val_main_v53 (F := Ideal) x0 x1 x2 x3 x4 x5 (ix2 r n)
    = val_main_v30 (F := Ideal) x0 x1 x2 x3 (ix2 ⟨r.val, by omega⟩ n) * x4 (ix2 0 n) + val_main_v30 (F := Ideal) x0 x1 x2 x3 (ix2 ⟨1 + r.val, by omega⟩ n) * x4 (ix2 1 n)
      + val_main_v30 (F := Ideal) x0 x1 x2 x3 (ix2 ⟨2 + r.val, by omega⟩ n) * x4 (ix2 2 n) + x5 (ix1 n) := by
  unfold val_main_v53 val_main_v50 val_main_v49 val_main_v44 val_main_v43 val_main_v42 val_main_v37 val_main_v36 val_main_v31
  generalize val_main_v30 (F := Ideal) x0 x1 x2 x3 = y
  pointwise [val_main_v52, val_main_v51, val_main_v48, val_main_v47, val_main_v46, val_main_v45, val_main_v41, val_main_v40, val_main_v39, val_main_v38,
    val_main_v35, val_main_v34, val_main_v33, val_main_v32]

theorem gated_apply (r : Fin 16384) (n : Fin 2816) : val_main_v57 (F := Ideal) x0 x1 x2 x3 x4 x5 (ix2 r n)
    = silu (val_main_v53 (F := Ideal) x0 x1 x2 x3 x4 x5 (ix2 r ⟨n.val, by omega⟩)) * val_main_v53 (F := Ideal) x0 x1 x2 x3 x4 x5 (ix2 r ⟨2816 + n.val, by omega⟩) := by
  have h0 (i : S16384x2816.Idx) : val_main_call1_v2 (F := Ideal) i = 1 := by
    rw [val_main_call1_v2_apply]
    pointwise [val_main_call1_cst]
  have h1 (i : S16384x2816.Idx) : val_main_call1_v4 (F := Ideal) i = 1 := by
    rw [val_main_call1_v4_apply]
    pointwise [val_main_call1_cst_0]
  have ha : idx_main_v54 (ix2 r n) = ix2 r ⟨n.val, by omega⟩ := by funext a; fin_cases a <;> rfl
  have hb : idx_main_v55 (ix2 r n) = ix2 r ⟨2816 + n.val, by omega⟩ := by funext a; fin_cases a <;> rfl
  rw [val_main_v57_apply, val_main_v56_apply, val_main_call1_v5_apply, val_main_call1_v3_apply, val_main_call1_v1_apply, val_main_call1_v0_apply,
    h0, h1, val_main_v54_apply, val_main_v55_apply, ha, hb]
  rfl

theorem sum_apply (r : Fin 16384) (j : Fin 1024) : val_main_v62 (F := Ideal) x0 x1 x2 x3 x4 x5 x6 (ix2 r j)
    = x0 (ix2 r j) + x1 (ix2 0 ⟨5120 + j.val, by omega⟩) * ∑ n, val_main_v57 (F := Ideal) x0 x1 x2 x3 x4 x5 (ix2 r n) * x6 (ix2 n j) := by
  rw [← modulation_apply x1]
  unfold val_main_v62 val_main_v61 val_main_v58
  generalize val_main_v57 (F := Ideal) x0 x1 x2 x3 x4 x5 = y
  pointwise [val_main_v60, val_main_v59, val_main_v7]

theorem last_apply (r : Fin 16384) (j : Fin 1024) : val_main_v75 (F := Ideal) x0 x1 x2 x3 x4 x5 x6 x7 (ix2 r j)
    = rms (fun k => val_main_v62 (F := Ideal) x0 x1 x2 x3 x4 x5 x6 (ix2 r k)) j * x7 (ix1 j) := by
  have hi (k' : Fin 1024) : idx_main_v64 (idx_main_v65 (idx_main_v71 (ix2 r j))) k' = ix2 r k' := by funext a; fin_cases a <;> rfl
  have hg : idx_main_v73 (idx_main_v74 (ix2 r j)) = ix1 j := by funext a; fin_cases a; rfl
  rw [val_main_v75_apply, val_main_v74_apply, val_main_v73_apply, hg, val_main_v72_apply, val_main_v71_apply, val_main_v70_apply, val_main_v69_apply, val_main_v68_apply, val_main_v67_apply,
    val_main_v66_apply, val_main_v65_apply, val_main_v64_apply]
  simp only [hi, val_main_v63_apply]
  generalize val_main_v62 (F := Ideal) x0 x1 x2 x3 x4 x5 x6 = y
  show y (ix2 r j) * Ideal.rsqrt (Ideal.div (Ideal.ofBits FTy.f32 0x00000000#32 + ∑ k, y (ix2 r k) * y (ix2 r k)) _ + _) * _ = _
  rw [Ideal.ofBits_zero_f32, zero_add]
  rfl

/-- The reference's result at a place. -/
theorem result_eq (r : Fin 16384) (j : Fin 1024) : val_main_v75 (F := Ideal) x0 x1 x2 x3 x4 x5 x6 x7 (ix2 r j)
    = rms (fun k => rowOut (argWeights x3 x4 x5 x6) (argModulation x1 x2 0) 0 16384 (stream x0) r.val k) j * x7 (ix1 j) := by
  have row (r : Fin 16384) : stream x0 (0 + r.val) = fun k => x0 (ix2 r k) := funext fun k => by
    rw [Nat.zero_add]
    exact stream_of_lt x0 r.val r.isLt k
  rw [last_apply]
  refine congrArg (fun y => rms y j * _) (funext fun k => ?_)
  have key := result_row (argWeights x3 x4 x5 x6) (argModulation x1 x2 0) (stream x0) 0 16384 (n := 16384) (m := 16386) rfl rfl
    (val_main_v28 (F := Ideal) x0 x1 x2) (val_main_v29 (F := Ideal) x0 x1 x2 x3) (val_main_v30 (F := Ideal) x0 x1 x2 x3) (val_main_v53 (F := Ideal) x0 x1 x2 x3 x4 x5)
    (fun r k => by rw [row]; exact norm_apply x0 x1 x2 r k) (product_apply x0 x1 x2 x3) (padded_apply x0 x1 x2 x3) (conv_apply x0 x1 x2 x3 x4 x5)
    (val_main_v57 (F := Ideal) x0 x1 x2 x3 x4 x5) (val_main_v62 (F := Ideal) x0 x1 x2 x3 x4 x5 x6) (gated_apply x0 x1 x2 x3 x4 x5)
    (fun r k => by rw [row]; exact sum_apply x0 x1 x2 x3 x4 x5 x6 r k) r k
  rw [key, Nat.zero_add]

end Cert.Reference2Ideal.Ffn

end
-- ==== Proof.FfnClaim2.lean ====
/-
  The claims of the feed-forward part of the last layer: both programs run and leave their arguments unchanged, and their
  result arrays are equal.
-/
module

public import proofs.«01_k».proof.Defs
public import proofs.«01_k».proof.Proof.FfnArray2
public import proofs.«01_k».proof.Proof.FfnReference2
public import proofs.«01_k».proof.Proof.Gen.Kernel2
public import proofs.«01_k».proof.Proof.Gen.Kernel2.Frame
public import Idealize.ShloMosaic.Lib.Quiescent

@[expose] public section

noncomputable section

open Idealize.ShloMosaic Idealize.SL.Sem

namespace Cert.FfnClaim2

theorem kernel_runs : Cert.quiescent_Kernel2 := fun m g _ => Cert.Kernel2.Gen.frame m g

theorem ideal_runs : Cert.quiescent_Kernel2Ideal := fun m g _ => Cert.Kernel2Ideal.Gen.frame m g

theorem reference_runs : Cert.quiescent_Reference2Ideal := fun m g _ =>
  (θ_run _ _ _).mono (fun r h => ⟨fun c => (h c).2, Idealize.ShloMosaic.sem_eq_zero_of_no_sems (by decide) r.2⟩)
    (Cert.Reference2Ideal.Value.run m g)

/-- Kernel and reference compute the same array. -/
theorem equal : Cert.algebraic_Kernel2Ideal_Reference2Ideal := by
  intro m g m' g' _ hargs
  refine ⟨fun c => (Cert.Kernel2Ideal.Gen.dats m 0 c).arrAt 10 Cert.Kernel2Ideal.cfg0.N, Cert.Kernel2Ideal.Value.run_blocks m g,
    (θ_run _ _ _).mono (fun r h c => ⟨(h c).1.trans ?_, (h c).2⟩) (Cert.Reference2Ideal.Value.run m' g')⟩
  obtain ⟨a0, a1, a2, a3, a4, a5, a6, a7⟩ := hargs c
  refine Eq.trans ?_ (Cert.Kernel2Ideal.Ffn.final_eq m c).symm
  rw [Cert.Reference2Ideal.Read.val_main_v75_eq, a0, a1, a2, a3, a4, a5, a6, a7]
  funext i
  obtain ⟨x, y, rfl⟩ : ∃ (x : Fin 16384) (y : Fin 1024), i = ix2 x y := ⟨i 0, i 1, by funext a; fin_cases a <;> rfl⟩
  exact Cert.Reference2Ideal.Ffn.result_eq _ _ _ _ _ _ _ _ x y

end Cert.FfnClaim2

end
-- ==== Proof.FfnBlock3.lean ====
/-
  One grid point of the feed-forward kernel of the first layer, read at one row and column of its block.
-/
module

public import proofs.«01_k».proof.Proof.FfnBlock
public import proofs.«01_k».proof.Proof.Gen.Kernel3Ideal.Frame

@[expose] public section

set_option maxRecDepth 16384

noncomputable section

open scoped BigOperators
open Idealize.ShloMosaic Idealize.ShloMosaic.TcCoe Idealize.SL.Sem

namespace Cert.Kernel3Ideal.Ffn

open Cert.Kernel3Ideal Cert.Kernel3Ideal.Gen Cert.Ffn

variable (c : Dev nD) (i : grid0.Coords) (arg1 : Memref sig .tc .vmem S16x1024 .f32) (harg1 : arg1.IsWhole) (arg2 : Memref sig .tc .vmem S256x1024 .f32) (harg2 : arg2.IsWhole) (arg3 : Memref sig .tc .vmem S16x1024 .f32) (harg3 : arg3.IsWhole) (arg4 : Memref sig .tc .vmem S8x6144 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S288x1024 .bf16) (harg12 : arg12.IsWhole) (arg13 : Memref sig .tc .vmem S288x256 .f32) (harg13 : arg13.IsWhole) (arg14 : Memref sig .tc .vmem S288x256 .f32) (harg14 : arg14.IsWhole) (arg15 : Memref sig .tc .vmem S256x1024 .f32) (harg15 : arg15.IsWhole)
    (x0 : Vec Ideal S16x1024 .f32) (x1 : Vec Ideal S256x1024 .f32) (x2 : Vec Ideal S16x1024 .f32) (x3 : Vec Ideal S8x6144 .f32) (x4 : Vec Ideal S1x1024 .f32) (x5 : Vec Ideal S1024x5632 .bf16) (x6 : Vec Ideal S3x5632 .f32) (x7 : Vec Ideal S1x5632 .f32) (x8 : Vec Ideal S2816x1024 .bf16) (x9 : Vec Ideal S1x1024 .f32)

/-- The normalised rows, as the kernel reads them back. -/
abbrev lhs : FVec Ideal S288x1024 .bf16 :=
  kernelRun0_A.sl.v88 (F := Ideal) c i arg1 harg1 arg2 harg2 arg3 harg3 arg4 harg4 arg5 harg5 arg12 x0 x1 x2 x3 x4

/-- After the eleven chunks the sum is that of all 2816 columns. -/
theorem sum_eq (y : Fin 256) (j : Fin 1024) :
    (kernelRun0_A.sl.v816 (F := Ideal) c i arg1 harg1 arg2 harg2 arg3 harg3 arg4 harg4 arg5 harg5 arg6 harg6 arg7 harg7 arg8 harg8 arg9 harg9 arg12 arg13 arg14 arg15 x0 x1 x2 x3 x4 x5 x6 x7 x8 : FVec Ideal S256x1024 .f32) (ix2 y j)
      = ffn (weights x5 x6 x7 x8) (before (lhs c i arg1 harg1 arg2 harg2 arg3 harg3 arg4 harg4 arg5 harg5 arg12 x0 x1 x2 x3 x4) y) (own (lhs c i arg1 harg1 arg2 harg2 arg3 harg3 arg4 harg4 arg5 harg5 arg12 x0 x1 x2 x3 x4) y) (after (lhs c i arg1 harg1 arg2 harg2 arg3 harg3 arg4 harg4 arg5 harg5 arg12 x0 x1 x2 x3 x4) y) j := by
  rw [← ffnTo_all]
  iterate 10 refine next_chunk (hmu := harg6) (hmc := harg7) (hmb := harg8) (hmd := harg9) (by omega) rfl ?_
  exact first_chunk (hmu := harg6) (hmc := harg7) (hmb := harg8) (hmd := harg9)

/-- Whether the block's rows take the second row of the modulation, and whether there are rows before and after it. -/
abbrev second (i : grid0.Coords) : BitVec 1 := kernelRun0_A.sl.v0 i
abbrev hasBefore (i : grid0.Coords) : BitVec 1 := kernelRun0_A.sl.v3 i
abbrev hasAfter (i : grid0.Coords) : BitVec 1 := kernelRun0_A.sl.v6 i

/-- Gain, scale, shift and gate of the block. -/
abbrev modulation (i : grid0.Coords) (x3 : FVec Ideal S8x6144 .f32) (x4 : FVec Ideal S1x1024 .f32) : Modulation :=
  ⟨fun k => x4 (ix2 0 k), modRow x3 (second i) 4096 (by decide), modRow x3 (second i) 3072 (by decide), modRow x3 (second i) 5120 (by decide)⟩

/-- The scale, the shift and the gain as the kernel holds them. -/
abbrev gainOf : FVec Ideal S1x1024 .f32 := kernelRun0_A.sl.r (F := Ideal) c arg5 harg5 x4
abbrev scaleOf : FVec Ideal S1x1024 .f32 := kernelRun0_A.sl.r_1 (F := Ideal) c i arg4 harg4 x3
abbrev shiftOf : FVec Ideal S1x1024 .f32 := kernelRun0_A.sl.r_2 (F := Ideal) c i arg4 harg4 x3

theorem gain_row (x : FVec Ideal S1x1024 .f32) (k : Fin 1024) : k0_pay3 (F := Ideal) x (ix2 0 k) = x (ix2 0 k) := gain_apply x k

theorem sum_row (v : BitVec 1) (x : FVec Ideal S256x1024 .f32) (g1 g0 : FVec Ideal S1x1024 .f32) (a : FVec Ideal S256x1024 .f32) (y : Fin 256) (j : Fin 1024) :
    k0_pay2 (F := Ideal) v x g1 g0 a (ix2 y j) = x (ix2 y j) + (Scalar.select v g1 g0 : FVec Ideal S1x1024 .f32) (ix2 0 j) * a (ix2 y j) := sum_apply v x g1 g0 a y j

theorem gain_eq : (fun k => gainOf c arg5 harg5 x4 (ix2 0 k)) = (modulation i x3 x4).gain := by
  funext k
  refine (gain_row _ k).trans ?_
  exact congrFun (load_whole arg5 harg5 x4 _) (ix2 0 k)

theorem scale_eq : (fun k => scaleOf c i arg4 harg4 x3 (ix2 0 k)) = (modulation i x3 x4).scale := by
  funext k
  exact select_row arg4 harg4 x3 (second i) 4096 _ _ k

theorem shift_eq : (fun k => shiftOf c i arg4 harg4 x3 (ix2 0 k)) = (modulation i x3 x4).shift := by
  funext k
  exact select_row arg4 harg4 x3 (second i) 3072 _ _ k

theorem lhs_eq : lhs c i arg1 harg1 arg2 harg2 arg3 harg3 arg4 harg4 arg5 harg5 arg12 x0 x1 x2 x3 x4 = block arg12 inb_S288x1024_S16x1024_0_0 inb_S288x1024_S256x1024_16_0 inb_S288x1024_S16x1024_272_0 inb_S288x1024_S288x1024_0_0
    (hasBefore i) (hasAfter i) (gainOf c arg5 harg5 x4) (scaleOf c i arg4 harg4 x3) (shiftOf c i arg4 harg4 x3) x0 x1 x2 := by
  have h : lhs c i arg1 harg1 arg2 harg2 arg3 harg3 arg4 harg4 arg5 harg5 arg12 x0 x1 x2 x3 x4 = block arg12 inb_S288x1024_S16x1024_0_0 inb_S288x1024_S256x1024_16_0 inb_S288x1024_S16x1024_272_0 inb_S288x1024_S288x1024_0_0
      (hasBefore i) (hasAfter i) (gainOf c arg5 harg5 x4) (scaleOf c i arg4 harg4 x3) (shiftOf c i arg4 harg4 x3)
      (View.readAt (Elt Ideal) arg1.view (Rect.unit (s := S16x1024) ![0, 0] S16x1024.size inb_S16x1024_S16x1024_0_0).toLoadRect (harg1.unread x0))
      (View.readAt (Elt Ideal) arg2.view (Rect.unit (s := S256x1024) ![0, 0] S256x1024.size inb_S256x1024_S256x1024_0_0).toLoadRect (harg2.unread x1))
      (View.readAt (Elt Ideal) arg3.view (Rect.unit (s := S16x1024) ![0, 0] S16x1024.size inb_S16x1024_S16x1024_0_0).toLoadRect (harg3.unread x2)) := rfl
  exact h.trans (by rw [load_whole arg1 harg1 x0, load_whole arg2 harg2 x1, load_whole arg3 harg3 x2])

/-- The block of the result. -/
theorem out_eq (y : Fin 256) (j : Fin 1024) :
    (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 : FVec Ideal S256x1024 .f32) (ix2 y j)
      = blockRow (weights x5 x6 x7 x8) (modulation i x3 x4) (hasBefore i) (hasAfter i) x0 x1 x2 y j := by
  unfold out0_A_10
  rw [View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9)]
  unfold kernelRun0_A
  dsimp only
  rw [View.canon_unit_zero (funext fun a => by fin_cases a <;> rfl)]
  refine (sum_row _ _ _ _ _ y j).trans ?_
  rw [sum_eq, lhs_eq,
    before_block _ _ _ _ _ _ _ _ _ _ _ _ _ (modulation i x3 x4) (gain_eq c i arg5 harg5 x3 x4) (scale_eq c i arg4 harg4 x3 x4) (shift_eq c i arg4 harg4 x3 x4),
    own_block _ _ _ _ _ _ _ _ _ _ _ _ _ (modulation i x3 x4) (gain_eq c i arg5 harg5 x3 x4) (scale_eq c i arg4 harg4 x3 x4) (shift_eq c i arg4 harg4 x3 x4),
    after_block _ _ _ _ _ _ _ _ _ _ _ _ _ (modulation i x3 x4) (gain_eq c i arg5 harg5 x3 x4) (scale_eq c i arg4 harg4 x3 x4) (shift_eq c i arg4 harg4 x3 x4)]
  unfold blockRow
  refine congrArg₂ (· + ·) (congrFun (load_whole arg2 harg2 x1 _) (ix2 y j)) (congrArg (· * _) ?_)
  exact select_row arg4 harg4 x3 (second i) 5120 _ _ j

end Cert.Kernel3Ideal.Ffn

end
-- ==== Proof.FfnArray3.lean ====
/-
  From the blocks to the array, for the feed-forward part of the first layer: what each of the 65 grid points reads, and the
  result array at every place.
-/
module

public import proofs.«01_k».proof.Proof.FfnBlock3
public import proofs.«01_k».proof.Proof.Gen.Kernel3Ideal.Value
public import Idealize.ShloMosaic.Lib.StableHlo.ReadAt
public import Idealize.ShloMosaic.Lib.Pipeline.Value

@[expose] public section

set_option maxRecDepth 16640

noncomputable section

open scoped BigOperators
open Idealize.ShloMosaic Idealize.ShloMosaic.TcCoe Idealize.SL.Sem
open Idealize.ShloMosaic.Pipeline (Dat)

namespace Cert.Kernel3Ideal.Ffn

open Cert.Kernel3Ideal Cert.Kernel3Ideal.Gen Cert.Ffn

variable (m : (ℓ : Loc nD τ sig) → Buf (Elt Ideal) ℓ) (c : Dev nD)

/-! ## Which block each window is at, and the conditions on the grid point -/

theorem at0 : ∀ t : Fin grid0.N, win0_0.index t 0 = 16 * t.val - 1 ∧ win0_0.index t 1 = 0 := by decide +kernel
theorem at1 : ∀ t : Fin grid0.N, win0_1.index t 0 = t.val ∧ win0_1.index t 1 = 0 := by decide +kernel
theorem at2 : ∀ t : Fin grid0.N, t.val < 64 → win0_2.index t 0 = 16 * t.val + 16 ∧ win0_2.index t 1 = 0 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 0 := by decide +kernel
theorem at7 : ∀ t : Fin grid0.N, win0_7.index t 0 = 0 ∧ win0_7.index t 1 = 0 := by decide +kernel
theorem at8 : ∀ t : Fin grid0.N, win0_8.index t 0 = 0 ∧ win0_8.index t 1 = 0 := by decide +kernel
theorem at10 : ∀ t : Fin grid0.N, win0_10.index t 0 = t.val ∧ win0_10.index t 1 = 0 := by decide +kernel

theorem second_at : ∀ t : Fin grid0.N, second (grid0.coords t) = 1#1 ↔ t.val = 0 := by decide +kernel
theorem before_at : ∀ t : Fin grid0.N, hasBefore (grid0.coords t) = 1#1 ↔ ¬ (t.val = 0 ∨ t.val = 1) := by decide +kernel
theorem after_at : ∀ t : Fin grid0.N, hasAfter (grid0.coords t) = 1#1 ↔ ¬ (t.val = 0 ∨ t.val = 64) := by decide +kernel

theorem points (t : Fin cfg0.N) : t.val < 65 := lt_of_lt_of_eq t.isLt N_0

/-! ## The blocks -/

/-- The stream's rows. -/
abbrev X : ℕ → Fin 1024 → EReal := stream (n := 16640) (m ((c : Thread nD τ).loc main_arg0))

theorem before_rows (t : Fin cfg0.N) (ht : 0 < 256 * t.val) (k : Fin 1024) : (iblk m c 0 t : FVec Ideal S16x1024 .f32) (ix2 15 k) = X m c (256 * t.val - 1) k := by
  have hi := at0 t
  have hp := points t
  refine Eq.trans ?_ (stream_of_lt _ _ (by omega) k).symm
  unfold iblk
  rw [View.read_apply]
  show V m c main_arg0 _ = _
  rw [V_main_arg0]
  refine congrArg _ (funext fun a => Fin.ext ?_)
  match a with
  | ⟨0, _⟩ => show win0_0.index t 0 * 16 + 1 * 15 = 256 * t.val - 1; rw [hi.1]; omega
  | ⟨1, _⟩ => show win0_0.index t 1 * 1024 + 1 * k.val = k.val; rw [hi.2]; omega

theorem own_rows (t : Fin cfg0.N) (y : Fin 256) (k : Fin 1024) : (iblk m c 1 t : FVec Ideal S256x1024 .f32) (ix2 y k) = X m c (256 * t.val + y.val) k := by
  have hi := at1 t
  have hp := points t
  refine Eq.trans ?_ (stream_of_lt _ _ (by omega) k).symm
  unfold iblk
  rw [View.read_apply]
  show V m c main_arg0 _ = _
  rw [V_main_arg0]
  refine congrArg _ (funext fun a => Fin.ext ?_)
  match a with
  | ⟨0, _⟩ => show win0_1.index t 0 * 256 + 1 * y.val = 256 * t.val + y.val; rw [hi.1]; omega
  | ⟨1, _⟩ => show win0_1.index t 1 * 1024 + 1 * k.val = k.val; rw [hi.2]; omega

theorem after_rows (t : Fin cfg0.N) (ht : 256 * t.val + 256 < 16640) (k : Fin 1024) : (iblk m c 2 t : FVec Ideal S16x1024 .f32) (ix2 0 k) = X m c (256 * t.val + 256) k := by
  have hp := points t
  have hi := at2 t (by omega)
  refine Eq.trans ?_ (stream_of_lt _ _ (by omega) k).symm
  unfold iblk
  rw [View.read_apply]
  show V m c main_arg0 _ = _
  rw [V_main_arg0]
  refine congrArg _ (funext fun a => Fin.ext ?_)
  match a with
  | ⟨0, _⟩ => show win0_2.index t 0 * 16 + 1 * 0 = 256 * t.val + 256; rw [hi.1]; omega
  | ⟨1, _⟩ => show win0_2.index t 1 * 1024 + 1 * k.val = k.val; rw [hi.2]; omega

theorem modulation_block (t : Fin cfg0.N) (q : Fin 8) (k : Fin 6144) :
    (iblk m c 3 t : FVec Ideal S8x6144 .f32) (ix2 q k) = m ((c : Thread nD τ).loc main_arg1) (ix2 q k) := by
  have hi := at3 t
  unfold iblk
  rw [View.read_apply]
  show V m c main_arg1 _ = _
  rw [V_main_arg1]
  refine congrArg _ (funext fun a => Fin.ext ?_)
  match a with
  | ⟨0, _⟩ => show win0_3.index t 0 * 8 + 1 * q.val = q.val; rw [hi.1]; omega
  | ⟨1, _⟩ => show win0_3.index t 1 * 6144 + 1 * k.val = k.val; rw [hi.2]; omega

theorem gain_value : V m c main_v0 = shapeCast S1x1024 (m ((c : Thread nD τ).loc main_arg2) : FVec Ideal S1024 .f32) shapeCasts_S1024_S1x1024 := by
  unfold V
  after_reads_simp
  rfl

theorem up_value : V m c main_v1 = truncf (F := Ideal) .bf16 (m ((c : Thread nD τ).loc main_arg3) : FVec Ideal S1024x5632 .f32) bitsLt_bf16_f32 := by
  unfold V
  after_reads_simp

theorem bias_value : V m c main_v2 = shapeCast S1x5632 (m ((c : Thread nD τ).loc main_arg5) : FVec Ideal S5632 .f32) shapeCasts_S5632_S1x5632 := by
  unfold V
  after_reads_simp
  rfl

theorem down_value : V m c main_v3 = truncf (F := Ideal) .bf16 (m ((c : Thread nD τ).loc main_arg6) : FVec Ideal S2816x1024 .f32) bitsLt_bf16_f32 := by
  unfold V
  after_reads_simp

theorem gain_block (t : Fin cfg0.N) (k : Fin 1024) : (iblk m c 4 t : FVec Ideal S1x1024 .f32) (ix2 0 k) = m ((c : Thread nD τ).loc main_arg2) (ix1 k) := by
  have hi := at4 t
  refine Eq.trans ?_ (as_row _ k)
  unfold iblk
  rw [View.read_apply]
  show V m c main_v0 _ = _
  rw [gain_value]
  refine congrArg _ (funext fun a => Fin.ext ?_)
  match a with
  | ⟨0, _⟩ => show win0_4.index t 0 * 1 + 1 * 0 = 0; rw [hi.1]
  | ⟨1, _⟩ => show win0_4.index t 1 * 1024 + 1 * k.val = k.val; rw [hi.2]; omega

theorem up_block (t : Fin cfg0.N) (k : Fin 1024) (n : Fin 5632) : (iblk m c 5 t : FVec Ideal S1024x5632 .bf16) (ix2 k n) = m ((c : Thread nD τ).loc main_arg3) (ix2 k n) := by
  have hi := at5 t
  unfold iblk
  rw [View.read_apply]
  show V m c main_v1 _ = _
  rw [up_value]
  refine congrArg (m ((c : Thread nD τ).loc main_arg3)) (funext fun a => Fin.ext ?_)
  match a with
  | ⟨0, _⟩ => show win0_5.index t 0 * 1024 + 1 * k.val = k.val; rw [hi.1]; omega
  | ⟨1, _⟩ => show win0_5.index t 1 * 5632 + 1 * n.val = n.val; rw [hi.2]; omega

theorem conv_block (t : Fin cfg0.N) (d : Fin 3) (n : Fin 5632) : (iblk m c 6 t : FVec Ideal S3x5632 .f32) (ix2 d n) = m ((c : Thread nD τ).loc main_arg4) (ix2 d n) := by
  have hi := at6 t
  unfold iblk
  rw [View.read_apply]
  show V m c main_arg4 _ = _
  rw [V_main_arg4]
  refine congrArg _ (funext fun a => Fin.ext ?_)
  match a with
  | ⟨0, _⟩ => show win0_6.index t 0 * 3 + 1 * d.val = d.val; rw [hi.1]; omega
  | ⟨1, _⟩ => show win0_6.index t 1 * 5632 + 1 * n.val = n.val; rw [hi.2]; omega

theorem bias_block (t : Fin cfg0.N) (n : Fin 5632) : (iblk m c 7 t : FVec Ideal S1x5632 .f32) (ix2 0 n) = m ((c : Thread nD τ).loc main_arg5) (ix1 n) := by
  have hi := at7 t
  refine Eq.trans ?_ (as_long_row _ n)
  unfold iblk
  rw [View.read_apply]
  show V m c main_v2 _ = _
  rw [bias_value]
  refine congrArg _ (funext fun a => Fin.ext ?_)
  match a with
  | ⟨0, _⟩ => show win0_7.index t 0 * 1 + 1 * 0 = 0; rw [hi.1]
  | ⟨1, _⟩ => show win0_7.index t 1 * 5632 + 1 * n.val = n.val; rw [hi.2]; omega

theorem down_block (t : Fin cfg0.N) (n : Fin 2816) (j : Fin 1024) : (iblk m c 8 t : FVec Ideal S2816x1024 .bf16) (ix2 n j) = m ((c : Thread nD τ).loc main_arg6) (ix2 n j) := by
  have hi := at8 t
  unfold iblk
  rw [View.read_apply]
  show V m c main_v3 _ = _
  rw [down_value]
  refine congrArg (m ((c : Thread nD τ).loc main_arg6)) (funext fun a => Fin.ext ?_)
  match a with
  | ⟨0, _⟩ => show win0_8.index t 0 * 2816 + 1 * n.val = n.val; rw [hi.1]; omega
  | ⟨1, _⟩ => show win0_8.index t 1 * 1024 + 1 * j.val = j.val; rw [hi.2]; omega

/-! ## The result array -/

abbrev W : Weights := argWeights (m ((c : Thread nD τ).loc main_arg3)) (m ((c : Thread nD τ).loc main_arg4)) (m ((c : Thread nD τ).loc main_arg5)) (m ((c : Thread nD τ).loc main_arg6))

theorem weights_block (t : Fin cfg0.N) : weights (iblk m c 5 t) (iblk m c 6 t) (iblk m c 7 t) (iblk m c 8 t) = W m c := by
  unfold weights W argWeights
  congr 1
  · exact funext fun k => funext fun n => up_block m c t k n
  · exact funext fun d => funext fun n => conv_block m c t d n
  · exact funext fun n => bias_block m c t n
  · exact funext fun n => funext fun j => down_block m c t n j

/-- The modulation with row `q`. -/
abbrev M (q : Fin 8) : Modulation := argModulation (m ((c : Thread nD τ).loc main_arg1)) (m ((c : Thread nD τ).loc main_arg2)) q

theorem modulation_eq (t : Fin cfg0.N) (q : Fin 8) (hq : q = if second (grid0.coords t) = 1#1 then 1 else 0) :
    modulation (grid0.coords t) (iblk m c 3 t) (iblk m c 4 t) = M m c q := by
  have hr (o : ℕ) (ho : o + 1024 ≤ 6144) (k : Fin 1024) : modRow (iblk m c 3 t) (second (grid0.coords t)) o ho k = m ((c : Thread nD τ).loc main_arg1) (ix2 q ⟨o + k.val, by omega⟩) := by
    unfold modRow
    rw [hq]
    exact modulation_block m c t _ _
  unfold modulation M argModulation
  congr 1
  · exact funext fun k => gain_block m c t k
  · exact funext fun k => hr 4096 _ k
  · exact funext fun k => hr 3072 _ k
  · exact funext fun k => hr 5120 _ k

/-- Row `r` of the result: the first 256 rows are a stream of their own, with their own modulation. -/
def resultRow (r : ℕ) : Fin 1024 → EReal :=
  if r < 256 then rowOut (W m c) (M m c 1) 0 256 (X m c) r else rowOut (W m c) (M m c 0) 256 16640 (X m c) r

/-- The array the feed-forward part of the first layer is. -/
def result : Buf (Elt Ideal) ((c : Thread nD τ).loc main_v5) := fun i => resultRow m c (i 0).val (i 1)

/-- The block at grid point `t`, as rows of the result. -/
theorem block_rows (t : Fin cfg0.N) (y : Fin 256) (j : Fin 1024) :
    blockRow (W m c) (modulation (grid0.coords t) (iblk m c 3 t) (iblk m c 4 t)) (hasBefore (grid0.coords t)) (hasAfter (grid0.coords t))
      (iblk m c 0 t) (iblk m c 1 t) (iblk m c 2 t) y j = resultRow m c (256 * t.val + y.val) j := by
  have hp := points t
  unfold resultRow
  by_cases ht : t.val = 0
  · rw [if_pos (by omega), modulation_eq m c t 1 (by rw [if_pos ((second_at t).2 ht)])]
    exact blockRow_eq _ _ _ _ _ _ _ 0 256 t.val (X m c) (by omega) (by omega) ((before_at t).trans (by omega)) ((after_at t).trans (by omega))
      (fun _ => before_rows m c t (by omega)) (own_rows m c t) (fun _ => after_rows m c t (by omega)) y j
  · rw [if_neg (by omega), modulation_eq m c t 0 (by rw [if_neg (fun h => ht ((second_at t).1 h))])]
    exact blockRow_eq _ _ _ _ _ _ _ 256 16640 t.val (X m c) (by omega) (by omega) ((before_at t).trans (by omega)) ((after_at t).trans (by omega))
      (fun _ => before_rows m c t (by omega)) (own_rows m c t) (fun _ => after_rows m c t (by omega)) y j

theorem flushed_eq (t : Fin cfg0.N) : (dats m 0 c).flushed 10 t = ((cfg0.win 10).blk t).view.read (Elt Ideal) (result m c) := by
  rw [Value.flushed10_A]
  have hi := at10 t
  funext i
  obtain ⟨y, j, rfl⟩ : ∃ (y : Fin 256) (j : Fin 1024), i = ix2 y j := ⟨i 0, i 1, by funext a; fin_cases a <;> rfl⟩
  rw [View.read_apply]
  have hr : result m c (((cfg0.win 10).blk t).view.emb (ix2 y j)) = resultRow m c (256 * t.val + y.val) j := by
    have e0 : ((((cfg0.win 10).blk t).view.emb (ix2 y j)) 0).val = 256 * t.val + y.val := by
      show win0_10.index t 0 * 256 + 1 * y.val = _; rw [hi.1]; omega
    have e1 : (((cfg0.win 10).blk t).view.emb (ix2 y j)) 1 = j := Fin.ext (by
      show win0_10.index t 1 * 1024 + 1 * j.val = _; rw [hi.2]; omega)
    unfold result
    rw [e0, e1]
  refine Eq.trans ?_ hr.symm
  refine (out_eq c (grid0.coords t) _ _ _ _ _ _ _ _ _ _ _ _ _ _ _ _ _ _ _ _ _ _ _ _ _ _ _ _ _ _ (iblk m c 0 t) (iblk m c 1 t) (iblk m c 2 t) (iblk m c 3 t)
    (iblk m c 4 t) (iblk m c 5 t) (iblk m c 6 t) (iblk m c 7 t) (iblk m c 8 t) (iblk m c 9 t) y j).trans ?_
  rw [weights_block]
  exact block_rows m c t y j

/-- The result array. -/
theorem final_eq : (dats m 0 c).arrAt 10 cfg0.N = result m c :=
  (dats m 0 c).arrAt_eq_of_cover 10 (result m c) (fun t _ => flushed_eq m c t) fun i => by
    have hr : (i 0 : Nat) < 16640 := (i 0).isLt
    have hc : (i 1 : Nat) < 1024 := (i 1).isLt
    let t : Fin cfg0.N := ⟨(i 0 : Nat) / 256, by rw [show cfg0.N = 65 from N_0]; omega⟩
    have ht : t.val = (i 0 : Nat) / 256 := rfl
    have hi := at10 t
    refine ⟨t, flush0_10 t, ?_⟩
    show i ∈ ((View.whole main_v5).slice (win0_10.rect t)).set
    rw [View.set_slice_whole, Rect.mem_set_unit]
    intro a
    match a with
    | ⟨0, _⟩ => show win0_10.index t 0 * 256 ≤ (i 0 : Nat) ∧ (i 0 : Nat) < win0_10.index t 0 * 256 + 256
                rw [hi.1, ht]; omega
    | ⟨1, _⟩ => show win0_10.index t 1 * 1024 ≤ (i 1 : Nat) ∧ (i 1 : Nat) < win0_10.index t 1 * 1024 + 1024
                rw [hi.2]; omega

end Cert.Kernel3Ideal.Ffn

end
-- ==== Proof.FfnContext3.lean ====
/-
  The feed-forward reference of the first layer at one place of the first 256 rows.
-/
module

public import proofs.«01_k».proof.Proof.Gen.Reference3Ideal.Read
public import proofs.«01_k».proof.Proof.FfnBlock
public import proofs.«01_k».proof.Proof.FfnRows

@[expose] public section

set_option maxRecDepth 16384

noncomputable section

open scoped BigOperators
open Idealize.ShloMosaic Idealize.ShloMosaic.TcCoe Idealize.SL.Sem

namespace Cert.Reference3Ideal.Ffn.Context

open Cert.Reference3Ideal Cert.Reference3Ideal.Read Cert.Ffn

variable (x0 : FVec Ideal S16640x1024 .f32) (x1 : FVec Ideal S8x6144 .f32) (x2 : FVec Ideal S1024 .f32) (x3 : FVec Ideal S1024x5632 .f32)
  (x4 : FVec Ideal S3x5632 .f32) (x5 : FVec Ideal S5632 .f32) (x6 : FVec Ideal S2816x1024 .f32)

/-- The stream over its rows' root mean squares. -/
theorem rms_apply (r : Fin 256) (k : Fin 1024) : val_main_v71 (F := Ideal) x0 (ix2 r k) = rms (fun k => val_main_v0 (F := Ideal) x0 (ix2 r k)) k := by
  have hi (k' : Fin 1024) : idx_main_v63 (idx_main_v64 (idx_main_v70 (ix2 r k))) k' = ix2 r k' := by funext a; fin_cases a <;> rfl
  rw [val_main_v71_apply, val_main_v70_apply, val_main_v69_apply, val_main_v68_apply, val_main_v67_apply, val_main_v66_apply,
    val_main_v65_apply, val_main_v64_apply, val_main_v63_apply]
  simp only [hi]
  show val_main_v0 (F := Ideal) x0 (ix2 r k) * Ideal.rsqrt (Ideal.div (Ideal.ofBits FTy.f32 0x00000000#32 + ∑ k, val_main_v0 (F := Ideal) x0 (ix2 r k) * val_main_v0 (F := Ideal) x0 (ix2 r k)) _ + _) = _
  rw [Ideal.ofBits_zero_f32, zero_add]
  rfl

/-- The shift, the scale and the gate of the rows. -/
theorem shift_apply (k : Fin 1024) : val_main_v7 (F := Ideal) x1 (ix2 0 k) = x1 (ix2 1 ⟨3072 + k.val, by omega⟩) := by
  pointwise [val_main_v7, val_main_v6]

theorem scale_apply (k : Fin 1024) : val_main_v8 (F := Ideal) x1 (ix2 0 k) = x1 (ix2 1 ⟨4096 + k.val, by omega⟩) := by
  pointwise [val_main_v8, val_main_v6]
  exact congrArg (fun n => x1 (ix2 1 n)) (Fin.ext (by show 3072 + (1024 + k.val) = 4096 + k.val; omega))

theorem gate_apply (k : Fin 1024) : val_main_v9 (F := Ideal) x1 (ix2 0 k) = x1 (ix2 1 ⟨5120 + k.val, by omega⟩) := by
  pointwise [val_main_v9, val_main_v6]
  exact congrArg (fun n => x1 (ix2 1 n)) (Fin.ext (by show 3072 + (2048 + k.val) = 5120 + k.val; omega))

theorem norm_apply (r : Fin 256) (k : Fin 1024) : val_main_v80 (F := Ideal) x0 x1 x2 (ix2 r k)
    = normed (fun k => x2 (ix1 k)) (fun k => x1 (ix2 1 ⟨4096 + k.val, by omega⟩)) (fun k => x1 (ix2 1 ⟨3072 + k.val, by omega⟩)) (fun k => val_main_v0 (F := Ideal) x0 (ix2 r k)) k := by
  simp only [normed, ← rms_apply x0, ← shift_apply x1, ← scale_apply x1]
  unfold val_main_v80 val_main_v78 val_main_v74
  generalize val_main_v71 (F := Ideal) x0 = y
  unfold val_main_v77 val_main_v76
  generalize val_main_v8 (F := Ideal) x1 = w
  pointwise [val_main_v79, val_main_v75, val_main_cst_6, val_main_v73, val_main_v72]

theorem product_apply (r : Fin 256) (n : Fin 5632) : val_main_v81 (F := Ideal) x0 x1 x2 x3 (ix2 r n)
    = ∑ k, val_main_v80 (F := Ideal) x0 x1 x2 (ix2 r k) * x3 (ix2 k n) := by
  unfold val_main_v81
  generalize val_main_v80 (F := Ideal) x0 x1 x2 = y
  pointwise

theorem padded_apply (r : Fin 258) (n : Fin 5632) : val_main_v82 (F := Ideal) x0 x1 x2 x3 (ix2 r n)
    = if h : 1 ≤ r.val ∧ r.val ≤ 256 then val_main_v81 (F := Ideal) x0 x1 x2 x3 (ix2 ⟨r.val - 1, by omega⟩ n) else 0 := by
  unfold val_main_v82
  generalize val_main_v81 (F := Ideal) x0 x1 x2 x3 = y
  exact pad_rows (n := 256) (m := 258) rfl y _ _ _ (fun i => sitofp_zero) r n

theorem conv_apply (r : Fin 256) (n : Fin 5632) : val_main_v105 (F := Ideal) x0 x1 x2 x3 x4 x5 (ix2 r n)
    = val_main_v82 (F := Ideal) x0 x1 x2 x3 (ix2 ⟨r.val, by omega⟩ n) * x4 (ix2 0 n) + val_main_v82 (F := Ideal) x0 x1 x2 x3 (ix2 ⟨1 + r.val, by omega⟩ n) * x4 (ix2 1 n)
      + val_main_v82 (F := Ideal) x0 x1 x2 x3 (ix2 ⟨2 + r.val, by omega⟩ n) * x4 (ix2 2 n) + x5 (ix1 n) := by
  unfold val_main_v105 val_main_v102 val_main_v101 val_main_v96 val_main_v95 val_main_v94 val_main_v89 val_main_v88 val_main_v83
  generalize val_main_v82 (F := Ideal) x0 x1 x2 x3 = y
  pointwise [val_main_v104, val_main_v103, val_main_v100, val_main_v99, val_main_v98, val_main_v97, val_main_v93, val_main_v92, val_main_v91, val_main_v90,
    val_main_v87, val_main_v86, val_main_v85, val_main_v84]

theorem gated_apply (r : Fin 256) (n : Fin 2816) : val_main_v109 (F := Ideal) x0 x1 x2 x3 x4 x5 (ix2 r n)
    = silu (val_main_v105 (F := Ideal) x0 x1 x2 x3 x4 x5 (ix2 r ⟨n.val, by omega⟩)) * val_main_v105 (F := Ideal) x0 x1 x2 x3 x4 x5 (ix2 r ⟨2816 + n.val, by omega⟩) := by
  have h0 (i : S256x2816.Idx) : val_main_call3_v2 (F := Ideal) i = 1 := by
    rw [val_main_call3_v2_apply]
    pointwise [val_main_call3_cst]
  have h1 (i : S256x2816.Idx) : val_main_call3_v4 (F := Ideal) i = 1 := by
    rw [val_main_call3_v4_apply]
    pointwise [val_main_call3_cst_0]
  have ha : idx_main_v106 (ix2 r n) = ix2 r ⟨n.val, by omega⟩ := by funext a; fin_cases a <;> rfl
  have hb : idx_main_v107 (ix2 r n) = ix2 r ⟨2816 + n.val, by omega⟩ := by funext a; fin_cases a <;> rfl
  rw [val_main_v109_apply, val_main_v108_apply, val_main_call3_v5_apply, val_main_call3_v3_apply, val_main_call3_v1_apply, val_main_call3_v0_apply,
    h0, h1, val_main_v106_apply, val_main_v107_apply, ha, hb]
  rfl

theorem sum_apply (r : Fin 256) (j : Fin 1024) : val_main_v113 (F := Ideal) x0 x1 x2 x3 x4 x5 x6 (ix2 r j)
    = val_main_v0 (F := Ideal) x0 (ix2 r j) + x1 (ix2 1 ⟨5120 + j.val, by omega⟩) * ∑ n, val_main_v109 (F := Ideal) x0 x1 x2 x3 x4 x5 (ix2 r n) * x6 (ix2 n j) := by
  rw [← gate_apply x1]
  unfold val_main_v113 val_main_v112 val_main_v110
  generalize val_main_v109 (F := Ideal) x0 x1 x2 x3 x4 x5 = y
  pointwise [val_main_v111]

/-- The first 256 rows. -/
theorem rows (r : Fin 256) (j : Fin 1024) : val_main_v113 (F := Ideal) x0 x1 x2 x3 x4 x5 x6 (ix2 r j)
    = rowOut (argWeights x3 x4 x5 x6) (argModulation x1 x2 1) 0 256 (stream x0) (0 + r.val) j := by
  have row (r : Fin 256) : stream x0 (0 + r.val) = fun k => val_main_v0 (F := Ideal) x0 (ix2 r k) := funext fun k => by
    have hi : idx_main_v0 (ix2 r k) = ix2 ⟨0 + r.val, by omega⟩ k := by
      funext a
      match a with
      | ⟨0, _⟩ => exact Fin.ext (by show r.val = 0 + r.val; omega)
      | ⟨1, _⟩ => rfl
    rw [stream_of_lt x0 (0 + r.val) (by omega), val_main_v0_apply, hi]
  exact result_row (argWeights x3 x4 x5 x6) (argModulation x1 x2 1) (stream x0) 0 256 (n := 256) (m := 258) rfl rfl
    (val_main_v80 (F := Ideal) x0 x1 x2) (val_main_v81 (F := Ideal) x0 x1 x2 x3) (val_main_v82 (F := Ideal) x0 x1 x2 x3) (val_main_v105 (F := Ideal) x0 x1 x2 x3 x4 x5)
    (fun r k => by rw [row]; exact norm_apply x0 x1 x2 r k) (product_apply x0 x1 x2 x3) (padded_apply x0 x1 x2 x3) (conv_apply x0 x1 x2 x3 x4 x5)
    (val_main_v109 (F := Ideal) x0 x1 x2 x3 x4 x5) (val_main_v113 (F := Ideal) x0 x1 x2 x3 x4 x5 x6) (gated_apply x0 x1 x2 x3 x4 x5)
    (fun r k => by rw [row]; exact sum_apply x0 x1 x2 x3 x4 x5 x6 r k) r j

end Cert.Reference3Ideal.Ffn.Context

end
-- ==== Proof.FfnRest3.lean ====
/-
  The feed-forward reference of the first layer at one place of the rows from 256 on.
-/
module

public import proofs.«01_k».proof.Proof.Gen.Reference3Ideal.Read
public import proofs.«01_k».proof.Proof.FfnBlock
public import proofs.«01_k».proof.Proof.FfnRows

@[expose] public section

set_option maxRecDepth 16384

noncomputable section

open scoped BigOperators
open Idealize.ShloMosaic Idealize.ShloMosaic.TcCoe Idealize.SL.Sem

namespace Cert.Reference3Ideal.Ffn.Rest

open Cert.Reference3Ideal Cert.Reference3Ideal.Read Cert.Ffn

variable (x0 : FVec Ideal S16640x1024 .f32) (x1 : FVec Ideal S8x6144 .f32) (x2 : FVec Ideal S1024 .f32) (x3 : FVec Ideal S1024x5632 .f32)
  (x4 : FVec Ideal S3x5632 .f32) (x5 : FVec Ideal S5632 .f32) (x6 : FVec Ideal S2816x1024 .f32)

/-- The stream over its rows' root mean squares. -/
theorem rms_apply (r : Fin 16384) (k : Fin 1024) : val_main_v19 (F := Ideal) x0 (ix2 r k) = rms (fun k => val_main_v1 (F := Ideal) x0 (ix2 r k)) k := by
  have hi (k' : Fin 1024) : idx_main_v11 (idx_main_v12 (idx_main_v18 (ix2 r k))) k' = ix2 r k' := by funext a; fin_cases a <;> rfl
  rw [val_main_v19_apply, val_main_v18_apply, val_main_v17_apply, val_main_v16_apply, val_main_v15_apply, val_main_v14_apply,
    val_main_v13_apply, val_main_v12_apply, val_main_v11_apply]
  simp only [hi]
  show val_main_v1 (F := Ideal) x0 (ix2 r k) * Ideal.rsqrt (Ideal.div (Ideal.ofBits FTy.f32 0x00000000#32 + ∑ k, val_main_v1 (F := Ideal) x0 (ix2 r k) * val_main_v1 (F := Ideal) x0 (ix2 r k)) _ + _) = _
  rw [Ideal.ofBits_zero_f32, zero_add]
  rfl

/-- The shift, the scale and the gate of the rows. -/
theorem shift_apply (k : Fin 1024) : val_main_v3 (F := Ideal) x1 (ix2 0 k) = x1 (ix2 0 ⟨3072 + k.val, by omega⟩) := by
  pointwise [val_main_v3, val_main_v2]

theorem scale_apply (k : Fin 1024) : val_main_v4 (F := Ideal) x1 (ix2 0 k) = x1 (ix2 0 ⟨4096 + k.val, by omega⟩) := by
  pointwise [val_main_v4, val_main_v2]
  exact congrArg (fun n => x1 (ix2 0 n)) (Fin.ext (by show 3072 + (1024 + k.val) = 4096 + k.val; omega))

theorem gate_apply (k : Fin 1024) : val_main_v5 (F := Ideal) x1 (ix2 0 k) = x1 (ix2 0 ⟨5120 + k.val, by omega⟩) := by
  pointwise [val_main_v5, val_main_v2]
  exact congrArg (fun n => x1 (ix2 0 n)) (Fin.ext (by show 3072 + (2048 + k.val) = 5120 + k.val; omega))

theorem norm_apply (r : Fin 16384) (k : Fin 1024) : val_main_v28 (F := Ideal) x0 x1 x2 (ix2 r k)
    = normed (fun k => x2 (ix1 k)) (fun k => x1 (ix2 0 ⟨4096 + k.val, by omega⟩)) (fun k => x1 (ix2 0 ⟨3072 + k.val, by omega⟩)) (fun k => val_main_v1 (F := Ideal) x0 (ix2 r k)) k := by
  simp only [normed, ← rms_apply x0, ← shift_apply x1, ← scale_apply x1]
  unfold val_main_v28 val_main_v26 val_main_v22
  generalize val_main_v19 (F := Ideal) x0 = y
  unfold val_main_v25 val_main_v24
  generalize val_main_v4 (F := Ideal) x1 = w
  pointwise [val_main_v27, val_main_v23, val_main_cst_2, val_main_v21, val_main_v20]

theorem product_apply (r : Fin 16384) (n : Fin 5632) : val_main_v29 (F := Ideal) x0 x1 x2 x3 (ix2 r n)
    = ∑ k, val_main_v28 (F := Ideal) x0 x1 x2 (ix2 r k) * x3 (ix2 k n) := by
  unfold val_main_v29
  generalize val_main_v28 (F := Ideal) x0 x1 x2 = y
  pointwise

theorem padded_apply (r : Fin 16386) (n : Fin 5632) : val_main_v30 (F := Ideal) x0 x1 x2 x3 (ix2 r n)
    = if h : 1 ≤ r.val ∧ r.val ≤ 16384 then val_main_v29 (F := Ideal) x0 x1 x2 x3 (ix2 ⟨r.val - 1, by omega⟩ n) else 0 := by
  unfold val_main_v30
  generalize val_main_v29 (F := Ideal) x0 x1 x2 x3 = y
  exact pad_rows (n := 16384) (m := 16386) rfl y _ _ _ (fun i => sitofp_zero) r n

theorem conv_apply (r : Fin 16384) (n : Fin 5632) : val_main_v53 (F := Ideal) x0 x1 x2 x3 x4 x5 (ix2 r n)
    = val_main_v30 (F := Ideal) x0 x1 x2 x3 (ix2 ⟨r.val, by omega⟩ n) * x4 (ix2 0 n) + val_main_v30 (F := Ideal) x0 x1 x2 x3 (ix2 ⟨1 + r.val, by omega⟩ n) * x4 (ix2 1 n)
      + val_main_v30 (F := Ideal) x0 x1 x2 x3 (ix2 ⟨2 + r.val, by omega⟩ n) * x4 (ix2 2 n) + x5 (ix1 n) := by
  unfold val_main_v53 val_main_v50 val_main_v49 val_main_v44 val_main_v43 val_main_v42 val_main_v37 val_main_v36 val_main_v31
  generalize val_main_v30 (F := Ideal) x0 x1 x2 x3 = y
  pointwise [val_main_v52, val_main_v51, val_main_v48, val_main_v47, val_main_v46, val_main_v45, val_main_v41, val_main_v40, val_main_v39, val_main_v38,
    val_main_v35, val_main_v34, val_main_v33, val_main_v32]

theorem gated_apply (r : Fin 16384) (n : Fin 2816) : val_main_v57 (F := Ideal) x0 x1 x2 x3 x4 x5 (ix2 r n)
    = silu (val_main_v53 (F := Ideal) x0 x1 x2 x3 x4 x5 (ix2 r ⟨n.val, by omega⟩)) * val_main_v53 (F := Ideal) x0 x1 x2 x3 x4 x5 (ix2 r ⟨2816 + n.val, by omega⟩) := by
  have h0 (i : S16384x2816.Idx) : val_main_call1_v2 (F := Ideal) i = 1 := by
    rw [val_main_call1_v2_apply]
    pointwise [val_main_call1_cst]
  have h1 (i : S16384x2816.Idx) : val_main_call1_v4 (F := Ideal) i = 1 := by
    rw [val_main_call1_v4_apply]
    pointwise [val_main_call1_cst_0]
  have ha : idx_main_v54 (ix2 r n) = ix2 r ⟨n.val, by omega⟩ := by funext a; fin_cases a <;> rfl
  have hb : idx_main_v55 (ix2 r n) = ix2 r ⟨2816 + n.val, by omega⟩ := by funext a; fin_cases a <;> rfl
  rw [val_main_v57_apply, val_main_v56_apply, val_main_call1_v5_apply, val_main_call1_v3_apply, val_main_call1_v1_apply, val_main_call1_v0_apply,
    h0, h1, val_main_v54_apply, val_main_v55_apply, ha, hb]
  rfl

theorem sum_apply (r : Fin 16384) (j : Fin 1024) : val_main_v61 (F := Ideal) x0 x1 x2 x3 x4 x5 x6 (ix2 r j)
    = val_main_v1 (F := Ideal) x0 (ix2 r j) + x1 (ix2 0 ⟨5120 + j.val, by omega⟩) * ∑ n, val_main_v57 (F := Ideal) x0 x1 x2 x3 x4 x5 (ix2 r n) * x6 (ix2 n j) := by
  rw [← gate_apply x1]
  unfold val_main_v61 val_main_v60 val_main_v58
  generalize val_main_v57 (F := Ideal) x0 x1 x2 x3 x4 x5 = y
  pointwise [val_main_v59]

/-- The rows from 256 on. -/
theorem rows (r : Fin 16384) (j : Fin 1024) : val_main_v61 (F := Ideal) x0 x1 x2 x3 x4 x5 x6 (ix2 r j)
    = rowOut (argWeights x3 x4 x5 x6) (argModulation x1 x2 0) 256 16640 (stream x0) (256 + r.val) j := by
  have row (r : Fin 16384) : stream x0 (256 + r.val) = fun k => val_main_v1 (F := Ideal) x0 (ix2 r k) := funext fun k => by
    have hi : idx_main_v1 (ix2 r k) = ix2 ⟨256 + r.val, by omega⟩ k := by
      funext a
      match a with
      | ⟨0, _⟩ => exact Fin.ext (by show 256 + r.val = 256 + r.val; omega)
      | ⟨1, _⟩ => rfl
    rw [stream_of_lt x0 (256 + r.val) (by omega), val_main_v1_apply, hi]
  exact result_row (argWeights x3 x4 x5 x6) (argModulation x1 x2 0) (stream x0) 256 16640 (n := 16384) (m := 16386) rfl rfl
    (val_main_v28 (F := Ideal) x0 x1 x2) (val_main_v29 (F := Ideal) x0 x1 x2 x3) (val_main_v30 (F := Ideal) x0 x1 x2 x3) (val_main_v53 (F := Ideal) x0 x1 x2 x3 x4 x5)
    (fun r k => by rw [row]; exact norm_apply x0 x1 x2 r k) (product_apply x0 x1 x2 x3) (padded_apply x0 x1 x2 x3) (conv_apply x0 x1 x2 x3 x4 x5)
    (val_main_v57 (F := Ideal) x0 x1 x2 x3 x4 x5) (val_main_v61 (F := Ideal) x0 x1 x2 x3 x4 x5 x6) (gated_apply x0 x1 x2 x3 x4 x5)
    (fun r k => by rw [row]; exact sum_apply x0 x1 x2 x3 x4 x5 x6 r k) r j

end Cert.Reference3Ideal.Ffn.Rest

end
-- ==== Proof.FfnReference3.lean ====
/-
  The feed-forward reference of the first layer at one place: the first 256 rows and the rest are streams of their own.
-/
module

public import proofs.«01_k».proof.Proof.FfnContext3
public import proofs.«01_k».proof.Proof.FfnRest3

@[expose] public section

set_option maxRecDepth 16384

noncomputable section

open Idealize.ShloMosaic Idealize.ShloMosaic.TcCoe Idealize.SL.Sem

namespace Cert.Reference3Ideal.Ffn

open Cert.Reference3Ideal Cert.Reference3Ideal.Gen Cert.Reference3Ideal.Read Cert.Ffn

variable (x0 : FVec Ideal S16640x1024 .f32) (x1 : FVec Ideal S8x6144 .f32) (x2 : FVec Ideal S1024 .f32) (x3 : FVec Ideal S1024x5632 .f32)
  (x4 : FVec Ideal S3x5632 .f32) (x5 : FVec Ideal S5632 .f32) (x6 : FVec Ideal S2816x1024 .f32)

/-- The reference's result at a place. -/
theorem result_eq (r : Fin 16640) (j : Fin 1024) : val_main_v114 (F := Ideal) x0 x1 x2 x3 x4 x5 x6 (ix2 r j)
    = (if r.val < 256 then rowOut (argWeights x3 x4 x5 x6) (argModulation x1 x2 1) 0 256 (stream x0) r.val
        else rowOut (argWeights x3 x4 x5 x6) (argModulation x1 x2 0) 256 16640 (stream x0) r.val) j := by
  have context := Context.rows x0 x1 x2 x3 x4 x5 x6
  have rest := Rest.rows x0 x1 x2 x3 x4 x5 x6
  unfold val_main_v114
  by_cases hr : r.val < 256
  · rw [if_pos hr]
    refine (concatenate_pair_apply_left (t := S16640x1024) 0 _ _ concatenates_S256x1024_S16384x1024_S16640x1024_d0 (ix2 r j) rfl (ix2 ⟨r.val, hr⟩ j) fun a => ?_).trans ?_
    · match a with
      | ⟨0, _⟩ => rfl
      | ⟨1, _⟩ => rfl
    · rw [context]
      show rowOut _ _ _ _ _ (0 + r.val) j = _
      rw [Nat.zero_add]
  · rw [if_neg hr]
    refine (concatenate_pair_apply_right (t := S16640x1024) 0 _ _ concatenates_S256x1024_S16384x1024_S16640x1024_d0 (ix2 r j) rfl rfl (ix2 ⟨r.val - 256, by omega⟩ j) (fun a ha => ?_) ?_).trans ?_
    · match a with
      | ⟨0, _⟩ => exact absurd rfl ha
      | ⟨1, _⟩ => rfl
    · show r.val - 256 + 256 = r.val
      omega
    · rw [rest]
      show rowOut _ _ _ _ _ (256 + (r.val - 256)) j = _
      rw [show 256 + (r.val - 256) = r.val by omega]

end Cert.Reference3Ideal.Ffn

end
-- ==== Proof.FfnClaim3.lean ====
/-
  The claims of the feed-forward part of the first layer: both programs run and leave their arguments unchanged, and their
  result arrays are equal.
-/
module

public import proofs.«01_k».proof.Defs
public import proofs.«01_k».proof.Proof.FfnArray3
public import proofs.«01_k».proof.Proof.FfnReference3
public import proofs.«01_k».proof.Proof.Gen.Kernel3
public import proofs.«01_k».proof.Proof.Gen.Kernel3.Frame
public import Idealize.ShloMosaic.Lib.Quiescent

@[expose] public section

noncomputable section

open Idealize.ShloMosaic Idealize.SL.Sem

namespace Cert.FfnClaim3

theorem kernel_runs : Cert.quiescent_Kernel3 := fun m g _ => Cert.Kernel3.Gen.frame m g

theorem ideal_runs : Cert.quiescent_Kernel3Ideal := fun m g _ => Cert.Kernel3Ideal.Gen.frame m g

theorem reference_runs : Cert.quiescent_Reference3Ideal := fun m g _ =>
  (θ_run _ _ _).mono (fun r h => ⟨fun c => (h c).2, Idealize.ShloMosaic.sem_eq_zero_of_no_sems (by decide) r.2⟩)
    (Cert.Reference3Ideal.Value.run m g)

/-- Kernel and reference compute the same array. -/
theorem equal : Cert.algebraic_Kernel3Ideal_Reference3Ideal := by
  intro m g m' g' _ hargs
  refine ⟨fun c => (Cert.Kernel3Ideal.Gen.dats m 0 c).arrAt 10 Cert.Kernel3Ideal.cfg0.N, Cert.Kernel3Ideal.Value.run_blocks m g,
    (θ_run _ _ _).mono (fun r h c => ⟨(h c).1.trans ?_, (h c).2⟩) (Cert.Reference3Ideal.Value.run m' g')⟩
  obtain ⟨a0, a1, a2, a3, a4, a5, a6, a7⟩ := hargs c
  refine Eq.trans ?_ (Cert.Kernel3Ideal.Ffn.final_eq m c).symm
  rw [Cert.Reference3Ideal.Read.val_main_v114_eq, a0, a1, a2, a3, a4, a5, a6]
  funext i
  obtain ⟨x, y, rfl⟩ : ∃ (x : Fin 16640) (y : Fin 1024), i = ix2 x y := ⟨i 0, i 1, by funext a; fin_cases a <;> rfl⟩
  exact Cert.Reference3Ideal.Ffn.result_eq _ _ _ _ _ _ _ x y

end Cert.FfnClaim3

end
-- ==== Proof.GlaSpec.lean ====
/-
  The projections of the gated linear attention of the first layer, over the extended reals: a normalised row of the
  stream times the weights of queries, keys, values and output gates, and the logarithms of the decay gates, which come
  from a product through 16 columns.
-/
module

public import proofs.«01_k».proof.Proof.FfnSpec

@[expose] public section

set_option backward.proofsInPublic true

noncomputable section

open scoped BigOperators
open Idealize.ShloMosaic

namespace Cert.Gla

open Cert.Ffn

/-- The product of a row and a column. -/
def dot (h w : Fin 1024 → EReal) : EReal := ∑ k, h k * w k

/-- The logarithm of the logistic function. -/
def logSigmoid (z : EReal) : EReal := min z 0 - Ideal.log1p (Ideal.exp (-(max z (-z))))

/-- The logarithm of a decay gate, for the row `h`. -/
def gate (h : Fin 1024 → EReal) (a : Fin 1024 → Fin 16 → EReal) (b : Fin 16 → EReal) (c : EReal) : EReal :=
  logSigmoid (∑ j, dot h (fun k => a k j) * b j + c) * Ideal.ofBits FTy.f32 0x3D800000#32

/-- `log (1 + e ^ x)` is never minus infinity. -/
theorem log1p_exp_ne_bot (x : EReal) : Ideal.log1p (Ideal.exp x) ≠ ⊥ := by
  induction x with
  | bot =>
    show Ideal.log (1 + 0) ≠ ⊥
    rw [add_zero, ← EReal.coe_one]
    show (if _ then _ else _) ≠ ⊥
    rw [if_neg (by norm_num)]
    exact EReal.coe_ne_bot _
  | top =>
    show Ideal.log (1 + ⊤) ≠ ⊥
    rw [EReal.add_top_of_ne_bot (x := 1) (EReal.coe_ne_bot 1)]
    exact top_ne_bot
  | coe x =>
    have h : ¬ (1 + Real.exp x ≤ 0) := by have := Real.exp_pos x; linarith
    show Ideal.log (1 + ((Real.exp x : ℝ) : EReal)) ≠ ⊥
    rw [← EReal.coe_one, ← EReal.coe_add]
    show (if _ then _ else _) ≠ ⊥
    rw [if_neg h]
    exact EReal.coe_ne_bot _

theorem neg_max_neg (z : EReal) : -(max (-z) 0) = min z 0 := by
  rcases le_total z 0 with h | h
  · rw [min_eq_left h, max_eq_left (by simpa using EReal.neg_le_neg_iff.2 h), neg_neg]
  · rw [min_eq_right h, max_eq_right (by simpa using EReal.neg_le_neg_iff.2 h), neg_zero]

/-- The negated softplus of `-z`. -/
theorem neg_softplus (z : EReal) : -(max (-z) 0 + Ideal.log1p (Ideal.exp (-(max (-z) (- -z))))) = logSigmoid z := by
  have h0 : max (-z) 0 ≠ ⊥ := ne_of_gt (lt_of_lt_of_le EReal.bot_lt_zero (le_max_right _ _))
  rw [EReal.neg_add (.inl h0) (.inr (log1p_exp_ne_bot _)), neg_max_neg, neg_neg, max_comm (-z) z]
  rfl

/-- The quotient by 16. -/
theorem div_sixteen (x : EReal) : Ideal.div x (Ideal.ofBits FTy.f32 0x41800000#32) = x * Ideal.ofBits FTy.f32 0x3D800000#32 := by
  have h16 : Ideal.ofBits FTy.f32 0x41800000#32 = ((16 : ℝ) : EReal) := by simp [Ideal.ofBits, Ideal.ieee]; rw [← EReal.coe_mul]; norm_num
  have h1 : Ideal.ofBits FTy.f32 0x3D800000#32 = ((16⁻¹ : ℝ) : EReal) := by simp only [Ideal.ofBits, Ideal.ieee]; simp; rw [← EReal.coe_mul]; norm_num
  rw [h16, h1]
  unfold Ideal.div
  rw [if_neg (by simp), EReal.coe_inv]

/-- A sum over 128 terms of which all but 16 are zero. -/
theorem sum_window (d : Fin 2) (a p : Fin 128 → EReal) (b : Fin 16 → EReal)
    (hp : ∀ j : Fin 128, p j = if j.val / 16 = d.val then b ⟨j.val % 16, by omega⟩ else 0) :
    ∑ j, a j * p j = ∑ j : Fin 16, a ⟨16 * d.val + j.val, by omega⟩ * b j := by
  symm
  refine Finset.sum_of_injOn (fun j : Fin 16 => (⟨16 * d.val + j.val, by omega⟩ : Fin 128)) (fun i _ j _ h => ?_) (fun _ _ => by simp) (fun j _ hj => ?_) (fun j _ => ?_)
  · have := congrArg Fin.val h
    exact Fin.ext (by dsimp only at this; omega)
  · rw [hp, if_neg (fun h => hj ⟨⟨j.val % 16, by omega⟩, by simp, Fin.ext (by show 16 * d.val + j.val % 16 = j.val; omega)⟩), mul_zero]
  · rw [hp, if_pos (by show (16 * d.val + j.val) / 16 = d.val; omega)]
    exact congrArg (fun n => _ * b n) (Fin.ext (by show j.val = (16 * d.val + j.val) % 16; omega))

/-- The normalised rows of the stream: 256 rows of context with the second row of the modulation, then the rest with the first. -/
def rowOf (ctx : FVec Ideal ⟨2, ![256, 1024]⟩ .f32) (x : FVec Ideal ⟨2, ![16384, 1024]⟩ .f32) (μ : FVec Ideal ⟨2, ![8, 6144]⟩ .f32) (g : FVec Ideal ⟨1, ![1024]⟩ .f32)
    (r : Fin 16640) : Fin 1024 → EReal :=
  if h : r.val < 256 then
    normed (fun k => g (ix1 k)) (fun k => μ (ix2 1 ⟨1024 + k.val, by omega⟩)) (fun k => μ (ix2 1 ⟨k.val, by omega⟩)) (fun k => ctx (ix2 ⟨r.val, h⟩ k))
  else
    normed (fun k => g (ix1 k)) (fun k => μ (ix2 0 ⟨1024 + k.val, by omega⟩)) (fun k => μ (ix2 0 ⟨k.val, by omega⟩)) (fun k => x (ix2 ⟨r.val - 256, by omega⟩ k))

/-- The normalised rows times the columns of `w`. -/
def project {n : ℕ} (ctx : FVec Ideal ⟨2, ![256, 1024]⟩ .f32) (x : FVec Ideal ⟨2, ![16384, 1024]⟩ .f32) (μ : FVec Ideal ⟨2, ![8, 6144]⟩ .f32) (g : FVec Ideal ⟨1, ![1024]⟩ .f32)
    (w : FVec Ideal ⟨2, ![1024, n]⟩ .f32) (r : Fin 16640) (c : Fin n) : EReal := dot (rowOf ctx x μ g r) (fun k => w (ix2 k c))

/-- The gate in column `n` of the 1024, which are two halves. -/
def gateAt (h : Fin 1024 → EReal) (a : FVec Ideal ⟨3, ![2, 1024, 16]⟩ .f32) (b : FVec Ideal ⟨3, ![2, 16, 512]⟩ .f32) (c : FVec Ideal ⟨2, ![2, 512]⟩ .f32) (n : Fin 1024) : EReal :=
  gate h (fun k j => a (ix3 ⟨n.val / 512, by omega⟩ k j)) (fun j => b (ix3 ⟨n.val / 512, by omega⟩ j ⟨n.val % 512, by omega⟩)) (c (ix2 ⟨n.val / 512, by omega⟩ ⟨n.val % 512, by omega⟩))

end Cert.Gla

end
-- ==== Proof.GlaPayloads.lean ====
/-
  What the projection kernel computes from the values it has loaded, read at one place.
-/
module

public import proofs.«01_k».proof.Proof.GlaSpec
public import proofs.«01_k».proof.Proof.Gen.Kernel4Ideal.Frame
public import Idealize.ShloMosaic.Lib.Pointwise

@[expose] public section

set_option maxRecDepth 16384

noncomputable section

open scoped BigOperators
open Idealize.ShloMosaic

namespace Cert.Gla

open Cert.Kernel4Ideal Cert.Kernel4Ideal.Gen Cert.Ffn

/-- Whether the grid point's rows are the context's. -/
abbrev isContext (i : grid0.Coords) : BitVec 1 := Scalar.cmpi .eq (BitVec.ofNat 32 (i 0).val) 0#32

section Rows

variable (i : grid0.Coords) (a b : FVec Ideal S256x1024 .f32) (g s1 s0 b1 b0 : FVec Ideal S1x1024 .f32)

theorem rows_apply (r : Fin 256) (k : Fin 1024) : k0_pay2 (F := Ideal) i a b g s1 s0 b1 b0 (ix2 r k)
    = normed (fun k => g (ix2 0 k)) (fun k => (Scalar.select (isContext i) s1 s0 : FVec Ideal S1x1024 .f32) (ix2 0 k))
        (fun k => (Scalar.select (isContext i) b1 b0 : FVec Ideal S1x1024 .f32) (ix2 0 k)) (fun k => (Scalar.select (isContext i) a b : FVec Ideal S256x1024 .f32) (ix2 r k)) k := by
  pointwise [k0_pay2]
  simp only [normed, rms]

theorem product_apply (w : FVec Ideal S1024x3072 .bf16) (r : Fin 256) (n : Fin 3072) : k0_pay3 (F := Ideal) i a b g s1 s0 b1 b0 w (ix2 r n)
    = dot (fun k => k0_pay2 (F := Ideal) i a b g s1 s0 b1 b0 (ix2 r k)) (fun k => w (ix2 k n)) := by
  unfold k0_pay3
  generalize k0_pay2 (F := Ideal) i a b g s1 s0 b1 b0 = h
  pointwise
  rfl

theorem query_apply (w : FVec Ideal S1024x3072 .bf16) (r : Fin 256) (n : Fin 512) : k0_pay6 (F := Ideal) (k0_pay4 (F := Ideal) i a b g s1 s0 b1 b0 w) (k0_pay5 (F := Ideal)) (ix2 r n)
    = k0_pay3 (F := Ideal) i a b g s1 s0 b1 b0 w (ix2 r ⟨n.val, by omega⟩) * Ideal.ofBits FTy.f32 0x3DB504F3#32 := by
  unfold k0_pay4
  generalize k0_pay3 (F := Ideal) i a b g s1 s0 b1 b0 w = p
  pointwise [k0_pay6, k0_pay5]

end Rows

section Outputs

variable (p : FVec Ideal S256x3072 .f32)

theorem key_apply (r : Fin 256) (n : Fin 512) : k0_pay7 (F := Ideal) p (ix2 r n) = p (ix2 r ⟨512 + n.val, by omega⟩) := by
  pointwise [k0_pay7]

theorem value_apply (r : Fin 256) (n : Fin 1024) : k0_pay8 (F := Ideal) p (ix2 r n) = p (ix2 r ⟨1024 + n.val, by omega⟩) := by
  pointwise [k0_pay8]

theorem out_gate_apply (r : Fin 256) (n : Fin 1024) : k0_pay9 (F := Ideal) p (ix2 r n) = silu (p (ix2 r ⟨2048 + n.val, by omega⟩)) := by
  pointwise [k0_pay9]
  simp only [silu, sub_eq_add_neg, Ideal.ofBits_zero_f32, zero_add]

theorem decay_sum_apply (h : FVec Ideal S256x1024 .bf16) (u : FVec Ideal S1024x128 .bf16) (v : FVec Ideal S128x1024 .bf16) (c : FVec Ideal S1x1024 .f32) (r : Fin 256) (n : Fin 1024) :
    k0_pay10 (F := Ideal) h u v c (ix2 r n) = ∑ j, dot (fun k => h (ix2 r k)) (fun k => u (ix2 k j)) * v (ix2 j n) + c (ix2 0 n) := by
  pointwise [k0_pay10]
  rfl

theorem decay_apply (h : FVec Ideal S256x1024 .bf16) (u : FVec Ideal S1024x128 .bf16) (v : FVec Ideal S128x1024 .bf16) (c : FVec Ideal S1x1024 .f32) (r : Fin 256) (n : Fin 1024) :
    k0_pay1 (F := Ideal) (k0_pay11 (F := Ideal) h u v c) (k0_pay12 (F := Ideal) h u v c) (ix2 r n)
      = logSigmoid (∑ j, dot (fun k => h (ix2 r k)) (fun k => u (ix2 k j)) * v (ix2 j n) + c (ix2 0 n)) * Ideal.ofBits FTy.f32 0x3D800000#32 := by
  rw [← decay_sum_apply]
  unfold k0_pay11 k0_pay12
  generalize k0_pay10 (F := Ideal) h u v c = z
  pointwise [k0_pay1]
  simp only [logSigmoid, sub_eq_add_neg, Ideal.ofBits_zero_f32, zero_add]
  rfl

/-- The gate, when the weights of the two products are the two halves' beside zeros. -/
theorem decay_eq (h : FVec Ideal S256x1024 .bf16) (u : FVec Ideal S1024x128 .bf16) (v : FVec Ideal S128x1024 .bf16) (c : FVec Ideal S1x1024 .f32)
    (a : FVec Ideal S2x1024x16 .f32) (b : FVec Ideal S2x16x512 .f32) (e : FVec Ideal S2x512 .f32)
    (hu : ∀ (d : Fin 2) (k : Fin 1024) (j : Fin 16), u (ix2 k ⟨16 * d.val + j.val, by omega⟩) = a (ix3 d k j))
    (hv : ∀ (j : Fin 128) (n : Fin 1024), v (ix2 j n)
      = if j.val / 16 = n.val / 512 then b (ix3 ⟨n.val / 512, by omega⟩ ⟨j.val % 16, by omega⟩ ⟨n.val % 512, by omega⟩) else 0)
    (hc : ∀ n : Fin 1024, c (ix2 0 n) = e (ix2 ⟨n.val / 512, by omega⟩ ⟨n.val % 512, by omega⟩)) (r : Fin 256) (n : Fin 1024) :
    k0_pay1 (F := Ideal) (k0_pay11 (F := Ideal) h u v c) (k0_pay12 (F := Ideal) h u v c) (ix2 r n) = gateAt (fun k => h (ix2 r k)) a b e n := by
  rw [decay_apply]
  unfold gateAt gate
  rw [hc, sum_window ⟨n.val / 512, by omega⟩ _ _ (fun j => b (ix3 ⟨n.val / 512, by omega⟩ j ⟨n.val % 512, by omega⟩)) (fun j => hv j n)]
  exact congrArg (fun z => logSigmoid (z + _) * _) (Finset.sum_congr rfl fun j _ => congrArg (fun z => dot _ z * _) (funext fun k => hu ⟨n.val / 512, by omega⟩ k j))

end Outputs

end Cert.Gla

end
-- ==== Proof.GlaBlock.lean ====
/-
  One grid point of the projection kernel: what it leaves in the five blocks of its results, at one place.
-/
module

public import proofs.«01_k».proof.Proof.GlaPayloads
public import Idealize.ShloMosaic.Lib.Pipeline.Value

@[expose] public section

set_option maxRecDepth 16384

noncomputable section

open scoped BigOperators
open Idealize.ShloMosaic Idealize.SL.Sem

namespace Cert.Gla

open Cert.Kernel4Ideal Cert.Kernel4Ideal.Gen Cert.Ffn

/-! ## Loads of whole blocks -/

theorem load0 (x : Vec Ideal S256x1024 .f32) : View.ld x r0_0 = x := View.ld_unit_zero (funext fun a => by fin_cases a <;> rfl) _ x
theorem load1 (x : Vec Ideal S1x1024 .f32) : View.ld x r0_1 = x := View.ld_unit_zero (funext fun a => by fin_cases a <;> rfl) _ x
theorem load6 (x : Vec Ideal S1024x3072 .bf16) : View.ld x r0_6 = x := View.ld_unit_zero (funext fun a => by fin_cases a <;> rfl) _ x
theorem load8 (x : Vec Ideal S1024x128 .bf16) : View.ld x r0_8 = x := View.ld_unit_zero (funext fun a => by fin_cases a <;> rfl) _ x
theorem load9 (x : Vec Ideal S128x1024 .bf16) : View.ld x r0_9 = x := View.ld_unit_zero (funext fun a => by fin_cases a <;> rfl) _ x

/-! ## The block -/

variable (i : grid0.Coords) (x0 x1 : Vec Ideal S256x1024 .f32) (x2 : Vec Ideal S8x6144 .f32) (x3 : Vec Ideal S1x1024 .f32)
  (x4 : Vec Ideal S1024x3072 .bf16) (x5 : Vec Ideal S1024x128 .bf16) (x6 : Vec Ideal S128x1024 .bf16) (x7 : Vec Ideal S1x1024 .f32)

/-- Row `y` of the block, normalised. -/
def blockRow (y : Fin 256) : Fin 1024 → EReal :=
  if isContext i = 1#1 then
    normed (fun k => x3 (ix2 0 k)) (fun k => x2 (ix2 1 ⟨1024 + k.val, by omega⟩)) (fun k => x2 (ix2 1 ⟨k.val, by omega⟩)) (fun k => x0 (ix2 y k))
  else
    normed (fun k => x3 (ix2 0 k)) (fun k => x2 (ix2 0 ⟨1024 + k.val, by omega⟩)) (fun k => x2 (ix2 0 ⟨k.val, by omega⟩)) (fun k => x1 (ix2 y k))

theorem row_eq (y : Fin 256) : (fun k => k0_pay2 (F := Ideal) i (View.ld x0 r0_0) (View.ld x1 r0_0) (View.ld x3 r0_1) (View.ld x2 r0_2) (View.ld x2 r0_3) (View.ld x2 r0_4) (View.ld x2 r0_5) (ix2 y k))
    = blockRow i x0 x1 x2 x3 y := by
  have l2 : (fun k : Fin 1024 => (View.ld x2 r0_2 : Vec Ideal S1x1024 .f32) (ix2 0 k)) = fun k => x2 (ix2 1 ⟨1024 + k.val, by omega⟩) := funext fun k => congrArg x2 (funext fun a => Fin.ext (by
    match a with
    | ⟨0, _⟩ => show 1 + 1 * 0 = 1; omega
    | ⟨1, _⟩ => show 1024 + 1 * k.val = 1024 + k.val; omega))
  have l3 : (fun k : Fin 1024 => (View.ld x2 r0_3 : Vec Ideal S1x1024 .f32) (ix2 0 k)) = fun k => x2 (ix2 0 ⟨1024 + k.val, by omega⟩) := funext fun k => congrArg x2 (funext fun a => Fin.ext (by
    match a with
    | ⟨0, _⟩ => show 0 + 1 * 0 = 0; omega
    | ⟨1, _⟩ => show 1024 + 1 * k.val = 1024 + k.val; omega))
  have l4 : (fun k : Fin 1024 => (View.ld x2 r0_4 : Vec Ideal S1x1024 .f32) (ix2 0 k)) = fun k => x2 (ix2 1 ⟨k.val, by omega⟩) := funext fun k => congrArg x2 (funext fun a => Fin.ext (by
    match a with
    | ⟨0, _⟩ => show 1 + 1 * 0 = 1; omega
    | ⟨1, _⟩ => show 0 + 1 * k.val = k.val; omega))
  have l5 : (fun k : Fin 1024 => (View.ld x2 r0_5 : Vec Ideal S1x1024 .f32) (ix2 0 k)) = fun k => x2 (ix2 0 ⟨k.val, by omega⟩) := funext fun k => congrArg x2 (funext fun a => Fin.ext (by
    match a with
    | ⟨0, _⟩ => show 0 + 1 * 0 = 0; omega
    | ⟨1, _⟩ => show 0 + 1 * k.val = k.val; omega))
  funext k
  rw [rows_apply, load0 x0, load0 x1, load1 x3]
  unfold blockRow
  by_cases h : isContext i = 1#1
  · rw [if_pos h, ← l2, ← l4]
    simp only [Scalar.select, if_pos (show isContext i = 1 from h)]
  · rw [if_neg h, ← l3, ← l5]
    simp only [Scalar.select, if_neg (show ¬ isContext i = 1 from h)]

theorem product_eq (y : Fin 256) (n : Fin 3072) : k0_pay3 (F := Ideal) i (View.ld x0 r0_0) (View.ld x1 r0_0) (View.ld x3 r0_1) (View.ld x2 r0_2) (View.ld x2 r0_3) (View.ld x2 r0_4) (View.ld x2 r0_5) (View.ld x4 r0_6) (ix2 y n)
    = dot (blockRow i x0 x1 x2 x3 y) (fun k => x4 (ix2 k n)) := by
  rw [product_apply, row_eq, load6 x4]

theorem queries_block (y : Fin 256) (n : Fin 512) : out0_8 (F := Ideal) i x0 x1 x2 x3 x4 x5 x6 x7 (ix2 y n)
    = dot (blockRow i x0 x1 x2 x3 y) (fun k => x4 (ix2 k ⟨n.val, by omega⟩)) * Ideal.ofBits FTy.f32 0x3DB504F3#32 := by
  unfold out0_8
  rw [View.canon_unit_zero (funext fun a => by fin_cases a <;> rfl), query_apply, product_eq]

theorem keys_block (y : Fin 256) (n : Fin 512) : out0_9 (F := Ideal) i x0 x1 x2 x3 x4 x5 x6 x7 (ix2 y n)
    = dot (blockRow i x0 x1 x2 x3 y) (fun k => x4 (ix2 k ⟨512 + n.val, by omega⟩)) := by
  unfold out0_9 k0_pay14
  rw [View.canon_unit_zero (funext fun a => by fin_cases a <;> rfl), key_apply, product_eq]

theorem values_block (y : Fin 256) (n : Fin 1024) : out0_10 (F := Ideal) i x0 x1 x2 x3 x4 x5 x6 x7 (ix2 y n)
    = dot (blockRow i x0 x1 x2 x3 y) (fun k => x4 (ix2 k ⟨1024 + n.val, by omega⟩)) := by
  unfold out0_10 k0_pay14
  rw [View.canon_unit_zero (funext fun a => by fin_cases a <;> rfl), value_apply, product_eq]

theorem out_gates_block (y : Fin 256) (n : Fin 1024) : out0_11 (F := Ideal) i x0 x1 x2 x3 x4 x5 x6 x7 (ix2 y n)
    = silu (dot (blockRow i x0 x1 x2 x3 y) (fun k => x4 (ix2 k ⟨2048 + n.val, by omega⟩))) := by
  unfold out0_11 k0_pay14
  rw [View.canon_unit_zero (funext fun a => by fin_cases a <;> rfl), out_gate_apply, product_eq]

theorem decays_block (a : FVec Ideal S2x1024x16 .f32) (b : FVec Ideal S2x16x512 .f32) (e : FVec Ideal S2x512 .f32)
    (hu : ∀ (d : Fin 2) (k : Fin 1024) (j : Fin 16), x5 (ix2 k ⟨16 * d.val + j.val, by omega⟩) = a (ix3 d k j))
    (hv : ∀ (j : Fin 128) (n : Fin 1024), x6 (ix2 j n)
      = if j.val / 16 = n.val / 512 then b (ix3 ⟨n.val / 512, by omega⟩ ⟨j.val % 16, by omega⟩ ⟨n.val % 512, by omega⟩) else 0)
    (hc : ∀ n : Fin 1024, x7 (ix2 0 n) = e (ix2 ⟨n.val / 512, by omega⟩ ⟨n.val % 512, by omega⟩)) (y : Fin 256) (n : Fin 1024) :
    out0_12 (F := Ideal) i x0 x1 x2 x3 x4 x5 x6 x7 (ix2 y n) = gateAt (blockRow i x0 x1 x2 x3 y) a b e n := by
  unfold out0_12 k0_pay13
  rw [View.canon_unit_zero (funext fun a => by fin_cases a <;> rfl), load8 x5, load9 x6, load1 x7, decay_eq _ _ _ _ a b e hu hv hc, row_eq]

end Cert.Gla

end
-- ==== Proof.GlaScatter.lean ====
/-
  The weights of the decay gates as the kernel lays them out: two narrow arrays written beside each other into zeros.
-/
module

public import proofs.«01_k».proof.Proof.GlaSpec
public import proofs.«01_k».proof.Proof.Gen.Kernel4Ideal.Frame
public import Idealize.ShloMosaic.Lib.Pipeline.Value
public import Idealize.ShloMosaic.Lib.Routing.OpsSet
public import Idealize.ShloMosaic.Lib.Routing.OpsPair
public import Idealize.ShloMosaic.Lib.Pointwise

@[expose] public section

set_option maxRecDepth 16384
set_option backward.proofsInPublic true

noncomputable section

open Idealize.ShloMosaic Idealize.SL.Sem

namespace Cert.Gla

open Cert.Kernel4Ideal Cert.Kernel4Ideal.Gen Idealize.ShloMosaic.Routing

/-- An array written into another one from place `(p, q)` on. -/
theorem scatter_window {R C P Q w : ℕ} {si : Shape} (d : ScatterDims (shape2 R C) si (shape2 P Q)) (idx : IVec si w) (p q : ℕ)
    (h0 : ∀ j : (shape2 P Q).Idx, d.start j idx 0 + (d.window j 0 : Int) = (p : Int) + ((j 0).val : Int))
    (h1 : ∀ j : (shape2 P Q).Idx, d.start j idx 1 + (d.window j 1 : Int) = (q : Int) + ((j 1).val : Int))
    (x : (shape2 R C).Idx → EReal) (u : (shape2 P Q).Idx → EReal) (r : Fin R) (c : Fin C) :
    Host.scatter d (fun _ b => b) x idx u (ix2 r c)
      = if h : (p ≤ r.val ∧ r.val < p + P) ∧ q ≤ c.val ∧ c.val < q + Q then u (ix2 ⟨r.val - p, by omega⟩ ⟨c.val - q, by omega⟩) else x (ix2 r c) := by
  have land (j : (shape2 P Q).Idx) : d.resultIdx? j idx = some (ix2 r c) ↔ (p : Int) + ((j 0).val : Int) = (r.val : Int) ∧ (q : Int) + ((j 1).val : Int) = (c.val : Int) := by
    refine (Routing.resultIdx?_ix2 d j idx r c).trans ?_
    rw [h0, h1]
  split
  case isTrue h =>
    refine Routing.scatter_set_hit d x idx u _ _ (fun j hj => ?_) (ix2 ⟨r.val - p, by omega⟩ ⟨c.val - q, by omega⟩) ((land _).2 ⟨?_, ?_⟩)
    · have hl := (land j).1 hj
      refine congrArg u (funext fun a => Fin.ext ?_)
      match a with
      | ⟨0, _⟩ => show (j 0).val = r.val - p; have := hl.1; omega
      | ⟨1, _⟩ => show (j 1).val = c.val - q; have := hl.2; omega
    · show (p : Int) + ((r.val - p : ℕ) : Int) = _; omega
    · show (q : Int) + ((c.val - q : ℕ) : Int) = _; omega
  case isFalse h =>
    refine Routing.scatter_set_miss d x idx u _ fun j hj => h ?_
    have hl := (land j).1 hj
    have b0 : (j 0).val < P := (j 0).isLt
    have b1 : (j 1).val < Q := (j 1).isLt
    omega

/-- The start of both axes, from an index vector of two entries. -/
abbrev pair (a b : BitVec 32) : IVec S2 32 := concatenate S2 0 [⟨S1, fun _ => a⟩, ⟨S1, fun _ => b⟩] concatenates_S1_S1_S2_d0

theorem pair0 (a b : BitVec 32) : pair a b (ix1 0) = a :=
  concatenate_pair_apply_left (t := S2) 0 (fun _ => a) (fun _ => b) concatenates_S1_S1_S2_d0 (ix1 0) rfl (ix1 0) fun a => by fin_cases a; rfl

theorem pair1 (a b : BitVec 32) : pair a b (ix1 1) = b :=
  concatenate_pair_apply_right (t := S2) 0 (fun _ => a) (fun _ => b) concatenates_S1_S1_S2_d0 (ix1 1) rfl rfl (ix1 0) (fun a ha => absurd (by fin_cases a; rfl) ha) rfl

/-- The columns of a written array from column `q` on. -/
theorem columns (q : ℕ) (idx : IVec S1 32) (hi : ∀ i, (idx i).toInt = q) (x : FVec Ideal S1024x128 .f32) (u : FVec Ideal S1024x16 .f32) (r : Fin 1024) (c : Fin 128) :
    Host.scatter scatter_S1024x128_S1_S1024x16_01_n_1_0 (fun _ b => b) x idx u (ix2 r c)
      = if h : q ≤ c.val ∧ c.val < q + 16 then u (ix2 r ⟨c.val - q, by omega⟩) else x (ix2 r c) := by
  refine (scatter_window (R := 1024) (C := 128) (P := 1024) (Q := 16) scatter_S1024x128_S1_S1024x16_01_n_1_0 idx 0 q (fun j => rfl) (fun j => ?_) x u r c).trans ?_
  · have hs : scatter_S1024x128_S1_S1024x16_01_n_1_0.start j idx 1 = q := by
      unfold ScatterDims.start
      rw [dif_pos (by decide)]
      exact hi _
    have hw : scatter_S1024x128_S1_S1024x16_01_n_1_0.window j 1 = (j 1).val := rfl
    rw [hs, hw]
  · by_cases h : q ≤ c.val ∧ c.val < q + 16
    · rw [dif_pos h, dif_pos ⟨⟨Nat.zero_le _, by omega⟩, h⟩]
      rfl
    · rw [dif_neg h, dif_neg (fun hn => h hn.2)]

/-- The block of a written array from place `(p, q)` on. -/
theorem corner (p q : ℕ) (a b : BitVec 32) (ha : a.toInt = p) (hb : b.toInt = q) (x : FVec Ideal S128x1024 .f32) (u : FVec Ideal S16x512 .f32) (r : Fin 128) (c : Fin 1024) :
    Host.scatter scatter_S128x1024_S2_S16x512_01_n_01_0 (fun _ b => b) x (pair a b) u (ix2 r c)
      = if h : (p ≤ r.val ∧ r.val < p + 16) ∧ q ≤ c.val ∧ c.val < q + 512 then u (ix2 ⟨r.val - p, by omega⟩ ⟨c.val - q, by omega⟩) else x (ix2 r c) := by
  refine scatter_window (R := 128) (C := 1024) (P := 16) (Q := 512) scatter_S128x1024_S2_S16x512_01_n_01_0 (pair a b) p q (fun j => ?_) (fun j => ?_) x u r c
  · have hs : scatter_S128x1024_S2_S16x512_01_n_01_0.start j (pair a b) 0 = p := by
      unfold ScatterDims.start
      rw [dif_pos (by decide)]
      exact (congrArg BitVec.toInt ((congrArg (pair a b) (funext fun i => by fin_cases i; rfl)).trans (pair0 a b))).trans ha
    have hw : scatter_S128x1024_S2_S16x512_01_n_01_0.window j 0 = (j 0).val := rfl
    rw [hs, hw]
  · have hs : scatter_S128x1024_S2_S16x512_01_n_01_0.start j (pair a b) 1 = q := by
      unfold ScatterDims.start
      rw [dif_pos (by decide)]
      exact (congrArg BitVec.toInt ((congrArg (pair a b) (funext fun i => by fin_cases i; rfl)).trans (pair1 a b))).trans hb
    have hw : scatter_S128x1024_S2_S16x512_01_n_01_0.window j 1 = (j 1).val := rfl
    rw [hs, hw]

/-- The two first products' weights beside each other. -/
abbrev narrow (a : FVec Ideal S2x1024x16 .f32) : FVec Ideal S1024x128 .f32 :=
  Host.scatter scatter_S1024x128_S1_S1024x16_01_n_1_0 (fun _ b => b)
    (Host.scatter scatter_S1024x128_S1_S1024x16_01_n_1_0 (fun _ b => b)
      (broadcastInDim S1024x128 ![] bcast_S_S1024x128 (constant (F := Ideal) S_ .f32 0x00000000#32))
      (broadcastInDim S1 ![] bcast_S_S1 (constantI S_ 32 0#32))
      (shapeCast S1024x16 (extractStridedSlice S1x1024x16 ![0, 0, 0] a slices_S2x1024x16_S1x1024x16_0_0_0) shapeCasts_S1x1024x16_S1024x16))
    (broadcastInDim S1 ![] bcast_S_S1 (constantI S_ 32 16#32))
    (shapeCast S1024x16 (extractStridedSlice S1x1024x16 ![1, 0, 0] a slices_S2x1024x16_S1x1024x16_1_0_0) shapeCasts_S1x1024x16_S1024x16)

theorem narrow_apply (a : FVec Ideal S2x1024x16 .f32) (d : Fin 2) (k : Fin 1024) (j : Fin 16) : narrow a (ix2 k ⟨16 * d.val + j.val, by omega⟩) = a (ix3 d k j) := by
  have first : shapeCast S1024x16 (extractStridedSlice S1x1024x16 ![0, 0, 0] a slices_S2x1024x16_S1x1024x16_0_0_0) shapeCasts_S1x1024x16_S1024x16 (ix2 k j) = a (ix3 0 k j) := by pointwise
  have second : shapeCast S1024x16 (extractStridedSlice S1x1024x16 ![1, 0, 0] a slices_S2x1024x16_S1x1024x16_1_0_0) shapeCasts_S1x1024x16_S1024x16 (ix2 k j) = a (ix3 1 k j) := by pointwise
  unfold narrow
  rw [columns 16 _ (fun i => rfl)]
  match d with
  | ⟨0, _⟩ =>
    rw [dif_neg (by show ¬ (16 ≤ 16 * 0 + j.val ∧ _); omega), columns 0 _ (fun i => rfl), dif_pos (by show 0 ≤ 16 * 0 + j.val ∧ 16 * 0 + j.val < 0 + 16; omega)]
    exact (congrArg _ (congrArg (ix2 k) (Fin.ext (by show 16 * 0 + j.val - 0 = j.val; omega)))).trans first
  | ⟨1, _⟩ =>
    rw [dif_pos (by show 16 ≤ 16 * 1 + j.val ∧ 16 * 1 + j.val < 16 + 16; omega)]
    exact (congrArg _ (congrArg (ix2 k) (Fin.ext (by show 16 * 1 + j.val - 16 = j.val; omega)))).trans second

/-- The two second products' weights, one below and beside the other. -/
abbrev wide (b : FVec Ideal S2x16x512 .f32) : FVec Ideal S128x1024 .f32 :=
  Host.scatter scatter_S128x1024_S2_S16x512_01_n_01_0 (fun _ b => b)
    (Host.scatter scatter_S128x1024_S2_S16x512_01_n_01_0 (fun _ b => b)
      (broadcastInDim S128x1024 ![] bcast_S_S128x1024 (constant (F := Ideal) S_ .f32 0x00000000#32))
      (pair 0#32 0#32)
      (shapeCast S16x512 (extractStridedSlice S1x16x512 ![0, 0, 0] b slices_S2x16x512_S1x16x512_0_0_0) shapeCasts_S1x16x512_S16x512))
    (pair 16#32 512#32)
    (shapeCast S16x512 (extractStridedSlice S1x16x512 ![1, 0, 0] b slices_S2x16x512_S1x16x512_1_0_0) shapeCasts_S1x16x512_S16x512)

theorem wide_apply (b : FVec Ideal S2x16x512 .f32) (j : Fin 128) (n : Fin 1024) : wide b (ix2 j n)
    = if j.val / 16 = n.val / 512 then b (ix3 ⟨n.val / 512, by omega⟩ ⟨j.val % 16, by omega⟩ ⟨n.val % 512, by omega⟩) else 0 := by
  have first (x : Fin 16) (y : Fin 512) : shapeCast S16x512 (extractStridedSlice S1x16x512 ![0, 0, 0] b slices_S2x16x512_S1x16x512_0_0_0) shapeCasts_S1x16x512_S16x512 (ix2 x y) = b (ix3 0 x y) := by pointwise
  have second (x : Fin 16) (y : Fin 512) : shapeCast S16x512 (extractStridedSlice S1x16x512 ![1, 0, 0] b slices_S2x16x512_S1x16x512_1_0_0) shapeCasts_S1x16x512_S16x512 (ix2 x y) = b (ix3 1 x y) := by pointwise
  have same {e e' : Fin 2} {x x' : Fin 16} {y y' : Fin 512} (he : e.val = e'.val) (hx : x.val = x'.val) (hy : y.val = y'.val) : b (ix3 e x y) = b (ix3 e' x' y') := by
    rw [Fin.ext he, Fin.ext hx, Fin.ext hy]
  unfold wide
  rw [corner 16 512 16#32 512#32 rfl rfl]
  by_cases h1 : (16 ≤ j.val ∧ j.val < 16 + 16) ∧ 512 ≤ n.val ∧ n.val < 512 + 512
  · rw [dif_pos h1, if_pos (by omega), second]
    exact same (by show 1 = n.val / 512; omega) (by show j.val - 16 = j.val % 16; omega) (by show n.val - 512 = n.val % 512; omega)
  · rw [dif_neg h1, corner 0 0 0#32 0#32 rfl rfl]
    by_cases h0 : (0 ≤ j.val ∧ j.val < 0 + 16) ∧ 0 ≤ n.val ∧ n.val < 0 + 512
    · rw [dif_pos h0, if_pos (by omega), first]
      exact same (by show 0 = n.val / 512; omega) (by show j.val - 0 = j.val % 16; omega) (by show n.val - 0 = n.val % 512; omega)
    · rw [dif_neg h0, if_neg (by omega)]
      exact Ideal.ofBits_zero_f32

end Cert.Gla

end
-- ==== Proof.GlaArray.lean ====
/-
  From the blocks to the arrays, for the projections of the first layer: what each of the 65 grid points reads, and the
  five result arrays at every place.
-/
module

public import proofs.«01_k».proof.Proof.GlaBlock
public import proofs.«01_k».proof.Proof.GlaScatter
public import proofs.«01_k».proof.Proof.Gen.Kernel4Ideal.Value
public import Idealize.ShloMosaic.Lib.StableHlo.ReadAt
public import Idealize.ShloMosaic.Lib.Pipeline.Value

@[expose] public section

set_option maxRecDepth 16640

noncomputable section

open scoped BigOperators
open Idealize.ShloMosaic Idealize.ShloMosaic.TcCoe Idealize.SL.Sem
open Idealize.ShloMosaic.Pipeline (Dat)

namespace Cert.Gla

open Cert.Kernel4Ideal Cert.Kernel4Ideal.Gen Cert.Ffn

variable (m : (ℓ : Loc nD τ sig) → Buf (Elt Ideal) ℓ) (c : Dev nD)

/-! ## Which block each window is at, and the condition on the grid point -/

theorem at0 : ∀ t : Fin grid0.N, win0_0.index t 0 = 0 ∧ win0_0.index t 1 = 0 := by decide +kernel
theorem at1 : ∀ t : Fin grid0.N, win0_1.index t 0 = t.val - 1 ∧ win0_1.index t 1 = 0 := by decide +kernel
theorem at2 : ∀ t : Fin grid0.N, win0_2.index t 0 = 0 ∧ win0_2.index t 1 = 0 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 0 := by decide +kernel
theorem at7 : ∀ t : Fin grid0.N, win0_7.index t 0 = 0 ∧ win0_7.index t 1 = 0 := by decide +kernel
theorem at8 : ∀ t : Fin grid0.N, win0_8.index t 0 = t.val ∧ win0_8.index t 1 = 0 := by decide +kernel
theorem at9 : ∀ t : Fin grid0.N, win0_9.index t 0 = t.val ∧ win0_9.index t 1 = 0 := by decide +kernel
theorem at10 : ∀ t : Fin grid0.N, win0_10.index t 0 = t.val ∧ win0_10.index t 1 = 0 := by decide +kernel
theorem at11 : ∀ t : Fin grid0.N, win0_11.index t 0 = t.val ∧ win0_11.index t 1 = 0 := by decide +kernel
theorem at12 : ∀ t : Fin grid0.N, win0_12.index t 0 = t.val ∧ win0_12.index t 1 = 0 := by decide +kernel

theorem context_at : ∀ t : Fin grid0.N, isContext (grid0.coords t) = 1#1 ↔ t.val = 0 := by decide +kernel

theorem points (t : Fin cfg0.N) : t.val < 65 := lt_of_lt_of_eq t.isLt N_0

/-! ## The arguments -/

abbrev ctx : FVec Ideal S256x1024 .f32 := m ((c : Thread nD τ).loc main_arg0)
abbrev lat : FVec Ideal S16384x1024 .f32 := m ((c : Thread nD τ).loc main_arg1)
abbrev modv : FVec Ideal S8x6144 .f32 := m ((c : Thread nD τ).loc main_arg2)
abbrev gain : FVec Ideal S1024 .f32 := m ((c : Thread nD τ).loc main_arg3)
abbrev wq : FVec Ideal S1024x512 .f32 := m ((c : Thread nD τ).loc main_arg4)
abbrev wk : FVec Ideal S1024x512 .f32 := m ((c : Thread nD τ).loc main_arg5)
abbrev wv : FVec Ideal S1024x1024 .f32 := m ((c : Thread nD τ).loc main_arg6)
abbrev wr : FVec Ideal S1024x1024 .f32 := m ((c : Thread nD τ).loc main_arg7)
abbrev wa : FVec Ideal S2x1024x16 .f32 := m ((c : Thread nD τ).loc main_arg8)
abbrev wb : FVec Ideal S2x16x512 .f32 := m ((c : Thread nD τ).loc main_arg9)
abbrev bias : FVec Ideal S2x512 .f32 := m ((c : Thread nD τ).loc main_arg10)

/-! ## The blocks -/

theorem context_block (t : Fin cfg0.N) (y : Fin 256) (k : Fin 1024) : (iblk m c 0 t : FVec Ideal S256x1024 .f32) (ix2 y k) = ctx m c (ix2 y k) := by
  have hi := at0 t
  unfold iblk
  rw [View.read_apply]
  show V m c main_arg0 _ = _
  rw [V_main_arg0]
  refine congrArg _ (funext fun a => Fin.ext ?_)
  match a with
  | ⟨0, _⟩ => show win0_0.index t 0 * 256 + 1 * y.val = y.val; rw [hi.1]; omega
  | ⟨1, _⟩ => show win0_0.index t 1 * 1024 + 1 * k.val = k.val; rw [hi.2]; omega

theorem rest_block (t : Fin cfg0.N) (ht : 0 < t.val) (y : Fin 256) (k : Fin 1024) :
    (iblk m c 1 t : FVec Ideal S256x1024 .f32) (ix2 y k) = lat m c (ix2 ⟨256 * t.val + y.val - 256, by have := points t; omega⟩ k) := by
  have hi := at1 t
  unfold iblk
  rw [View.read_apply]
  show V m c main_arg1 _ = _
  rw [V_main_arg1]
  refine congrArg _ (funext fun a => Fin.ext ?_)
  match a with
  | ⟨0, _⟩ => show win0_1.index t 0 * 256 + 1 * y.val = 256 * t.val + y.val - 256; rw [hi.1]; omega
  | ⟨1, _⟩ => show win0_1.index t 1 * 1024 + 1 * k.val = k.val; rw [hi.2]; omega

theorem modulation_block (t : Fin cfg0.N) (q : Fin 8) (k : Fin 6144) : (iblk m c 2 t : FVec Ideal S8x6144 .f32) (ix2 q k) = modv m c (ix2 q k) := by
  have hi := at2 t
  unfold iblk
  rw [View.read_apply]
  show V m c main_arg2 _ = _
  rw [V_main_arg2]
  refine congrArg _ (funext fun a => Fin.ext ?_)
  match a with
  | ⟨0, _⟩ => show win0_2.index t 0 * 8 + 1 * q.val = q.val; rw [hi.1]; omega
  | ⟨1, _⟩ => show win0_2.index t 1 * 6144 + 1 * k.val = k.val; rw [hi.2]; omega

theorem gain_value : V m c main_v25 = shapeCast S1x1024 (gain m c) shapeCasts_S1024_S1x1024 := by
  unfold V
  after_reads_simp
  rfl

theorem bias_value : V m c main_v24 = shapeCast S1x1024 (bias m c) shapeCasts_S2x512_S1x1024 := by
  unfold V
  after_reads_simp
  rfl

/-- The four weights of the one product beside each other. -/
abbrev joined (q k : FVec Ideal S1024x512 .f32) (v r : FVec Ideal S1024x1024 .f32) : FVec Ideal S1024x3072 .f32 :=
  concatenate S1024x3072 1 [⟨S1024x512, q⟩, ⟨S1024x512, k⟩, ⟨S1024x1024, v⟩, ⟨S1024x1024, r⟩] concatenates_S1024x512_S1024x512_S1024x1024_S1024x1024_S1024x3072_d1

theorem weights_value : V m c main_v1 = truncf (F := Ideal) .bf16 (joined (wq m c) (wk m c) (wv m c) (wr m c)) bitsLt_bf16_f32 := by
  unfold V
  after_reads_simp
  rfl

theorem narrow_value : V m c main_v26 = truncf (F := Ideal) .bf16 (narrow (wa m c)) bitsLt_bf16_f32 := by
  unfold V
  after_reads_simp
  rfl

theorem wide_value : V m c main_v27 = truncf (F := Ideal) .bf16 (wide (wb m c)) bitsLt_bf16_f32 := by
  unfold V
  after_reads_simp
  rfl

theorem gain_block (t : Fin cfg0.N) (k : Fin 1024) : (iblk m c 3 t : FVec Ideal S1x1024 .f32) (ix2 0 k) = gain m c (ix1 k) := by
  have hi := at3 t
  have row (x : FVec Ideal S1024 .f32) : shapeCast S1x1024 x shapeCasts_S1024_S1x1024 (ix2 0 k) = x (ix1 k) := by pointwise
  refine Eq.trans ?_ (row _)
  unfold iblk
  rw [View.read_apply]
  show V m c main_v25 _ = _
  rw [gain_value]
  refine congrArg _ (funext fun a => Fin.ext ?_)
  match a with
  | ⟨0, _⟩ => show win0_3.index t 0 * 1 + 1 * 0 = 0; rw [hi.1]
  | ⟨1, _⟩ => show win0_3.index t 1 * 1024 + 1 * k.val = k.val; rw [hi.2]; omega

theorem weights_block (t : Fin cfg0.N) (k : Fin 1024) (n : Fin 3072) : (iblk m c 4 t : FVec Ideal S1024x3072 .bf16) (ix2 k n) = joined (wq m c) (wk m c) (wv m c) (wr m c) (ix2 k n) := by
  have hi := at4 t
  unfold iblk
  rw [View.read_apply]
  show V m c main_v1 _ = _
  rw [weights_value]
  refine congrArg (joined (wq m c) (wk m c) (wv m c) (wr m c)) (funext fun a => Fin.ext ?_)
  match a with
  | ⟨0, _⟩ => show win0_4.index t 0 * 1024 + 1 * k.val = k.val; rw [hi.1]; omega
  | ⟨1, _⟩ => show win0_4.index t 1 * 3072 + 1 * n.val = n.val; rw [hi.2]; omega

theorem narrow_block (t : Fin cfg0.N) (d : Fin 2) (k : Fin 1024) (j : Fin 16) :
    (iblk m c 5 t : FVec Ideal S1024x128 .bf16) (ix2 k ⟨16 * d.val + j.val, by omega⟩) = wa m c (ix3 d k j) := by
  have hi := at5 t
  refine Eq.trans ?_ (narrow_apply (wa m c) d k j)
  unfold iblk
  rw [View.read_apply]
  show V m c main_v26 _ = _
  rw [narrow_value]
  generalize narrow (wa m c) = z
  refine congrArg z (funext fun a => Fin.ext ?_)
  match a with
  | ⟨0, _⟩ => show win0_5.index t 0 * 1024 + 1 * k.val = k.val; rw [hi.1]; omega
  | ⟨1, _⟩ => show win0_5.index t 1 * 128 + 1 * (16 * d.val + j.val) = 16 * d.val + j.val; rw [hi.2]; omega

theorem wide_block (t : Fin cfg0.N) (j : Fin 128) (n : Fin 1024) : (iblk m c 6 t : FVec Ideal S128x1024 .bf16) (ix2 j n)
    = if j.val / 16 = n.val / 512 then wb m c (ix3 ⟨n.val / 512, by omega⟩ ⟨j.val % 16, by omega⟩ ⟨n.val % 512, by omega⟩) else 0 := by
  have hi := at6 t
  refine Eq.trans ?_ (wide_apply (wb m c) j n)
  unfold iblk
  rw [View.read_apply]
  show V m c main_v27 _ = _
  rw [wide_value]
  generalize wide (wb m c) = z
  refine congrArg z (funext fun a => Fin.ext ?_)
  match a with
  | ⟨0, _⟩ => show win0_6.index t 0 * 128 + 1 * j.val = j.val; rw [hi.1]; omega
  | ⟨1, _⟩ => show win0_6.index t 1 * 1024 + 1 * n.val = n.val; rw [hi.2]; omega

theorem bias_block (t : Fin cfg0.N) (n : Fin 1024) : (iblk m c 7 t : FVec Ideal S1x1024 .f32) (ix2 0 n) = bias m c (ix2 ⟨n.val / 512, by omega⟩ ⟨n.val % 512, by omega⟩) := by
  have hi := at7 t
  have row (x : FVec Ideal S2x512 .f32) : shapeCast S1x1024 x shapeCasts_S2x512_S1x1024 (ix2 0 n) = x (ix2 ⟨n.val / 512, by omega⟩ ⟨n.val % 512, by omega⟩) := by pointwise
  refine Eq.trans ?_ (row _)
  unfold iblk
  rw [View.read_apply]
  show V m c main_v24 _ = _
  rw [bias_value]
  refine congrArg _ (funext fun a => Fin.ext ?_)
  match a with
  | ⟨0, _⟩ => show win0_7.index t 0 * 1 + 1 * 0 = 0; rw [hi.1]
  | ⟨1, _⟩ => show win0_7.index t 1 * 1024 + 1 * n.val = n.val; rw [hi.2]; omega

/-! ## Columns of the joined weights -/

section Joined

variable (q k : FVec Ideal S1024x512 .f32) (v r : FVec Ideal S1024x1024 .f32) (x : Fin 1024)

theorem joined_queries (n : Fin 512) : joined q k v r (ix2 x ⟨n.val, by omega⟩) = q (ix2 x n) := by pointwise [joined]
theorem joined_keys (n : Fin 512) : joined q k v r (ix2 x ⟨512 + n.val, by omega⟩) = k (ix2 x n) := by pointwise [joined]
theorem joined_values (n : Fin 1024) : joined q k v r (ix2 x ⟨1024 + n.val, by omega⟩) = v (ix2 x n) := by
  pointwise [joined]
  rw [dif_neg (by omega), dif_neg (by omega), dif_pos (by omega)]
  exact congrArg (fun n => v (ix2 x n)) (Fin.ext (by show 1024 + n.val - 512 - 512 = n.val; omega))
theorem joined_out_gates (n : Fin 1024) : joined q k v r (ix2 x ⟨2048 + n.val, by omega⟩) = r (ix2 x n) := by
  pointwise [joined]
  rw [dif_neg (by omega), dif_neg (by omega), dif_neg (by omega)]
  exact congrArg (fun n => r (ix2 x n)) (Fin.ext (by show 2048 + n.val - 512 - 512 - 1024 = n.val; omega))

end Joined

end Cert.Gla

end
-- ==== Proof.GlaResult.lean ====
/-
  The five result arrays of the projections of the first layer.
-/
module

public import proofs.«01_k».proof.Proof.GlaArray

@[expose] public section

set_option maxRecDepth 16640

noncomputable section

open scoped BigOperators
open Idealize.ShloMosaic Idealize.ShloMosaic.TcCoe Idealize.SL.Sem
open Idealize.ShloMosaic.Pipeline (Dat)

namespace Cert.Gla

open Cert.Kernel4Ideal Cert.Kernel4Ideal.Gen Cert.Ffn

variable (m : (ℓ : Loc nD τ sig) → Buf (Elt Ideal) ℓ) (c : Dev nD)

/-- Row `y` of grid point `t`'s block. -/
abbrev place (t : Fin cfg0.N) (y : Fin 256) : Fin 16640 := ⟨256 * t.val + y.val, by have := points t; omega⟩

/-- The grid point a row belongs to. -/
abbrev pointOf (r : ℕ) (hr : r < 16640) : Fin cfg0.N := ⟨r / 256, by rw [show cfg0.N = 65 from N_0]; omega⟩

theorem row_block (t : Fin cfg0.N) (y : Fin 256) : blockRow (grid0.coords t) (iblk m c 0 t) (iblk m c 1 t) (iblk m c 2 t) (iblk m c 3 t) y
    = rowOf (ctx m c) (lat m c) (modv m c) (gain m c) (place t y) := by
  unfold blockRow rowOf
  by_cases ht : t.val = 0
  · have e : (⟨(place t y).val, by show 256 * t.val + y.val < 256; omega⟩ : Fin 256) = y := Fin.ext (by show 256 * t.val + y.val = y.val; omega)
    rw [if_pos ((context_at t).2 ht), dif_pos (by show 256 * t.val + y.val < 256; omega), e]
    simp only [gain_block m c t, modulation_block m c t, context_block m c t]
  · rw [if_neg (fun h => ht ((context_at t).1 h)), dif_neg (by show ¬ (256 * t.val + y.val < 256); omega)]
    simp only [gain_block m c t, modulation_block m c t, rest_block m c t (by omega)]

/-! ## Places of a block of 256 rows in its array -/

theorem split {C : ℕ} (i : (⟨2, ![256, C]⟩ : Shape).Idx) : ∃ (y : Fin 256) (n : Fin C), i = ix2 y n := ⟨i 0, i 1, by funext a; fin_cases a <;> rfl⟩

theorem place_eq {C : ℕ} {a b : ℕ} (t : Fin cfg0.N) (h : a = t.val ∧ b = 0) (y : Fin 256) (n : Fin C) (e : (⟨2, ![16640, C]⟩ : Shape).Idx)
    (h0 : (e 0).val = a * 256 + 1 * y.val) (h1 : (e 1).val = b * C + 1 * n.val) : e = ix2 (place t y) n := by
  funext q
  match q with
  | ⟨0, _⟩ => exact Fin.ext (h0.trans (by show _ = 256 * t.val + y.val; rw [h.1]; omega))
  | ⟨1, _⟩ => exact Fin.ext (h1.trans (by show _ = n.val; rw [h.2]; omega))

theorem inside {C : ℕ} (at_ : Fin 2 → ℕ) (i : (⟨2, ![16640, C]⟩ : Shape).Idx) (h : at_ 0 = (pointOf (i 0).val (i 0).isLt).val ∧ at_ 1 = 0) :
    ∀ a : Fin 2, at_ a * (![256, C] : Fin 2 → ℕ) a ≤ (i a).val ∧ (i a).val < at_ a * (![256, C] : Fin 2 → ℕ) a + (![256, C] : Fin 2 → ℕ) a := by
  have h0 : (i 0).val < 16640 := (i 0).isLt
  have h1 : (i 1).val < C := (i 1).isLt
  have hr : at_ 0 = (i 0).val / 256 := h.1
  intro a
  match a with
  | ⟨0, _⟩ => show at_ 0 * 256 ≤ (i 0).val ∧ (i 0).val < at_ 0 * 256 + 256
              omega
  | ⟨1, _⟩ => show at_ 1 * C ≤ (i 1).val ∧ (i 1).val < at_ 1 * C + C
              rw [h.2]; omega

/-! ## The results -/

def queries : Buf (Elt Ideal) ((c : Thread nD τ).loc main_v28_0) :=
  fun i => project (ctx m c) (lat m c) (modv m c) (gain m c) (wq m c) (i 0) (i 1) * Ideal.ofBits FTy.f32 0x3DB504F3#32

def keys : Buf (Elt Ideal) ((c : Thread nD τ).loc main_v28_1) :=
  fun i => project (ctx m c) (lat m c) (modv m c) (gain m c) (wk m c) (i 0) (i 1)

def values : Buf (Elt Ideal) ((c : Thread nD τ).loc main_v28_2) :=
  fun i => project (ctx m c) (lat m c) (modv m c) (gain m c) (wv m c) (i 0) (i 1)

def outGates : Buf (Elt Ideal) ((c : Thread nD τ).loc main_v28_3) :=
  fun i => silu (project (ctx m c) (lat m c) (modv m c) (gain m c) (wr m c) (i 0) (i 1))

def decays : Buf (Elt Ideal) ((c : Thread nD τ).loc main_v28_4) :=
  fun i => gateAt (rowOf (ctx m c) (lat m c) (modv m c) (gain m c) (i 0)) (wa m c) (wb m c) (bias m c) (i 1)

theorem queries_final : (dats m 0 c).arrAt 8 cfg0.N = queries m c :=
  (dats m 0 c).arrAt_eq_of_cover 8 (queries m c) (fun t _ => by
    rw [Value.flushed8]
    funext i
    obtain ⟨y, n, rfl⟩ : ∃ (y : Fin 256) (n : Fin 512), i = ix2 y n := split i
    rw [View.read_apply]
    refine Eq.trans ?_ (congrArg (queries m c) (place_eq t (at8 t) y n (((cfg0.win 8).blk t).view.emb (ix2 y n)) rfl rfl)).symm
    refine (queries_block _ _ _ _ _ _ _ _ _ y n).trans ?_
    rw [row_block]
    simp only [weights_block m c t, joined_queries]
    rfl) fun i => by
    refine ⟨pointOf (i 0).val (i 0).isLt, flush0_8 _, ?_⟩
    show i ∈ ((View.whole main_v28_0).slice (win0_8.rect (pointOf (i 0).val (i 0).isLt))).set
    rw [View.set_slice_whole, Rect.mem_set_unit]
    exact inside _ i (at8 _)

theorem keys_final : (dats m 0 c).arrAt 9 cfg0.N = keys m c :=
  (dats m 0 c).arrAt_eq_of_cover 9 (keys m c) (fun t _ => by
    rw [Value.flushed9]
    funext i
    obtain ⟨y, n, rfl⟩ : ∃ (y : Fin 256) (n : Fin 512), i = ix2 y n := split i
    rw [View.read_apply]
    refine Eq.trans ?_ (congrArg (keys m c) (place_eq t (at9 t) y n (((cfg0.win 9).blk t).view.emb (ix2 y n)) rfl rfl)).symm
    refine (keys_block _ _ _ _ _ _ _ _ _ y n).trans ?_
    rw [row_block]
    simp only [weights_block m c t, joined_keys]
    rfl) fun i => by
    refine ⟨pointOf (i 0).val (i 0).isLt, flush0_9 _, ?_⟩
    show i ∈ ((View.whole main_v28_1).slice (win0_9.rect (pointOf (i 0).val (i 0).isLt))).set
    rw [View.set_slice_whole, Rect.mem_set_unit]
    exact inside _ i (at9 _)

theorem values_final : (dats m 0 c).arrAt 10 cfg0.N = values m c :=
  (dats m 0 c).arrAt_eq_of_cover 10 (values m c) (fun t _ => by
    rw [Value.flushed10]
    funext i
    obtain ⟨y, n, rfl⟩ : ∃ (y : Fin 256) (n : Fin 1024), i = ix2 y n := split i
    rw [View.read_apply]
    refine Eq.trans ?_ (congrArg (values m c) (place_eq t (at10 t) y n (((cfg0.win 10).blk t).view.emb (ix2 y n)) rfl rfl)).symm
    refine (values_block _ _ _ _ _ _ _ _ _ y n).trans ?_
    rw [row_block]
    simp only [weights_block m c t, joined_values]
    rfl) fun i => by
    refine ⟨pointOf (i 0).val (i 0).isLt, flush0_10 _, ?_⟩
    show i ∈ ((View.whole main_v28_2).slice (win0_10.rect (pointOf (i 0).val (i 0).isLt))).set
    rw [View.set_slice_whole, Rect.mem_set_unit]
    exact inside _ i (at10 _)

theorem outGates_final : (dats m 0 c).arrAt 11 cfg0.N = outGates m c :=
  (dats m 0 c).arrAt_eq_of_cover 11 (outGates m c) (fun t _ => by
    rw [Value.flushed11]
    funext i
    obtain ⟨y, n, rfl⟩ : ∃ (y : Fin 256) (n : Fin 1024), i = ix2 y n := split i
    rw [View.read_apply]
    refine Eq.trans ?_ (congrArg (outGates m c) (place_eq t (at11 t) y n (((cfg0.win 11).blk t).view.emb (ix2 y n)) rfl rfl)).symm
    refine (out_gates_block _ _ _ _ _ _ _ _ _ y n).trans ?_
    rw [row_block]
    simp only [weights_block m c t, joined_out_gates]
    rfl) fun i => by
    refine ⟨pointOf (i 0).val (i 0).isLt, flush0_11 _, ?_⟩
    show i ∈ ((View.whole main_v28_3).slice (win0_11.rect (pointOf (i 0).val (i 0).isLt))).set
    rw [View.set_slice_whole, Rect.mem_set_unit]
    exact inside _ i (at11 _)

theorem decays_final : (dats m 0 c).arrAt 12 cfg0.N = decays m c :=
  (dats m 0 c).arrAt_eq_of_cover 12 (decays m c) (fun t _ => by
    rw [Value.flushed12]
    funext i
    obtain ⟨y, n, rfl⟩ : ∃ (y : Fin 256) (n : Fin 1024), i = ix2 y n := split i
    rw [View.read_apply]
    refine Eq.trans ?_ (congrArg (decays m c) (place_eq t (at12 t) y n (((cfg0.win 12).blk t).view.emb (ix2 y n)) rfl rfl)).symm
    refine (decays_block _ _ _ _ _ _ _ _ _ (wa m c) (wb m c) (bias m c) (narrow_block m c t) (wide_block m c t) (bias_block m c t) y n).trans ?_
    rw [row_block]
    rfl) fun i => by
    refine ⟨pointOf (i 0).val (i 0).isLt, flush0_12 _, ?_⟩
    show i ∈ ((View.whole main_v28_4).slice (win0_12.rect (pointOf (i 0).val (i 0).isLt))).set
    rw [View.set_slice_whole, Rect.mem_set_unit]
    exact inside _ i (at12 _)

end Cert.Gla

end
-- ==== Proof.GlaReference.lean ====
/-
  The reference of the projections of the first layer, at one place of each of its five results.
-/
module

public import proofs.«01_k».proof.Proof.GlaSpec
public import proofs.«01_k».proof.Proof.Gen.Reference4Ideal.Read
public import Idealize.ShloMosaic.Lib.Pointwise

@[expose] public section

set_option maxRecDepth 16640
set_option backward.proofsInPublic true

noncomputable section

open scoped BigOperators
open Idealize.ShloMosaic Idealize.ShloMosaic.TcCoe Idealize.SL.Sem

namespace Cert.Gla.Reference

open Cert.Reference4Ideal Cert.Reference4Ideal.Gen Cert.Reference4Ideal.Read Cert.Ffn

variable (x0 : FVec Ideal S256x1024 .f32) (x1 : FVec Ideal S16384x1024 .f32) (x2 : FVec Ideal S8x6144 .f32) (x3 : FVec Ideal S1024 .f32)
  (x4 x5 : FVec Ideal S1024x512 .f32) (x6 x7 : FVec Ideal S1024x1024 .f32) (x8 : FVec Ideal S2x1024x16 .f32) (x9 : FVec Ideal S2x16x512 .f32) (x10 : FVec Ideal S2x512 .f32)

/-! ## The normalised rows -/

theorem rest_rms (r : Fin 16384) (k : Fin 1024) : val_main_v15 (F := Ideal) x1 (ix2 r k) = rms (fun k => x1 (ix2 r k)) k := by
  have hi (k' : Fin 1024) : idx_main_v7 (idx_main_v8 (idx_main_v14 (ix2 r k))) k' = ix2 r k' := by funext a; fin_cases a <;> rfl
  rw [val_main_v15_apply, val_main_v14_apply, val_main_v13_apply, val_main_v12_apply, val_main_v11_apply, val_main_v10_apply,
    val_main_v9_apply, val_main_v8_apply, val_main_v7_apply]
  simp only [hi]
  show x1 (ix2 r k) * Ideal.rsqrt (Ideal.div (Ideal.ofBits FTy.f32 0x00000000#32 + ∑ k, x1 (ix2 r k) * x1 (ix2 r k)) _ + _) = _
  rw [Ideal.ofBits_zero_f32, zero_add]
  rfl

theorem context_rms (r : Fin 256) (k : Fin 1024) : val_main_v34 (F := Ideal) x0 (ix2 r k) = rms (fun k => x0 (ix2 r k)) k := by
  have hi (k' : Fin 1024) : idx_main_v26 (idx_main_v27 (idx_main_v33 (ix2 r k))) k' = ix2 r k' := by funext a; fin_cases a <;> rfl
  rw [val_main_v34_apply, val_main_v33_apply, val_main_v32_apply, val_main_v31_apply, val_main_v30_apply, val_main_v29_apply,
    val_main_v28_apply, val_main_v27_apply, val_main_v26_apply]
  simp only [hi]
  show x0 (ix2 r k) * Ideal.rsqrt (Ideal.div (Ideal.ofBits FTy.f32 0x00000000#32 + ∑ k, x0 (ix2 r k) * x0 (ix2 r k)) _ + _) = _
  rw [Ideal.ofBits_zero_f32, zero_add]
  rfl

theorem rest_shift (k : Fin 1024) : val_main_v1 (F := Ideal) x2 (ix2 0 k) = x2 (ix2 0 ⟨k.val, by omega⟩) := by
  pointwise [val_main_v1, val_main_v0]

theorem rest_scale (k : Fin 1024) : val_main_v2 (F := Ideal) x2 (ix2 0 k) = x2 (ix2 0 ⟨1024 + k.val, by omega⟩) := by
  pointwise [val_main_v2, val_main_v0]

theorem context_shift (k : Fin 1024) : val_main_v4 (F := Ideal) x2 (ix2 0 k) = x2 (ix2 1 ⟨k.val, by omega⟩) := by
  pointwise [val_main_v4, val_main_v3]

theorem context_scale (k : Fin 1024) : val_main_v5 (F := Ideal) x2 (ix2 0 k) = x2 (ix2 1 ⟨1024 + k.val, by omega⟩) := by
  pointwise [val_main_v5, val_main_v3]

theorem rest_rows (r : Fin 16384) (k : Fin 1024) : val_main_v24 (F := Ideal) x1 x2 x3 (ix2 r k)
    = normed (fun k => x3 (ix1 k)) (fun k => x2 (ix2 0 ⟨1024 + k.val, by omega⟩)) (fun k => x2 (ix2 0 ⟨k.val, by omega⟩)) (fun k => x1 (ix2 r k)) k := by
  simp only [normed, ← rest_rms x1, ← rest_shift x2, ← rest_scale x2]
  unfold val_main_v24 val_main_v22 val_main_v18
  generalize val_main_v15 (F := Ideal) x1 = y
  unfold val_main_v21 val_main_v20
  generalize val_main_v2 (F := Ideal) x2 = w
  pointwise [val_main_v23, val_main_v19, val_main_cst_2, val_main_v17, val_main_v16]

theorem context_rows (r : Fin 256) (k : Fin 1024) : val_main_v43 (F := Ideal) x0 x2 x3 (ix2 r k)
    = normed (fun k => x3 (ix1 k)) (fun k => x2 (ix2 1 ⟨1024 + k.val, by omega⟩)) (fun k => x2 (ix2 1 ⟨k.val, by omega⟩)) (fun k => x0 (ix2 r k)) k := by
  simp only [normed, ← context_rms x0, ← context_shift x2, ← context_scale x2]
  unfold val_main_v43 val_main_v41 val_main_v37
  generalize val_main_v34 (F := Ideal) x0 = y
  unfold val_main_v40 val_main_v39
  generalize val_main_v5 (F := Ideal) x2 = w
  pointwise [val_main_v42, val_main_v38, val_main_cst_6, val_main_v36, val_main_v35]

/-- The rows of both streams, one after the other. -/
theorem rows (r : Fin 16640) (k : Fin 1024) : val_main_v44 (F := Ideal) x0 x1 x2 x3 (ix2 r k) = rowOf x0 x1 x2 x3 r k := by
  unfold val_main_v44 rowOf
  by_cases hr : r.val < 256
  · rw [dif_pos hr]
    refine (concatenate_pair_apply_left (t := S16640x1024) 0 _ _ concatenates_S256x1024_S16384x1024_S16640x1024_d0 (ix2 r k) rfl (ix2 ⟨r.val, hr⟩ k) fun a => ?_).trans
      (context_rows x0 x2 x3 ⟨r.val, hr⟩ k)
    match a with
    | ⟨0, _⟩ => rfl
    | ⟨1, _⟩ => rfl
  · rw [dif_neg hr]
    refine (concatenate_pair_apply_right (t := S16640x1024) 0 _ _ concatenates_S256x1024_S16384x1024_S16640x1024_d0 (ix2 r k) rfl rfl (ix2 ⟨r.val - 256, by omega⟩ k) (fun a ha => ?_) ?_).trans
      (rest_rows x1 x2 x3 ⟨r.val - 256, by omega⟩ k)
    · match a with
      | ⟨0, _⟩ => exact absurd rfl ha
      | ⟨1, _⟩ => rfl
    · show r.val - 256 + 256 = r.val
      omega

/-! ## The products -/

theorem keys_eq (r : Fin 16640) (n : Fin 512) : val_main_v76 (F := Ideal) x0 x1 x2 x3 x5 (ix2 r n) = project x0 x1 x2 x3 x5 r n := by
  unfold project dot
  simp only [← rows x0 x1 x2 x3]
  unfold val_main_v76
  generalize val_main_v44 (F := Ideal) x0 x1 x2 x3 = y
  pointwise

theorem queries_eq (r : Fin 16640) (n : Fin 512) : val_main_v47 (F := Ideal) x0 x1 x2 x3 x4 (ix2 r n) = project x0 x1 x2 x3 x4 r n * Ideal.ofBits FTy.f32 0x3DB504F3#32 := by
  rw [val_main_v47_apply, val_main_v46_apply]
  refine congrArg (· * Ideal.ofBits FTy.f32 0x3DB504F3#32) ?_
  unfold project dot
  simp only [← rows x0 x1 x2 x3]
  unfold val_main_v45
  generalize val_main_v44 (F := Ideal) x0 x1 x2 x3 = y
  pointwise

theorem values_eq (r : Fin 16640) (n : Fin 1024) : val_main_v78 (F := Ideal) x0 x1 x2 x3 x6 (ix2 r n) = project x0 x1 x2 x3 x6 r n := by
  unfold project dot
  simp only [← rows x0 x1 x2 x3]
  unfold val_main_v78 val_main_v77
  generalize val_main_v44 (F := Ideal) x0 x1 x2 x3 = y
  pointwise

theorem out_product (r : Fin 16640) (n : Fin 1024) : val_main_v79 (F := Ideal) x0 x1 x2 x3 x7 (ix2 r n) = project x0 x1 x2 x3 x7 r n := by
  unfold project dot
  simp only [← rows x0 x1 x2 x3]
  unfold val_main_v79
  generalize val_main_v44 (F := Ideal) x0 x1 x2 x3 = y
  pointwise

theorem out_gates_eq (r : Fin 16640) (n : Fin 1024) : val_main_v81 (F := Ideal) x0 x1 x2 x3 x7 (ix2 r n) = silu (project x0 x1 x2 x3 x7 r n) := by
  have h0 (i : S16640x1024.Idx) : val_main_call2_v2 (F := Ideal) i = 1 := by
    rw [val_main_call2_v2_apply]
    pointwise [val_main_call2_cst]
  have h1 (i : S16640x1024.Idx) : val_main_call2_v4 (F := Ideal) i = 1 := by
    rw [val_main_call2_v4_apply]
    pointwise [val_main_call2_cst_0]
  rw [val_main_v81_apply, val_main_v80_apply, val_main_call2_v5_apply, val_main_call2_v3_apply, val_main_call2_v1_apply, val_main_call2_v0_apply,
    h0, h1, out_product]
  rfl

/-! ## The decays -/

/-- The negated softplus of `-z` over 16, as the reference writes it: a value that is not itself is passed through, and `0` is taken off or put on. -/
theorem log_sigmoid (z o : EReal) (ho : o = 0) :
    Ideal.div (-(Scalar.select (FloatOps.cmpf (F := Ideal) (φ := .f32) .une (-z - o) (-z - o)) (-z + o) (max (-z) o + Ideal.log1p (Ideal.exp (-(max (-z - o) (-(-z - o)))))))) (Ideal.ofBits FTy.f32 0x41800000#32)
      = logSigmoid z * Ideal.ofBits FTy.f32 0x3D800000#32 := by
  have h : ¬ FloatOps.cmpf (F := Ideal) (φ := .f32) .une (-z - o) (-z - o) = 1 := by
    show ¬ (BitVec.ofBool (decide (-z - o ≠ -z - o))) = 1
    simp
  rw [Scalar.select, if_neg h, div_sixteen, ho, sub_zero, neg_softplus]

theorem first_sum (r : Fin 16640) (n : Fin 512) : val_main_v58 (F := Ideal) x0 x1 x2 x3 x8 x9 x10 (ix2 r n)
    = ∑ j, dot (rowOf x0 x1 x2 x3 r) (fun k => x8 (ix3 0 k j)) * x9 (ix3 0 j n) + x10 (ix2 0 n) := by
  have e (j : Fin 16) : val_main_v50 (F := Ideal) x0 x1 x2 x3 x8 (ix2 r j) = dot (rowOf x0 x1 x2 x3 r) (fun k => x8 (ix3 0 k j)) := by
    unfold dot
    simp only [← rows x0 x1 x2 x3]
    unfold val_main_v50
    generalize val_main_v44 (F := Ideal) x0 x1 x2 x3 = y
    pointwise [val_main_v49, val_main_v48]
  simp only [← e]
  unfold val_main_v58 val_main_v53
  generalize val_main_v50 (F := Ideal) x0 x1 x2 x3 x8 = y
  pointwise [val_main_v52, val_main_v51, val_main_v57, val_main_v56, val_main_v55, val_main_v54]

theorem second_sum (r : Fin 16640) (n : Fin 512) : val_main_v72 (F := Ideal) x0 x1 x2 x3 x8 x9 x10 (ix2 r n)
    = ∑ j, dot (rowOf x0 x1 x2 x3 r) (fun k => x8 (ix3 1 k j)) * x9 (ix3 1 j n) + x10 (ix2 1 n) := by
  have e (j : Fin 16) : val_main_v64 (F := Ideal) x0 x1 x2 x3 x8 (ix2 r j) = dot (rowOf x0 x1 x2 x3 r) (fun k => x8 (ix3 1 k j)) := by
    unfold dot
    simp only [← rows x0 x1 x2 x3]
    unfold val_main_v64
    generalize val_main_v44 (F := Ideal) x0 x1 x2 x3 = y
    pointwise [val_main_v63, val_main_v62]
  simp only [← e]
  unfold val_main_v72 val_main_v67
  generalize val_main_v64 (F := Ideal) x0 x1 x2 x3 x8 = y
  pointwise [val_main_v66, val_main_v65, val_main_v71, val_main_v70, val_main_v69, val_main_v68]

theorem first_gates (r : Fin 16640) (n : Fin 512) : val_main_v61 (F := Ideal) x0 x1 x2 x3 x8 x9 x10 (ix2 r n)
    = gate (rowOf x0 x1 x2 x3 r) (fun k j => x8 (ix3 0 k j)) (fun j => x9 (ix3 0 j n)) (x10 (ix2 0 n)) := by
  unfold gate
  rw [val_main_v61_apply, val_main_v60_apply, val_main_v59_apply, val_main_call0_v1_apply, val_main_call0_call0_v11_apply, val_main_call0_call0_v10_apply,
    val_main_call0_call0_v9_apply, val_main_call0_call0_v8_apply, val_main_call0_call0_v7_apply, val_main_call0_call0_v6_apply, val_main_call0_call0_v4_apply,
    val_main_call0_call0_v3_apply, val_main_call0_call0_v1_apply, val_main_call0_call0_v0_apply, val_main_call0_call0_v2_apply, val_main_call0_call0_v5_apply,
    val_main_call0_v0_apply, first_sum]
  exact log_sigmoid _ _ Ideal.ofBits_zero_f32

theorem second_gates (r : Fin 16640) (n : Fin 512) : val_main_v75 (F := Ideal) x0 x1 x2 x3 x8 x9 x10 (ix2 r n)
    = gate (rowOf x0 x1 x2 x3 r) (fun k j => x8 (ix3 1 k j)) (fun j => x9 (ix3 1 j n)) (x10 (ix2 1 n)) := by
  unfold gate
  rw [val_main_v75_apply, val_main_v74_apply, val_main_v73_apply, val_main_call1_v1_apply, val_main_call1_call0_v11_apply, val_main_call1_call0_v10_apply,
    val_main_call1_call0_v9_apply, val_main_call1_call0_v8_apply, val_main_call1_call0_v7_apply, val_main_call1_call0_v6_apply, val_main_call1_call0_v4_apply,
    val_main_call1_call0_v3_apply, val_main_call1_call0_v1_apply, val_main_call1_call0_v0_apply, val_main_call1_call0_v2_apply, val_main_call1_call0_v5_apply,
    val_main_call1_v0_apply, second_sum]
  exact log_sigmoid _ _ Ideal.ofBits_zero_f32

/-- A gate in half `d`, at column `p` of the half. -/
theorem gateAt_half (h : Fin 1024 → EReal) (d : Fin 2) (p : Fin 512) (n : Fin 1024) (hn : n.val = 512 * d.val + p.val) :
    gateAt h x8 x9 x10 n = gate h (fun k j => x8 (ix3 d k j)) (fun j => x9 (ix3 d j p)) (x10 (ix2 d p)) := by
  have hd : (⟨n.val / 512, by omega⟩ : Fin 2) = d := Fin.ext (by show n.val / 512 = d.val; omega)
  have hp : (⟨n.val % 512, by omega⟩ : Fin 512) = p := Fin.ext (by show n.val % 512 = p.val; omega)
  unfold gateAt
  rw [hd, hp]

theorem decays_eq (r : Fin 16640) (n : Fin 1024) : val_main_v82 (F := Ideal) x0 x1 x2 x3 x8 x9 x10 (ix2 r n) = gateAt (rowOf x0 x1 x2 x3 r) x8 x9 x10 n := by
  unfold val_main_v82
  by_cases hn : n.val < 512
  · refine (concatenate_pair_apply_left (t := S16640x1024) 1 _ _ concatenates_S16640x512_S16640x512_S16640x1024_d1 (ix2 r n) rfl (ix2 r ⟨n.val, hn⟩) fun a => ?_).trans
      ((first_gates x0 x1 x2 x3 x8 x9 x10 r ⟨n.val, hn⟩).trans (gateAt_half x8 x9 x10 _ 0 ⟨n.val, hn⟩ n (by show n.val = 512 * 0 + n.val; omega)).symm)
    match a with
    | ⟨0, _⟩ => rfl
    | ⟨1, _⟩ => rfl
  · refine (concatenate_pair_apply_right (t := S16640x1024) 1 _ _ concatenates_S16640x512_S16640x512_S16640x1024_d1 (ix2 r n) rfl rfl (ix2 r ⟨n.val - 512, by omega⟩) (fun a ha => ?_) ?_).trans
      ((second_gates x0 x1 x2 x3 x8 x9 x10 r ⟨n.val - 512, by omega⟩).trans (gateAt_half x8 x9 x10 _ 1 ⟨n.val - 512, by omega⟩ n (by show n.val = 512 * 1 + (n.val - 512); omega)).symm)
    · match a with
      | ⟨0, _⟩ => rfl
      | ⟨1, _⟩ => exact absurd rfl ha
    · show n.val - 512 + 512 = n.val
      omega

end Cert.Gla.Reference

end
-- ==== Proof.GlaClaim.lean ====
/-
  The claims of the projections of the first layer: both programs run and leave their arguments unchanged, and their five
  result arrays are equal.
-/
module

public import proofs.«01_k».proof.Defs
public import proofs.«01_k».proof.Proof.GlaResult
public import proofs.«01_k».proof.Proof.GlaReference
public import proofs.«01_k».proof.Proof.Gen.Kernel4
public import proofs.«01_k».proof.Proof.Gen.Kernel4.Frame
public import Idealize.ShloMosaic.Lib.Quiescent

@[expose] public section

noncomputable section

open Idealize.ShloMosaic Idealize.SL.Sem

namespace Cert.GlaClaim

theorem kernel_runs : Cert.quiescent_Kernel4 := fun m g _ => Cert.Kernel4.Gen.frame m g

theorem ideal_runs : Cert.quiescent_Kernel4Ideal := fun m g _ => Cert.Kernel4Ideal.Gen.frame m g

theorem reference_runs : Cert.quiescent_Reference4Ideal := fun m g _ =>
  (θ_run _ _ _).mono (fun r h => ⟨fun c => (h c).2.2.2.2.2, Idealize.ShloMosaic.sem_eq_zero_of_no_sems (by decide) r.2⟩)
    (Cert.Reference4Ideal.Value.run m g)

/-- Two arrays of 16640 rows are equal when they are so at every row and column. -/
theorem ext_rows {C : ℕ} {α : Type} (f g : (⟨2, ![16640, C]⟩ : Shape).Idx → α) (h : ∀ (r : Fin 16640) (n : Fin C), f (ix2 r n) = g (ix2 r n)) : f = g := by
  funext i
  rw [show i = ix2 (i 0) (i 1) from by funext a; fin_cases a <;> rfl]
  exact h _ _

/-- Kernel and reference compute the same five arrays. -/
theorem equal : Cert.algebraic_Kernel4Ideal_Reference4Ideal := by
  intro m g m' g' _ hargs
  refine ⟨fun c => (Cert.Kernel4Ideal.Gen.dats m 0 c).arrAt 8 Cert.Kernel4Ideal.cfg0.N, fun c => (Cert.Kernel4Ideal.Gen.dats m 0 c).arrAt 9 Cert.Kernel4Ideal.cfg0.N,
    fun c => (Cert.Kernel4Ideal.Gen.dats m 0 c).arrAt 10 Cert.Kernel4Ideal.cfg0.N, fun c => (Cert.Kernel4Ideal.Gen.dats m 0 c).arrAt 11 Cert.Kernel4Ideal.cfg0.N,
    fun c => (Cert.Kernel4Ideal.Gen.dats m 0 c).arrAt 12 Cert.Kernel4Ideal.cfg0.N, Cert.Kernel4Ideal.Value.run_blocks m g,
    (θ_run _ _ _).mono (fun r h c => ⟨(h c).1.trans ?_, (h c).2.1.trans ?_, (h c).2.2.1.trans ?_, (h c).2.2.2.1.trans ?_, (h c).2.2.2.2.1.trans ?_, (h c).2.2.2.2.2⟩)
      (Cert.Reference4Ideal.Value.run m' g')⟩ <;> obtain ⟨a0, a1, a2, a3, a4, a5, a6, a7, a8, a9, a10⟩ := hargs c
  · refine Eq.trans ?_ (Cert.Gla.queries_final m c).symm
    rw [Cert.Reference4Ideal.Read.val_main_v47_eq, a0, a1, a2, a3, a4]
    exact ext_rows _ _ fun r n => Cert.Gla.Reference.queries_eq _ _ _ _ _ r n
  · refine Eq.trans ?_ (Cert.Gla.keys_final m c).symm
    rw [Cert.Reference4Ideal.Read.val_main_v76_eq, a0, a1, a2, a3, a5]
    exact ext_rows _ _ fun r n => Cert.Gla.Reference.keys_eq _ _ _ _ _ r n
  · refine Eq.trans ?_ (Cert.Gla.values_final m c).symm
    rw [Cert.Reference4Ideal.Read.val_main_v78_eq, a0, a1, a2, a3, a6]
    exact ext_rows _ _ fun r n => Cert.Gla.Reference.values_eq _ _ _ _ _ r n
  · refine Eq.trans ?_ (Cert.Gla.outGates_final m c).symm
    rw [Cert.Reference4Ideal.Read.val_main_v81_eq, a0, a1, a2, a3, a7]
    exact ext_rows _ _ fun r n => Cert.Gla.Reference.out_gates_eq _ _ _ _ _ r n
  · refine Eq.trans ?_ (Cert.Gla.decays_final m c).symm
    rw [Cert.Reference4Ideal.Read.val_main_v82_eq, a0, a1, a2, a3, a8, a9, a10]
    exact ext_rows _ _ fun r n => Cert.Gla.Reference.decays_eq _ _ _ _ _ _ _ r n

end Cert.GlaClaim

end
-- ==== Proof.ReadoutSpec.lean ====
/-
  The readout of the attention of either kind: every head over its root mean square, times a gain; the heads' rows times
  a weight, gated by a row of the modulation and added to the stream.
-/
module

public import proofs.«01_k».proof.Proof.GlaSpec

@[expose] public section

set_option backward.proofsInPublic true

noncomputable section

open scoped BigOperators
open Idealize.ShloMosaic

namespace Cert.Readout

/-- A head of width `c` over its root mean square, with gain `g`. -/
def headNorm {w : ℕ} (c : EReal) (x g : Fin w → EReal) (j : Fin w) : EReal :=
  x j * Ideal.rsqrt (Ideal.div (∑ k, x k * x k) c + Ideal.ofBits FTy.f32 0x358637BD#32) * g j

/-- Column `n` of a row of four heads of 256. -/
def heads4 (x : Fin 1024 → EReal) (g : Fin 256 → EReal) (n : Fin 1024) : EReal :=
  headNorm (Ideal.ofBits FTy.f32 0x43800000#32) (fun k : Fin 256 => x ⟨256 * (n.val / 256) + k.val, by omega⟩) g ⟨n.val % 256, by omega⟩

/-- Column `n` of a row of eight heads of 128, with the constant factor the differential attention puts on them. -/
def heads8 (x : Fin 1024 → EReal) (g : Fin 128 → EReal) (n : Fin 1024) : EReal :=
  headNorm (Ideal.ofBits FTy.f32 0x43000000#32) (fun k : Fin 128 => x ⟨128 * (n.val / 128) + k.val, by omega⟩) g ⟨n.val % 128, by omega⟩
    * Ideal.ofBits FTy.f32 0x3F24FD5C#32

theorem heads4_at (x : Fin 1024 → EReal) (g : Fin 256 → EReal) (q : Fin 4) (j : Fin 256) :
    heads4 x g ⟨256 * q.val + j.val, by omega⟩ = headNorm (Ideal.ofBits FTy.f32 0x43800000#32) (fun k : Fin 256 => x ⟨256 * q.val + k.val, by omega⟩) g j := by
  have hq : (256 * q.val + j.val) / 256 = q.val := by omega
  have hj : (256 * q.val + j.val) % 256 = j.val := by omega
  unfold heads4
  simp only [hq, hj]

theorem heads8_at (x : Fin 1024 → EReal) (g : Fin 128 → EReal) (q : Fin 8) (j : Fin 128) :
    heads8 x g ⟨128 * q.val + j.val, by omega⟩
      = headNorm (Ideal.ofBits FTy.f32 0x43000000#32) (fun k : Fin 128 => x ⟨128 * q.val + k.val, by omega⟩) g j * Ideal.ofBits FTy.f32 0x3F24FD5C#32 := by
  have hq : (128 * q.val + j.val) / 128 = q.val := by omega
  have hj : (128 * q.val + j.val) % 128 = j.val := by omega
  unfold heads8
  simp only [hq, hj]

/-- The readout of the gated linear attention, at one place: the context's rows first, then the latent's. -/
def glaOut (ctx : FVec Ideal ⟨2, ![256, 1024]⟩ .f32) (lat : FVec Ideal ⟨2, ![16384, 1024]⟩ .f32) (fwd bwd : FVec Ideal ⟨2, ![16640, 1024]⟩ .f32)
    (gates : FVec Ideal ⟨2, ![16640, 1024]⟩ .bf16) (modv : FVec Ideal ⟨2, ![8, 6144]⟩ .f32) (gain : FVec Ideal ⟨1, ![256]⟩ .f32) (wo : FVec Ideal ⟨2, ![1024, 1024]⟩ .f32)
    (r : Fin 16640) (n : Fin 1024) : EReal :=
  (if h : r.val < 256 then ctx (ix2 ⟨r.val, h⟩ n) else lat (ix2 ⟨r.val - 256, by omega⟩ n))
    + (if r.val < 256 then modv (ix2 1 ⟨2048 + n.val, by omega⟩) else modv (ix2 0 ⟨2048 + n.val, by omega⟩))
      * Gla.dot (fun k => heads4 (fun k => fwd (ix2 r k) + bwd (ix2 r k)) (fun k => gain (ix1 k)) k * gates (ix2 r k)) (fun k => wo (ix2 k n))

/-- The readout of the differential attention, at one place: the latent's rows only, which the stream has after 256 others;
the attention's rows lie in columns. -/
def diffOut (xs : FVec Ideal ⟨2, ![16640, 1024]⟩ .f32) (cols : FVec Ideal ⟨2, ![1024, 16384]⟩ .f32) (modv : FVec Ideal ⟨2, ![8, 6144]⟩ .f32)
    (gain : FVec Ideal ⟨1, ![128]⟩ .f32) (wo : FVec Ideal ⟨2, ![1024, 1024]⟩ .f32) (r : Fin 16384) (n : Fin 1024) : EReal :=
  xs (ix2 ⟨256 + r.val, by omega⟩ n) + modv (ix2 0 ⟨2048 + n.val, by omega⟩)
    * Gla.dot (heads8 (fun k => cols (ix2 k r)) (fun k => gain (ix1 k))) (fun k => wo (ix2 k n))

end Cert.Readout

end
-- ==== Proof.GlaOutBlock.lean ====
/-
  The readout of the gated linear attention: what one grid point leaves in its block, at one place.
-/
module

public import proofs.«01_k».proof.Proof.ReadoutSpec
public import proofs.«01_k».proof.Proof.Gen.Kernel5Ideal.Frame
public import Idealize.ShloMosaic.Lib.Pointwise
public import Idealize.ShloMosaic.Lib.Pipeline.Value

@[expose] public section

set_option maxRecDepth 16384
set_option backward.proofsInPublic true

noncomputable section

open scoped BigOperators
open Idealize.ShloMosaic Idealize.SL.Sem

namespace Cert.GlaOut

open Cert.Kernel5Ideal Cert.Kernel5Ideal.Gen Cert.Readout Cert.Gla

/-- Whether the grid point's rows are the context's. -/
abbrev isContext (i : grid0.Coords) : BitVec 1 := Scalar.cmpi .eq (BitVec.ofNat 32 (i 0).val) 0#32

/-! ## The four heads -/

/-- The third head over its root mean square, times the gain. -/
def third (x : FVec Ideal S256x256 .f32) (s : FVec Ideal S256x256 .f32) (g : FVec Ideal S1x256 .f32) : FVec Ideal S256x256 .f32 :=
  mulf (mulf x (broadcastTo S256x256 (rsqrt (addf (divf (shapeCast S256x1 (multiReduction .add [1] S256 s 0x00000000#32 reduces_S256x256_S256 (.inl rfl) rfl) shapeCasts_S256_S256x1)
    (broadcast S256x1 (Scalar.ofBits .f32 0x43800000#32))) (broadcast S256x1 (Scalar.ofBits .f32 0x358637BD#32)))) broadcasts_S256x1_S256x256))
    (broadcastTo S256x256 (shapeCast S1x256 g shapeCasts_S1x256_S1x256) broadcasts_S1x256_S256x256)

/-- The fourth. -/
def fourth (v : FVec Ideal S256x1024 .f32) (g : FVec Ideal S1x256 .f32) : FVec Ideal S256x256 .f32 :=
  third (extractStridedSlice S256x256 ![0, 768] v slices_S256x1024_o0_768_S256x256)
    (mulf (extractStridedSlice S256x256 ![0, 768] v slices_S256x1024_o0_768_S256x256) (extractStridedSlice S256x256 ![0, 768] v slices_S256x1024_o0_768_S256x256)) g

/-- Four heads side by side. -/
def joined (a b d e : FVec Ideal S256x256 .f32) : FVec Ideal S256x1024 .f32 :=
  concatenate S256x1024 1 [⟨S256x256, a⟩, ⟨S256x256, b⟩, ⟨S256x256, d⟩, ⟨S256x256, e⟩] concatenates_S256x256_S256x256_S256x256_S256x256_S256x1024_d1

/-- The gated product of the heads' rows, on top of the stream. -/
def update (bit : BitVec 1) (base h : FVec Ideal S256x1024 .f32) (r : FVec Ideal S256x1024 .bf16) (w : FVec Ideal S1024x1024 .bf16) (s1 s0 : FVec Ideal S1x1024 .f32) :
    FVec Ideal S256x1024 .f32 :=
  addf base (mulf (broadcastTo S256x1024 (Scalar.select bit s1 s0 : FVec Ideal S1x1024 .f32) broadcasts_S1x1024_S256x1024)
    (matmul dot_S256x1024_S1024x1024_S256x1024_1_0_0_1_n_n none (truncf .bf16 (mulf h (extf .f32 r bitsLt_bf16_f32)) bitsLt_bf16_f32)
      (shapeCast S1024x1024 w shapeCasts_S1024x1024_S1024x1024) (constant S256x1024 .f32 0x00000000#32)))

theorem payload_eq (bit : BitVec 1) (base v : FVec Ideal S256x1024 .f32) (a b x s : FVec Ideal S256x256 .f32) (g g' : FVec Ideal S1x256 .f32) (r : FVec Ideal S256x1024 .bf16)
    (w : FVec Ideal S1024x1024 .bf16) (s1 s0 : FVec Ideal S1x1024 .f32) : k0_pay7 (F := Ideal) bit base v a b x s g g' r w s1 s0
    = update bit base (joined a b (third x s g) (fourth v g')) r w s1 s0 := rfl

theorem update_apply (bit : BitVec 1) (base h : FVec Ideal S256x1024 .f32) (r : FVec Ideal S256x1024 .bf16) (w : FVec Ideal S1024x1024 .bf16) (s1 s0 : FVec Ideal S1x1024 .f32)
    (y : Fin 256) (n : Fin 1024) : update bit base h r w s1 s0 (ix2 y n)
    = base (ix2 y n) + (Scalar.select bit s1 s0 : FVec Ideal S1x1024 .f32) (ix2 0 n) * dot (fun k => h (ix2 y k) * r (ix2 y k)) (fun k => w (ix2 k n)) := by
  unfold update
  generalize (Scalar.select bit s1 s0 : FVec Ideal S1x1024 .f32) = s
  pointwise
  rfl

section Heads

variable (p q : FVec Ideal S256x1024 .f32) (g : FVec Ideal S1x256 .f32) (y : Fin 256) (j : Fin 256)

theorem first_apply : k0_pay3 (F := Ideal) p q g (ix2 y j) = heads4 (fun k => p (ix2 y k) + q (ix2 y k)) (fun k => g (ix2 0 k)) ⟨256 * (0 : Fin 4).val + j.val, by omega⟩ := by
  rw [heads4_at]
  unfold headNorm
  have e (k : Fin 256) : (k0_pay2 (F := Ideal) p q) (ix2 y ⟨0 + k.val, by omega⟩) = p (ix2 y ⟨256 * (0 : Fin 4).val + k.val, by omega⟩) + q (ix2 y ⟨256 * (0 : Fin 4).val + k.val, by omega⟩) := rfl
  simp only [← e]
  unfold k0_pay3
  generalize k0_pay2 (F := Ideal) p q = v
  pointwise

theorem second_apply : k0_pay4 (F := Ideal) p q g (ix2 y j) = heads4 (fun k => p (ix2 y k) + q (ix2 y k)) (fun k => g (ix2 0 k)) ⟨256 * (1 : Fin 4).val + j.val, by omega⟩ := by
  rw [heads4_at]
  unfold headNorm
  have e (k : Fin 256) : (k0_pay2 (F := Ideal) p q) (ix2 y ⟨256 + k.val, by omega⟩) = p (ix2 y ⟨256 * (1 : Fin 4).val + k.val, by omega⟩) + q (ix2 y ⟨256 * (1 : Fin 4).val + k.val, by omega⟩) := rfl
  simp only [← e]
  unfold k0_pay4
  generalize k0_pay2 (F := Ideal) p q = v
  pointwise

theorem third_apply : third (k0_pay5 (F := Ideal) p q) (k0_pay6 (F := Ideal) p q) g (ix2 y j)
    = heads4 (fun k => p (ix2 y k) + q (ix2 y k)) (fun k => g (ix2 0 k)) ⟨256 * (2 : Fin 4).val + j.val, by omega⟩ := by
  rw [heads4_at]
  unfold headNorm
  have e (k : Fin 256) : (k0_pay2 (F := Ideal) p q) (ix2 y ⟨512 + k.val, by omega⟩) = p (ix2 y ⟨256 * (2 : Fin 4).val + k.val, by omega⟩) + q (ix2 y ⟨256 * (2 : Fin 4).val + k.val, by omega⟩) := rfl
  simp only [← e]
  unfold third k0_pay6 k0_pay5
  generalize k0_pay2 (F := Ideal) p q = v
  pointwise

theorem fourth_apply : fourth (k0_pay2 (F := Ideal) p q) g (ix2 y j)
    = heads4 (fun k => p (ix2 y k) + q (ix2 y k)) (fun k => g (ix2 0 k)) ⟨256 * (3 : Fin 4).val + j.val, by omega⟩ := by
  rw [heads4_at]
  unfold headNorm
  have e (k : Fin 256) : (k0_pay2 (F := Ideal) p q) (ix2 y ⟨768 + k.val, by omega⟩) = p (ix2 y ⟨256 * (3 : Fin 4).val + k.val, by omega⟩) + q (ix2 y ⟨256 * (3 : Fin 4).val + k.val, by omega⟩) := rfl
  simp only [← e]
  unfold fourth third
  generalize k0_pay2 (F := Ideal) p q = v
  pointwise

variable (a b d e : FVec Ideal S256x256 .f32)

theorem joined0 : joined a b d e (ix2 y ⟨256 * (0 : Fin 4).val + j.val, by omega⟩) = a (ix2 y j) := by
  rw [show (⟨256 * (0 : Fin 4).val + j.val, by omega⟩ : Fin 1024) = ⟨j.val, by omega⟩ from Fin.ext (by show 256 * 0 + j.val = j.val; omega)]
  pointwise [joined]
theorem joined1 : joined a b d e (ix2 y ⟨256 * (1 : Fin 4).val + j.val, by omega⟩) = b (ix2 y j) := by
  rw [show (⟨256 * (1 : Fin 4).val + j.val, by omega⟩ : Fin 1024) = ⟨256 + j.val, by omega⟩ from Fin.ext (by show 256 * 1 + j.val = 256 + j.val; omega)]
  pointwise [joined]
theorem joined2 : joined a b d e (ix2 y ⟨256 * (2 : Fin 4).val + j.val, by omega⟩) = d (ix2 y j) := by
  rw [show (⟨256 * (2 : Fin 4).val + j.val, by omega⟩ : Fin 1024) = ⟨512 + j.val, by omega⟩ from Fin.ext (by show 256 * 2 + j.val = 512 + j.val; omega)]
  pointwise [joined]
  rw [dif_neg (by omega), dif_neg (by omega), dif_pos (by omega)]
  exact congrArg d (congrArg (ix2 y) (Fin.ext (by show 512 + j.val - 256 - 256 = j.val; omega)))
theorem joined3 : joined a b d e (ix2 y ⟨256 * (3 : Fin 4).val + j.val, by omega⟩) = e (ix2 y j) := by
  rw [show (⟨256 * (3 : Fin 4).val + j.val, by omega⟩ : Fin 1024) = ⟨768 + j.val, by omega⟩ from Fin.ext (by show 256 * 3 + j.val = 768 + j.val; omega)]
  pointwise [joined]
  rw [dif_neg (by omega), dif_neg (by omega), dif_neg (by omega)]
  exact congrArg e (congrArg (ix2 y) (Fin.ext (by show 768 + j.val - 256 - 256 - 256 = j.val; omega)))

end Heads

theorem joined_apply (p q : FVec Ideal S256x1024 .f32) (g : FVec Ideal S1x256 .f32) (y : Fin 256) (n : Fin 1024) :
    joined (k0_pay3 (F := Ideal) p q g) (k0_pay4 (F := Ideal) p q g) (third (k0_pay5 (F := Ideal) p q) (k0_pay6 (F := Ideal) p q) g) (fourth (k0_pay2 (F := Ideal) p q) g) (ix2 y n)
      = heads4 (fun k => p (ix2 y k) + q (ix2 y k)) (fun k => g (ix2 0 k)) n := by
  obtain ⟨h, j, rfl⟩ : ∃ (h : Fin 4) (j : Fin 256), n = ⟨256 * h.val + j.val, by omega⟩ :=
    ⟨⟨n.val / 256, by omega⟩, ⟨n.val % 256, by omega⟩, Fin.ext (by show n.val = 256 * (n.val / 256) + n.val % 256; omega)⟩
  match h with
  | ⟨0, _⟩ => exact (joined0 y j _ _ _ _).trans (first_apply p q g y j)
  | ⟨1, _⟩ => exact (joined1 y j _ _ _ _).trans (second_apply p q g y j)
  | ⟨2, _⟩ => exact (joined2 y j _ _ _ _).trans (third_apply p q g y j)
  | ⟨3, _⟩ => exact (joined3 y j _ _ _ _).trans (fourth_apply p q g y j)

/-! ## The block -/

theorem load0 (x : Vec Ideal S256x1024 .f32) : View.ld x r0_0 = x := View.ld_unit_zero (funext fun a => by fin_cases a <;> rfl) _ x
theorem loadh (x : Vec Ideal S256x1024 .bf16) : View.ld x r0_0 = x := View.ld_unit_zero (funext fun a => by fin_cases a <;> rfl) _ x
theorem load1 (x : Vec Ideal S1x256 .f32) : View.ld x r0_1 = x := View.ld_unit_zero (funext fun a => by fin_cases a <;> rfl) _ x
theorem load2 (x : Vec Ideal S1024x1024 .bf16) : View.ld x r0_2 = x := View.ld_unit_zero (funext fun a => by fin_cases a <;> rfl) _ x

theorem load3 (x : Vec Ideal S8x6144 .f32) (n : Fin 1024) : (View.ld x r0_3 : Vec Ideal S1x1024 .f32) (ix2 0 n) = x (ix2 1 ⟨2048 + n.val, by omega⟩) :=
  congrArg x (funext fun a => Fin.ext (by
    match a with
    | ⟨0, _⟩ => show 1 + 1 * 0 = 1; omega
    | ⟨1, _⟩ => show 2048 + 1 * n.val = 2048 + n.val; omega))

theorem load4 (x : Vec Ideal S8x6144 .f32) (n : Fin 1024) : (View.ld x r0_4 : Vec Ideal S1x1024 .f32) (ix2 0 n) = x (ix2 0 ⟨2048 + n.val, by omega⟩) :=
  congrArg x (funext fun a => Fin.ext (by
    match a with
    | ⟨0, _⟩ => show 0 + 1 * 0 = 0; omega
    | ⟨1, _⟩ => show 2048 + 1 * n.val = 2048 + n.val; omega))

theorem block_apply (i : grid0.Coords) (x0 x1 x2 x3 : Vec Ideal S256x1024 .f32) (x4 : Vec Ideal S256x1024 .bf16) (x5 : Vec Ideal S8x6144 .f32) (x6 : Vec Ideal S1x256 .f32)
    (x7 : Vec Ideal S1024x1024 .bf16) (y : Fin 256) (n : Fin 1024) : out0_8 (F := Ideal) i x0 x1 x2 x3 x4 x5 x6 x7 (ix2 y n)
    = (if isContext i = 1#1 then x0 (ix2 y n) else x1 (ix2 y n)) + (if isContext i = 1#1 then x5 (ix2 1 ⟨2048 + n.val, by omega⟩) else x5 (ix2 0 ⟨2048 + n.val, by omega⟩))
        * dot (fun k => heads4 (fun k => x2 (ix2 y k) + x3 (ix2 y k)) (fun k => x6 (ix2 0 k)) k * x4 (ix2 y k)) (fun k => x7 (ix2 k n)) := by
  unfold out0_8
  rw [View.canon_unit_zero (funext fun a => by fin_cases a <;> rfl), payload_eq, update_apply, load0 x0, load0 x1, load0 x2, load0 x3, loadh x4, load1 x6, load2 x7]
  simp only [joined_apply]
  by_cases h : isContext i = 1#1
  · rw [if_pos h, if_pos h, ← load3 x5]
    simp only [k0_pay1, Scalar.select, if_pos (show isContext i = 1 from h)]
  · rw [if_neg h, if_neg h, ← load4 x5]
    simp only [k0_pay1, Scalar.select, if_neg (show ¬ isContext i = 1 from h)]

end Cert.GlaOut

end
-- ==== Proof.GlaOutArray.lean ====
/-
  From the blocks to the array, for the readout of the gated linear attention: what each of the 65 grid points reads, and the
  result at every place.
-/
module

public import proofs.«01_k».proof.Proof.GlaOutBlock
public import proofs.«01_k».proof.Proof.Gen.Kernel5Ideal.Value
public import Idealize.ShloMosaic.Lib.StableHlo.ReadAt
public import Idealize.ShloMosaic.Lib.Pipeline.Value

@[expose] public section

set_option maxRecDepth 16640

noncomputable section

open scoped BigOperators
open Idealize.ShloMosaic Idealize.ShloMosaic.TcCoe Idealize.SL.Sem
open Idealize.ShloMosaic.Pipeline (Dat)

namespace Cert.GlaOut

open Cert.Kernel5Ideal Cert.Kernel5Ideal.Gen Cert.Readout

variable (m : (ℓ : Loc nD τ sig) → Buf (Elt Ideal) ℓ) (c : Dev nD)

/-! ## Which block each window is at, and the condition on the grid point -/

theorem at0 : ∀ t : Fin grid0.N, win0_0.index t 0 = 0 ∧ win0_0.index t 1 = 0 := by decide +kernel
theorem at1 : ∀ t : Fin grid0.N, win0_1.index t 0 = t.val - 1 ∧ win0_1.index t 1 = 0 := by decide +kernel
theorem at2 : ∀ t : Fin grid0.N, win0_2.index t 0 = t.val ∧ win0_2.index t 1 = 0 := by decide +kernel
theorem at3 : ∀ t : Fin grid0.N, win0_3.index t 0 = t.val ∧ win0_3.index t 1 = 0 := by decide +kernel
theorem at4 : ∀ t : Fin grid0.N, win0_4.index t 0 = t.val ∧ win0_4.index t 1 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 0 := by decide +kernel
theorem at7 : ∀ t : Fin grid0.N, win0_7.index t 0 = 0 ∧ win0_7.index t 1 = 0 := by decide +kernel
theorem at8 : ∀ t : Fin grid0.N, win0_8.index t 0 = t.val ∧ win0_8.index t 1 = 0 := by decide +kernel

theorem context_at : ∀ t : Fin grid0.N, isContext (grid0.coords t) = 1#1 ↔ t.val = 0 := by decide +kernel

theorem points (t : Fin cfg0.N) : t.val < 65 := lt_of_lt_of_eq t.isLt N_0

/-- Row `y` of grid point `t`'s block. -/
abbrev place (t : Fin cfg0.N) (y : Fin 256) : Fin 16640 := ⟨256 * t.val + y.val, by have := points t; omega⟩

/-- The grid point a row belongs to. -/
abbrev pointOf (r : ℕ) (hr : r < 16640) : Fin cfg0.N := ⟨r / 256, by rw [show cfg0.N = 65 from N_0]; omega⟩

/-! ## The arguments -/

abbrev ctx : FVec Ideal S256x1024 .f32 := m ((c : Thread nD τ).loc main_arg0)
abbrev lat : FVec Ideal S16384x1024 .f32 := m ((c : Thread nD τ).loc main_arg1)
abbrev fwd : FVec Ideal S16640x1024 .f32 := m ((c : Thread nD τ).loc main_arg2)
abbrev bwd : FVec Ideal S16640x1024 .f32 := m ((c : Thread nD τ).loc main_arg3)
abbrev gates : FVec Ideal S16640x1024 .bf16 := m ((c : Thread nD τ).loc main_arg4)
abbrev modv : FVec Ideal S8x6144 .f32 := m ((c : Thread nD τ).loc main_arg5)
abbrev gain : FVec Ideal S256 .f32 := m ((c : Thread nD τ).loc main_arg6)
abbrev wo : FVec Ideal S1024x1024 .f32 := m ((c : Thread nD τ).loc main_arg7)

/-! ## The blocks -/

theorem context_block (t : Fin cfg0.N) (y : Fin 256) (k : Fin 1024) : (iblk m c 0 t : FVec Ideal S256x1024 .f32) (ix2 y k) = ctx m c (ix2 y k) := by
  have hi := at0 t
  unfold iblk
  rw [View.read_apply]
  show V m c main_arg0 _ = _
  rw [V_main_arg0]
  refine congrArg _ (funext fun a => Fin.ext ?_)
  match a with
  | ⟨0, _⟩ => show win0_0.index t 0 * 256 + 1 * y.val = y.val; rw [hi.1]; omega
  | ⟨1, _⟩ => show win0_0.index t 1 * 1024 + 1 * k.val = k.val; rw [hi.2]; omega

theorem rest_block (t : Fin cfg0.N) (ht : 0 < t.val) (y : Fin 256) (k : Fin 1024) : (iblk m c 1 t : FVec Ideal S256x1024 .f32) (ix2 y k) = lat m c (ix2 ⟨256 * t.val + y.val - 256, by have := points t; omega⟩ k) := by
  have hi := at1 t
  unfold iblk
  rw [View.read_apply]
  show V m c main_arg1 _ = _
  rw [V_main_arg1]
  refine congrArg _ (funext fun a => Fin.ext ?_)
  match a with
  | ⟨0, _⟩ => show win0_1.index t 0 * 256 + 1 * y.val = 256 * t.val + y.val - 256; rw [hi.1]; omega
  | ⟨1, _⟩ => show win0_1.index t 1 * 1024 + 1 * k.val = k.val; rw [hi.2]; omega

theorem forward_block (t : Fin cfg0.N) (y : Fin 256) (k : Fin 1024) : (iblk m c 2 t : FVec Ideal S256x1024 .f32) (ix2 y k) = fwd m c (ix2 (place t y) k) := by
  have hi := at2 t
  unfold iblk
  rw [View.read_apply]
  show V m c main_arg2 _ = _
  rw [V_main_arg2]
  refine congrArg _ (funext fun a => Fin.ext ?_)
  match a with
  | ⟨0, _⟩ => show win0_2.index t 0 * 256 + 1 * y.val = 256 * t.val + y.val; rw [hi.1]; omega
  | ⟨1, _⟩ => show win0_2.index t 1 * 1024 + 1 * k.val = k.val; rw [hi.2]; omega

theorem backward_block (t : Fin cfg0.N) (y : Fin 256) (k : Fin 1024) : (iblk m c 3 t : FVec Ideal S256x1024 .f32) (ix2 y k) = bwd m c (ix2 (place t y) k) := by
  have hi := at3 t
  unfold iblk
  rw [View.read_apply]
  show V m c main_arg3 _ = _
  rw [V_main_arg3]
  refine congrArg _ (funext fun a => Fin.ext ?_)
  match a with
  | ⟨0, _⟩ => show win0_3.index t 0 * 256 + 1 * y.val = 256 * t.val + y.val; rw [hi.1]; omega
  | ⟨1, _⟩ => show win0_3.index t 1 * 1024 + 1 * k.val = k.val; rw [hi.2]; omega

theorem gate_block (t : Fin cfg0.N) (y : Fin 256) (k : Fin 1024) : (iblk m c 4 t : FVec Ideal S256x1024 .bf16) (ix2 y k) = gates m c (ix2 (place t y) k) := by
  have hi := at4 t
  unfold iblk
  rw [View.read_apply]
  show V m c main_arg4 _ = _
  rw [V_main_arg4]
  refine congrArg _ (funext fun a => Fin.ext ?_)
  match a with
  | ⟨0, _⟩ => show win0_4.index t 0 * 256 + 1 * y.val = 256 * t.val + y.val; rw [hi.1]; omega
  | ⟨1, _⟩ => show win0_4.index t 1 * 1024 + 1 * k.val = k.val; rw [hi.2]; omega

theorem modulation_block (t : Fin cfg0.N) (q : Fin 8) (k : Fin 6144) : (iblk m c 5 t : FVec Ideal S8x6144 .f32) (ix2 q k) = modv m c (ix2 q k) := by
  have hi := at5 t
  unfold iblk
  rw [View.read_apply]
  show V m c main_arg5 _ = _
  rw [V_main_arg5]
  refine congrArg _ (funext fun a => Fin.ext ?_)
  match a with
  | ⟨0, _⟩ => show win0_5.index t 0 * 8 + 1 * q.val = q.val; rw [hi.1]; omega
  | ⟨1, _⟩ => show win0_5.index t 1 * 6144 + 1 * k.val = k.val; rw [hi.2]; omega

theorem gain_value : V m c main_v0 = shapeCast S1x256 (gain m c) shapeCasts_S256_S1x256 := by
  unfold V
  after_reads_simp
  rfl

theorem weights_value : V m c main_v1 = truncf (F := Ideal) .bf16 (wo m c) bitsLt_bf16_f32 := by
  unfold V
  after_reads_simp

theorem weights_block (t : Fin cfg0.N) (k n : Fin 1024) : (iblk m c 7 t : FVec Ideal S1024x1024 .bf16) (ix2 k n) = wo m c (ix2 k n) := by
  have hi := at7 t
  unfold iblk
  rw [View.read_apply]
  show V m c main_v1 _ = _
  rw [weights_value]
  refine congrArg (wo m c) (funext fun a => Fin.ext ?_)
  match a with
  | ⟨0, _⟩ => show win0_7.index t 0 * 1024 + 1 * k.val = k.val; rw [hi.1]; omega
  | ⟨1, _⟩ => show win0_7.index t 1 * 1024 + 1 * n.val = n.val; rw [hi.2]; omega

theorem gain_block (t : Fin cfg0.N) (k : Fin 256) : (iblk m c 6 t : FVec Ideal S1x256 .f32) (ix2 0 k) = gain m c (ix1 k) := by
  have hi := at6 t
  have row (x : FVec Ideal S256 .f32) : shapeCast S1x256 x shapeCasts_S256_S1x256 (ix2 0 k) = x (ix1 k) := by pointwise
  refine Eq.trans ?_ (row _)
  unfold iblk
  rw [View.read_apply]
  show V m c main_v0 _ = _
  rw [gain_value]
  refine congrArg _ (funext fun a => Fin.ext ?_)
  match a with
  | ⟨0, _⟩ => show win0_6.index t 0 * 1 + 1 * 0 = 0; rw [hi.1]
  | ⟨1, _⟩ => show win0_6.index t 1 * 256 + 1 * k.val = k.val; rw [hi.2]; omega

/-! ## The result -/

def result : Buf (Elt Ideal) ((c : Thread nD τ).loc main_v2) :=
  fun i => glaOut (ctx m c) (lat m c) (fwd m c) (bwd m c) (gates m c) (modv m c) (gain m c) (wo m c) (i 0) (i 1)

theorem point_eq (t : Fin cfg0.N) (y : Fin 256) (n : Fin 1024) :
    out0_8 (F := Ideal) (grid0.coords t) (iblk m c 0 t) (iblk m c 1 t) (iblk m c 2 t) (iblk m c 3 t) (iblk m c 4 t) (iblk m c 5 t) (iblk m c 6 t) (iblk m c 7 t) (ix2 y n)
      = glaOut (ctx m c) (lat m c) (fwd m c) (bwd m c) (gates m c) (modv m c) (gain m c) (wo m c) (place t y) n := by
  rw [block_apply]
  unfold glaOut
  simp only [forward_block m c t, backward_block m c t, gate_block m c t, gain_block m c t, weights_block m c t]
  by_cases ht : t.val = 0
  · have e : (⟨(place t y).val, by show 256 * t.val + y.val < 256; omega⟩ : Fin 256) = y := Fin.ext (by show 256 * t.val + y.val = y.val; omega)
    rw [if_pos ((context_at t).2 ht), if_pos ((context_at t).2 ht), dif_pos (by show 256 * t.val + y.val < 256; omega), if_pos (by show 256 * t.val + y.val < 256; omega), e,
      context_block m c t, modulation_block m c t]
  · rw [if_neg (fun h => ht ((context_at t).1 h)), if_neg (fun h => ht ((context_at t).1 h)), dif_neg (by show ¬ (256 * t.val + y.val < 256); omega),
      if_neg (by show ¬ (256 * t.val + y.val < 256); omega), rest_block m c t (by omega), modulation_block m c t]

theorem place_eq (t : Fin cfg0.N) (y : Fin 256) (n : Fin 1024) (e : S16640x1024.Idx)
    (h0 : (e 0).val = win0_8.index t 0 * 256 + 1 * y.val) (h1 : (e 1).val = win0_8.index t 1 * 1024 + 1 * n.val) : e = ix2 (place t y) n := by
  have h := at8 t
  funext q
  match q with
  | ⟨0, _⟩ => exact Fin.ext (h0.trans (by show _ = 256 * t.val + y.val; rw [h.1]; omega))
  | ⟨1, _⟩ => exact Fin.ext (h1.trans (by show _ = n.val; rw [h.2]; omega))

theorem final_eq : (dats m 0 c).arrAt 8 cfg0.N = result m c :=
  (dats m 0 c).arrAt_eq_of_cover 8 (result m c) (fun t _ => by
    rw [Value.flushed8]
    funext i
    obtain ⟨y, n, rfl⟩ : ∃ (y : Fin 256) (n : Fin 1024), i = ix2 y n := ⟨i 0, i 1, by funext a; fin_cases a <;> rfl⟩
    rw [View.read_apply]
    refine Eq.trans ?_ (congrArg (result m c) (place_eq t y n (((cfg0.win 8).blk t).view.emb (ix2 y n)) rfl rfl)).symm
    exact point_eq m c t y n) fun i => by
    refine ⟨pointOf (i 0).val (i 0).isLt, flush0_8 _, ?_⟩
    show i ∈ ((View.whole main_v2).slice (win0_8.rect (pointOf (i 0).val (i 0).isLt))).set
    rw [View.set_slice_whole, Rect.mem_set_unit]
    have h := at8 (pointOf (i 0).val (i 0).isLt)
    have h0 : (i 0).val < 16640 := (i 0).isLt
    have h1 : (i 1).val < 1024 := (i 1).isLt
    have hr : win0_8.index (pointOf (i 0).val (i 0).isLt) 0 = (i 0).val / 256 := h.1
    intro a
    match a with
    | ⟨0, _⟩ => show win0_8.index (pointOf (i 0).val (i 0).isLt) 0 * 256 ≤ (i 0).val ∧ (i 0).val < win0_8.index (pointOf (i 0).val (i 0).isLt) 0 * 256 + 256
                omega
    | ⟨1, _⟩ => show win0_8.index (pointOf (i 0).val (i 0).isLt) 1 * 1024 ≤ (i 1).val ∧ (i 1).val < win0_8.index (pointOf (i 0).val (i 0).isLt) 1 * 1024 + 1024
                rw [h.2]; omega

end Cert.GlaOut

end
-- ==== Proof.GlaOutReference.lean ====
/-
  The reference of the readout of the gated linear attention, at one place.
-/
module

public import proofs.«01_k».proof.Proof.ReadoutSpec
public import proofs.«01_k».proof.Proof.Gen.Reference5Ideal.Read
public import Idealize.ShloMosaic.Lib.Pointwise

@[expose] public section

set_option maxRecDepth 16640
set_option backward.proofsInPublic true

noncomputable section

open scoped BigOperators
open Idealize.ShloMosaic Idealize.ShloMosaic.TcCoe Idealize.SL.Sem

namespace Cert.GlaOut.Reference

open Cert.Reference5Ideal Cert.Reference5Ideal.Gen Cert.Reference5Ideal.Read Cert.Readout

variable (x0 : FVec Ideal S256x1024 .f32) (x1 : FVec Ideal S16384x1024 .f32) (x2 x3 : FVec Ideal S16640x1024 .f32) (x4 : FVec Ideal S16640x1024 .bf16)
  (x5 : FVec Ideal S8x6144 .f32) (x6 : FVec Ideal S256 .f32) (x7 : FVec Ideal S1024x1024 .f32)

/-- Column `k` of the head that place `i` lies in. -/
theorem head_place (r : Fin 16640) (n : Fin 1024) (k : Fin 256) :
    idx_main_v3 (idx_main_v5 (idx_main_v6 (idx_main_v12 (idx_main_v17 (ix2 r n)))) k) = ix2 r ⟨256 * (n.val / 256) + k.val, by omega⟩ := by
  have h0 : (r.val * 1024 + n.val) / 1024 = r.val := by omega
  have h1 : (r.val * 1024 + n.val) / 256 % 4 = n.val / 256 := by omega
  funext a
  match a with
  | ⟨0, _⟩ => exact Fin.ext (by
      show (((r.val * 1024 + n.val) / 1024 * 4 + (r.val * 1024 + n.val) / 256 % 4) * 256 + k.val) / 1024 = r.val
      rw [h0, h1]; omega)
  | ⟨1, _⟩ => exact Fin.ext (by
      show (((r.val * 1024 + n.val) / 1024 * 4 + (r.val * 1024 + n.val) / 256 % 4) * 256 + k.val) % 1024 = 256 * (n.val / 256) + k.val
      rw [h0, h1]; omega)

theorem own_place (r : Fin 16640) (n : Fin 1024) : idx_main_v3 (idx_main_v17 (ix2 r n)) = ix2 r ⟨256 * (n.val / 256) + n.val % 256, by omega⟩ := by
  have h0 : (r.val * 1024 + n.val) / 1024 = r.val := by omega
  have h1 : (r.val * 1024 + n.val) / 256 % 4 = n.val / 256 := by omega
  have h2 : (r.val * 1024 + n.val) % 256 = n.val % 256 := by omega
  funext a
  match a with
  | ⟨0, _⟩ => exact Fin.ext (by
      show (((r.val * 1024 + n.val) / 1024 * 4 + (r.val * 1024 + n.val) / 256 % 4) * 256 + (r.val * 1024 + n.val) % 256) / 1024 = r.val
      rw [h0, h1, h2]; omega)
  | ⟨1, _⟩ => exact Fin.ext (by
      show (((r.val * 1024 + n.val) / 1024 * 4 + (r.val * 1024 + n.val) / 256 % 4) * 256 + (r.val * 1024 + n.val) % 256) % 1024 = 256 * (n.val / 256) + n.val % 256
      rw [h0, h1, h2]; omega)

theorem gain_place (r : Fin 16640) (n : Fin 1024) : idx_main_v14 (idx_main_v15 (idx_main_v17 (ix2 r n))) = ix1 ⟨n.val % 256, by omega⟩ := by
  funext a
  match a with
  | ⟨0, _⟩ => exact Fin.ext (by show (r.val * 1024 + n.val) % 256 = n.val % 256; omega)

theorem heads_eq (r : Fin 16640) (n : Fin 1024) : val_main_v17 (F := Ideal) x2 x3 x6 (ix2 r n)
    = heads4 (fun k => x2 (ix2 r k) + x3 (ix2 r k)) (fun k => x6 (ix1 k)) n := by
  rw [val_main_v17_apply, val_main_v16_apply, val_main_v15_apply, val_main_v14_apply, val_main_v13_apply, val_main_v12_apply, val_main_v11_apply, val_main_v10_apply,
    val_main_v9_apply, val_main_v8_apply, val_main_v7_apply, val_main_v6_apply, val_main_v5_apply]
  simp only [val_main_v4_apply, val_main_v3_apply, head_place, own_place, gain_place, val_main_v2_apply]
  unfold heads4 headNorm
  show _ * Ideal.rsqrt (Ideal.div (Ideal.ofBits FTy.f32 0x00000000#32 + _) _ + _) * _ = _
  rw [Ideal.ofBits_zero_f32, zero_add]
  rfl

theorem product_eq (r : Fin 16640) (n : Fin 1024) : val_main_v20 (F := Ideal) x2 x3 x4 x6 x7 (ix2 r n)
    = Gla.dot (fun k => heads4 (fun k => x2 (ix2 r k) + x3 (ix2 r k)) (fun k => x6 (ix1 k)) k * x4 (ix2 r k)) (fun k => x7 (ix2 k n)) := by
  unfold Gla.dot
  simp only [← heads_eq x2 x3 x6]
  unfold val_main_v20 val_main_v19
  generalize val_main_v17 (F := Ideal) x2 x3 x6 = y
  pointwise [val_main_v18]

theorem context_eq (r : Fin 256) (n : Fin 1024) : val_main_v24 (F := Ideal) x0 x2 x3 x4 x5 x6 x7 (ix2 r n)
    = x0 (ix2 r n) + x5 (ix2 1 ⟨2048 + n.val, by omega⟩) * val_main_v20 (F := Ideal) x2 x3 x4 x6 x7 (ix2 ⟨r.val, by omega⟩ n) := by
  unfold val_main_v24 val_main_v23 val_main_v21
  generalize val_main_v20 (F := Ideal) x2 x3 x4 x6 x7 = y
  pointwise [val_main_v22, val_main_v1]

theorem rest_eq (r : Fin 16384) (n : Fin 1024) : val_main_v28 (F := Ideal) x1 x2 x3 x4 x5 x6 x7 (ix2 r n)
    = x1 (ix2 r n) + x5 (ix2 0 ⟨2048 + n.val, by omega⟩) * val_main_v20 (F := Ideal) x2 x3 x4 x6 x7 (ix2 ⟨256 + r.val, by omega⟩ n) := by
  unfold val_main_v28 val_main_v27 val_main_v25
  generalize val_main_v20 (F := Ideal) x2 x3 x4 x6 x7 = y
  pointwise [val_main_v26, val_main_v0]

theorem result_eq (r : Fin 16640) (n : Fin 1024) : val_main_v29 (F := Ideal) x0 x1 x2 x3 x4 x5 x6 x7 (ix2 r n) = glaOut x0 x1 x2 x3 x4 x5 x6 x7 r n := by
  unfold val_main_v29 glaOut
  by_cases hr : r.val < 256
  · rw [dif_pos hr, if_pos hr]
    refine (concatenate_pair_apply_left (t := S16640x1024) 0 _ _ concatenates_S256x1024_S16384x1024_S16640x1024_d0 (ix2 r n) rfl (ix2 ⟨r.val, hr⟩ n) fun a => ?_).trans ?_
    · match a with
      | ⟨0, _⟩ => rfl
      | ⟨1, _⟩ => rfl
    · rw [context_eq, product_eq]
  · rw [dif_neg hr, if_neg hr]
    refine (concatenate_pair_apply_right (t := S16640x1024) 0 _ _ concatenates_S256x1024_S16384x1024_S16640x1024_d0 (ix2 r n) rfl rfl (ix2 ⟨r.val - 256, by omega⟩ n) (fun a ha => ?_) ?_).trans ?_
    · match a with
      | ⟨0, _⟩ => exact absurd rfl ha
      | ⟨1, _⟩ => rfl
    · show r.val - 256 + 256 = r.val
      omega
    · rw [rest_eq, product_eq, show (⟨256 + (r.val - 256), by omega⟩ : Fin 16640) = r from Fin.ext (by show 256 + (r.val - 256) = r.val; omega)]

end Cert.GlaOut.Reference

end
-- ==== Proof.GlaOutClaim.lean ====
/-
  The claims of the readout of the gated linear attention: both programs run and leave their arguments unchanged, and their
  results are equal.
-/
module

public import proofs.«01_k».proof.Defs
public import proofs.«01_k».proof.Proof.GlaOutArray
public import proofs.«01_k».proof.Proof.GlaOutReference
public import proofs.«01_k».proof.Proof.Gen.Kernel5
public import proofs.«01_k».proof.Proof.Gen.Kernel5.Frame
public import proofs.«01_k».proof.Proof.Gen.Reference5Ideal.Run
public import Idealize.ShloMosaic.Lib.Quiescent

@[expose] public section

noncomputable section

open Idealize.ShloMosaic Idealize.SL.Sem

namespace Cert.GlaOutClaim

theorem kernel_runs : Cert.quiescent_Kernel5 := fun m g _ => Cert.Kernel5.Gen.frame m g

theorem ideal_runs : Cert.quiescent_Kernel5Ideal := fun m g _ => Cert.Kernel5Ideal.Gen.frame m g

theorem reference_runs : Cert.quiescent_Reference5Ideal := fun m g _ =>
  (θ_run _ _ _).mono (fun r h => ⟨fun c => (h c).2, Idealize.ShloMosaic.sem_eq_zero_of_no_sems (by decide) r.2⟩)
    (Cert.Reference5Ideal.Value.run m g)

/-- Kernel and reference compute the same array. -/
theorem equal : Cert.algebraic_Kernel5Ideal_Reference5Ideal := by
  intro m g m' g' _ hargs
  refine ⟨fun c => (Cert.Kernel5Ideal.Gen.dats m 0 c).arrAt 8 Cert.Kernel5Ideal.cfg0.N, Cert.Kernel5Ideal.Value.run_blocks m g,
    (θ_run _ _ _).mono (fun r h c => ⟨(h c).1.trans ?_, (h c).2⟩) (Cert.Reference5Ideal.Value.run m' g')⟩
  obtain ⟨a0, a1, a2, a3, a4, a5, a6, a7⟩ := hargs c
  refine Eq.trans ?_ (Cert.GlaOut.final_eq m c).symm
  rw [Cert.Reference5Ideal.Read.val_main_v29_eq, a0, a1, a2, a3, a4, a5, a6, a7]
  funext i
  obtain ⟨x, y, rfl⟩ : ∃ (x : Fin 16640) (y : Fin 1024), i = ix2 x y := ⟨i 0, i 1, by funext a; fin_cases a <;> rfl⟩
  exact Cert.GlaOut.Reference.result_eq _ _ _ _ _ _ _ _ x y

end Cert.GlaOutClaim

end
-- ==== Proof.DiffOutBlock.lean ====
/-
  The readout of the differential attention: what one grid point leaves in its block, at one place. The attention's rows lie
  in columns there, and the eight heads one below the other.
-/
module

public import proofs.«01_k».proof.Proof.ReadoutSpec
public import proofs.«01_k».proof.Proof.Gen.Kernel6Ideal.Frame
public import Idealize.ShloMosaic.Lib.Pointwise
public import Idealize.ShloMosaic.Lib.Pipeline.Value

@[expose] public section

set_option maxRecDepth 16384
set_option backward.proofsInPublic true

noncomputable section

open scoped BigOperators
open Idealize.ShloMosaic Idealize.SL.Sem

namespace Cert.DiffOut

open Cert.Kernel6Ideal Cert.Kernel6Ideal.Gen Cert.Readout Cert.Gla

/-! ## The eight heads -/

/-- A head over its root mean square, times the gain and the constant factor. -/
def head (x : FVec Ideal S128x256 .f32) (g : FVec Ideal S128x1 .f32) : FVec Ideal S128x256 .f32 :=
  mulf (mulf (mulf x (broadcastTo S128x256 (rsqrt (addf (divf (shapeCast S1x256 (multiReduction .add [0] S256 (mulf x x) 0x00000000#32 reduces_S128x256_S256 (.inl rfl) rfl) shapeCasts_S256_S1x256)
    (broadcast S1x256 (Scalar.ofBits .f32 0x43000000#32))) (broadcast S1x256 (Scalar.ofBits .f32 0x358637BD#32)))) broadcasts_S1x256_S128x256))
    (broadcastTo S128x256 (shapeCast S128x1 g shapeCasts_S128x1_S128x1) broadcasts_S128x1_S128x256)) (broadcast S128x256 (Scalar.ofBits .f32 0x3F24FD5C#32))

/-- Eight heads, one below the other. -/
def stacked (a0 a1 a2 a3 a4 a5 a6 a7 : FVec Ideal S128x256 .f32) : FVec Ideal S1024x256 .f32 :=
  concatenate S1024x256 0 [⟨S128x256, a0⟩, ⟨S128x256, a1⟩, ⟨S128x256, a2⟩, ⟨S128x256, a3⟩, ⟨S128x256, a4⟩, ⟨S128x256, a5⟩, ⟨S128x256, a6⟩, ⟨S128x256, a7⟩]
    concatenates_S128x256_S128x256_S128x256_S128x256_S128x256_S128x256_S128x256_S128x256_S1024x256_d0

/-- All heads of a block of columns. -/
def normalised (v : FVec Ideal S1024x256 .f32) (g : FVec Ideal S128x1 .f32) : FVec Ideal S1024x256 .f32 :=
  stacked (head (extractStridedSlice S128x256 ![0, 0] v slices_S1024x256_o0_0_S128x256) g)
    (head (extractStridedSlice S128x256 ![128, 0] v slices_S1024x256_o128_0_S128x256) g)
    (head (extractStridedSlice S128x256 ![256, 0] v slices_S1024x256_o256_0_S128x256) g)
    (head (extractStridedSlice S128x256 ![384, 0] v slices_S1024x256_o384_0_S128x256) g)
    (head (extractStridedSlice S128x256 ![512, 0] v slices_S1024x256_o512_0_S128x256) g)
    (head (extractStridedSlice S128x256 ![640, 0] v slices_S1024x256_o640_0_S128x256) g)
    (head (extractStridedSlice S128x256 ![768, 0] v slices_S1024x256_o768_0_S128x256) g)
    (head (extractStridedSlice S128x256 ![896, 0] v slices_S1024x256_o896_0_S128x256) g)

/-- The gated product of the heads' columns, on top of the stream. -/
def update (h : FVec Ideal S1024x256 .f32) (w : FVec Ideal S1024x1024 .bf16) (base : FVec Ideal S256x1024 .f32) (s : FVec Ideal S1x1024 .f32) : FVec Ideal S256x1024 .f32 :=
  addf base (mulf (broadcastTo S256x1024 s broadcasts_S1x1024_S256x1024)
    (matmul dot_S256x1024_S1024x1024_S256x1024_1_0_0_1_n_n none (truncf .bf16 (transpose S256x1024 [1, 0] h transposes_S1024x256_p1_0_S256x1024) bitsLt_bf16_f32)
      (shapeCast S1024x1024 w shapeCasts_S1024x1024_S1024x1024) (constant S256x1024 .f32 0x00000000#32)))

theorem payload_eq (v : FVec Ideal S1024x256 .f32) (g : FVec Ideal S128x1 .f32) (w : FVec Ideal S1024x1024 .bf16) (base : FVec Ideal S256x1024 .f32) (s : FVec Ideal S1x1024 .f32) :
    k0_pay1 (F := Ideal) (k0_pay2 v g) (k0_pay3 v g) (k0_pay7 (k0_pay4 v) (k0_pay5 v) (k0_pay6 (F := Ideal)) g) (k0_pay8 v g) (k0_pay9 v g) (k0_pay11 (k0_pay10 v) g) (k0_pay12 v g) (k0_pay13 v) g w base s
      = update (normalised v g) w base s := rfl

theorem update_apply (h : FVec Ideal S1024x256 .f32) (w : FVec Ideal S1024x1024 .bf16) (base : FVec Ideal S256x1024 .f32) (s : FVec Ideal S1x1024 .f32) (y : Fin 256) (n : Fin 1024) :
    update h w base s (ix2 y n) = base (ix2 y n) + s (ix2 0 n) * dot (fun k => h (ix2 k y)) (fun k => w (ix2 k n)) := by
  unfold update
  pointwise
  rfl

theorem head_apply (x : FVec Ideal S128x256 .f32) (g : FVec Ideal S128x1 .f32) (j : Fin 128) (y : Fin 256) : head x g (ix2 j y)
    = headNorm (Ideal.ofBits FTy.f32 0x43000000#32) (fun k : Fin 128 => x (ix2 k y)) (fun k => g (ix2 k 0)) j * Ideal.ofBits FTy.f32 0x3F24FD5C#32 := by
  unfold headNorm
  pointwise [head]

section Heads

variable (a0 a1 a2 a3 a4 a5 a6 a7 : FVec Ideal S128x256 .f32) (v : FVec Ideal S1024x256 .f32) (j : Fin 128) (y : Fin 256)

theorem stacked0 : stacked a0 a1 a2 a3 a4 a5 a6 a7 (ix2 (⟨128 * (0 : Fin 8).val + j.val, by omega⟩ : Fin 1024) y) = a0 (ix2 j y) := by
  rw [show (⟨128 * (0 : Fin 8).val + j.val, by omega⟩ : Fin 1024) = ⟨j.val, by omega⟩ from Fin.ext (by show 128 * 0 + j.val = j.val; omega)]
  pointwise [stacked]

theorem stacked1 : stacked a0 a1 a2 a3 a4 a5 a6 a7 (ix2 (⟨128 * (1 : Fin 8).val + j.val, by omega⟩ : Fin 1024) y) = a1 (ix2 j y) := by
  rw [show (⟨128 * (1 : Fin 8).val + j.val, by omega⟩ : Fin 1024) = ⟨128 + j.val, by omega⟩ from Fin.ext (by show 128 * 1 + j.val = 128 + j.val; omega)]
  pointwise [stacked]

theorem stacked2 : stacked a0 a1 a2 a3 a4 a5 a6 a7 (ix2 (⟨128 * (2 : Fin 8).val + j.val, by omega⟩ : Fin 1024) y) = a2 (ix2 j y) := by
  rw [show (⟨128 * (2 : Fin 8).val + j.val, by omega⟩ : Fin 1024) = ⟨256 + j.val, by omega⟩ from Fin.ext (by show 128 * 2 + j.val = 256 + j.val; omega)]
  pointwise [stacked]
  rw [dif_neg (by omega), dif_neg (by omega), dif_pos (by omega)]
  exact congrArg a2 (congrArg (ix2 · y) (Fin.ext (by show 256 + j.val - 128 - 128 = j.val; omega)))

theorem stacked3 : stacked a0 a1 a2 a3 a4 a5 a6 a7 (ix2 (⟨128 * (3 : Fin 8).val + j.val, by omega⟩ : Fin 1024) y) = a3 (ix2 j y) := by
  rw [show (⟨128 * (3 : Fin 8).val + j.val, by omega⟩ : Fin 1024) = ⟨384 + j.val, by omega⟩ from Fin.ext (by show 128 * 3 + j.val = 384 + j.val; omega)]
  pointwise [stacked]
  rw [dif_neg (by omega), dif_neg (by omega), dif_neg (by omega), dif_pos (by omega)]
  exact congrArg a3 (congrArg (ix2 · y) (Fin.ext (by show 384 + j.val - 128 - 128 - 128 = j.val; omega)))

theorem stacked4 : stacked a0 a1 a2 a3 a4 a5 a6 a7 (ix2 (⟨128 * (4 : Fin 8).val + j.val, by omega⟩ : Fin 1024) y) = a4 (ix2 j y) := by
  rw [show (⟨128 * (4 : Fin 8).val + j.val, by omega⟩ : Fin 1024) = ⟨512 + j.val, by omega⟩ from Fin.ext (by show 128 * 4 + j.val = 512 + j.val; omega)]
  pointwise [stacked]
  rw [dif_neg (by omega), dif_neg (by omega), dif_neg (by omega), dif_neg (by omega), dif_pos (by omega)]
  exact congrArg a4 (congrArg (ix2 · y) (Fin.ext (by show 512 + j.val - 128 - 128 - 128 - 128 = j.val; omega)))

theorem stacked5 : stacked a0 a1 a2 a3 a4 a5 a6 a7 (ix2 (⟨128 * (5 : Fin 8).val + j.val, by omega⟩ : Fin 1024) y) = a5 (ix2 j y) := by
  rw [show (⟨128 * (5 : Fin 8).val + j.val, by omega⟩ : Fin 1024) = ⟨640 + j.val, by omega⟩ from Fin.ext (by show 128 * 5 + j.val = 640 + j.val; omega)]
  pointwise [stacked]
  rw [dif_neg (by omega), dif_neg (by omega), dif_neg (by omega), dif_neg (by omega), dif_neg (by omega), dif_pos (by omega)]
  exact congrArg a5 (congrArg (ix2 · y) (Fin.ext (by show 640 + j.val - 128 - 128 - 128 - 128 - 128 = j.val; omega)))

theorem stacked6 : stacked a0 a1 a2 a3 a4 a5 a6 a7 (ix2 (⟨128 * (6 : Fin 8).val + j.val, by omega⟩ : Fin 1024) y) = a6 (ix2 j y) := by
  rw [show (⟨128 * (6 : Fin 8).val + j.val, by omega⟩ : Fin 1024) = ⟨768 + j.val, by omega⟩ from Fin.ext (by show 128 * 6 + j.val = 768 + j.val; omega)]
  pointwise [stacked]
  rw [dif_neg (by omega), dif_neg (by omega), dif_neg (by omega), dif_neg (by omega), dif_neg (by omega), dif_neg (by omega), dif_pos (by omega)]
  exact congrArg a6 (congrArg (ix2 · y) (Fin.ext (by show 768 + j.val - 128 - 128 - 128 - 128 - 128 - 128 = j.val; omega)))

theorem stacked7 : stacked a0 a1 a2 a3 a4 a5 a6 a7 (ix2 (⟨128 * (7 : Fin 8).val + j.val, by omega⟩ : Fin 1024) y) = a7 (ix2 j y) := by
  rw [show (⟨128 * (7 : Fin 8).val + j.val, by omega⟩ : Fin 1024) = ⟨896 + j.val, by omega⟩ from Fin.ext (by show 128 * 7 + j.val = 896 + j.val; omega)]
  pointwise [stacked]
  rw [dif_neg (by omega), dif_neg (by omega), dif_neg (by omega), dif_neg (by omega), dif_neg (by omega), dif_neg (by omega), dif_neg (by omega)]
  exact congrArg a7 (congrArg (ix2 · y) (Fin.ext (by show 896 + j.val - 128 - 128 - 128 - 128 - 128 - 128 - 128 = j.val; omega)))

theorem slice0 : extractStridedSlice S128x256 ![0, 0] v slices_S1024x256_o0_0_S128x256 (ix2 j y) = v (ix2 ⟨128 * (0 : Fin 8).val + j.val, by omega⟩ y) := by
  refine Eq.trans (b := v (ix2 ⟨j.val, by omega⟩ y)) (by pointwise) ?_
  exact congrArg v (congrArg (ix2 · y) (Fin.ext (by show j.val = 128 * 0 + j.val; omega)))
theorem slice1 : extractStridedSlice S128x256 ![128, 0] v slices_S1024x256_o128_0_S128x256 (ix2 j y) = v (ix2 ⟨128 * (1 : Fin 8).val + j.val, by omega⟩ y) := by
  refine Eq.trans (b := v (ix2 ⟨128 + j.val, by omega⟩ y)) (by pointwise) ?_
  exact congrArg v (congrArg (ix2 · y) (Fin.ext (by show 128 + j.val = 128 * 1 + j.val; omega)))
theorem slice2 : extractStridedSlice S128x256 ![256, 0] v slices_S1024x256_o256_0_S128x256 (ix2 j y) = v (ix2 ⟨128 * (2 : Fin 8).val + j.val, by omega⟩ y) := by
  refine Eq.trans (b := v (ix2 ⟨256 + j.val, by omega⟩ y)) (by pointwise) ?_
  exact congrArg v (congrArg (ix2 · y) (Fin.ext (by show 256 + j.val = 128 * 2 + j.val; omega)))
theorem slice3 : extractStridedSlice S128x256 ![384, 0] v slices_S1024x256_o384_0_S128x256 (ix2 j y) = v (ix2 ⟨128 * (3 : Fin 8).val + j.val, by omega⟩ y) := by
  refine Eq.trans (b := v (ix2 ⟨384 + j.val, by omega⟩ y)) (by pointwise) ?_
  exact congrArg v (congrArg (ix2 · y) (Fin.ext (by show 384 + j.val = 128 * 3 + j.val; omega)))
theorem slice4 : extractStridedSlice S128x256 ![512, 0] v slices_S1024x256_o512_0_S128x256 (ix2 j y) = v (ix2 ⟨128 * (4 : Fin 8).val + j.val, by omega⟩ y) := by
  refine Eq.trans (b := v (ix2 ⟨512 + j.val, by omega⟩ y)) (by pointwise) ?_
  exact congrArg v (congrArg (ix2 · y) (Fin.ext (by show 512 + j.val = 128 * 4 + j.val; omega)))
theorem slice5 : extractStridedSlice S128x256 ![640, 0] v slices_S1024x256_o640_0_S128x256 (ix2 j y) = v (ix2 ⟨128 * (5 : Fin 8).val + j.val, by omega⟩ y) := by
  refine Eq.trans (b := v (ix2 ⟨640 + j.val, by omega⟩ y)) (by pointwise) ?_
  exact congrArg v (congrArg (ix2 · y) (Fin.ext (by show 640 + j.val = 128 * 5 + j.val; omega)))
theorem slice6 : extractStridedSlice S128x256 ![768, 0] v slices_S1024x256_o768_0_S128x256 (ix2 j y) = v (ix2 ⟨128 * (6 : Fin 8).val + j.val, by omega⟩ y) := by
  refine Eq.trans (b := v (ix2 ⟨768 + j.val, by omega⟩ y)) (by pointwise) ?_
  exact congrArg v (congrArg (ix2 · y) (Fin.ext (by show 768 + j.val = 128 * 6 + j.val; omega)))
theorem slice7 : extractStridedSlice S128x256 ![896, 0] v slices_S1024x256_o896_0_S128x256 (ix2 j y) = v (ix2 ⟨128 * (7 : Fin 8).val + j.val, by omega⟩ y) := by
  refine Eq.trans (b := v (ix2 ⟨896 + j.val, by omega⟩ y)) (by pointwise) ?_
  exact congrArg v (congrArg (ix2 · y) (Fin.ext (by show 896 + j.val = 128 * 7 + j.val; omega)))

end Heads

theorem normalised_apply (v : FVec Ideal S1024x256 .f32) (g : FVec Ideal S128x1 .f32) (n : Fin 1024) (y : Fin 256) :
    normalised v g (ix2 n y) = heads8 (fun k => v (ix2 k y)) (fun k => g (ix2 k 0)) n := by
  unfold normalised
  obtain ⟨h, j, rfl⟩ : ∃ (h : Fin 8) (j : Fin 128), n = ⟨128 * h.val + j.val, by omega⟩ :=
    ⟨⟨n.val / 128, by omega⟩, ⟨n.val % 128, by omega⟩, Fin.ext (by show n.val = 128 * (n.val / 128) + n.val % 128; omega)⟩
  rw [heads8_at]
  match h with
  | ⟨0, _⟩ =>
    refine (stacked0 _ _ _ _ _ _ _ _ j y).trans ((head_apply _ g j y).trans ?_)
    simp only [slice0]
    rfl
  | ⟨1, _⟩ =>
    refine (stacked1 _ _ _ _ _ _ _ _ j y).trans ((head_apply _ g j y).trans ?_)
    simp only [slice1]
    rfl
  | ⟨2, _⟩ =>
    refine (stacked2 _ _ _ _ _ _ _ _ j y).trans ((head_apply _ g j y).trans ?_)
    simp only [slice2]
    rfl
  | ⟨3, _⟩ =>
    refine (stacked3 _ _ _ _ _ _ _ _ j y).trans ((head_apply _ g j y).trans ?_)
    simp only [slice3]
    rfl
  | ⟨4, _⟩ =>
    refine (stacked4 _ _ _ _ _ _ _ _ j y).trans ((head_apply _ g j y).trans ?_)
    simp only [slice4]
    rfl
  | ⟨5, _⟩ =>
    refine (stacked5 _ _ _ _ _ _ _ _ j y).trans ((head_apply _ g j y).trans ?_)
    simp only [slice5]
    rfl
  | ⟨6, _⟩ =>
    refine (stacked6 _ _ _ _ _ _ _ _ j y).trans ((head_apply _ g j y).trans ?_)
    simp only [slice6]
    rfl
  | ⟨7, _⟩ =>
    refine (stacked7 _ _ _ _ _ _ _ _ j y).trans ((head_apply _ g j y).trans ?_)
    simp only [slice7]
    rfl

/-! ## The block -/

theorem load0 (x : Vec Ideal S1024x256 .f32) : View.ld x r0_0 = x := View.ld_unit_zero (funext fun a => by fin_cases a <;> rfl) _ x
theorem load1 (x : Vec Ideal S128x1 .f32) : View.ld x r0_1 = x := View.ld_unit_zero (funext fun a => by fin_cases a <;> rfl) _ x
theorem load2 (x : Vec Ideal S1024x1024 .bf16) : View.ld x r0_2 = x := View.ld_unit_zero (funext fun a => by fin_cases a <;> rfl) _ x
theorem load3 (x : Vec Ideal S256x1024 .f32) : View.ld x r0_3 = x := View.ld_unit_zero (funext fun a => by fin_cases a <;> rfl) _ x

theorem load4 (x : Vec Ideal S8x6144 .f32) (n : Fin 1024) : (View.ld x r0_4 : Vec Ideal S1x1024 .f32) (ix2 0 n) = x (ix2 0 ⟨2048 + n.val, by omega⟩) :=
  congrArg x (funext fun a => Fin.ext (by
    match a with
    | ⟨0, _⟩ => show 0 + 1 * 0 = 0; omega
    | ⟨1, _⟩ => show 2048 + 1 * n.val = 2048 + n.val; omega))

theorem block_apply (x0 : Vec Ideal S256x1024 .f32) (x1 : Vec Ideal S1024x256 .f32) (x2 : Vec Ideal S8x6144 .f32) (x3 : Vec Ideal S128x1 .f32) (x4 : Vec Ideal S1024x1024 .bf16)
    (y : Fin 256) (n : Fin 1024) : out0_5 (F := Ideal) x0 x1 x2 x3 x4 (ix2 y n)
    = x0 (ix2 y n) + x2 (ix2 0 ⟨2048 + n.val, by omega⟩) * dot (heads8 (fun k => x1 (ix2 k y)) (fun k => x3 (ix2 k 0))) (fun k => x4 (ix2 k n)) := by
  unfold out0_5
  rw [View.canon_unit_zero (funext fun a => by fin_cases a <;> rfl), load0 x1, load1 x3, load2 x4, load3 x0, payload_eq, update_apply, load4 x2]
  simp only [normalised_apply]

end Cert.DiffOut

end
-- ==== Proof.DiffOutArray.lean ====
/-
  From the blocks to the array, for the readout of the differential attention: what each of the 64 grid points reads, and the
  result at every place.
-/
module

public import proofs.«01_k».proof.Proof.DiffOutBlock
public import proofs.«01_k».proof.Proof.Gen.Kernel6Ideal.Value
public import Idealize.ShloMosaic.Lib.StableHlo.ReadAt
public import Idealize.ShloMosaic.Lib.Pipeline.Value

@[expose] public section

set_option maxRecDepth 16640

noncomputable section

open scoped BigOperators
open Idealize.ShloMosaic Idealize.ShloMosaic.TcCoe Idealize.SL.Sem
open Idealize.ShloMosaic.Pipeline (Dat)

namespace Cert.DiffOut

open Cert.Kernel6Ideal Cert.Kernel6Ideal.Gen Cert.Readout

variable (m : (ℓ : Loc nD τ sig) → Buf (Elt Ideal) ℓ) (c : Dev nD)

/-! ## Which block each window is at -/

theorem at0 : ∀ t : Fin grid0.N, win0_0.index t 0 = t.val + 1 ∧ win0_0.index t 1 = 0 := by decide +kernel
theorem at1 : ∀ t : Fin grid0.N, win0_1.index t 0 = 0 ∧ win0_1.index t 1 = t.val := by decide +kernel
theorem at2 : ∀ t : Fin grid0.N, win0_2.index t 0 = 0 ∧ win0_2.index t 1 = 0 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = t.val ∧ win0_5.index t 1 = 0 := by decide +kernel

theorem points (t : Fin cfg0.N) : t.val < 64 := lt_of_lt_of_eq t.isLt N_0

/-- Row `y` of grid point `t`'s block. -/
abbrev place (t : Fin cfg0.N) (y : Fin 256) : Fin 16384 := ⟨256 * t.val + y.val, by have := points t; omega⟩

/-- The grid point a row belongs to. -/
abbrev pointOf (r : ℕ) (hr : r < 16384) : Fin cfg0.N := ⟨r / 256, by rw [show cfg0.N = 64 from N_0]; omega⟩

/-! ## The arguments -/

abbrev stream : FVec Ideal S16640x1024 .f32 := m ((c : Thread nD τ).loc main_arg0)
abbrev cols : FVec Ideal S1024x16384 .f32 := m ((c : Thread nD τ).loc main_arg1)
abbrev modv : FVec Ideal S8x6144 .f32 := m ((c : Thread nD τ).loc main_arg2)
abbrev gain : FVec Ideal S128 .f32 := m ((c : Thread nD τ).loc main_arg3)
abbrev wo : FVec Ideal S1024x1024 .f32 := m ((c : Thread nD τ).loc main_arg4)

/-! ## The blocks -/

theorem stream_block (t : Fin cfg0.N) (y : Fin 256) (k : Fin 1024) : (iblk m c 0 t : FVec Ideal S256x1024 .f32) (ix2 y k) = stream m c (ix2 ⟨256 + (place t y).val, by omega⟩ k) := by
  have hi := at0 t
  unfold iblk
  rw [View.read_apply]
  show V m c main_arg0 _ = _
  rw [V_main_arg0]
  refine congrArg _ (funext fun a => Fin.ext ?_)
  match a with
  | ⟨0, _⟩ => show win0_0.index t 0 * 256 + 1 * y.val = 256 + (256 * t.val + y.val); rw [hi.1]; omega
  | ⟨1, _⟩ => show win0_0.index t 1 * 1024 + 1 * k.val = k.val; rw [hi.2]; omega

theorem columns_block (t : Fin cfg0.N) (k : Fin 1024) (y : Fin 256) : (iblk m c 1 t : FVec Ideal S1024x256 .f32) (ix2 k y) = cols m c (ix2 k (place t y)) := by
  have hi := at1 t
  unfold iblk
  rw [View.read_apply]
  show V m c main_arg1 _ = _
  rw [V_main_arg1]
  refine congrArg _ (funext fun a => Fin.ext ?_)
  match a with
  | ⟨0, _⟩ => show win0_1.index t 0 * 1024 + 1 * k.val = k.val; rw [hi.1]; omega
  | ⟨1, _⟩ => show win0_1.index t 1 * 256 + 1 * y.val = 256 * t.val + y.val; rw [hi.2]; omega

theorem modulation_block (t : Fin cfg0.N) (q : Fin 8) (k : Fin 6144) : (iblk m c 2 t : FVec Ideal S8x6144 .f32) (ix2 q k) = modv m c (ix2 q k) := by
  have hi := at2 t
  unfold iblk
  rw [View.read_apply]
  show V m c main_arg2 _ = _
  rw [V_main_arg2]
  refine congrArg _ (funext fun a => Fin.ext ?_)
  match a with
  | ⟨0, _⟩ => show win0_2.index t 0 * 8 + 1 * q.val = q.val; rw [hi.1]; omega
  | ⟨1, _⟩ => show win0_2.index t 1 * 6144 + 1 * k.val = k.val; rw [hi.2]; omega

theorem gain_value : V m c main_v0 = shapeCast S128x1 (gain m c) shapeCasts_S128_S128x1 := by
  unfold V
  after_reads_simp
  rfl

theorem weights_value : V m c main_v1 = truncf (F := Ideal) .bf16 (wo m c) bitsLt_bf16_f32 := by
  unfold V
  after_reads_simp

theorem weights_block (t : Fin cfg0.N) (k n : Fin 1024) : (iblk m c 4 t : FVec Ideal S1024x1024 .bf16) (ix2 k n) = wo m c (ix2 k n) := by
  have hi := at4 t
  unfold iblk
  rw [View.read_apply]
  show V m c main_v1 _ = _
  rw [weights_value]
  refine congrArg (wo m c) (funext fun a => Fin.ext ?_)
  match a with
  | ⟨0, _⟩ => show win0_4.index t 0 * 1024 + 1 * k.val = k.val; rw [hi.1]; omega
  | ⟨1, _⟩ => show win0_4.index t 1 * 1024 + 1 * n.val = n.val; rw [hi.2]; omega

theorem gain_block (t : Fin cfg0.N) (k : Fin 128) : (iblk m c 3 t : FVec Ideal S128x1 .f32) (ix2 k 0) = gain m c (ix1 k) := by
  have hi := at3 t
  have row (x : FVec Ideal S128 .f32) : shapeCast S128x1 x shapeCasts_S128_S128x1 (ix2 k 0) = x (ix1 k) := by pointwise
  refine Eq.trans ?_ (row _)
  unfold iblk
  rw [View.read_apply]
  show V m c main_v0 _ = _
  rw [gain_value]
  refine congrArg _ (funext fun a => Fin.ext ?_)
  match a with
  | ⟨0, _⟩ => show win0_3.index t 0 * 128 + 1 * k.val = k.val; rw [hi.1]; omega
  | ⟨1, _⟩ => show win0_3.index t 1 * 1 + 1 * 0 = 0; rw [hi.2]

/-! ## The result -/

def result : Buf (Elt Ideal) ((c : Thread nD τ).loc main_v2) :=
  fun i => diffOut (stream m c) (cols m c) (modv m c) (gain m c) (wo m c) (i 0) (i 1)

theorem point_eq (t : Fin cfg0.N) (y : Fin 256) (n : Fin 1024) :
    out0_5 (F := Ideal) (iblk m c 0 t) (iblk m c 1 t) (iblk m c 2 t) (iblk m c 3 t) (iblk m c 4 t) (ix2 y n)
      = diffOut (stream m c) (cols m c) (modv m c) (gain m c) (wo m c) (place t y) n := by
  rw [block_apply]
  unfold diffOut
  simp only [stream_block m c t, columns_block m c t, modulation_block m c t, gain_block m c t, weights_block m c t]

theorem place_eq (t : Fin cfg0.N) (y : Fin 256) (n : Fin 1024) (e : S16384x1024.Idx)
    (h0 : (e 0).val = win0_5.index t 0 * 256 + 1 * y.val) (h1 : (e 1).val = win0_5.index t 1 * 1024 + 1 * n.val) : e = ix2 (place t y) n := by
  have h := at5 t
  funext q
  match q with
  | ⟨0, _⟩ => exact Fin.ext (h0.trans (by show _ = 256 * t.val + y.val; rw [h.1]; omega))
  | ⟨1, _⟩ => exact Fin.ext (h1.trans (by show _ = n.val; rw [h.2]; omega))

theorem final_eq : (dats m 0 c).arrAt 5 cfg0.N = result m c :=
  (dats m 0 c).arrAt_eq_of_cover 5 (result m c) (fun t _ => by
    rw [Value.flushed5]
    funext i
    obtain ⟨y, n, rfl⟩ : ∃ (y : Fin 256) (n : Fin 1024), i = ix2 y n := ⟨i 0, i 1, by funext a; fin_cases a <;> rfl⟩
    rw [View.read_apply]
    refine Eq.trans ?_ (congrArg (result m c) (place_eq t y n (((cfg0.win 5).blk t).view.emb (ix2 y n)) rfl rfl)).symm
    exact point_eq m c t y n) fun i => by
    refine ⟨pointOf (i 0).val (i 0).isLt, flush0_5 _, ?_⟩
    show i ∈ ((View.whole main_v2).slice (win0_5.rect (pointOf (i 0).val (i 0).isLt))).set
    rw [View.set_slice_whole, Rect.mem_set_unit]
    have h := at5 (pointOf (i 0).val (i 0).isLt)
    have h0 : (i 0).val < 16384 := (i 0).isLt
    have h1 : (i 1).val < 1024 := (i 1).isLt
    have hr : win0_5.index (pointOf (i 0).val (i 0).isLt) 0 = (i 0).val / 256 := h.1
    intro a
    match a with
    | ⟨0, _⟩ => show win0_5.index (pointOf (i 0).val (i 0).isLt) 0 * 256 ≤ (i 0).val ∧ (i 0).val < win0_5.index (pointOf (i 0).val (i 0).isLt) 0 * 256 + 256
                omega
    | ⟨1, _⟩ => show win0_5.index (pointOf (i 0).val (i 0).isLt) 1 * 1024 ≤ (i 1).val ∧ (i 1).val < win0_5.index (pointOf (i 0).val (i 0).isLt) 1 * 1024 + 1024
                rw [h.2]; omega

end Cert.DiffOut

end
-- ==== Proof.DiffOutReference.lean ====
/-
  The reference of the readout of the differential attention, at one place.
-/
module

public import proofs.«01_k».proof.Proof.ReadoutSpec
public import proofs.«01_k».proof.Proof.Gen.Reference6Ideal.Read
public import Idealize.ShloMosaic.Lib.Pointwise

@[expose] public section

set_option maxRecDepth 16640
set_option backward.proofsInPublic true

noncomputable section

open scoped BigOperators
open Idealize.ShloMosaic Idealize.ShloMosaic.TcCoe Idealize.SL.Sem

namespace Cert.DiffOut.Reference

open Cert.Reference6Ideal Cert.Reference6Ideal.Gen Cert.Reference6Ideal.Read Cert.Readout

variable (x0 : FVec Ideal S16640x1024 .f32) (x1 : FVec Ideal S1024x16384 .f32) (x2 : FVec Ideal S8x6144 .f32) (x3 : FVec Ideal S128 .f32) (x4 : FVec Ideal S1024x1024 .f32)

/-- Column `k` of the head that place `i` lies in. -/
theorem head_place (r : Fin 16384) (n : Fin 1024) (k : Fin 128) :
    idx_main_v0 (idx_main_v1 (idx_main_v3 (idx_main_v4 (idx_main_v10 (idx_main_v19 (ix2 r n)))) k)) = ix2 ⟨128 * (n.val / 128) + k.val, by omega⟩ r := by
  have h0 : (r.val * 1024 + n.val) / 1024 = r.val := by omega
  have h1 : (r.val * 1024 + n.val) / 128 % 8 = n.val / 128 := by omega
  funext a
  match a with
  | ⟨1, _⟩ => exact Fin.ext (by
      show (((r.val * 1024 + n.val) / 1024 * 8 + (r.val * 1024 + n.val) / 128 % 8) * 128 + k.val) / 1024 = r.val
      rw [h0, h1]; omega)
  | ⟨0, _⟩ => exact Fin.ext (by
      show (((r.val * 1024 + n.val) / 1024 * 8 + (r.val * 1024 + n.val) / 128 % 8) * 128 + k.val) % 1024 = 128 * (n.val / 128) + k.val
      rw [h0, h1]; omega)

theorem own_place (r : Fin 16384) (n : Fin 1024) : idx_main_v0 (idx_main_v1 (idx_main_v19 (ix2 r n))) = ix2 ⟨128 * (n.val / 128) + n.val % 128, by omega⟩ r := by
  have h0 : (r.val * 1024 + n.val) / 1024 = r.val := by omega
  have h1 : (r.val * 1024 + n.val) / 128 % 8 = n.val / 128 := by omega
  have h2 : (r.val * 1024 + n.val) % 128 = n.val % 128 := by omega
  funext a
  match a with
  | ⟨1, _⟩ => exact Fin.ext (by
      show (((r.val * 1024 + n.val) / 1024 * 8 + (r.val * 1024 + n.val) / 128 % 8) * 128 + (r.val * 1024 + n.val) % 128) / 1024 = r.val
      rw [h0, h1, h2]; omega)
  | ⟨0, _⟩ => exact Fin.ext (by
      show (((r.val * 1024 + n.val) / 1024 * 8 + (r.val * 1024 + n.val) / 128 % 8) * 128 + (r.val * 1024 + n.val) % 128) % 1024 = 128 * (n.val / 128) + n.val % 128
      rw [h0, h1, h2]; omega)

theorem gain_place (r : Fin 16384) (n : Fin 1024) : idx_main_v12 (idx_main_v13 (idx_main_v19 (ix2 r n))) = ix1 ⟨n.val % 128, by omega⟩ := by
  funext a
  match a with
  | ⟨0, _⟩ => exact Fin.ext (by show (r.val * 1024 + n.val) % 128 = n.val % 128; omega)

theorem heads_eq (r : Fin 16384) (n : Fin 1024) : val_main_v19 (F := Ideal) x1 x3 (ix2 r n) = heads8 (fun k => x1 (ix2 k r)) (fun k => x3 (ix1 k)) n := by
  rw [val_main_v19_apply, val_main_v16_apply, val_main_v15_apply, val_main_v14_apply, val_main_v13_apply, val_main_v12_apply, val_main_v11_apply, val_main_v10_apply, val_main_v9_apply,
    val_main_v8_apply, val_main_v7_apply, val_main_v6_apply, val_main_v5_apply, val_main_v4_apply, val_main_v3_apply]
  simp only [val_main_v2_apply, val_main_v1_apply, val_main_v0_apply, head_place, own_place, gain_place]
  unfold heads8 headNorm
  show _ * Ideal.rsqrt (Ideal.div (Ideal.ofBits FTy.f32 0x00000000#32 + _) _ + _) * _ * _ = _
  rw [Ideal.ofBits_zero_f32, zero_add]
  rfl

theorem product_eq (r : Fin 16384) (n : Fin 1024) : val_main_v20 (F := Ideal) x1 x3 x4 (ix2 r n)
    = Gla.dot (heads8 (fun k => x1 (ix2 k r)) (fun k => x3 (ix1 k))) (fun k => x4 (ix2 k n)) := by
  unfold Gla.dot
  simp only [← heads_eq x1 x3]
  unfold val_main_v20
  generalize val_main_v19 (F := Ideal) x1 x3 = y
  pointwise

theorem result_eq (r : Fin 16384) (n : Fin 1024) : val_main_v23 (F := Ideal) x0 x1 x2 x3 x4 (ix2 r n) = diffOut x0 x1 x2 x3 x4 r n := by
  unfold diffOut
  rw [← product_eq]
  unfold val_main_v23 val_main_v22
  generalize val_main_v20 (F := Ideal) x1 x3 x4 = y
  pointwise [val_main_v21, val_main_v18, val_main_v17]

end Cert.DiffOut.Reference

end
-- ==== Proof.DiffOutClaim.lean ====
/-
  The claims of the readout of the differential attention: both programs run and leave their arguments unchanged, and their
  results are equal.
-/
module

public import proofs.«01_k».proof.Defs
public import proofs.«01_k».proof.Proof.DiffOutArray
public import proofs.«01_k».proof.Proof.DiffOutReference
public import proofs.«01_k».proof.Proof.Gen.Kernel6
public import proofs.«01_k».proof.Proof.Gen.Kernel6.Frame
public import proofs.«01_k».proof.Proof.Gen.Reference6Ideal.Run
public import Idealize.ShloMosaic.Lib.Quiescent

@[expose] public section

noncomputable section

open Idealize.ShloMosaic Idealize.SL.Sem

namespace Cert.DiffOutClaim

theorem kernel_runs : Cert.quiescent_Kernel6 := fun m g _ => Cert.Kernel6.Gen.frame m g

theorem ideal_runs : Cert.quiescent_Kernel6Ideal := fun m g _ => Cert.Kernel6Ideal.Gen.frame m g

theorem reference_runs : Cert.quiescent_Reference6Ideal := fun m g _ =>
  (θ_run _ _ _).mono (fun r h => ⟨fun c => (h c).2, Idealize.ShloMosaic.sem_eq_zero_of_no_sems (by decide) r.2⟩)
    (Cert.Reference6Ideal.Value.run m g)

/-- Kernel and reference compute the same array. -/
theorem equal : Cert.algebraic_Kernel6Ideal_Reference6Ideal := by
  intro m g m' g' _ hargs
  refine ⟨fun c => (Cert.Kernel6Ideal.Gen.dats m 0 c).arrAt 5 Cert.Kernel6Ideal.cfg0.N, Cert.Kernel6Ideal.Value.run_blocks m g,
    (θ_run _ _ _).mono (fun r h c => ⟨(h c).1.trans ?_, (h c).2⟩) (Cert.Reference6Ideal.Value.run m' g')⟩
  obtain ⟨a0, a1, a2, a3, a4⟩ := hargs c
  refine Eq.trans ?_ (Cert.DiffOut.final_eq m c).symm
  rw [Cert.Reference6Ideal.Read.val_main_v23_eq, a0, a1, a2, a3, a4]
  funext i
  obtain ⟨x, y, rfl⟩ : ∃ (x : Fin 16384) (y : Fin 1024), i = ix2 x y := ⟨i 0, i 1, by funext a; fin_cases a <;> rfl⟩
  exact Cert.DiffOut.Reference.result_eq _ _ _ _ _ x y

end Cert.DiffOutClaim

end
-- ==== Proof.DiffProjSpec.lean ====
/-
  The projections of the differential attention of the second layer, over the extended reals: a normalised row of the
  stream times the weights of queries, keys and values, and the rotation of the queries and keys of the latent rows by
  their angles. A head of 64 columns is two groups of two quarters of 16, and the rotation pairs the two quarters.
-/
module

public import proofs.«01_k».proof.Proof.GlaSpec

@[expose] public section

set_option backward.proofsInPublic true

noncomputable section

open scoped BigOperators
open Idealize.ShloMosaic

namespace Cert.DiffProj

open Cert.Ffn Cert.Gla

/-- Row `r` of the stream, normalised with its part's scale and shift: the context's below row 256, the latent tokens' above. -/
def rowAt (X : FVec Ideal ⟨2, ![16640, 1024]⟩ .f32) (μ : FVec Ideal ⟨2, ![8, 6144]⟩ .f32) (g : FVec Ideal ⟨1, ![1024]⟩ .f32) (r : Fin 16640) : Fin 1024 → EReal :=
  if r.val < 256 then
    normed (fun k => g (ix1 k)) (fun k => μ (ix2 1 ⟨1024 + k.val, by omega⟩)) (fun k => μ (ix2 1 ⟨k.val, by omega⟩)) (fun k => X (ix2 r k))
  else
    normed (fun k => g (ix1 k)) (fun k => μ (ix2 0 ⟨1024 + k.val, by omega⟩)) (fun k => μ (ix2 0 ⟨k.val, by omega⟩)) (fun k => X (ix2 r k))

/-- The normalised row times column `n` of the weights. -/
def column (X : FVec Ideal ⟨2, ![16640, 1024]⟩ .f32) (μ : FVec Ideal ⟨2, ![8, 6144]⟩ .f32) (g : FVec Ideal ⟨1, ![1024]⟩ .f32) (w : FVec Ideal ⟨2, ![1024, 1024]⟩ .f32)
    (r : Fin 16640) (n : Fin 1024) : EReal := dot (rowAt X μ g r) (fun k => w (ix2 k n))

/-- The column a column is paired with: the same place in the other quarter of its group. -/
def other (n : Fin 1024) : Fin 1024 := ⟨if n.val % 32 < 16 then n.val + 16 else n.val - 16, by split <;> omega⟩

/-- The rotated row. -/
def rotated (a : Fin 1024 → EReal) (cos sin : Fin 64 → EReal) (n : Fin 1024) : EReal :=
  a n * cos ⟨n.val % 64, by omega⟩ + (if n.val % 32 < 16 then -a (other n) else a (other n)) * sin ⟨n.val % 64, by omega⟩

/-- The sign the first quarter of a group is paired with. -/
def sign (j : Fin 64) : EReal := if j.val % 32 < 16 then -1 else 1

/-- The rotation with the signs on the sines. -/
theorem rotated_signed (a : Fin 1024 → EReal) (cos sin : Fin 64 → EReal) (n : Fin 1024) :
    a n * cos ⟨n.val % 64, by omega⟩ + a (other n) * (sin ⟨n.val % 64, by omega⟩ * sign ⟨n.val % 64, by omega⟩) = rotated a cos sin n := by
  unfold rotated sign
  by_cases h : n.val % 32 < 16
  · rw [if_pos h, if_pos (by show n.val % 64 % 32 < 16; omega), mul_neg, mul_one, mul_neg, neg_mul]
  · rw [if_neg h, if_neg (by show ¬ n.val % 64 % 32 < 16; omega), mul_one]

variable (X : FVec Ideal ⟨2, ![16640, 1024]⟩ .f32) (μ : FVec Ideal ⟨2, ![8, 6144]⟩ .f32) (g : FVec Ideal ⟨1, ![1024]⟩ .f32) (w : FVec Ideal ⟨2, ![1024, 1024]⟩ .f32)
  (C S : FVec Ideal ⟨2, ![16384, 64]⟩ .f32)

/-- A query of the latent row `r`, rotated and scaled. -/
def query (r : Fin 16384) (n : Fin 1024) : EReal :=
  rotated (column X μ g w ⟨256 + r.val, by omega⟩) (fun j => C (ix2 r j)) (fun j => S (ix2 r j)) n * Ideal.ofBits FTy.f32 0x3E000000#32

/-- A key of row `r`, rotated unless it is the context's. -/
def key (r : Fin 16640) (n : Fin 1024) : EReal :=
  if h : r.val < 256 then column X μ g w r n
  else rotated (column X μ g w r) (fun j => C (ix2 ⟨r.val - 256, by omega⟩ j)) (fun j => S (ix2 ⟨r.val - 256, by omega⟩ j)) n

end Cert.DiffProj

end
-- ==== Proof.DiffProjPayloads.lean ====
/-
  What the projection kernel of the attention computes from the values it has loaded, read at one place.
-/
module

public import proofs.«01_k».proof.Proof.DiffProjSpec
public import proofs.«01_k».proof.Proof.Gen.Kernel7Ideal.Frame
public import Idealize.ShloMosaic.Lib.Pointwise

@[expose] public section

set_option maxRecDepth 16384
set_option backward.proofsInPublic true

noncomputable section

open scoped BigOperators
open Idealize.ShloMosaic

namespace Cert.DiffProj

open Cert.Kernel7Ideal Cert.Kernel7Ideal.Gen Cert.Ffn Cert.Gla

/-- Whether the grid point's rows are the context's. -/
abbrev isContext (i : grid0.Coords) : BitVec 1 := Scalar.cmpi .eq (BitVec.ofNat 32 (i 0).val) 0#32

theorem product_apply (i : grid0.Coords) (a : FVec Ideal S256x1024 .f32) (g s1 s0 b1 b0 : FVec Ideal S1x1024 .f32) (w : FVec Ideal S1024x3072 .bf16)
    (r : Fin 256) (n : Fin 3072) : k0_pay2 (F := Ideal) i a g s1 s0 b1 b0 w (ix2 r n)
    = dot (normed (fun k => g (ix2 0 k)) (fun k => (Scalar.select (isContext i) s1 s0 : FVec Ideal S1x1024 .f32) (ix2 0 k))
        (fun k => (Scalar.select (isContext i) b1 b0 : FVec Ideal S1x1024 .f32) (ix2 0 k)) (fun k => a (ix2 r k))) (fun k => w (ix2 k n)) := by
  unfold dot normed rms
  pointwise [k0_pay2]

/-! ## The rotation -/

/-- Eight copies of a table side by side. -/
theorem copies (c : FVec Ideal S256x128 .f32) (y : Fin 256) (n : Fin 1024) : k0_pay3 (F := Ideal) c (ix2 y n) = c (ix2 y ⟨n.val % 128, by omega⟩) := by
  pointwise [k0_pay3]
  split_ifs <;> refine congrArg c (congrArg (ix2 y) (Fin.ext ?_)) <;> dsimp only <;> omega

/-- Whether a column is in the first quarter of its group. -/
theorem quarter (y : Fin 256) (n : Fin 1024) : k0_pay5 (ix2 y n) = if n.val % 32 < 16 then 1#1 else 0#1 := by
  pointwise [k0_pay5]
  revert n
  decide +kernel

/-- The rotation of a whole block. -/
def turned (b : BitVec 1) (a c : FVec Ideal S256x1024 .f32) (s : FVec Ideal S256x128 .f32) : FVec Ideal S256x1024 .f32 :=
  Scalar.select b a (addf (mulf a c)
    (mulf (select k0_pay5 (dynamicRotate 1 1008#32 none a rotates_S256x1024_d1) (dynamicRotate 1 16#32 none a rotates_S256x1024_d1)) (k0_pay4 s)))

theorem partner_apply (a : FVec Ideal S256x1024 .f32) (y : Fin 256) (n : Fin 1024) :
    select k0_pay5 (dynamicRotate 1 1008#32 none a rotates_S256x1024_d1) (dynamicRotate 1 16#32 none a rotates_S256x1024_d1) (ix2 y n) = a (ix2 y (other n)) := by
  have up : dynamicRotate 1 1008#32 none a rotates_S256x1024_d1 (ix2 y n) = a (ix2 y ⟨(n.val + 1024 - 1008) % 1024, by omega⟩) := by pointwise
  have down : dynamicRotate 1 16#32 none a rotates_S256x1024_d1 (ix2 y n) = a (ix2 y ⟨(n.val + 1024 - 16) % 1024, by omega⟩) := by pointwise
  show Scalar.select (k0_pay5 (ix2 y n)) _ _ = _
  rw [quarter, up, down]
  unfold Scalar.select other
  by_cases h : n.val % 32 < 16
  · rw [if_pos h, if_pos (show (1#1 : BitVec 1) = 1 from rfl)]
    exact congrArg a (congrArg (ix2 y) (Fin.ext (by show (n.val + 1024 - 1008) % 1024 = if n.val % 32 < 16 then n.val + 16 else n.val - 16; rw [if_pos h]; omega)))
  · rw [if_neg h, if_neg (by decide)]
    exact congrArg a (congrArg (ix2 y) (Fin.ext (by show (n.val + 1024 - 16) % 1024 = if n.val % 32 < 16 then n.val + 16 else n.val - 16; rw [if_neg h]; omega)))

/-- The rotation at one place, from tables that hold the cosines and the signed sines twice. -/
theorem turned_apply (b : BitVec 1) (a : FVec Ideal S256x1024 .f32) (c s : FVec Ideal S256x128 .f32) (y : Fin 256) (n : Fin 1024) (cos sin : Fin 64 → EReal)
    (hc : ∀ j : Fin 128, c (ix2 y j) = cos ⟨j.val % 64, by omega⟩) (hs : ∀ j : Fin 128, s (ix2 y j) = sin ⟨j.val % 64, by omega⟩ * sign ⟨j.val % 64, by omega⟩) :
    turned b a (k0_pay3 c) s (ix2 y n) = if b = 1#1 then a (ix2 y n) else rotated (fun n => a (ix2 y n)) cos sin n := by
  unfold turned
  by_cases h : b = 1#1
  · rw [if_pos h, Scalar.select, if_pos (show b = 1 from h)]
  · rw [if_neg h, Scalar.select, if_neg (show ¬ b = 1 from h)]
    show a (ix2 y n) * k0_pay3 c (ix2 y n) + select k0_pay5 _ _ (ix2 y n) * k0_pay3 s (ix2 y n) = _
    rw [partner_apply, copies, copies, hc, hs, ← rotated_signed]
    have e : (⟨n.val % 128 % 64, by omega⟩ : Fin 64) = ⟨n.val % 64, by omega⟩ := Fin.ext (by show n.val % 128 % 64 = n.val % 64; omega)
    show a (ix2 y n) * cos ⟨n.val % 128 % 64, _⟩ + a (ix2 y (other n)) * (sin ⟨n.val % 128 % 64, _⟩ * sign ⟨n.val % 128 % 64, _⟩) = _
    rw [e]

/-! ## The three results -/

section Outputs

variable (b : BitVec 1) (p : FVec Ideal S256x3072 .f32) (c : FVec Ideal S256x1024 .f32) (s : FVec Ideal S256x128 .f32) (y : Fin 256) (n : Fin 1024)

theorem query_columns : extractStridedSlice S256x1024 ![0, 0] p slices_S256x3072_o0_0_S256x1024 (ix2 y n) = p (ix2 y ⟨n.val, by omega⟩) := by pointwise

theorem key_columns : extractStridedSlice S256x1024 ![0, 1024] p slices_S256x3072_o0_1024_S256x1024 (ix2 y n) = p (ix2 y ⟨1024 + n.val, by omega⟩) := by pointwise

theorem query_apply : k0_pay6 (F := Ideal) b p c s (ix2 n y)
    = turned b (extractStridedSlice S256x1024 ![0, 0] p slices_S256x3072_o0_0_S256x1024) c s (ix2 y n) * Ideal.ofBits FTy.f32 0x3E000000#32 := by
  show truncf (F := Ideal) .bf16 (transpose S1024x256 [1, 0] (mulf (turned b (extractStridedSlice S256x1024 ![0, 0] p slices_S256x3072_o0_0_S256x1024) c s)
    (broadcast S256x1024 (Scalar.ofBits .f32 0x3E000000#32))) transposes_S256x1024_p1_0_S1024x256) bitsLt_bf16_f32 (ix2 n y) = _
  generalize turned b (extractStridedSlice S256x1024 ![0, 0] p slices_S256x3072_o0_0_S256x1024) c s = t
  pointwise

theorem key_apply : k0_pay7 (F := Ideal) b p c s (ix2 y n)
    = turned b (extractStridedSlice S256x1024 ![0, 1024] p slices_S256x3072_o0_1024_S256x1024) c s (ix2 y n) := rfl

theorem value_apply : k0_pay1 (F := Ideal) p (ix2 n y) = p (ix2 y ⟨2048 + n.val, by omega⟩) := by
  pointwise [k0_pay1]

end Outputs

end Cert.DiffProj

end
-- ==== Proof.DiffProjBlock.lean ====
/-
  One grid point of the attention's projection kernel: what it leaves in the three blocks of its results, at one place.
-/
module

public import proofs.«01_k».proof.Proof.DiffProjPayloads
public import Idealize.ShloMosaic.Lib.Pipeline.Value

@[expose] public section

set_option maxRecDepth 16384
set_option backward.proofsInPublic true

noncomputable section

open scoped BigOperators
open Idealize.ShloMosaic Idealize.SL.Sem

namespace Cert.DiffProj

open Cert.Kernel7Ideal Cert.Kernel7Ideal.Gen Cert.Ffn Cert.Gla

/-! ## Loads of whole blocks -/

theorem load0 (x : Vec Ideal S256x1024 .f32) : View.ld x r0_0 = x := View.ld_unit_zero (funext fun a => by fin_cases a <;> rfl) _ x
theorem load1 (x : Vec Ideal S1x1024 .f32) : View.ld x r0_1 = x := View.ld_unit_zero (funext fun a => by fin_cases a <;> rfl) _ x
theorem load6 (x : Vec Ideal S1024x3072 .bf16) : View.ld x r0_6 = x := View.ld_unit_zero (funext fun a => by fin_cases a <;> rfl) _ x
theorem load7 (x : Vec Ideal S256x128 .f32) : View.ld x r0_7 = x := View.ld_unit_zero (funext fun a => by fin_cases a <;> rfl) _ x

/-! ## The block -/

variable (i : grid0.Coords) (x0 : Vec Ideal S256x1024 .f32) (x1 x2 : Vec Ideal S256x128 .f32) (x3 : Vec Ideal S8x6144 .f32) (x4 : Vec Ideal S1x1024 .f32)
  (x5 : Vec Ideal S1024x3072 .bf16)

/-- Row `y` of the block, normalised. -/
def blockRow (y : Fin 256) : Fin 1024 → EReal :=
  if isContext i = 1#1 then
    normed (fun k => x4 (ix2 0 k)) (fun k => x3 (ix2 1 ⟨1024 + k.val, by omega⟩)) (fun k => x3 (ix2 1 ⟨k.val, by omega⟩)) (fun k => x0 (ix2 y k))
  else
    normed (fun k => x4 (ix2 0 k)) (fun k => x3 (ix2 0 ⟨1024 + k.val, by omega⟩)) (fun k => x3 (ix2 0 ⟨k.val, by omega⟩)) (fun k => x0 (ix2 y k))

theorem product_eq (y : Fin 256) (n : Fin 3072) : k0_pay8 (F := Ideal) i x0 x1 x2 x3 x4 x5 (ix2 y n)
    = dot (blockRow i x0 x3 x4 y) (fun k => x5 (ix2 k n)) := by
  have l2 : (fun k : Fin 1024 => (View.ld x3 r0_2 : Vec Ideal S1x1024 .f32) (ix2 0 k)) = fun k => x3 (ix2 1 ⟨1024 + k.val, by omega⟩) := funext fun k => congrArg x3 (funext fun a => Fin.ext (by
    match a with
    | ⟨0, _⟩ => show 1 + 1 * 0 = 1; omega
    | ⟨1, _⟩ => show 1024 + 1 * k.val = 1024 + k.val; omega))
  have l3 : (fun k : Fin 1024 => (View.ld x3 r0_3 : Vec Ideal S1x1024 .f32) (ix2 0 k)) = fun k => x3 (ix2 0 ⟨1024 + k.val, by omega⟩) := funext fun k => congrArg x3 (funext fun a => Fin.ext (by
    match a with
    | ⟨0, _⟩ => show 0 + 1 * 0 = 0; omega
    | ⟨1, _⟩ => show 1024 + 1 * k.val = 1024 + k.val; omega))
  have l4 : (fun k : Fin 1024 => (View.ld x3 r0_4 : Vec Ideal S1x1024 .f32) (ix2 0 k)) = fun k => x3 (ix2 1 ⟨k.val, by omega⟩) := funext fun k => congrArg x3 (funext fun a => Fin.ext (by
    match a with
    | ⟨0, _⟩ => show 1 + 1 * 0 = 1; omega
    | ⟨1, _⟩ => show 0 + 1 * k.val = k.val; omega))
  have l5 : (fun k : Fin 1024 => (View.ld x3 r0_5 : Vec Ideal S1x1024 .f32) (ix2 0 k)) = fun k => x3 (ix2 0 ⟨k.val, by omega⟩) := funext fun k => congrArg x3 (funext fun a => Fin.ext (by
    match a with
    | ⟨0, _⟩ => show 0 + 1 * 0 = 0; omega
    | ⟨1, _⟩ => show 0 + 1 * k.val = k.val; omega))
  unfold k0_pay8
  rw [product_apply, load0 x0, load1 x4, load6 x5]
  unfold blockRow
  by_cases h : isContext i = 1#1
  · rw [if_pos h, ← l2, ← l4]
    simp only [Scalar.select, if_pos (show isContext i = 1 from h)]
  · rw [if_neg h, ← l3, ← l5]
    simp only [Scalar.select, if_neg (show ¬ isContext i = 1 from h)]

/-- The values of a row. -/
theorem values_block (n : Fin 1024) (y : Fin 256) : out0_8 (F := Ideal) i x0 x1 x2 x3 x4 x5 (ix2 n y)
    = dot (blockRow i x0 x3 x4 y) (fun k => x5 (ix2 k ⟨2048 + n.val, by omega⟩)) := by
  unfold out0_8
  rw [View.canon_unit_zero (funext fun a => by fin_cases a <;> rfl), value_apply, product_eq]

section Rotated

variable (y : Fin 256) (n : Fin 1024) (cos sin : Fin 64 → EReal)
  (hc : ∀ j : Fin 128, x1 (ix2 y j) = cos ⟨j.val % 64, by omega⟩) (hs : ∀ j : Fin 128, x2 (ix2 y j) = sin ⟨j.val % 64, by omega⟩ * sign ⟨j.val % 64, by omega⟩)

include hc hs in
/-- The keys of a row. -/
theorem keys_block : out0_7 (F := Ideal) i x0 x1 x2 x3 x4 x5 (ix2 y n)
    = if isContext i = 1#1 then dot (blockRow i x0 x3 x4 y) (fun k => x5 (ix2 k ⟨1024 + n.val, by omega⟩))
      else rotated (fun n => dot (blockRow i x0 x3 x4 y) (fun k => x5 (ix2 k ⟨1024 + n.val, by omega⟩))) cos sin n := by
  unfold out0_7 k0_pay9
  rw [View.canon_unit_zero (funext fun a => by fin_cases a <;> rfl), key_apply, load7 x1, load7 x2, turned_apply _ _ x1 x2 y n cos sin hc hs]
  simp only [key_columns, product_eq]

include hc hs in
/-- The queries of a row, scaled. -/
theorem queries_block (hi : ¬ isContext i = 1#1) : out0_6 (F := Ideal) i x0 x1 x2 x3 x4 x5 (ix2 n y)
    = rotated (fun n => dot (blockRow i x0 x3 x4 y) (fun k => x5 (ix2 k ⟨n.val, by omega⟩))) cos sin n * Ideal.ofBits FTy.f32 0x3E000000#32 := by
  unfold out0_6 k0_pay9
  rw [View.canon_unit_zero (funext fun a => by fin_cases a <;> rfl), query_apply, load7 x1, load7 x2, turned_apply _ _ x1 x2 y n cos sin hc hs, if_neg hi]
  simp only [query_columns, product_eq]

end Rotated

end Cert.DiffProj

end
-- ==== Proof.DiffProjTables.lean ====
/-
  The angles of the rotation as an array, and the kernel's tables: the cosines twice, and the sines with their signs twice.
-/
module

public import proofs.«01_k».proof.Proof.DiffProjSpec
public import proofs.«01_k».proof.Proof.Gen.Kernel7Ideal
public import Idealize.ShloMosaic.Lib.KernelVsHost
public import Idealize.ShloMosaic.Lib.Pointwise

@[expose] public section

set_option maxRecDepth 16640
set_option backward.proofsInPublic true

noncomputable section

open Idealize.ShloMosaic

namespace Cert.DiffProj

open Cert.Kernel7Ideal Cert.Kernel7Ideal.Gen

/-- The 16 frequencies, falling from one. -/
def frequencies : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- Each token's row in the grid. -/
def gridRow : FVec Ideal S16384 .f32 :=
  shapeCast S16384 (broadcastInDim S256x64 ![0] bcast_S256_S256x64_0 (sitofp .f32 (iotaInDim S256 32 0))) shapeCasts_S256x64_S16384

/-- Each token's column in the grid. -/
def gridColumn : FVec Ideal S16384 .f32 :=
  shapeCast S16384 (broadcastInDim S256x64 ![0, 1] bcast_S1x64_S256x64_0_1 (shapeCast S1x64 (sitofp .f32 (iotaInDim S64 32 0)) shapeCasts_S64_S1x64)) shapeCasts_S256x64_S16384

/-- A position times each frequency. -/
def scaled (x : FVec Ideal S16384 .f32) : FVec Ideal S16384x16 .f32 :=
  mulf (broadcastInDim S16384x16 ![0, 1] bcast_S16384x1_S16384x16_0_1 (broadcastInDim S16384x1 ![0] bcast_S16384_S16384x1_0 x))
    (broadcastInDim S16384x16 ![0, 1] bcast_S1x16_S16384x16_0_1 (broadcastInDim S1x16 ![1] bcast_S16_S1x16_1 frequencies))

/-- The angles of a head's 64 columns: the row's for the first group, the column's for the second, the same for both quarters. -/
def angles : FVec Ideal S16384x64 .f32 :=
  concatenate S16384x64 1 [⟨S16384x16, scaled gridRow⟩, ⟨S16384x16, scaled gridRow⟩, ⟨S16384x16, scaled gridColumn⟩, ⟨S16384x16, scaled gridColumn⟩]
    concatenates_S16384x16_S16384x16_S16384x16_S16384x16_S16384x64_d1

abbrev cosines : FVec Ideal S16384x64 .f32 := Host.cos angles
abbrev sines : FVec Ideal S16384x64 .f32 := Host.sin angles

/-- A table twice side by side. -/
def twice (x : FVec Ideal S16384x64 .f32) : FVec Ideal S16384x128 .f32 :=
  shapeCast S16384x128 (broadcastInDim S1x16384x2x64 ![0, 1, 2, 3] bcast_S1x16384x1x64_S1x16384x2x64_0_1_2_3
    (shapeCast S1x16384x1x64 x shapeCasts_S16384x64_S1x16384x1x64)) shapeCasts_S1x16384x2x64_S16384x128

theorem twice_apply (x : FVec Ideal S16384x64 .f32) (r : Fin 16384) (j : Fin 128) : twice x (ix2 r j) = x (ix2 r ⟨j.val % 64, by omega⟩) := by
  pointwise [twice]

/-- Sixteen ones, as the host writes them. -/
def ones : FVec Ideal S16 .f32 := broadcastInDim S16 ![] bcast_S_S16 (constant S_ .f32 0x3F800000#32)

/-- The signs of a head's columns. -/
def signs : FVec Ideal S64 .f32 :=
  shapeCast S64 (broadcastInDim S2x32 ![0, 1] bcast_S1x32_S2x32_0_1 (shapeCast S1x32
    (concatenate S32 0 [⟨S16, Host.negf ones⟩, ⟨S16, ones⟩] concatenates_S16_S16_S32_d0) shapeCasts_S32_S1x32)) shapeCasts_S2x32_S64

theorem ones_apply (k : Fin 16) : ones (ix1 k) = 1 := by
  pointwise [ones]

theorem signs_apply (j : Fin 64) : signs (ix1 j) = sign j := by
  unfold signs sign
  have h0 : ∀ k : Fin 16, Host.negf ones (ix1 k) = -1 := fun k => by
    show -(ones (ix1 k)) = -1
    rw [ones_apply]
  have h1 := ones_apply
  generalize Host.negf ones = a at h0
  generalize ones = b at h1
  pointwise
  split_ifs <;> first | exact h0 _ | exact h1 _ | omega

/-- The sines with their signs. -/
def signedSines : FVec Ideal S16384x64 .f32 :=
  mulf sines (broadcastInDim S16384x64 ![0, 1] bcast_S1x64_S16384x64_0_1 (broadcastInDim S1x64 ![1] bcast_S64_S1x64_1 signs))

theorem signedSines_apply (r : Fin 16384) (j : Fin 64) : signedSines (ix2 r j) = sines (ix2 r j) * sign j := by
  unfold signedSines
  rw [← signs_apply]
  generalize sines = x
  generalize signs = z
  pointwise

end Cert.DiffProj

end
-- ==== Proof.DiffProjArray.lean ====
/-
  From the blocks to the arrays, for the attention's projections: what each of the 65 grid points reads, and the three
  result arrays at every place. The queries' window stays at its first block for the context's point, which therefore
  writes nothing back.
-/
module

public import proofs.«01_k».proof.Proof.DiffProjBlock
public import proofs.«01_k».proof.Proof.DiffProjTables
public import proofs.«01_k».proof.Proof.Gen.Kernel7Ideal.Value
public import Idealize.ShloMosaic.Lib.StableHlo.ReadAt
public import Idealize.ShloMosaic.Lib.Pipeline.Value

@[expose] public section

set_option maxRecDepth 16640
set_option backward.proofsInPublic true

noncomputable section

open scoped BigOperators
open Idealize.ShloMosaic Idealize.ShloMosaic.TcCoe Idealize.SL.Sem
open Idealize.ShloMosaic.Pipeline (Dat)

namespace Cert.DiffProj

open Cert.Kernel7Ideal Cert.Kernel7Ideal.Gen Cert.Ffn Cert.Gla

variable (m : (ℓ : Loc nD τ sig) → Buf (Elt Ideal) ℓ) (c : Dev nD)

/-! ## Which block each window is at, and the condition on the grid point -/

theorem at0 : ∀ t : Fin grid0.N, win0_0.index t 0 = t.val ∧ win0_0.index t 1 = 0 := by decide +kernel
theorem at1 : ∀ t : Fin grid0.N, win0_1.index t 0 = t.val - 1 ∧ win0_1.index t 1 = 0 := by decide +kernel
theorem at2 : ∀ t : Fin grid0.N, win0_2.index t 0 = t.val - 1 ∧ win0_2.index t 1 = 0 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = t.val - 1 := by decide +kernel
theorem at7 : ∀ t : Fin grid0.N, win0_7.index t 0 = t.val ∧ win0_7.index t 1 = 0 := by decide +kernel
theorem at8 : ∀ t : Fin grid0.N, win0_8.index t 0 = 0 ∧ win0_8.index t 1 = t.val := by decide +kernel

theorem context_point : ∀ t : Fin grid0.N, isContext (grid0.coords t) = 1#1 ↔ t.val = 0 := by decide +kernel

/-- Every point but the context's writes its queries back. -/
theorem writes_queries : ∀ t : Fin grid0.N, win0_6.flush t = true ↔ 0 < t.val := by decide +kernel

theorem points (t : Fin cfg0.N) : t.val < 65 := lt_of_lt_of_eq t.isLt N_0

/-- Row `y` of grid point `t`'s block. -/
abbrev place (t : Fin cfg0.N) (y : Fin 256) : Fin 16640 := ⟨256 * t.val + y.val, by have := points t; omega⟩

/-- The latent token in row `y` of grid point `t`'s block, the context's point having the first point's tokens. -/
abbrev token (t : Fin cfg0.N) (y : Fin 256) : Fin 16384 := ⟨256 * (t.val - 1) + y.val, by have := points t; omega⟩

/-- The grid point a row belongs to. -/
abbrev pointOf (r : ℕ) (hr : r < 16640) : Fin cfg0.N := ⟨r / 256, by rw [show cfg0.N = 65 from N_0]; omega⟩

/-! ## The arguments -/

abbrev stream : FVec Ideal S16640x1024 .f32 := m ((c : Thread nD τ).loc main_arg0)
abbrev modv : FVec Ideal S8x6144 .f32 := m ((c : Thread nD τ).loc main_arg1)
abbrev gain : FVec Ideal S1024 .f32 := m ((c : Thread nD τ).loc main_arg2)
abbrev wq : FVec Ideal S1024x1024 .f32 := m ((c : Thread nD τ).loc main_arg3)
abbrev wk : FVec Ideal S1024x1024 .f32 := m ((c : Thread nD τ).loc main_arg4)
abbrev wv : FVec Ideal S1024x1024 .f32 := m ((c : Thread nD τ).loc main_arg5)

/-! ## The blocks -/

theorem stream_block (t : Fin cfg0.N) (y : Fin 256) (k : Fin 1024) : (iblk m c 0 t : FVec Ideal S256x1024 .f32) (ix2 y k) = stream m c (ix2 (place t y) k) := by
  have hi := at0 t
  unfold iblk
  rw [View.read_apply]
  show V m c main_arg0 _ = _
  rw [V_main_arg0]
  refine congrArg _ (funext fun a => Fin.ext ?_)
  match a with
  | ⟨0, _⟩ => show win0_0.index t 0 * 256 + 1 * y.val = 256 * t.val + y.val; rw [hi.1]; omega
  | ⟨1, _⟩ => show win0_0.index t 1 * 1024 + 1 * k.val = k.val; rw [hi.2]; omega

theorem modulation_block (t : Fin cfg0.N) (q : Fin 8) (k : Fin 6144) : (iblk m c 3 t : FVec Ideal S8x6144 .f32) (ix2 q k) = modv m c (ix2 q k) := by
  have hi := at3 t
  unfold iblk
  rw [View.read_apply]
  show V m c main_arg1 _ = _
  rw [V_main_arg1]
  refine congrArg _ (funext fun a => Fin.ext ?_)
  match a with
  | ⟨0, _⟩ => show win0_3.index t 0 * 8 + 1 * q.val = q.val; rw [hi.1]; omega
  | ⟨1, _⟩ => show win0_3.index t 1 * 6144 + 1 * k.val = k.val; rw [hi.2]; omega

theorem gain_value : V m c main_v44 = shapeCast S1x1024 (gain m c) shapeCasts_S1024_S1x1024 := by
  unfold V
  after_reads_simp
  rfl

/-- The three weights of the one product beside each other. -/
abbrev joined (q k v : FVec Ideal S1024x1024 .f32) : FVec Ideal S1024x3072 .f32 :=
  concatenate S1024x3072 1 [⟨S1024x1024, q⟩, ⟨S1024x1024, k⟩, ⟨S1024x1024, v⟩] concatenates_S1024x1024_S1024x1024_S1024x1024_S1024x3072_d1

theorem weights_value : V m c main_v1 = truncf (F := Ideal) .bf16 (joined (wq m c) (wk m c) (wv m c)) bitsLt_bf16_f32 := by
  unfold V
  after_reads_simp
  rfl

theorem cosines_value : V m c main_v36 = twice cosines := by
  unfold V
  after_reads_simp
  rfl

theorem sines_value : V m c main_v43 = twice signedSines := by
  unfold V
  after_reads_simp
  rfl

theorem gain_block (t : Fin cfg0.N) (k : Fin 1024) : (iblk m c 4 t : FVec Ideal S1x1024 .f32) (ix2 0 k) = gain m c (ix1 k) := by
  have hi := at4 t
  have row (x : FVec Ideal S1024 .f32) : shapeCast S1x1024 x shapeCasts_S1024_S1x1024 (ix2 0 k) = x (ix1 k) := by pointwise
  refine Eq.trans ?_ (row _)
  unfold iblk
  rw [View.read_apply]
  show V m c main_v44 _ = _
  rw [gain_value]
  refine congrArg _ (funext fun a => Fin.ext ?_)
  match a with
  | ⟨0, _⟩ => show win0_4.index t 0 * 1 + 1 * 0 = 0; rw [hi.1]
  | ⟨1, _⟩ => show win0_4.index t 1 * 1024 + 1 * k.val = k.val; rw [hi.2]; omega

theorem weights_block (t : Fin cfg0.N) (k : Fin 1024) (n : Fin 3072) : (iblk m c 5 t : FVec Ideal S1024x3072 .bf16) (ix2 k n) = joined (wq m c) (wk m c) (wv m c) (ix2 k n) := by
  have hi := at5 t
  unfold iblk
  rw [View.read_apply]
  show V m c main_v1 _ = _
  rw [weights_value]
  refine congrArg (joined (wq m c) (wk m c) (wv m c)) (funext fun a => Fin.ext ?_)
  match a with
  | ⟨0, _⟩ => show win0_5.index t 0 * 1024 + 1 * k.val = k.val; rw [hi.1]; omega
  | ⟨1, _⟩ => show win0_5.index t 1 * 3072 + 1 * n.val = n.val; rw [hi.2]; omega

theorem cosines_block (t : Fin cfg0.N) (y : Fin 256) (j : Fin 128) : (iblk m c 1 t : FVec Ideal S256x128 .f32) (ix2 y j) = cosines (ix2 (token t y) ⟨j.val % 64, by omega⟩) := by
  have hi := at1 t
  refine Eq.trans ?_ (twice_apply cosines (token t y) j)
  unfold iblk
  rw [View.read_apply]
  show V m c main_v36 _ = _
  rw [cosines_value]
  generalize twice cosines = z
  refine congrArg z (funext fun a => Fin.ext ?_)
  match a with
  | ⟨0, _⟩ => show win0_1.index t 0 * 256 + 1 * y.val = 256 * (t.val - 1) + y.val; rw [hi.1]; omega
  | ⟨1, _⟩ => show win0_1.index t 1 * 128 + 1 * j.val = j.val; rw [hi.2]; omega

theorem sines_block (t : Fin cfg0.N) (y : Fin 256) (j : Fin 128) :
    (iblk m c 2 t : FVec Ideal S256x128 .f32) (ix2 y j) = sines (ix2 (token t y) ⟨j.val % 64, by omega⟩) * sign ⟨j.val % 64, by omega⟩ := by
  have hi := at2 t
  refine Eq.trans ?_ ((twice_apply signedSines (token t y) j).trans (signedSines_apply _ _))
  unfold iblk
  rw [View.read_apply]
  show V m c main_v43 _ = _
  rw [sines_value]
  generalize twice signedSines = z
  refine congrArg z (funext fun a => Fin.ext ?_)
  match a with
  | ⟨0, _⟩ => show win0_2.index t 0 * 256 + 1 * y.val = 256 * (t.val - 1) + y.val; rw [hi.1]; omega
  | ⟨1, _⟩ => show win0_2.index t 1 * 128 + 1 * j.val = j.val; rw [hi.2]; omega

theorem row_block (t : Fin cfg0.N) (y : Fin 256) : blockRow (grid0.coords t) (iblk m c 0 t) (iblk m c 3 t) (iblk m c 4 t) y
    = rowAt (stream m c) (modv m c) (gain m c) (place t y) := by
  unfold blockRow rowAt
  by_cases ht : t.val = 0
  · rw [if_pos ((context_point t).2 ht), if_pos (by show 256 * t.val + y.val < 256; omega)]
    simp only [gain_block m c t, modulation_block m c t, stream_block m c t]
  · rw [if_neg (fun h => ht ((context_point t).1 h)), if_neg (by show ¬ (256 * t.val + y.val < 256); omega)]
    simp only [gain_block m c t, modulation_block m c t, stream_block m c t]

/-! ## Columns of the joined weights -/

section Joined

variable (q k v : FVec Ideal S1024x1024 .f32) (x n : Fin 1024)

theorem joined_queries : joined q k v (ix2 x ⟨n.val, by omega⟩) = q (ix2 x n) := by pointwise [joined]
theorem joined_keys : joined q k v (ix2 x ⟨1024 + n.val, by omega⟩) = k (ix2 x n) := by pointwise [joined]
theorem joined_values : joined q k v (ix2 x ⟨2048 + n.val, by omega⟩) = v (ix2 x n) := by
  pointwise [joined]
  rw [dif_neg (by omega), dif_neg (by omega)]
  exact congrArg (fun n => v (ix2 x n)) (Fin.ext (by show 2048 + n.val - 1024 - 1024 = n.val; omega))

end Joined

/-! ## The results -/

def queries : Buf (Elt Ideal) ((c : Thread nD τ).loc main_v45_0) :=
  fun i => query (stream m c) (modv m c) (gain m c) (wq m c) cosines sines (i 1) (i 0)

def keys : Buf (Elt Ideal) ((c : Thread nD τ).loc main_v45_1) :=
  fun i => key (stream m c) (modv m c) (gain m c) (wk m c) cosines sines (i 0) (i 1)

def values : Buf (Elt Ideal) ((c : Thread nD τ).loc main_v45_2) :=
  fun i => column (stream m c) (modv m c) (gain m c) (wv m c) (i 1) (i 0)

theorem queries_point (t : Fin cfg0.N) (ht : 0 < t.val) (n : Fin 1024) (y : Fin 256) :
    out0_6 (F := Ideal) (grid0.coords t) (iblk m c 0 t) (iblk m c 1 t) (iblk m c 2 t) (iblk m c 3 t) (iblk m c 4 t) (iblk m c 5 t) (ix2 n y)
      = query (stream m c) (modv m c) (gain m c) (wq m c) cosines sines (token t y) n := by
  have e : (⟨256 + (token t y).val, by omega⟩ : Fin 16640) = place t y := Fin.ext (by show 256 + (256 * (t.val - 1) + y.val) = 256 * t.val + y.val; omega)
  rw [queries_block _ _ _ _ _ _ _ y n (fun j => cosines (ix2 (token t y) j)) (fun j => sines (ix2 (token t y) j)) (cosines_block m c t y) (sines_block m c t y)
    (fun h => by have := (context_point t).1 h; omega), row_block]
  simp only [weights_block m c t, joined_queries]
  unfold query
  rw [e]
  rfl

theorem keys_point (t : Fin cfg0.N) (y : Fin 256) (n : Fin 1024) :
    out0_7 (F := Ideal) (grid0.coords t) (iblk m c 0 t) (iblk m c 1 t) (iblk m c 2 t) (iblk m c 3 t) (iblk m c 4 t) (iblk m c 5 t) (ix2 y n)
      = key (stream m c) (modv m c) (gain m c) (wk m c) cosines sines (place t y) n := by
  rw [keys_block _ _ _ _ _ _ _ y n (fun j => cosines (ix2 (token t y) j)) (fun j => sines (ix2 (token t y) j)) (cosines_block m c t y) (sines_block m c t y), row_block]
  simp only [weights_block m c t, joined_keys]
  unfold key
  by_cases ht : t.val = 0
  · rw [if_pos ((context_point t).2 ht), dif_pos (by show 256 * t.val + y.val < 256; omega)]
    rfl
  · have e : (⟨(place t y).val - 256, by omega⟩ : Fin 16384) = token t y := Fin.ext (by show 256 * t.val + y.val - 256 = 256 * (t.val - 1) + y.val; omega)
    rw [if_neg (fun h => ht ((context_point t).1 h)), dif_neg (by show ¬ (256 * t.val + y.val < 256); omega), e]
    rfl

theorem values_point (t : Fin cfg0.N) (n : Fin 1024) (y : Fin 256) :
    out0_8 (F := Ideal) (grid0.coords t) (iblk m c 0 t) (iblk m c 1 t) (iblk m c 2 t) (iblk m c 3 t) (iblk m c 4 t) (iblk m c 5 t) (ix2 n y)
      = column (stream m c) (modv m c) (gain m c) (wv m c) (place t y) n := by
  rw [values_block, row_block]
  simp only [weights_block m c t, joined_values]
  rfl

end Cert.DiffProj

end
-- ==== Proof.DiffProjResult.lean ====
/-
  The three result arrays of the attention's projections. The queries and the values are stored by feature, so that a
  grid point's block is 256 columns of its array.
-/
module

public import proofs.«01_k».proof.Proof.DiffProjArray

@[expose] public section

set_option maxRecDepth 16640
set_option backward.proofsInPublic true

noncomputable section

open scoped BigOperators
open Idealize.ShloMosaic Idealize.ShloMosaic.TcCoe Idealize.SL.Sem
open Idealize.ShloMosaic.Pipeline (Dat)

namespace Cert.DiffProj

open Cert.Kernel7Ideal Cert.Kernel7Ideal.Gen Cert.Ffn Cert.Gla

variable (m : (ℓ : Loc nD τ sig) → Buf (Elt Ideal) ℓ) (c : Dev nD)

theorem split {R C : ℕ} (i : (⟨2, ![R, C]⟩ : Shape).Idx) : ∃ (y : Fin R) (n : Fin C), i = ix2 y n := ⟨i 0, i 1, by funext a; fin_cases a <;> rfl⟩

theorem at_place {R C : ℕ} (e : (⟨2, ![R, C]⟩ : Shape).Idx) (r : Fin R) (n : Fin C) (h0 : (e 0).val = r.val) (h1 : (e 1).val = n.val) : e = ix2 r n := by
  funext q
  match q with
  | ⟨0, _⟩ => exact Fin.ext h0
  | ⟨1, _⟩ => exact Fin.ext h1

theorem queries_final : (dats m 0 c).arrAt 6 cfg0.N = queries m c :=
  (dats m 0 c).arrAt_eq_of_cover 6 (queries m c) (fun t h => by
    have ht : 0 < t.val := (writes_queries t).1 h
    have hi := at6 t
    rw [Value.flushed6]
    funext i
    obtain ⟨n, y, rfl⟩ : ∃ (n : Fin 1024) (y : Fin 256), i = ix2 n y := split i
    rw [View.read_apply]
    refine Eq.trans ?_ (congrArg (queries m c) (at_place (((cfg0.win 6).blk t).view.emb (ix2 n y)) n (token t y)
      (by show win0_6.index t 0 * 1024 + 1 * n.val = n.val; rw [hi.1]; omega)
      (by show win0_6.index t 1 * 256 + 1 * y.val = 256 * (t.val - 1) + y.val; rw [hi.2]; omega))).symm
    exact queries_point m c t ht n y) fun i => by
    have h0 : (i 0).val < 1024 := (i 0).isLt
    have h1 : (i 1).val < 16384 := (i 1).isLt
    have hb : 256 + (i 1).val < 16640 := by omega
    have hi := at6 (pointOf (256 + (i 1).val) hb)
    have hr : win0_6.index (pointOf (256 + (i 1).val) hb) 1 = (256 + (i 1).val) / 256 - 1 := hi.2
    refine ⟨pointOf (256 + (i 1).val) hb, (writes_queries _).2 (by show 0 < (256 + (i 1).val) / 256; omega), ?_⟩
    show i ∈ ((View.whole main_v45_0).slice (win0_6.rect (pointOf (256 + (i 1).val) hb))).set
    rw [View.set_slice_whole, Rect.mem_set_unit]
    intro a
    match a with
    | ⟨0, _⟩ => show win0_6.index _ 0 * 1024 ≤ (i 0).val ∧ (i 0).val < win0_6.index _ 0 * 1024 + 1024
                rw [hi.1]; omega
    | ⟨1, _⟩ => show win0_6.index _ 1 * 256 ≤ (i 1).val ∧ (i 1).val < win0_6.index _ 1 * 256 + 256
                omega

theorem keys_final : (dats m 0 c).arrAt 7 cfg0.N = keys m c :=
  (dats m 0 c).arrAt_eq_of_cover 7 (keys m c) (fun t _ => by
    have hi := at7 t
    rw [Value.flushed7]
    funext i
    obtain ⟨y, n, rfl⟩ : ∃ (y : Fin 256) (n : Fin 1024), i = ix2 y n := split i
    rw [View.read_apply]
    refine Eq.trans ?_ (congrArg (keys m c) (at_place (((cfg0.win 7).blk t).view.emb (ix2 y n)) (place t y) n
      (by show win0_7.index t 0 * 256 + 1 * y.val = 256 * t.val + y.val; rw [hi.1]; omega)
      (by show win0_7.index t 1 * 1024 + 1 * n.val = n.val; rw [hi.2]; omega))).symm
    exact keys_point m c t y n) fun i => by
    have h0 : (i 0).val < 16640 := (i 0).isLt
    have h1 : (i 1).val < 1024 := (i 1).isLt
    have hi := at7 (pointOf (i 0).val h0)
    have hr : win0_7.index (pointOf (i 0).val h0) 0 = (i 0).val / 256 := hi.1
    refine ⟨pointOf (i 0).val h0, flush0_7 _, ?_⟩
    show i ∈ ((View.whole main_v45_1).slice (win0_7.rect (pointOf (i 0).val h0))).set
    rw [View.set_slice_whole, Rect.mem_set_unit]
    intro a
    match a with
    | ⟨0, _⟩ => show win0_7.index _ 0 * 256 ≤ (i 0).val ∧ (i 0).val < win0_7.index _ 0 * 256 + 256
                omega
    | ⟨1, _⟩ => show win0_7.index _ 1 * 1024 ≤ (i 1).val ∧ (i 1).val < win0_7.index _ 1 * 1024 + 1024
                rw [hi.2]; omega

theorem values_final : (dats m 0 c).arrAt 8 cfg0.N = values m c :=
  (dats m 0 c).arrAt_eq_of_cover 8 (values m c) (fun t _ => by
    have hi := at8 t
    rw [Value.flushed8]
    funext i
    obtain ⟨n, y, rfl⟩ : ∃ (n : Fin 1024) (y : Fin 256), i = ix2 n y := split i
    rw [View.read_apply]
    refine Eq.trans ?_ (congrArg (values m c) (at_place (((cfg0.win 8).blk t).view.emb (ix2 n y)) n (place t y)
      (by show win0_8.index t 0 * 1024 + 1 * n.val = n.val; rw [hi.1]; omega)
      (by show win0_8.index t 1 * 256 + 1 * y.val = 256 * t.val + y.val; rw [hi.2]; omega))).symm
    exact values_point m c t n y) fun i => by
    have h0 : (i 0).val < 1024 := (i 0).isLt
    have h1 : (i 1).val < 16640 := (i 1).isLt
    have hi := at8 (pointOf (i 1).val h1)
    have hr : win0_8.index (pointOf (i 1).val h1) 1 = (i 1).val / 256 := hi.2
    refine ⟨pointOf (i 1).val h1, flush0_8 _, ?_⟩
    show i ∈ ((View.whole main_v45_2).slice (win0_8.rect (pointOf (i 1).val h1))).set
    rw [View.set_slice_whole, Rect.mem_set_unit]
    intro a
    match a with
    | ⟨0, _⟩ => show win0_8.index _ 0 * 1024 ≤ (i 0).val ∧ (i 0).val < win0_8.index _ 0 * 1024 + 1024
                rw [hi.1]; omega
    | ⟨1, _⟩ => show win0_8.index _ 1 * 256 ≤ (i 1).val ∧ (i 1).val < win0_8.index _ 1 * 256 + 256
                omega

end Cert.DiffProj

end
-- ==== Proof.DiffProjTurn.lean ====
/-
  The rotation as the reference writes it, on whole arrays: the columns split in heads, groups and quarters, the second
  quarter negated before the first, put together again.
-/
module

public import proofs.«01_k».proof.Proof.DiffProjSpec
public import proofs.«01_k».proof.Proof.Gen.Reference7Ideal
public import Idealize.ShloMosaic.Lib.KernelVsHost
public import Idealize.ShloMosaic.Lib.Pointwise

@[expose] public section

set_option maxRecDepth 16640
set_option backward.proofsInPublic true

noncomputable section

open Idealize.ShloMosaic

namespace Cert.DiffProj.Reference

open Cert.Reference7Ideal Cert.Reference7Ideal.Gen

variable (A : FVec Ideal S16384x1024 .f32)

/-- The columns by head, group and quarter. -/
def quarters : FVec Ideal S16384x16x2x2x16 .f32 :=
  shapeCast S16384x16x2x2x16 (shapeCast S16384x16x64 A shapeCasts_S16384x1024_S16384x16x64) shapeCasts_S16384x16x64_S16384x16x2x2x16

theorem quarters_apply (r : Fin 16384) (h : Fin 16) (p s : Fin 2) (q : Fin 16) :
    quarters A (ix5 r h p s q) = A (ix2 r ⟨64 * h.val + 32 * p.val + 16 * s.val + q.val, by omega⟩) := by
  pointwise [quarters]
  exact congrArg A (congrArg (ix2 r) (Fin.ext (by show h.val * 64 + p.val * 32 + s.val * 16 + q.val = 64 * h.val + 32 * p.val + 16 * s.val + q.val; omega)))

def second : FVec Ideal S16384x16x2x16 .f32 :=
  shapeCast S16384x16x2x16 (extractStridedSlice S16384x16x2x1x16 ![0, 0, 0, 1, 0] (quarters A) slices_S16384x16x2x2x16_S16384x16x2x1x16_0_0_0_1_0) shapeCasts_S16384x16x2x1x16_S16384x16x2x16

def first : FVec Ideal S16384x16x2x16 .f32 :=
  shapeCast S16384x16x2x16 (extractStridedSlice S16384x16x2x1x16 ![0, 0, 0, 0, 0] (quarters A) slices_S16384x16x2x2x16_S16384x16x2x1x16_0_0_0_0_0) shapeCasts_S16384x16x2x1x16_S16384x16x2x16

theorem second_apply (r : Fin 16384) (h : Fin 16) (p : Fin 2) (q : Fin 16) : second A (ix4 r h p q) = quarters A (ix5 r h p 1 q) := by
  unfold second
  generalize quarters A = z
  pointwise

theorem first_apply (r : Fin 16384) (h : Fin 16) (p : Fin 2) (q : Fin 16) : first A (ix4 r h p q) = quarters A (ix5 r h p 0 q) := by
  unfold first
  generalize quarters A = z
  pointwise

def swapped : FVec Ideal S16384x16x2x2x16 .f32 :=
  concatenate S16384x16x2x2x16 3 [⟨S16384x16x2x1x16, broadcastInDim S16384x16x2x1x16 ![0, 1, 2, 4] bcast_S16384x16x2x16_S16384x16x2x1x16_0_1_2_4 (Host.negf (second A))⟩,
    ⟨S16384x16x2x1x16, broadcastInDim S16384x16x2x1x16 ![0, 1, 2, 4] bcast_S16384x16x2x16_S16384x16x2x1x16_0_1_2_4 (first A)⟩]
    concatenates_S16384x16x2x1x16_S16384x16x2x1x16_S16384x16x2x2x16_d3

theorem swapped_apply (r : Fin 16384) (h : Fin 16) (p s : Fin 2) (q : Fin 16) :
    swapped A (ix5 r h p s q) = if s.val < 1 then -(second A (ix4 r h p q)) else first A (ix4 r h p q) := by
  have e : Host.negf (second A) (ix4 r h p q) = -(second A (ix4 r h p q)) := rfl
  rw [← e]
  unfold swapped
  generalize Host.negf (second A) = x
  generalize first A = z
  pointwise
  rfl

/-- The whole rotation. -/
def turn (C S : FVec Ideal S16384x64 .f32) : FVec Ideal S16384x1024 .f32 :=
  shapeCast S16384x1024 (addf
    (mulf (shapeCast S16384x16x64 A shapeCasts_S16384x1024_S16384x16x64)
      (broadcastInDim S16384x16x64 ![0, 1, 2] bcast_S16384x1x64_S16384x16x64_0_1_2 (broadcastInDim S16384x1x64 ![0, 2] bcast_S16384x64_S16384x1x64_0_2 C)))
    (mulf (shapeCast S16384x16x64 (swapped A) shapeCasts_S16384x16x2x2x16_S16384x16x64)
      (broadcastInDim S16384x16x64 ![0, 1, 2] bcast_S16384x1x64_S16384x16x64_0_1_2 (broadcastInDim S16384x1x64 ![0, 2] bcast_S16384x64_S16384x1x64_0_2 S))))
    shapeCasts_S16384x16x64_S16384x1024

theorem turn_split (C S : FVec Ideal S16384x64 .f32) (r : Fin 16384) (n : Fin 1024) : turn A C S (ix2 r n)
    = A (ix2 r n) * C (ix2 r ⟨n.val % 64, by omega⟩)
      + swapped A (ix5 r ⟨n.val / 64, by omega⟩ ⟨n.val % 64 / 32, by omega⟩ ⟨n.val % 64 / 16 % 2, by omega⟩ ⟨n.val % 64 % 16, by omega⟩) * S (ix2 r ⟨n.val % 64, by omega⟩) := by
  unfold turn
  generalize swapped A = z
  pointwise

/-- The rotation at one place. -/
theorem turn_apply (C S : FVec Ideal S16384x64 .f32) (r : Fin 16384) (n : Fin 1024) : turn A C S (ix2 r n)
    = rotated (fun n => A (ix2 r n)) (fun j => C (ix2 r j)) (fun j => S (ix2 r j)) n := by
  rw [turn_split, swapped_apply, second_apply, first_apply, quarters_apply, quarters_apply]
  unfold rotated
  by_cases h : n.val % 32 < 16
  · rw [if_pos (by show n.val % 64 / 16 % 2 < 1; omega), if_pos h]
    refine congrArg (fun m => A (ix2 r n) * C (ix2 r _) + -(A (ix2 r m)) * S (ix2 r _)) (Fin.ext ?_)
    show 64 * (n.val / 64) + 32 * (n.val % 64 / 32) + 16 * 1 + n.val % 64 % 16 = if n.val % 32 < 16 then n.val + 16 else n.val - 16
    rw [if_pos h]
    omega
  · rw [if_neg (by show ¬ (n.val % 64 / 16 % 2 < 1); omega), if_neg h]
    refine congrArg (fun m => A (ix2 r n) * C (ix2 r _) + A (ix2 r m) * S (ix2 r _)) (Fin.ext ?_)
    show 64 * (n.val / 64) + 32 * (n.val % 64 / 32) + 16 * 0 + n.val % 64 % 16 = if n.val % 32 < 16 then n.val + 16 else n.val - 16
    rw [if_neg h]
    omega

end Cert.DiffProj.Reference

end
-- ==== Proof.DiffProjReference.lean ====
/-
  The reference of the attention's projections, at one place of each of its three results.
-/
module

public import proofs.«01_k».proof.Proof.DiffProjTurn
public import proofs.«01_k».proof.Proof.DiffProjTables
public import proofs.«01_k».proof.Proof.Gen.Reference7Ideal.Read
public import Idealize.ShloMosaic.Lib.Pointwise

@[expose] public section

set_option maxRecDepth 16640
set_option backward.proofsInPublic true

noncomputable section

open scoped BigOperators
open Idealize.ShloMosaic Idealize.ShloMosaic.TcCoe Idealize.SL.Sem

namespace Cert.DiffProj.Reference

open Cert.Reference7Ideal Cert.Reference7Ideal.Gen Cert.Reference7Ideal.Read Cert.Ffn Cert.Gla

variable (x0 : FVec Ideal S16640x1024 .f32) (x1 : FVec Ideal S8x6144 .f32) (x2 : FVec Ideal S1024 .f32) (x3 x4 x5 : FVec Ideal S1024x1024 .f32)

/-! ## The normalised rows -/

theorem rest_at (r : Fin 16384) (k : Fin 1024) : val_main_v1 (F := Ideal) x0 (ix2 r k) = x0 (ix2 ⟨256 + r.val, by omega⟩ k) := by
  pointwise [val_main_v1]

theorem context_at (r : Fin 256) (k : Fin 1024) : val_main_v0 (F := Ideal) x0 (ix2 r k) = x0 (ix2 ⟨r.val, by omega⟩ k) := by
  pointwise [val_main_v0]

theorem rest_rms (r : Fin 16384) (k : Fin 1024) : val_main_v17 (F := Ideal) x0 (ix2 r k) = rms (fun k => x0 (ix2 ⟨256 + r.val, by omega⟩ k)) k := by
  have hi (k' : Fin 1024) : idx_main_v9 (idx_main_v10 (idx_main_v16 (ix2 r k))) k' = ix2 r k' := by funext a; fin_cases a <;> rfl
  simp only [← rest_at x0]
  rw [val_main_v17_apply, val_main_v16_apply, val_main_v15_apply, val_main_v14_apply, val_main_v13_apply, val_main_v12_apply,
    val_main_v11_apply, val_main_v10_apply, val_main_v9_apply]
  simp only [hi, val_main_v8_apply]
  generalize val_main_v1 (F := Ideal) x0 = z
  show z (ix2 r k) * Ideal.rsqrt (Ideal.div (Ideal.ofBits FTy.f32 0x00000000#32 + ∑ k, z (ix2 r k) * z (ix2 r k)) _ + _) = _
  rw [Ideal.ofBits_zero_f32, zero_add]
  rfl

theorem context_rms (r : Fin 256) (k : Fin 1024) : val_main_v36 (F := Ideal) x0 (ix2 r k) = rms (fun k => x0 (ix2 ⟨r.val, by omega⟩ k)) k := by
  have hi (k' : Fin 1024) : idx_main_v28 (idx_main_v29 (idx_main_v35 (ix2 r k))) k' = ix2 r k' := by funext a; fin_cases a <;> rfl
  simp only [← context_at x0]
  rw [val_main_v36_apply, val_main_v35_apply, val_main_v34_apply, val_main_v33_apply, val_main_v32_apply, val_main_v31_apply,
    val_main_v30_apply, val_main_v29_apply, val_main_v28_apply]
  simp only [hi, val_main_v27_apply]
  generalize val_main_v0 (F := Ideal) x0 = z
  show z (ix2 r k) * Ideal.rsqrt (Ideal.div (Ideal.ofBits FTy.f32 0x00000000#32 + ∑ k, z (ix2 r k) * z (ix2 r k)) _ + _) = _
  rw [Ideal.ofBits_zero_f32, zero_add]
  rfl

theorem rest_shift (k : Fin 1024) : val_main_v3 (F := Ideal) x1 (ix2 0 k) = x1 (ix2 0 ⟨k.val, by omega⟩) := by
  pointwise [val_main_v3, val_main_v2]

theorem rest_scale (k : Fin 1024) : val_main_v4 (F := Ideal) x1 (ix2 0 k) = x1 (ix2 0 ⟨1024 + k.val, by omega⟩) := by
  pointwise [val_main_v4, val_main_v2]

theorem context_shift (k : Fin 1024) : val_main_v6 (F := Ideal) x1 (ix2 0 k) = x1 (ix2 1 ⟨k.val, by omega⟩) := by
  pointwise [val_main_v6, val_main_v5]

theorem context_scale (k : Fin 1024) : val_main_v7 (F := Ideal) x1 (ix2 0 k) = x1 (ix2 1 ⟨1024 + k.val, by omega⟩) := by
  pointwise [val_main_v7, val_main_v5]

theorem rest_rows (r : Fin 16384) (k : Fin 1024) : val_main_v26 (F := Ideal) x0 x1 x2 (ix2 r k) = rowAt x0 x1 x2 ⟨256 + r.val, by omega⟩ k := by
  unfold rowAt
  rw [if_neg (by show ¬ (256 + r.val < 256); omega)]
  simp only [normed, ← rest_rms x0, ← rest_shift x1, ← rest_scale x1]
  unfold val_main_v26 val_main_v24 val_main_v20
  generalize val_main_v17 (F := Ideal) x0 = y
  unfold val_main_v23 val_main_v22
  generalize val_main_v4 (F := Ideal) x1 = w
  pointwise [val_main_v25, val_main_v21, val_main_cst_2, val_main_v19, val_main_v18]

theorem context_rows (r : Fin 256) (k : Fin 1024) : val_main_v45 (F := Ideal) x0 x1 x2 (ix2 r k) = rowAt x0 x1 x2 ⟨r.val, by omega⟩ k := by
  unfold rowAt
  rw [if_pos r.isLt]
  simp only [normed, ← context_rms x0, ← context_shift x1, ← context_scale x1]
  unfold val_main_v45 val_main_v43 val_main_v39
  generalize val_main_v36 (F := Ideal) x0 = y
  unfold val_main_v42 val_main_v41
  generalize val_main_v7 (F := Ideal) x1 = w
  pointwise [val_main_v44, val_main_v40, val_main_cst_6, val_main_v38, val_main_v37]

/-! ## The products -/

theorem query_product (r : Fin 16384) (n : Fin 1024) : val_main_v72 (F := Ideal) x0 x1 x2 x3 (ix2 r n) = column x0 x1 x2 x3 ⟨256 + r.val, by omega⟩ n := by
  unfold column dot
  simp only [← rest_rows x0 x1 x2]
  unfold val_main_v72
  generalize val_main_v26 (F := Ideal) x0 x1 x2 = y
  pointwise

theorem key_product (r : Fin 16384) (n : Fin 1024) : val_main_v91 (F := Ideal) x0 x1 x2 x4 (ix2 r n) = column x0 x1 x2 x4 ⟨256 + r.val, by omega⟩ n := by
  unfold column dot
  simp only [← rest_rows x0 x1 x2]
  unfold val_main_v91
  generalize val_main_v26 (F := Ideal) x0 x1 x2 = y
  pointwise

theorem value_product (r : Fin 16384) (n : Fin 1024) : val_main_v117 (F := Ideal) x0 x1 x2 x5 (ix2 r n) = column x0 x1 x2 x5 ⟨256 + r.val, by omega⟩ n := by
  unfold column dot
  simp only [← rest_rows x0 x1 x2]
  unfold val_main_v117
  generalize val_main_v26 (F := Ideal) x0 x1 x2 = y
  pointwise

theorem context_key_product (r : Fin 256) (n : Fin 1024) : val_main_v113 (F := Ideal) x0 x1 x2 x4 (ix2 r n) = column x0 x1 x2 x4 ⟨r.val, by omega⟩ n := by
  unfold column dot
  simp only [← context_rows x0 x1 x2]
  unfold val_main_v113
  generalize val_main_v45 (F := Ideal) x0 x1 x2 = y
  pointwise

theorem context_value_product (r : Fin 256) (n : Fin 1024) : val_main_v116 (F := Ideal) x0 x1 x2 x5 (ix2 r n) = column x0 x1 x2 x5 ⟨r.val, by omega⟩ n := by
  unfold column dot
  simp only [← context_rows x0 x1 x2]
  unfold val_main_v116
  generalize val_main_v45 (F := Ideal) x0 x1 x2 = y
  pointwise

/-! ## The rotation -/

theorem angles_eq : val_main_v69 (F := Ideal) = angles := rfl

theorem query_turn : val_main_v110 (F := Ideal) x0 x1 x2 x3 = turn (val_main_v72 (F := Ideal) x0 x1 x2 x3) (val_main_v70 (F := Ideal)) (val_main_v71 (F := Ideal)) := rfl

theorem key_turn : val_main_v114 (F := Ideal) x0 x1 x2 x4 = turn (val_main_v91 (F := Ideal) x0 x1 x2 x4) (val_main_v70 (F := Ideal)) (val_main_v71 (F := Ideal)) := rfl

theorem cosines_eq : val_main_v70 (F := Ideal) = cosines := by
  unfold val_main_v70
  rw [angles_eq]

theorem sines_eq : val_main_v71 (F := Ideal) = sines := by
  unfold val_main_v71
  rw [angles_eq]

/-! ## The results -/

theorem query_eq (n : Fin 1024) (r : Fin 16384) : val_main_v120 (F := Ideal) x0 x1 x2 x3 (ix2 n r) = query x0 x1 x2 x3 cosines sines r n := by
  have flip : val_main_v120 (F := Ideal) x0 x1 x2 x3 (ix2 n r) = val_main_v112 (F := Ideal) x0 x1 x2 x3 (ix2 r n) := by
    unfold val_main_v120 val_main_v119
    generalize val_main_v112 (F := Ideal) x0 x1 x2 x3 = z
    pointwise
  rw [flip, val_main_v112_apply, val_main_v111_apply, query_turn, turn_apply, cosines_eq, sines_eq]
  unfold query
  simp only [query_product]
  rfl

theorem keys_at (r : Fin 16640) (n : Fin 1024) : val_main_v121 (F := Ideal) x0 x1 x2 x4 (ix2 r n) = key x0 x1 x2 x4 cosines sines r n := by
  unfold key
  show val_main_v115 (F := Ideal) x0 x1 x2 x4 (ix2 r n) = _
  unfold val_main_v115
  by_cases hr : r.val < 256
  · rw [dif_pos hr]
    refine (concatenate_pair_apply_left (t := S16640x1024) 0 _ _ concatenates_S256x1024_S16384x1024_S16640x1024_d0 (ix2 r n) rfl (ix2 ⟨r.val, hr⟩ n) fun a => ?_).trans
      (context_key_product x0 x1 x2 x4 ⟨r.val, hr⟩ n)
    match a with
    | ⟨0, _⟩ => rfl
    | ⟨1, _⟩ => rfl
  · rw [dif_neg hr]
    have e : (⟨256 + (r.val - 256), by omega⟩ : Fin 16640) = r := Fin.ext (by show 256 + (r.val - 256) = r.val; omega)
    have step : val_main_v114 (F := Ideal) x0 x1 x2 x4 (ix2 ⟨r.val - 256, by omega⟩ n) = rotated (column x0 x1 x2 x4 r)
        (fun j => cosines (ix2 ⟨r.val - 256, by omega⟩ j)) (fun j => sines (ix2 ⟨r.val - 256, by omega⟩ j)) n := by
      rw [key_turn, turn_apply, cosines_eq, sines_eq]
      simp only [key_product]
      rw [e]
    refine (concatenate_pair_apply_right (t := S16640x1024) 0 _ _ concatenates_S256x1024_S16384x1024_S16640x1024_d0 (ix2 r n) rfl rfl (ix2 ⟨r.val - 256, by omega⟩ n) (fun a ha => ?_) ?_).trans step
    · match a with
      | ⟨0, _⟩ => exact absurd rfl ha
      | ⟨1, _⟩ => rfl
    · show r.val - 256 + 256 = r.val
      omega

theorem values_at (n : Fin 1024) (r : Fin 16640) : val_main_v123 (F := Ideal) x0 x1 x2 x5 (ix2 n r) = column x0 x1 x2 x5 r n := by
  have flip : val_main_v123 (F := Ideal) x0 x1 x2 x5 (ix2 n r) = val_main_v118 (F := Ideal) x0 x1 x2 x5 (ix2 r n) := by
    unfold val_main_v123 val_main_v122
    generalize val_main_v118 (F := Ideal) x0 x1 x2 x5 = z
    pointwise
  rw [flip]
  unfold val_main_v118
  by_cases hr : r.val < 256
  · refine (concatenate_pair_apply_left (t := S16640x1024) 0 _ _ concatenates_S256x1024_S16384x1024_S16640x1024_d0 (ix2 r n) rfl (ix2 ⟨r.val, hr⟩ n) fun a => ?_).trans
      (context_value_product x0 x1 x2 x5 ⟨r.val, hr⟩ n)
    match a with
    | ⟨0, _⟩ => rfl
    | ⟨1, _⟩ => rfl
  · have e : (⟨256 + (r.val - 256), by omega⟩ : Fin 16640) = r := Fin.ext (by show 256 + (r.val - 256) = r.val; omega)
    refine (concatenate_pair_apply_right (t := S16640x1024) 0 _ _ concatenates_S256x1024_S16384x1024_S16640x1024_d0 (ix2 r n) rfl rfl (ix2 ⟨r.val - 256, by omega⟩ n) (fun a ha => ?_) ?_).trans
      ((value_product x0 x1 x2 x5 ⟨r.val - 256, by omega⟩ n).trans (congrArg (fun r => column x0 x1 x2 x5 r n) e))
    · match a with
      | ⟨0, _⟩ => exact absurd rfl ha
      | ⟨1, _⟩ => rfl
    · show r.val - 256 + 256 = r.val
      omega

end Cert.DiffProj.Reference

end
-- ==== Proof.DiffProjClaim.lean ====
/-
  The claims of the attention's projections: both programs run and leave their arguments unchanged, and their three
  result arrays are equal.
-/
module

public import proofs.«01_k».proof.Defs
public import proofs.«01_k».proof.Proof.DiffProjResult
public import proofs.«01_k».proof.Proof.DiffProjReference
public import proofs.«01_k».proof.Proof.Gen.Kernel7
public import proofs.«01_k».proof.Proof.Gen.Kernel7.Frame
public import Idealize.ShloMosaic.Lib.Quiescent

@[expose] public section

noncomputable section

open Idealize.ShloMosaic Idealize.SL.Sem

namespace Cert.DiffProjClaim

theorem kernel_runs : Cert.quiescent_Kernel7 := fun m g _ => Cert.Kernel7.Gen.frame m g

theorem ideal_runs : Cert.quiescent_Kernel7Ideal := fun m g _ => Cert.Kernel7Ideal.Gen.frame m g

theorem reference_runs : Cert.quiescent_Reference7Ideal := fun m g _ =>
  (θ_run _ _ _).mono (fun r h => ⟨fun c => (h c).2.2.2, Idealize.ShloMosaic.sem_eq_zero_of_no_sems (by decide) r.2⟩)
    (Cert.Reference7Ideal.Value.run m g)

/-- Two arrays of two axes are equal when they are so at every row and column. -/
theorem ext_places {R C : ℕ} {α : Type} (f g : (⟨2, ![R, C]⟩ : Shape).Idx → α) (h : ∀ (r : Fin R) (n : Fin C), f (ix2 r n) = g (ix2 r n)) : f = g := by
  funext i
  rw [show i = ix2 (i 0) (i 1) from by funext a; fin_cases a <;> rfl]
  exact h _ _

/-- Kernel and reference compute the same three arrays. -/
theorem equal : Cert.algebraic_Kernel7Ideal_Reference7Ideal := by
  intro m g m' g' _ hargs
  refine ⟨fun c => (Cert.Kernel7Ideal.Gen.dats m 0 c).arrAt 6 Cert.Kernel7Ideal.cfg0.N, fun c => (Cert.Kernel7Ideal.Gen.dats m 0 c).arrAt 7 Cert.Kernel7Ideal.cfg0.N,
    fun c => (Cert.Kernel7Ideal.Gen.dats m 0 c).arrAt 8 Cert.Kernel7Ideal.cfg0.N, Cert.Kernel7Ideal.Value.run_blocks m g,
    (θ_run _ _ _).mono (fun r h c => ⟨(h c).1.trans ?_, (h c).2.1.trans ?_, (h c).2.2.1.trans ?_, (h c).2.2.2⟩)
      (Cert.Reference7Ideal.Value.run m' g')⟩ <;> obtain ⟨a0, a1, a2, a3, a4, a5⟩ := hargs c
  · refine Eq.trans ?_ (Cert.DiffProj.queries_final m c).symm
    rw [Cert.Reference7Ideal.Read.val_main_v120_eq, a0, a1, a2, a3]
    exact ext_places _ _ fun n r => Cert.DiffProj.Reference.query_eq _ _ _ _ n r
  · refine Eq.trans ?_ (Cert.DiffProj.keys_final m c).symm
    rw [Cert.Reference7Ideal.Read.val_main_v121_eq, a0, a1, a2, a4]
    exact ext_places _ _ fun r n => Cert.DiffProj.Reference.keys_at _ _ _ _ r n
  · refine Eq.trans ?_ (Cert.DiffProj.values_final m c).symm
    rw [Cert.Reference7Ideal.Read.val_main_v123_eq, a0, a1, a2, a5]
    exact ext_places _ _ fun n r => Cert.DiffProj.Reference.values_at _ _ _ _ n r

end Cert.DiffProjClaim

end
-- ==== Proof.lean ====
/-
  The certificate: the side conditions the generated modules and the precondition's module prove, and the claims.
-/
module

public import proofs.«01_k».proof.Defs
public import proofs.«01_k».proof.Proof.AttnClaim
public import proofs.«01_k».proof.Proof.FfnClaim2
public import proofs.«01_k».proof.Proof.FfnClaim3
public import proofs.«01_k».proof.Proof.GlaClaim
public import proofs.«01_k».proof.Proof.GlaOutClaim
public import proofs.«01_k».proof.Proof.DiffOutClaim
public import proofs.«01_k».proof.Proof.DiffProjClaim

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.facts,
  Cert.AttnClaim.kernel_runs, Cert.AttnClaim.ideal_runs, Cert.AttnClaim.ideal_runs_finite, Cert.AttnClaim.reference_runs,
  Cert.AttnClaim.reference_runs_finite,
  Cert.FfnClaim2.kernel_runs, Cert.FfnClaim2.ideal_runs, Cert.FfnClaim2.reference_runs,
  Cert.FfnClaim3.kernel_runs, Cert.FfnClaim3.ideal_runs, Cert.FfnClaim3.reference_runs,
  Cert.GlaClaim.kernel_runs, Cert.GlaClaim.ideal_runs, Cert.GlaClaim.reference_runs,
  Cert.GlaOutClaim.kernel_runs, Cert.GlaOutClaim.ideal_runs, Cert.GlaOutClaim.reference_runs,
  Cert.DiffOutClaim.kernel_runs, Cert.DiffOutClaim.ideal_runs, Cert.DiffOutClaim.reference_runs,
  Cert.DiffProjClaim.kernel_runs, Cert.DiffProjClaim.ideal_runs, Cert.DiffProjClaim.reference_runs,
  trivial, Cert.AttnClaim.equal, trivial, Cert.FfnClaim2.equal, trivial, Cert.FfnClaim3.equal, trivial, Cert.GlaClaim.equal,
  trivial, Cert.GlaOutClaim.equal, trivial, Cert.DiffOutClaim.equal, trivial, Cert.DiffProjClaim.equal⟩

end Cert.Proof

end
